-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_args2 [hPre_finite_args2 : Cert.Pre_finite_args2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_args2 [hPre_finite_args2 : Cert.Pre_finite_args2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_args3 [hPre_finite_args3 : Cert.Pre_finite_args3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_args3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_args3 [hPre_finite_args3 : Cert.Pre_finite_args3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_args3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_args4 [hPre_finite_args4 : Cert.Pre_finite_args4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_args4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_args4 [hPre_finite_args4 : Cert.Pre_finite_args4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_args4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_args5 [hPre_finite_args5 : Cert.Pre_finite_args5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_args5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_args5 [hPre_finite_args5 : Cert.Pre_finite_args5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_args5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_args2 [hKernel2Ideal : Cert.Kernel2Ideal.Facts] [hPre_finite_args2 : Cert.Pre_finite_args2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_args2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_args2 [hReference2Ideal : Cert.Reference2Ideal.Facts] [hPre_finite_args2 : Cert.Pre_finite_args2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_args2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_args3 [hKernel3Ideal : Cert.Kernel3Ideal.Facts] [hPre_finite_args3 : Cert.Pre_finite_args3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_args3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_args3 [hReference3Ideal : Cert.Reference3Ideal.Facts] [hPre_finite_args3 : Cert.Pre_finite_args3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_args3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_args4 [hKernel4Ideal : Cert.Kernel4Ideal.Facts] [hPre_finite_args4 : Cert.Pre_finite_args4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_args4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_args4 [hReference4Ideal : Cert.Reference4Ideal.Facts] [hPre_finite_args4 : Cert.Pre_finite_args4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_args4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite_args5 [hKernel5Ideal : Cert.Kernel5Ideal.Facts] [hPre_finite_args5 : Cert.Pre_finite_args5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_args5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite_args5 [hReference5Ideal : Cert.Reference5Ideal.Facts] [hPre_finite_args5 : Cert.Pre_finite_args5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_args5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_args2 [hKernel2Ideal : Cert.Kernel2Ideal.Facts] [hReference2Ideal : Cert.Reference2Ideal.Facts] [hPre_finite_args2 : Cert.Pre_finite_args2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_args2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v50_0)) (v1 : (c : Dev Cert.Kernel2Ideal.nD) → Buf (Elt Ideal) ((c.tc : Thread Cert.Kernel2Ideal.nD Cert.Kernel2Ideal.τ).loc Cert.Kernel2Ideal.main_v50_1)) (v2 : (c : Dev Cert.Kernel2Ideal.nD) → Buf (Elt Ideal) ((c.tc : Thread Cert.Kernel2Ideal.nD Cert.Kernel2Ideal.τ).loc Cert.Kernel2Ideal.main_v50_2)) (v3 : (c : Dev Cert.Kernel2Ideal.nD) → Buf (Elt Ideal) ((c.tc : Thread Cert.Kernel2Ideal.nD Cert.Kernel2Ideal.τ).loc Cert.Kernel2Ideal.main_v50_3)) (v4 : (c : Dev Cert.Kernel2Ideal.nD) → Buf (Elt Ideal) ((c.tc : Thread Cert.Kernel2Ideal.nD Cert.Kernel2Ideal.τ).loc Cert.Kernel2Ideal.main_v50_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v50_0) = v0 c
          ∧ r.2.mem ((c.tc : Thread Cert.Kernel2Ideal.nD Cert.Kernel2Ideal.τ).loc Cert.Kernel2Ideal.main_v50_1) = v1 c
          ∧ r.2.mem ((c.tc : Thread Cert.Kernel2Ideal.nD Cert.Kernel2Ideal.τ).loc Cert.Kernel2Ideal.main_v50_2) = v2 c
          ∧ r.2.mem ((c.tc : Thread Cert.Kernel2Ideal.nD Cert.Kernel2Ideal.τ).loc Cert.Kernel2Ideal.main_v50_3) = v3 c
          ∧ r.2.mem ((c.tc : Thread Cert.Kernel2Ideal.nD Cert.Kernel2Ideal.τ).loc Cert.Kernel2Ideal.main_v50_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_v68) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_args3 [hKernel3Ideal : Cert.Kernel3Ideal.Facts] [hReference3Ideal : Cert.Reference3Ideal.Facts] [hPre_finite_args3 : Cert.Pre_finite_args3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_args3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v42_2)) (v3 : (c : Dev Cert.Kernel3Ideal.nD) → Buf (Elt Ideal) ((c.tc : Thread Cert.Kernel3Ideal.nD Cert.Kernel3Ideal.τ).loc Cert.Kernel3Ideal.main_v42_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v42_2) = v2 c
          ∧ r.2.mem ((c.tc : Thread Cert.Kernel3Ideal.nD Cert.Kernel3Ideal.τ).loc Cert.Kernel3Ideal.main_v42_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_v108) = v1 c
          ∧ r.2.mem ((c.tc : Thread Cert.Reference3Ideal.nD Cert.Reference3Ideal.τ).loc Cert.Reference3Ideal.main_v104) = v2 c
          ∧ r.2.mem ((c.tc : Thread Cert.Reference3Ideal.nD Cert.Reference3Ideal.τ).loc Cert.Reference3Ideal.main_v109) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_args4 [hKernel4Ideal : Cert.Kernel4Ideal.Facts] [hReference4Ideal : Cert.Reference4Ideal.Facts] [hPre_finite_args4 : Cert.Pre_finite_args4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_args4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v52_0)) (v1 : (c : Dev Cert.Kernel4Ideal.nD) → Buf (Elt Ideal) ((c.tc : Thread Cert.Kernel4Ideal.nD Cert.Kernel4Ideal.τ).loc Cert.Kernel4Ideal.main_v52_1)) (v2 : (c : Dev Cert.Kernel4Ideal.nD) → Buf (Elt Ideal) ((c.tc : Thread Cert.Kernel4Ideal.nD Cert.Kernel4Ideal.τ).loc Cert.Kernel4Ideal.main_v52_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v52_0) = v0 c
          ∧ r.2.mem ((c.tc : Thread Cert.Kernel4Ideal.nD Cert.Kernel4Ideal.τ).loc Cert.Kernel4Ideal.main_v52_1) = v1 c
          ∧ r.2.mem ((c.tc : Thread Cert.Kernel4Ideal.nD Cert.Kernel4Ideal.τ).loc Cert.Kernel4Ideal.main_v52_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v101) = v0 c
          ∧ r.2.mem ((c.tc : Thread Cert.Reference4Ideal.nD Cert.Reference4Ideal.τ).loc Cert.Reference4Ideal.main_v102) = v1 c
          ∧ r.2.mem ((c.tc : Thread Cert.Reference4Ideal.nD Cert.Reference4Ideal.τ).loc Cert.Reference4Ideal.main_v103) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_args5 [hKernel5Ideal : Cert.Kernel5Ideal.Facts] [hReference5Ideal : Cert.Reference5Ideal.Facts] [hPre_finite_args5 : Cert.Pre_finite_args5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_args5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v147_0)) (v1 : (c : Dev Cert.Kernel5Ideal.nD) → Buf (Elt Ideal) ((c.tc : Thread Cert.Kernel5Ideal.nD Cert.Kernel5Ideal.τ).loc Cert.Kernel5Ideal.main_v147_1)) (v2 : (c : Dev Cert.Kernel5Ideal.nD) → Buf (Elt Ideal) ((c.tc : Thread Cert.Kernel5Ideal.nD Cert.Kernel5Ideal.τ).loc Cert.Kernel5Ideal.main_v147_2)) (v3 : (c : Dev Cert.Kernel5Ideal.nD) → Buf (Elt Ideal) ((c.tc : Thread Cert.Kernel5Ideal.nD Cert.Kernel5Ideal.τ).loc Cert.Kernel5Ideal.main_v147_3)) (v4 : (c : Dev Cert.Kernel5Ideal.nD) → Buf (Elt Ideal) ((c.tc : Thread Cert.Kernel5Ideal.nD Cert.Kernel5Ideal.τ).loc Cert.Kernel5Ideal.main_v147_4)) (v5 : (c : Dev Cert.Kernel5Ideal.nD) → Buf (Elt Ideal) ((c.tc : Thread Cert.Kernel5Ideal.nD Cert.Kernel5Ideal.τ).loc Cert.Kernel5Ideal.main_v147_5)) (v6 : (c : Dev Cert.Kernel5Ideal.nD) → Buf (Elt Ideal) ((c.tc : Thread Cert.Kernel5Ideal.nD Cert.Kernel5Ideal.τ).loc Cert.Kernel5Ideal.main_v147_6)) (v7 : (c : Dev Cert.Kernel5Ideal.nD) → Buf (Elt Ideal) ((c.tc : Thread Cert.Kernel5Ideal.nD Cert.Kernel5Ideal.τ).loc Cert.Kernel5Ideal.main_v147_7)) (v8 : (c : Dev Cert.Kernel5Ideal.nD) → Buf (Elt Ideal) ((c.tc : Thread Cert.Kernel5Ideal.nD Cert.Kernel5Ideal.τ).loc Cert.Kernel5Ideal.main_v147_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v147_0) = v0 c
          ∧ r.2.mem ((c.tc : Thread Cert.Kernel5Ideal.nD Cert.Kernel5Ideal.τ).loc Cert.Kernel5Ideal.main_v147_1) = v1 c
          ∧ r.2.mem ((c.tc : Thread Cert.Kernel5Ideal.nD Cert.Kernel5Ideal.τ).loc Cert.Kernel5Ideal.main_v147_2) = v2 c
          ∧ r.2.mem ((c.tc : Thread Cert.Kernel5Ideal.nD Cert.Kernel5Ideal.τ).loc Cert.Kernel5Ideal.main_v147_3) = v3 c
          ∧ r.2.mem ((c.tc : Thread Cert.Kernel5Ideal.nD Cert.Kernel5Ideal.τ).loc Cert.Kernel5Ideal.main_v147_4) = v4 c
          ∧ r.2.mem ((c.tc : Thread Cert.Kernel5Ideal.nD Cert.Kernel5Ideal.τ).loc Cert.Kernel5Ideal.main_v147_5) = v5 c
          ∧ r.2.mem ((c.tc : Thread Cert.Kernel5Ideal.nD Cert.Kernel5Ideal.τ).loc Cert.Kernel5Ideal.main_v147_6) = v6 c
          ∧ r.2.mem ((c.tc : Thread Cert.Kernel5Ideal.nD Cert.Kernel5Ideal.τ).loc Cert.Kernel5Ideal.main_v147_7) = v7 c
          ∧ r.2.mem ((c.tc : Thread Cert.Kernel5Ideal.nD Cert.Kernel5Ideal.τ).loc Cert.Kernel5Ideal.main_v147_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v206) = v0 c
          ∧ r.2.mem ((c.tc : Thread Cert.Reference5Ideal.nD Cert.Reference5Ideal.τ).loc Cert.Reference5Ideal.main_v208) = v1 c
          ∧ r.2.mem ((c.tc : Thread Cert.Reference5Ideal.nD Cert.Reference5Ideal.τ).loc Cert.Reference5Ideal.main_v210) = v2 c
          ∧ r.2.mem ((c.tc : Thread Cert.Reference5Ideal.nD Cert.Reference5Ideal.τ).loc Cert.Reference5Ideal.main_v212) = v3 c
          ∧ r.2.mem ((c.tc : Thread Cert.Reference5Ideal.nD Cert.Reference5Ideal.τ).loc Cert.Reference5Ideal.main_v214) = v4 c
          ∧ r.2.mem ((c.tc : Thread Cert.Reference5Ideal.nD Cert.Reference5Ideal.τ).loc Cert.Reference5Ideal.main_v216) = v5 c
          ∧ r.2.mem ((c.tc : Thread Cert.Reference5Ideal.nD Cert.Reference5Ideal.τ).loc Cert.Reference5Ideal.main_v217) = v6 c
          ∧ r.2.mem ((c.tc : Thread Cert.Reference5Ideal.nD Cert.Reference5Ideal.τ).loc Cert.Reference5Ideal.main_v219) = v7 c
          ∧ r.2.mem ((c.tc : Thread Cert.Reference5Ideal.nD Cert.Reference5Ideal.τ).loc Cert.Reference5Ideal.main_v179) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)) (v3 : (c : Dev Cert.Kernel7Ideal.nD) → Buf (Elt Ideal) ((c.tc : Thread Cert.Kernel7Ideal.nD Cert.Kernel7Ideal.τ).loc Cert.Kernel7Ideal.main_v7_3)) (v4 : (c : Dev Cert.Kernel7Ideal.nD) → Buf (Elt Ideal) ((c.tc : Thread Cert.Kernel7Ideal.nD Cert.Kernel7Ideal.τ).loc Cert.Kernel7Ideal.main_v7_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_v7_3) = v3 c
          ∧ r.2.mem ((c.tc : Thread Cert.Kernel7Ideal.nD Cert.Kernel7Ideal.τ).loc Cert.Kernel7Ideal.main_v7_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v92) = v0 c
          ∧ r.2.mem ((c.tc : Thread Cert.Reference7Ideal.nD Cert.Reference7Ideal.τ).loc Cert.Reference7Ideal.main_v94) = v1 c
          ∧ r.2.mem ((c.tc : Thread Cert.Reference7Ideal.nD Cert.Reference7Ideal.τ).loc Cert.Reference7Ideal.main_v96) = v2 c
          ∧ r.2.mem ((c.tc : Thread Cert.Reference7Ideal.nD Cert.Reference7Ideal.τ).loc Cert.Reference7Ideal.main_v98) = v3 c
          ∧ r.2.mem ((c.tc : Thread Cert.Reference7Ideal.nD Cert.Reference7Ideal.τ).loc Cert.Reference7Ideal.main_v100) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v43_0)) (v1 : (c : Dev Cert.Kernel8Ideal.nD) → Buf (Elt Ideal) ((c.tc : Thread Cert.Kernel8Ideal.nD Cert.Kernel8Ideal.τ).loc Cert.Kernel8Ideal.main_v43_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v43_0) = v0 c
          ∧ r.2.mem ((c.tc : Thread Cert.Kernel8Ideal.nD Cert.Kernel8Ideal.τ).loc Cert.Kernel8Ideal.main_v43_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_args : Cert.Pre_finite_args.Facts) (hPre_finite_args2 : Cert.Pre_finite_args2.Facts) (hPre_finite_args3 : Cert.Pre_finite_args3.Facts) (hPre_finite_args4 : Cert.Pre_finite_args4.Facts) (hPre_finite_args5 : Cert.Pre_finite_args5.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Kernel2Ideal_pre_finite_args2 (hKernel2Ideal := hKernel2Ideal) (hPre_finite_args2 := hPre_finite_args2)
    ∧ quiescent_Reference2Ideal (hReference2Ideal := hReference2Ideal)
    ∧ quiescent_Reference2Ideal_pre_finite_args2 (hReference2Ideal := hReference2Ideal) (hPre_finite_args2 := hPre_finite_args2)
    ∧ quiescent_Kernel3 (hKernel3 := hKernel3)
    ∧ quiescent_Kernel3Ideal (hKernel3Ideal := hKernel3Ideal)
    ∧ quiescent_Kernel3Ideal_pre_finite_args3 (hKernel3Ideal := hKernel3Ideal) (hPre_finite_args3 := hPre_finite_args3)
    ∧ quiescent_Reference3Ideal (hReference3Ideal := hReference3Ideal)
    ∧ quiescent_Reference3Ideal_pre_finite_args3 (hReference3Ideal := hReference3Ideal) (hPre_finite_args3 := hPre_finite_args3)
    ∧ quiescent_Kernel4 (hKernel4 := hKernel4)
    ∧ quiescent_Kernel4Ideal (hKernel4Ideal := hKernel4Ideal)
    ∧ quiescent_Kernel4Ideal_pre_finite_args4 (hKernel4Ideal := hKernel4Ideal) (hPre_finite_args4 := hPre_finite_args4)
    ∧ quiescent_Reference4Ideal (hReference4Ideal := hReference4Ideal)
    ∧ quiescent_Reference4Ideal_pre_finite_args4 (hReference4Ideal := hReference4Ideal) (hPre_finite_args4 := hPre_finite_args4)
    ∧ quiescent_Kernel5 (hKernel5 := hKernel5)
    ∧ quiescent_Kernel5Ideal (hKernel5Ideal := hKernel5Ideal)
    ∧ quiescent_Kernel5Ideal_pre_finite_args5 (hKernel5Ideal := hKernel5Ideal) (hPre_finite_args5 := hPre_finite_args5)
    ∧ quiescent_Reference5Ideal (hReference5Ideal := hReference5Ideal)
    ∧ quiescent_Reference5Ideal_pre_finite_args5 (hReference5Ideal := hReference5Ideal) (hPre_finite_args5 := hPre_finite_args5)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal_pre_finite_args2 (hKernel2Ideal := hKernel2Ideal) (hReference2Ideal := hReference2Ideal) (hPre_finite_args2 := hPre_finite_args2)
    ∧ preserves_Kernel3_Kernel3Ideal
    ∧ algebraic_Kernel3Ideal_Reference3Ideal_pre_finite_args3 (hKernel3Ideal := hKernel3Ideal) (hReference3Ideal := hReference3Ideal) (hPre_finite_args3 := hPre_finite_args3)
    ∧ preserves_Kernel4_Kernel4Ideal
    ∧ algebraic_Kernel4Ideal_Reference4Ideal_pre_finite_args4 (hKernel4Ideal := hKernel4Ideal) (hReference4Ideal := hReference4Ideal) (hPre_finite_args4 := hPre_finite_args4)
    ∧ preserves_Kernel5_Kernel5Ideal
    ∧ algebraic_Kernel5Ideal_Reference5Ideal_pre_finite_args5 (hKernel5Ideal := hKernel5Ideal) (hReference5Ideal := hReference5Ideal) (hPre_finite_args5 := hPre_finite_args5)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_args.lean ====
abbrev S2x2048x1024 : Shape := ⟨3, ![2, 2048, 1024]⟩
abbrev S1x1024 : Shape := ⟨2, ![1, 1024]⟩
abbrev S1x1024x3840 : Shape := ⟨3, ![1, 1024, 3840]⟩
abbrev S2x2048x3840 : Shape := ⟨3, ![2, 2048, 3840]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3840 : S_.BroadcastsInDim S1x1024x3840 (![] : Fin 0 → Fin S1x1024x3840.rank)
  reducesTo_S1x1024x3840_S_d0_1_2 : S1x1024x3840.ReducesTo [0, 1, 2] S_
  bcast_S_S2x2048x3840 : S_.BroadcastsInDim S2x2048x3840 (![] : Fin 0 → Fin S2x2048x3840.rank)
  reducesTo_S2x2048x3840_S_d0_1_2 : S2x2048x3840.ReducesTo [0, 1, 2] S_

variable [Facts]

def fn_part1 {F : FTy → Type} [FloatOps F] (main_v13 : IVec S_ 1) (main_v16 : IVec S2x2048x3840 1) : IVec S_ 1 :=
  let main_c_5 : IVec S_ 1 := constantI S_ 1 1#1
  let main_v17 : IVec S_ 1 := (fun x v => Host.reduce IntOp.andi x v reducesTo_S2x2048x3840_S_d0_1_2 h_S_) main_v16 main_c_5
  let main_v18 : IVec S_ 1 := andi main_v13 main_v17
  main_v18

def fn {F : FTy → Type} [FloatOps F] (main_arg0 : FVec F S2x2048x1024 .f32) (main_arg1 : FVec F S1x1024 .f32) (main_arg2 : FVec F S1x1024x3840 .f32) (main_arg3 : FVec F S2x2048x1024 .f32) (main_arg4 : FVec F S2x2048x3840 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3840 .f32 := Host.absf main_arg2
  let main_cst_2 : FVec F S_ .f32 := constant S_ .f32 0x7F800000#32
  let main_v10 : FVec F S1x1024x3840 .f32 := broadcastInDim S1x1024x3840 ![] bcast_S_S1x1024x3840 main_cst_2
  let main_v11 : IVec S1x1024x3840 1 := cmpf .olt main_v9 main_v10
  let main_c_3 : IVec S_ 1 := constantI S_ 1 1#1
  let main_v12 : IVec S_ 1 := (fun x v => Host.reduce IntOp.andi x v reducesTo_S1x1024x3840_S_d0_1_2 h_S_) main_v11 main_c_3
  let main_v13 : IVec S_ 1 := andi main_v8 main_v12
  let main_v14 : FVec F S2x2048x3840 .f32 := Host.absf main_arg4
  let main_cst_4 : FVec F S_ .f32 := constant S_ .f32 0x7F800000#32
  let main_v15 : FVec F S2x2048x3840 .f32 := broadcastInDim S2x2048x3840 ![] bcast_S_S2x2048x3840 main_cst_4
  let main_v16 : IVec S2x2048x3840 1 := cmpf .olt main_v14 main_v15
  fn_part1 (F := F) main_v13 main_v16
-- ==== Pre_finite_args2.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x5632 .f32) (main_arg5 : FVec F S1x2816x1024 .f32) (main_arg6 : FVec F S2x2048x1024 .f32) (main_v13 : IVec S_ 1) (main_v16 : IVec S1x3x5632 1) : IVec S_ 1 :=
  let main_c_5 : IVec S_ 1 := constantI S_ 1 1#1
  let main_v17 : IVec S_ 1 := (fun x v => Host.reduce IntOp.andi x v reducesTo_S1x3x5632_S_d0_1_2 h_S_) main_v16 main_c_5
  let main_v18 : IVec S_ 1 := andi main_v13 main_v17
  let main_v19 : FVec F S1x5632 .f32 := Host.absf main_arg4
  let main_cst_6 : FVec F S_ .f32 := constant S_ .f32 0x7F800000#32
  let main_v20 : FVec F S1x5632 .f32 := broadcastInDim S1x5632 ![] bcast_S_S1x5632 main_cst_6
  let main_v21 : IVec S1x5632 1 := cmpf .olt main_v19 main_v20
  let main_c_7 : IVec S_ 1 := constantI S_ 1 1#1
  let main_v22 : IVec S_ 1 := (fun x v => Host.reduce IntOp.andi x v reducesTo_S1x5632_S_d0_1 h_S_) main_v21 main_c_7
  let main_v23 : IVec S_ 1 := andi main_v18 main_v22
  let main_v24 : FVec F S1x2816x1024 .f32 := Host.absf main_arg5
  let main_cst_8 : FVec F S_ .f32 := constant S_ .f32 0x7F800000#32
  let main_v25 : FVec F S1x2816x1024 .f32 := broadcastInDim S1x2816x1024 ![] bcast_S_S1x2816x1024 main_cst_8
  let main_v26 : IVec S1x2816x1024 1 := cmpf .olt main_v24 main_v25
  let main_c_9 : IVec S_ 1 := constantI S_ 1 1#1
  let main_v27 : IVec S_ 1 := (fun x v => Host.reduce IntOp.andi x v reducesTo_S1x2816x1024_S_d0_1_2 h_S_) main_v26 main_c_9
  let main_v28 : IVec S_ 1 := andi main_v23 main_v27
  let main_v29 : FVec F S2x2048x1024 .f32 := Host.absf main_arg6
  let main_cst_10 : FVec F S_ .f32 := constant S_ .f32 0x7F800000#32
  let main_v30 : FVec F S2x2048x1024 .f32 := broadcastInDim S2x2048x1024 ![] bcast_S_S2x2048x1024 main_cst_10
  let main_v31 : IVec S2x2048x1024 1 := cmpf .olt main_v29 main_v30
  let main_c_11 : IVec S_ 1 := constantI S_ 1 1#1
  let main_v32 : IVec S_ 1 := (fun x v => Host.reduce IntOp.andi x v reducesTo_S2x2048x1024_S_d0_1_2 h_S_) main_v31 main_c_11
  let main_v33 : IVec S_ 1 := andi main_v28 main_v32
  main_v33

def fn {F : FTy → Type} [FloatOps F] (main_arg0 : FVec F S2x2048x1024 .f32) (main_arg1 : FVec F S1x1024 .f32) (main_arg2 : FVec F S1x1024x5632 .f32) (main_arg3 : FVec F S1x3x5632 .f32) (main_arg4 : FVec F S1x5632 .f32) (main_arg5 : FVec F S1x2816x1024 .f32) (main_arg6 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x3x5632 .f32 := Host.absf main_arg3
  let main_cst_4 : FVec F S_ .f32 := constant S_ .f32 0x7F800000#32
  let main_v15 : FVec F S1x3x5632 .f32 := broadcastInDim S1x3x5632 ![] bcast_S_S1x3x5632 main_cst_4
  let main_v16 : IVec S1x3x5632 1 := cmpf .olt main_v14 main_v15
  fn_part1 (F := F) main_arg4 main_arg5 main_arg6 main_v13 main_v16
-- ==== Pre_finite_args3.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S2x2048x5632 : Shape := ⟨3, ![2, 2048, 5632]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S2x2048x5632 : S_.BroadcastsInDim S2x2048x5632 (![] : Fin 0 → Fin S2x2048x5632.rank)
  reducesTo_S2x2048x5632_S_d0_1_2 : S2x2048x5632.ReducesTo [0, 1, 2] S_

variable [Facts]

def fn_part1 {F : FTy → Type} [FloatOps F] (main_arg6 : FVec F S2x2048x5632 .f32) (main_v13 : IVec S_ 1) (main_v16 : IVec S1x3x5632 1) : IVec S_ 1 :=
  let main_c_5 : IVec S_ 1 := constantI S_ 1 1#1
  let main_v17 : IVec S_ 1 := (fun x v => Host.reduce IntOp.andi x v reducesTo_S1x3x5632_S_d0_1_2 h_S_) main_v16 main_c_5
  let main_v18 : IVec S_ 1 := andi main_v13 main_v17
  let main_v19 : FVec F S2x2048x5632 .f32 := Host.absf main_arg6
  let main_cst_6 : FVec F S_ .f32 := constant S_ .f32 0x7F800000#32
  let main_v20 : FVec F S2x2048x5632 .f32 := broadcastInDim S2x2048x5632 ![] bcast_S_S2x2048x5632 main_cst_6
  let main_v21 : IVec S2x2048x5632 1 := cmpf .olt main_v19 main_v20
  let main_c_7 : IVec S_ 1 := constantI S_ 1 1#1
  let main_v22 : IVec S_ 1 := (fun x v => Host.reduce IntOp.andi x v reducesTo_S2x2048x5632_S_d0_1_2 h_S_) main_v21 main_c_7
  let main_v23 : IVec S_ 1 := andi main_v18 main_v22
  main_v23

def fn {F : FTy → Type} [FloatOps F] (main_arg0 : FVec F S2x2048x1024 .f32) (main_arg1 : FVec F S1x1024 .f32) (main_arg2 : FVec F S1x1024x5632 .f32) (main_arg3 : FVec F S1x3x5632 .f32) (main_arg4 : FVec F S1x5632 .f32) (main_arg5 : FVec F S2x2048x1024 .f32) (main_arg6 : FVec F S2x2048x5632 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x3x5632 .f32 := Host.absf main_arg3
  let main_cst_4 : FVec F S_ .f32 := constant S_ .f32 0x7F800000#32
  let main_v15 : FVec F S1x3x5632 .f32 := broadcastInDim S1x3x5632 ![] bcast_S_S1x3x5632 main_cst_4
  let main_v16 : IVec S1x3x5632 1 := cmpf .olt main_v14 main_v15
  fn_part1 (F := F) main_arg6 main_v13 main_v16
-- ==== Pre_finite_args4.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S2x2048x1024 .f32) (main_v33 : IVec S_ 1) : IVec S_ 1 :=
  let main_v34 : FVec F S2x2048x1024 .f32 := Host.absf main_arg7
  let main_cst_12 : FVec F S_ .f32 := constant S_ .f32 0x7F800000#32
  let main_v35 : FVec F S2x2048x1024 .f32 := broadcastInDim S2x2048x1024 ![] bcast_S_S2x2048x1024 main_cst_12
  let main_v36 : IVec S2x2048x1024 1 := cmpf .olt main_v34 main_v35
  let main_c_13 : IVec S_ 1 := constantI S_ 1 1#1
  let main_v37 : IVec S_ 1 := (fun x v => Host.reduce IntOp.andi x v reducesTo_S2x2048x1024_S_d0_1_2 h_S_) main_v36 main_c_13
  let main_v38 : IVec S_ 1 := andi main_v33 main_v37
  main_v38

def fn_part1 {F : FTy → Type} [FloatOps F] (main_arg4 : FVec F S1x5632 .f32) (main_arg5 : FVec F S1x2816x1024 .f32) (main_arg6 : FVec F S1024 .f32) (main_arg7 : FVec F S2x2048x1024 .f32) (main_v13 : IVec S_ 1) (main_v16 : IVec S1x3x5632 1) : IVec S_ 1 :=
  let main_c_5 : IVec S_ 1 := constantI S_ 1 1#1
  let main_v17 : IVec S_ 1 := (fun x v => Host.reduce IntOp.andi x v reducesTo_S1x3x5632_S_d0_1_2 h_S_) main_v16 main_c_5
  let main_v18 : IVec S_ 1 := andi main_v13 main_v17
  let main_v19 : FVec F S1x5632 .f32 := Host.absf main_arg4
  let main_cst_6 : FVec F S_ .f32 := constant S_ .f32 0x7F800000#32
  let main_v20 : FVec F S1x5632 .f32 := broadcastInDim S1x5632 ![] bcast_S_S1x5632 main_cst_6
  let main_v21 : IVec S1x5632 1 := cmpf .olt main_v19 main_v20
  let main_c_7 : IVec S_ 1 := constantI S_ 1 1#1
  let main_v22 : IVec S_ 1 := (fun x v => Host.reduce IntOp.andi x v reducesTo_S1x5632_S_d0_1 h_S_) main_v21 main_c_7
  let main_v23 : IVec S_ 1 := andi main_v18 main_v22
  let main_v24 : FVec F S1x2816x1024 .f32 := Host.absf main_arg5
  let main_cst_8 : FVec F S_ .f32 := constant S_ .f32 0x7F800000#32
  let main_v25 : FVec F S1x2816x1024 .f32 := broadcastInDim S1x2816x1024 ![] bcast_S_S1x2816x1024 main_cst_8
  let main_v26 : IVec S1x2816x1024 1 := cmpf .olt main_v24 main_v25
  let main_c_9 : IVec S_ 1 := constantI S_ 1 1#1
  let main_v27 : IVec S_ 1 := (fun x v => Host.reduce IntOp.andi x v reducesTo_S1x2816x1024_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S1x1024 .f32) (main_arg2 : FVec F S1x1024x5632 .f32) (main_arg3 : FVec F S1x3x5632 .f32) (main_arg4 : FVec F S1x5632 .f32) (main_arg5 : FVec F S1x2816x1024 .f32) (main_arg6 : FVec F S1024 .f32) (main_arg7 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x3x5632 .f32 := Host.absf main_arg3
  let main_cst_4 : FVec F S_ .f32 := constant S_ .f32 0x7F800000#32
  let main_v15 : FVec F S1x3x5632 .f32 := broadcastInDim S1x3x5632 ![] bcast_S_S1x3x5632 main_cst_4
  let main_v16 : IVec S1x3x5632 1 := cmpf .olt main_v14 main_v15
  fn_part1 (F := F) main_arg4 main_arg5 main_arg6 main_arg7 main_v13 main_v16
-- ==== Pre_finite_args5.lean ====
abbrev S2x2048x1024 : Shape := ⟨3, ![2, 2048, 1024]⟩
abbrev S1x1024 : Shape := ⟨2, ![1, 1024]⟩
abbrev S1x1024x3840 : Shape := ⟨3, ![1, 1024, 3840]⟩
abbrev S1x512 : Shape := ⟨2, ![1, 512]⟩
abbrev S1x4x128x128 : Shape := ⟨4, ![1, 4, 128, 128]⟩
abbrev S1x4x128 : Shape := ⟨3, ![1, 4, 128]⟩
abbrev S2x2048x512 : Shape := ⟨3, ![2, 2048, 512]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3840 : S_.BroadcastsInDim S1x1024x3840 (![] : Fin 0 → Fin S1x1024x3840.rank)
  reducesTo_S1x1024x3840_S_d0_1_2 : S1x1024x3840.ReducesTo [0, 1, 2] S_
  bcast_S_S1x512 : S_.BroadcastsInDim S1x512 (![] : Fin 0 → Fin S1x512.rank)
  reducesTo_S1x512_S_d0_1 : S1x512.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part2 {F : FTy → Type} [FloatOps F] (main_arg9 : FVec F S1x1024x1024 .f32) (main_arg10 : FVec F S2x2048x1024 .f32) (main_v33 : IVec S_ 1) : IVec S_ 1 :=
  let main_v34 : FVec F S1x1024x1024 .f32 := Host.absf main_arg9
  let main_cst_12 : FVec F S_ .f32 := constant S_ .f32 0x7F800000#32
  let main_v35 : FVec F S1x1024x1024 .f32 := broadcastInDim S1x1024x1024 ![] bcast_S_S1x1024x1024 main_cst_12
  let main_v36 : IVec S1x1024x1024 1 := cmpf .olt main_v34 main_v35
  let main_c_13 : IVec S_ 1 := constantI S_ 1 1#1
  let main_v37 : IVec S_ 1 := (fun x v => Host.reduce IntOp.andi x v reducesTo_S1x1024x1024_S_d0_1_2 h_S_) main_v36 main_c_13
  let main_v38 : IVec S_ 1 := andi main_v33 main_v37
  let main_v39 : FVec F S2x2048x1024 .f32 := Host.absf main_arg10
  let main_cst_14 : FVec F S_ .f32 := constant S_ .f32 0x7F800000#32
  let main_v40 : FVec F S2x2048x1024 .f32 := broadcastInDim S2x2048x1024 ![] bcast_S_S2x2048x1024 main_cst_14
  let main_v41 : IVec S2x2048x1024 1 := cmpf .olt main_v39 main_v40
  let main_c_15 : IVec S_ 1 := constantI S_ 1 1#1
  let main_v42 : IVec S_ 1 := (fun x v => Host.reduce IntOp.andi x v reducesTo_S2x2048x1024_S_d0_1_2 h_S_) main_v41 main_c_15
  let main_v43 : IVec S_ 1 := andi main_v38 main_v42
  main_v43

def fn_part1 {F : FTy → Type} [FloatOps F] (main_arg4 : FVec F S1x4x128x128 .f32) (main_arg5 : FVec F S1x4x128 .f32) (main_arg7 : FVec F S1x512x1024 .f32) (main_arg9 : FVec F S1x1024x1024 .f32) (main_arg10 : FVec F S2x2048x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x4x128x128 .f32 := Host.absf main_arg4
  let main_cst_6 : FVec F S_ .f32 := constant S_ .f32 0x7F800000#32
  let main_v20 : FVec F S1x4x128x128 .f32 := broadcastInDim S1x4x128x128 ![] bcast_S_S1x4x128x128 main_cst_6
  let main_v21 : IVec S1x4x128x128 1 := cmpf .olt main_v19 main_v20
  let main_c_7 : IVec S_ 1 := constantI S_ 1 1#1
  let main_v22 : IVec S_ 1 := (fun x v => Host.reduce IntOp.andi x v reducesTo_S1x4x128x128_S_d0_1_2_3 h_S_) main_v21 main_c_7
  let main_v23 : IVec S_ 1 := andi main_v18 main_v22
  let main_v24 : FVec F S1x4x128 .f32 := Host.absf main_arg5
  let main_cst_8 : FVec F S_ .f32 := constant S_ .f32 0x7F800000#32
  let main_v25 : FVec F S1x4x128 .f32 := broadcastInDim S1x4x128 ![] bcast_S_S1x4x128 main_cst_8
  let main_v26 : IVec S1x4x128 1 := cmpf .olt main_v24 main_v25
  let main_c_9 : IVec S_ 1 := constantI S_ 1 1#1
  let main_v27 : IVec S_ 1 := (fun x v => Host.reduce IntOp.andi x v reducesTo_S1x4x128_S_d0_1_2 h_S_) main_v26 main_c_9
  let main_v28 : IVec S_ 1 := andi main_v23 main_v27
  let main_v29 : FVec F S1x512x1024 .f32 := Host.absf main_arg7
  let main_cst_10 : FVec F S_ .f32 := constant S_ .f32 0x7F800000#32
  let main_v30 : FVec F S1x512x1024 .f32 := broadcastInDim S1x512x1024 ![] bcast_S_S1x512x1024 main_cst_10
  let main_v31 : IVec S1x512x1024 1 := cmpf .olt main_v29 main_v30
  let main_c_11 : IVec S_ 1 := constantI S_ 1 1#1
  let main_v32 : IVec S_ 1 := (fun x v => Host.reduce IntOp.andi x v reducesTo_S1x512x1024_S_d0_1_2 h_S_) main_v31 main_c_11
  let main_v33 : IVec S_ 1 := andi main_v28 main_v32
  fn_part2 (F := F) main_arg9 main_arg10 main_v33

def fn {F : FTy → Type} [FloatOps F] (main_arg0 : FVec F S2x2048x1024 .f32) (main_arg1 : FVec F S1x1024 .f32) (main_arg2 : FVec F S1x1024x3840 .f32) (main_arg3 : FVec F S1x512 .f32) (main_arg4 : FVec F S1x4x128x128 .f32) (main_arg5 : FVec F S1x4x128 .f32) (main_arg6 : FVec F S2x2048x512 .f32) (main_arg7 : FVec F S1x512x1024 .f32) (main_arg8 : FVec F S1x512x1024 .f32) (main_arg9 : FVec F S1x1024x1024 .f32) (main_arg10 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3840 .f32 := Host.absf main_arg2
  let main_cst_2 : FVec F S_ .f32 := constant S_ .f32 0x7F800000#32
  let main_v10 : FVec F S1x1024x3840 .f32 := broadcastInDim S1x1024x3840 ![] bcast_S_S1x1024x3840 main_cst_2
  let main_v11 : IVec S1x1024x3840 1 := cmpf .olt main_v9 main_v10
  let main_c_3 : IVec S_ 1 := constantI S_ 1 1#1
  let main_v12 : IVec S_ 1 := (fun x v => Host.reduce IntOp.andi x v reducesTo_S1x1024x3840_S_d0_1_2 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg7 main_arg9 main_arg10 main_v13 main_v16
-- ==== Kernel.lean ====
abbrev S2x2048x1024 : Shape := ⟨3, ![2, 2048, 1024]⟩
abbrev S1x1024 : Shape := ⟨2, ![1, 1024]⟩
abbrev S1x1024x3840 : Shape := ⟨3, ![1, 1024, 3840]⟩
abbrev S2x2048x3840 : Shape := ⟨3, ![2, 2048, 3840]⟩
abbrev S1024x3840 : Shape := ⟨2, ![1024, 3840]⟩
abbrev S3840x1024 : Shape := ⟨2, ![3840, 1024]⟩
abbrev S4096x3840 : Shape := ⟨2, ![4096, 3840]⟩
abbrev S4096x1024 : Shape := ⟨2, ![4096, 1024]⟩
abbrev S4096x768 : Shape := ⟨2, ![4096, 768]⟩
abbrev S4096x2048 : Shape := ⟨2, ![4096, 2048]⟩
abbrev S512x2048 : Shape := ⟨2, ![512, 2048]⟩
abbrev S512x1024 : Shape := ⟨2, ![512, 1024]⟩
abbrev S512x768 : Shape := ⟨2, ![512, 768]⟩
abbrev S128x2048 : Shape := ⟨2, ![128, 2048]⟩
abbrev S2048x1024 : Shape := ⟨2, ![2048, 1024]⟩
abbrev S128x1024 : Shape := ⟨2, ![128, 1024]⟩
abbrev S1024x1024 : Shape := ⟨2, ![1024, 1024]⟩
abbrev S128x768 : Shape := ⟨2, ![128, 768]⟩
abbrev S768x1024 : Shape := ⟨2, ![768, 1024]⟩
abbrev S128 : Shape := ⟨1, ![128]⟩
abbrev S128x1 : Shape := ⟨2, ![128, 1]⟩
abbrev S1024 : Shape := ⟨1, ![1024]⟩

abbrev nBuf : Space → Nat
  | .hbm => 17
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x3840, .f32⟩
  | .hbm, ⟨3, _⟩ => ⟨S2x2048x1024, .f32⟩
  | .hbm, ⟨4, _⟩ => ⟨S2x2048x3840, .f32⟩
  | .hbm, ⟨5, _⟩ => ⟨S1024x3840, .f32⟩
  | .hbm, ⟨6, _⟩ => ⟨S3840x1024, .f32⟩
  | .hbm, ⟨7, _⟩ => ⟨S3840x1024, .bf16⟩
  | .hbm, ⟨8, _⟩ => ⟨S4096x3840, .f32⟩
  | .hbm, ⟨9, _⟩ => ⟨S4096x3840, .bf16⟩
  | .hbm, ⟨10, _⟩ => ⟨S4096x1024, .bf16⟩
  | .hbm, ⟨11, _⟩ => ⟨S4096x768, .bf16⟩
  | .hbm, ⟨12, _⟩ => ⟨S4096x2048, .bf16⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x768, .bf16⟩
  | .local _ .vmem, ⟨5, _⟩ => ⟨S512x768, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S3840x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3840x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x2048x1024 : Shape := ⟨3, ![2, 2048, 1024]⟩
abbrev S1x1024 : Shape := ⟨2, ![1, 1024]⟩
abbrev S1x1024x3840 : Shape := ⟨3, ![1, 1024, 3840]⟩
abbrev S2x2048x3840 : Shape := ⟨3, ![2, 2048, 3840]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3840 : Shape := ⟨2, ![1024, 3840]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x3840, .f32⟩
  | .hbm, ⟨3, _⟩ => ⟨S2x2048x1024, .f32⟩
  | .hbm, ⟨4, _⟩ => ⟨S2x2048x3840, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x3840, .f32⟩
  | .hbm, ⟨27, _⟩ => ⟨S2x2048x3840, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S1x1024, .f32⟩
  | .hbm, ⟨56, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel2.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S3x5632 : Shape := ⟨2, ![3, 5632]⟩
abbrev S5632 : Shape := ⟨1, ![5632]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S4096x5632 : Shape := ⟨2, ![4096, 5632]⟩
abbrev S4096x2816 : Shape := ⟨2, ![4096, 2816]⟩
abbrev S4096x1024 : Shape := ⟨2, ![4096, 1024]⟩
abbrev S2816x1024 : Shape := ⟨2, ![2816, 1024]⟩
abbrev S1x2816 : Shape := ⟨2, ![1, 2816]⟩
abbrev S512x1408 : Shape := ⟨2, ![512, 1408]⟩
abbrev S512x1024 : Shape := ⟨2, ![512, 1024]⟩
abbrev S1408x1024 : Shape := ⟨2, ![1408, 1024]⟩
abbrev S1x1408 : Shape := ⟨2, ![1, 1408]⟩
abbrev S1408 : Shape := ⟨1, ![1408]⟩

abbrev nBuf : Space → Nat
  | .hbm => 66
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S2x2048x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S1024x5632, .f32⟩
  | .hbm, ⟨25, _⟩ => ⟨S2x2048x5632, .f32⟩
  | .hbm, ⟨26, _⟩ => ⟨S3x5632, .f32⟩
  | .hbm, ⟨27, _⟩ => ⟨S5632, .f32⟩
  | .hbm, ⟨28, _⟩ => ⟨S_, .f32⟩
  | .hbm, ⟨29, _⟩ => ⟨S2x2x5632, .f32⟩
  | .hbm, ⟨30, _⟩ => ⟨S2x2050x5632, .f32⟩
  | .hbm, ⟨31, _⟩ => ⟨S1x5632, .f32⟩
  | .hbm, ⟨32, _⟩ => ⟨S5632, .f32⟩
  | .hbm, ⟨33, _⟩ => ⟨S2x2048x5632, .f32⟩
  | .hbm, ⟨34, _⟩ => ⟨S1x1x5632, .f32⟩
  | .hbm, ⟨35, _⟩ => ⟨S2x2048x5632, .f32⟩
  | .hbm, ⟨36, _⟩ => ⟨S2x2048x5632, .f32⟩
  | .hbm, ⟨37, _⟩ => ⟨S1x5632, .f32⟩
  | .hbm, ⟨38, _⟩ => ⟨S5632, .f32⟩
  | .hbm, ⟨39, _⟩ => ⟨S2x2048x5632, .f32⟩
  | .hbm, ⟨40, _⟩ => ⟨S1x1x5632, .f32⟩
  | .hbm, ⟨41, _⟩ => ⟨S2x2048x5632, .f32⟩
  | .hbm, ⟨42, _⟩ => ⟨S2x2048x5632, .f32⟩
  | .hbm, ⟨43, _⟩ => ⟨S2x2048x5632, .f32⟩
  | .hbm, ⟨44, _⟩ => ⟨S1x5632, .f32⟩
  | .hbm, ⟨45, _⟩ => ⟨S5632, .f32⟩
  | .hbm, ⟨46, _⟩ => ⟨S2x2048x5632, .f32⟩
  | .hbm, ⟨47, _⟩ => ⟨S1x1x5632, .f32⟩
  | .hbm, ⟨48, _⟩ => ⟨S2x2048x5632, .f32⟩
  | .hbm, ⟨49, _⟩ => ⟨S2x2048x5632, .f32⟩
  | .hbm, ⟨50, _⟩ => ⟨S2x2048x5632, .f32⟩
  | .hbm, ⟨51, _⟩ => ⟨S1x1x5632, .f32⟩
  | .hbm, ⟨52, _⟩ => ⟨S2x2048x5632, .f32⟩
  | .hbm, ⟨53, _⟩ => ⟨S2x2048x5632, .f32⟩
  | .hbm, ⟨54, _⟩ => ⟨S4096x5632, .f32⟩
  | .hbm, ⟨55, _⟩ => ⟨S4096x5632, .bf16⟩
  | .hbm, ⟨56, _⟩ => ⟨S4096x2816, .bf16⟩
  | .hbm, ⟨57, _⟩ => ⟨S4096x2816, .bf16⟩
  | .hbm, ⟨58, _⟩ => ⟨S4096x1024, .f32⟩
  | .hbm, ⟨59, _⟩ => ⟨S2816x1024, .f32⟩
  | .hbm, ⟨60, _⟩ => ⟨S2816x1024, .bf16⟩
  | .hbm, ⟨61, _⟩ => ⟨S4096x2816, .bf16⟩
  | .hbm, ⟨62, _⟩ => ⟨S4096x2816, .bf16⟩
  | .hbm, ⟨63, _⟩ => ⟨S2816x1024, .bf16⟩
  | .hbm, ⟨64, _⟩ => ⟨S1x2816, .f32⟩
  | .hbm, ⟨65, _⟩ => ⟨S1x2816, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1024, .f32⟩
  | .local _ .vmem, ⟨5, _⟩ => ⟨S512x1024, .f32⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1408x1024, .bf16⟩
  | .local _ .vmem, ⟨13, _⟩ => ⟨S1408x1024, .bf16⟩
  | .local _ .vmem, ⟨14, _⟩ => ⟨S1x1408, .f32⟩
  | .local _ .vmem, ⟨15, _⟩ => ⟨S1x1408, .f32⟩
  | .local _ .vmem, ⟨16, _⟩ => ⟨S1x1408, .f32⟩
  | .local _ .vmem, ⟨17, _⟩ => ⟨S1x1408, .f32⟩
  | .local _ .vmem, ⟨18, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50_0 : Ref sig .tc := ⟨.hbm, 61, rfl⟩
abbrev main_v50_1 : Ref sig .tc := ⟨.hbm, 62, rfl⟩
abbrev main_v50_2 : Ref sig .tc := ⟨.hbm, 63, rfl⟩
abbrev main_v50_3 : Ref sig .tc := ⟨.hbm, 64, rfl⟩
abbrev main_v50_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v62 : BitVec 1 := Scalar.cmpi .eq arg1 c7_i32
  let v63 : BitVec 32 := Scalar.extui v62
  let c0_i32_32 : BitVec 32 := 0#32
  let v64 : BitVec 1 := Scalar.cmpi .ne v63 c0_i32_32
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S3x5632 : Shape := ⟨2, ![3, 5632]⟩
abbrev S5632 : Shape := ⟨1, ![5632]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S2816x1024 : Shape := ⟨2, ![2816, 1024]⟩
abbrev S1024x2816 : Shape := ⟨2, ![1024, 2816]⟩
abbrev S4096x5632 : Shape := ⟨2, ![4096, 5632]⟩
abbrev S4096x2816 : Shape := ⟨2, ![4096, 2816]⟩
abbrev S1x2816 : Shape := ⟨2, ![1, 2816]⟩

abbrev nBuf : Space → Nat
  | .hbm => 97
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S2x2048x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S1024x5632, .f32⟩
  | .hbm, ⟨25, _⟩ => ⟨S2x2048x5632, .f32⟩
  | .hbm, ⟨26, _⟩ => ⟨S3x5632, .f32⟩
  | .hbm, ⟨27, _⟩ => ⟨S5632, .f32⟩
  | .hbm, ⟨28, _⟩ => ⟨S_, .f32⟩
  | .hbm, ⟨29, _⟩ => ⟨S2x2x5632, .f32⟩
  | .hbm, ⟨30, _⟩ => ⟨S2x2050x5632, .f32⟩
  | .hbm, ⟨31, _⟩ => ⟨S1x5632, .f32⟩
  | .hbm, ⟨32, _⟩ => ⟨S5632, .f32⟩
  | .hbm, ⟨33, _⟩ => ⟨S2x2048x5632, .f32⟩
  | .hbm, ⟨34, _⟩ => ⟨S1x1x5632, .f32⟩
  | .hbm, ⟨35, _⟩ => ⟨S2x2048x5632, .f32⟩
  | .hbm, ⟨36, _⟩ => ⟨S2x2048x5632, .f32⟩
  | .hbm, ⟨37, _⟩ => ⟨S1x5632, .f32⟩
  | .hbm, ⟨38, _⟩ => ⟨S5632, .f32⟩
  | .hbm, ⟨39, _⟩ => ⟨S2x2048x5632, .f32⟩
  | .hbm, ⟨40, _⟩ => ⟨S1x1x5632, .f32⟩
  | .hbm, ⟨41, _⟩ => ⟨S2x2048x5632, .f32⟩
  | .hbm, ⟨42, _⟩ => ⟨S2x2048x5632, .f32⟩
  | .hbm, ⟨43, _⟩ => ⟨S2x2048x5632, .f32⟩
  | .hbm, ⟨44, _⟩ => ⟨S1x5632, .f32⟩
  | .hbm, ⟨45, _⟩ => ⟨S5632, .f32⟩
  | .hbm, ⟨46, _⟩ => ⟨S2x2048x5632, .f32⟩
  | .hbm, ⟨47, _⟩ => ⟨S1x1x5632, .f32⟩
  | .hbm, ⟨48, _⟩ => ⟨S2x2048x5632, .f32⟩
  | .hbm, ⟨49, _⟩ => ⟨S2x2048x5632, .f32⟩
  | .hbm, ⟨50, _⟩ => ⟨S2x2048x5632, .f32⟩
  | .hbm, ⟨51, _⟩ => ⟨S1x1x5632, .f32⟩
  | .hbm, ⟨52, _⟩ => ⟨S2x2048x5632, .f32⟩
  | .hbm, ⟨53, _⟩ => ⟨S2x2048x5632, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S_, .f32⟩
  | .hbm, ⟨59, _⟩ => ⟨S2x2048x2816, .f32⟩
  | .hbm, ⟨60, _⟩ => ⟨S2x2048x2816, .f32⟩
  | .hbm, ⟨61, _⟩ => ⟨S_, .f32⟩
  | .hbm, ⟨62, _⟩ => ⟨S2x2048x2816, .f32⟩
  | .hbm, ⟨63, _⟩ => ⟨S2x2048x2816, .f32⟩
  | .hbm, ⟨64, _⟩ => ⟨S_, .f32⟩
  | .hbm, ⟨65, _⟩ => ⟨S2x2048x2816, .f32⟩
  | .hbm, ⟨66, _⟩ => ⟨S2x2048x2816, .f32⟩
  | .hbm, ⟨67, _⟩ => ⟨S2x2048x2816, .f32⟩
  | .hbm, ⟨68, _⟩ => ⟨S2x2048x2816, .f32⟩
  | .hbm, ⟨69, _⟩ => ⟨S2x2048x2816, .f32⟩
  | .hbm, ⟨70, _⟩ => ⟨S2816x1024, .f32⟩
  | .hbm, ⟨71, _⟩ => ⟨S2x2048x1024, .f32⟩
  | .hbm, ⟨72, _⟩ => ⟨S1024x2816, .f32⟩
  | .hbm, ⟨73, _⟩ => ⟨S2816x1024, .f32⟩
  | .hbm, ⟨74, _⟩ => ⟨S2x2048x2816, .f32⟩
  | .hbm, ⟨75, _⟩ => ⟨S1x2816x1024, .f32⟩
  | .hbm, ⟨76, _⟩ => ⟨S2x2048x2816, .f32⟩
  | .hbm, ⟨77, _⟩ => ⟨S2x2048x2816, .f32⟩
  | .hbm, ⟨78, _⟩ => ⟨S2x2048x2816, .f32⟩
  | .hbm, ⟨79, _⟩ => ⟨S2x2048x2816, .f32⟩
  | .hbm, ⟨80, _⟩ => ⟨S2x2048x2816, .f32⟩
  | .hbm, ⟨81, _⟩ => ⟨S2x2048x2816, .f32⟩
  | .hbm, ⟨82, _⟩ => ⟨S2x2048x5632, .f32⟩
  | .hbm, ⟨83, _⟩ => ⟨S_, .f32⟩
  | .hbm, ⟨84, _⟩ => ⟨S5632, .f32⟩
  | .hbm, ⟨85, _⟩ => ⟨S1x1x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S4096x5632, .f32⟩
  | .hbm, ⟨90, _⟩ => ⟨S4096x5632, .bf16⟩
  | .hbm, ⟨91, _⟩ => ⟨S4096x2816, .bf16⟩
  | .hbm, ⟨92, _⟩ => ⟨S4096x2816, .bf16⟩
  | .hbm, ⟨93, _⟩ => ⟨S2816x1024, .f32⟩
  | .hbm, ⟨94, _⟩ => ⟨S2816x1024, .bf16⟩
  | .hbm, ⟨95, _⟩ => ⟨S1x2816, .f32⟩
  | .hbm, ⟨96, _⟩ => ⟨S1x2816, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v45_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v45_1 : Ref sig .tc := ⟨.hbm, 67, rfl⟩
abbrev main_v45_0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v55 : Ref sig .tc := ⟨.hbm, 81, rfl⟩
abbrev main_v56 : Ref sig .tc := ⟨.hbm, 82, rfl⟩
abbrev main_cst_3 : Ref sig .tc := ⟨.hbm, 83, rfl⟩
abbrev main_v57 : Ref sig .tc := ⟨.hbm, 84, rfl⟩
abbrev main_v58 : Ref sig .tc := ⟨.hbm, 85, rfl⟩
abbrev main_cst_4 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel3.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S2x2048x5632 : Shape := ⟨3, ![2, 2048, 5632]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S4096x5632 : Shape := ⟨2, ![4096, 5632]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S4096x2816 : Shape := ⟨2, ![4096, 2816]⟩
abbrev S4096x1024 : Shape := ⟨2, ![4096, 1024]⟩
abbrev S3x5632 : Shape := ⟨2, ![3, 5632]⟩
abbrev S256x2816 : Shape := ⟨2, ![256, 2816]⟩
abbrev S16x2816 : Shape := ⟨2, ![16, 2816]⟩
abbrev S256x5632 : Shape := ⟨2, ![256, 5632]⟩
abbrev S256x1024 : Shape := ⟨2, ![256, 1024]⟩
abbrev S256x1408 : Shape := ⟨2, ![256, 1408]⟩
abbrev S16x1408 : Shape := ⟨2, ![16, 1408]⟩
abbrev S2x1408 : Shape := ⟨2, ![2, 1408]⟩
abbrev S3x1408 : Shape := ⟨2, ![3, 1408]⟩
abbrev S8x1408 : Shape := ⟨2, ![8, 1408]⟩
abbrev S1x1408 : Shape := ⟨2, ![1, 1408]⟩
abbrev S248x1408 : Shape := ⟨2, ![248, 1408]⟩
abbrev S1408 : Shape := ⟨1, ![1408]⟩
abbrev S256 : Shape := ⟨1, ![256]⟩
abbrev S256x1 : Shape := ⟨2, ![256, 1]⟩

abbrev nBuf : Space → Nat
  | .hbm => 56
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S2x2048x1024, .f32⟩
  | .hbm, ⟨6, _⟩ => ⟨S2x2048x5632, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S1024x5632, .f32⟩
  | .hbm, ⟨25, _⟩ => ⟨S2x2048x5632, .f32⟩
  | .hbm, ⟨26, _⟩ => ⟨S4096x5632, .f32⟩
  | .hbm, ⟨27, _⟩ => ⟨S4096x5632, .bf16⟩
  | .hbm, ⟨28, _⟩ => ⟨S4096x5632, .f32⟩
  | .hbm, ⟨29, _⟩ => ⟨S4096x5632, .bf16⟩
  | .hbm, ⟨30, _⟩ => ⟨S1024x5632, .f32⟩
  | .hbm, ⟨31, _⟩ => ⟨S1024x1408, .f32⟩
  | .hbm, ⟨32, _⟩ => ⟨S1024x1408, .bf16⟩
  | .hbm, ⟨33, _⟩ => ⟨S1024x5632, .f32⟩
  | .hbm, ⟨34, _⟩ => ⟨S1024x1408, .f32⟩
  | .hbm, ⟨35, _⟩ => ⟨S1024x1408, .bf16⟩
  | .hbm, ⟨36, _⟩ => ⟨S1024x5632, .f32⟩
  | .hbm, ⟨37, _⟩ => ⟨S1024x1408, .f32⟩
  | .hbm, ⟨38, _⟩ => ⟨S1024x1408, .bf16⟩
  | .hbm, ⟨39, _⟩ => ⟨S1024x5632, .f32⟩
  | .hbm, ⟨40, _⟩ => ⟨S1024x1408, .f32⟩
  | .hbm, ⟨41, _⟩ => ⟨S1024x1408, .bf16⟩
  | .hbm, ⟨42, _⟩ => ⟨S1x1024x1408, .bf16⟩
  | .hbm, ⟨43, _⟩ => ⟨S1x1024x1408, .bf16⟩
  | .hbm, ⟨44, _⟩ => ⟨S1x1024x1408, .bf16⟩
  | .hbm, ⟨45, _⟩ => ⟨S1x1024x1408, .bf16⟩
  | .hbm, ⟨46, _⟩ => ⟨S4x1024x1408, .bf16⟩
  | .hbm, ⟨47, _⟩ => ⟨S4096x2816, .bf16⟩
  | .hbm, ⟨48, _⟩ => ⟨S4096x2816, .bf16⟩
  | .hbm, ⟨49, _⟩ => ⟨S4096x1024, .f32⟩
  | .hbm, ⟨50, _⟩ => ⟨S4096x1024, .f32⟩
  | .hbm, ⟨51, _⟩ => ⟨S3x5632, .f32⟩
  | .hbm, ⟨52, _⟩ => ⟨S4096x5632, .bf16⟩
  | .hbm, ⟨53, _⟩ => ⟨S4096x1024, .f32⟩
  | .hbm, ⟨54, _⟩ => ⟨S1x1024, .f32⟩
  | .hbm, ⟨55, _⟩ => ⟨S3x5632, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S16x2816, .bf16⟩
  | .local _ .vmem, ⟨5, _⟩ => ⟨S16x2816, .bf16⟩
  | .local _ .vmem, ⟨6, _⟩ => ⟨S16x2816, .bf16⟩
  | .local _ .vmem, ⟨7, _⟩ => ⟨S16x2816, .bf16⟩
  | .local _ .vmem, ⟨8, _⟩ => ⟨S256x5632, .bf16⟩
  | .local _ .vmem, ⟨9, _⟩ => ⟨S256x5632, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S3x5632, .f32⟩
  | .local _ .vmem, ⟨16, _⟩ => ⟨S4x1024x1408, .bf16⟩
  | .local _ .vmem, ⟨17, _⟩ => ⟨S256x5632, .bf16⟩
  | .local _ .vmem, ⟨18, _⟩ => ⟨S256x5632, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S3x5632, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42_0 : Ref sig .tc := ⟨.hbm, 52, rfl⟩
abbrev main_v42_1 : Ref sig .tc := ⟨.hbm, 53, rfl⟩
abbrev main_v42_2 : Ref sig .tc := ⟨.hbm, 54, rfl⟩
abbrev main_v42_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1408 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S2x2048x5632 : Shape := ⟨3, ![2, 2048, 5632]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S3x5632 : Shape := ⟨2, ![3, 5632]⟩
abbrev S5632 : Shape := ⟨1, ![5632]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S4096x5632 : Shape := ⟨2, ![4096, 5632]⟩
abbrev S4096x1024 : Shape := ⟨2, ![4096, 1024]⟩

abbrev nBuf : Space → Nat
  | .hbm => 140
  | .vmem => 0
  | .smem => 0
  | _ => 0

abbrev hbmTy0_0 (i : Nat) : BufTy := match i % 128 with
  | 0 => ⟨S2x2048x1024, .f32⟩
  | 1 => ⟨S1x1024, .f32⟩
  | 2 => ⟨S1x1024x5632, .f32⟩
  | 3 => ⟨S1x3x5632, .f32⟩
  | 4 => ⟨S1x5632, .f32⟩
  | 5 => ⟨S2x2048x1024, .f32⟩
  | 6 => ⟨S2x2048x5632, .f32⟩
  | 7 => ⟨S1024, .f32⟩
  | 8 => ⟨S2x2048x1024, .f32⟩
  | 9 => ⟨S_, .f32⟩
  | 10 => ⟨S2x2048, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x1, .f32⟩
  | 19 => ⟨S2x2048x1, .f32⟩
  | 20 => ⟨S_, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S1024x5632, .f32⟩
  | 29 => ⟨S2x2048x5632, .f32⟩
  | 30 => ⟨S3x5632, .f32⟩
  | 31 => ⟨S5632, .f32⟩
  | 32 => ⟨S_, .f32⟩
  | 33 => ⟨S2x2x5632, .f32⟩
  | 34 => ⟨S2x2050x5632, .f32⟩
  | 35 => ⟨S_, .f32⟩
  | 36 => ⟨S2x2x5632, .f32⟩
  | 37 => ⟨S1x5632, .f32⟩
  | 38 => ⟨S5632, .f32⟩
  | 39 => ⟨S2x2048x5632, .f32⟩
  | 40 => ⟨S1x1x5632, .f32⟩
  | 41 => ⟨S2x2048x5632, .f32⟩
  | 42 => ⟨S2x2048x5632, .f32⟩
  | 43 => ⟨S1x5632, .f32⟩
  | 44 => ⟨S5632, .f32⟩
  | 45 => ⟨S2x2048x5632, .f32⟩
  | 46 => ⟨S1x1x5632, .f32⟩
  | 47 => ⟨S2x2048x5632, .f32⟩
  | 48 => ⟨S2x2048x5632, .f32⟩
  | 49 => ⟨S2x2048x5632, .f32⟩
  | 50 => ⟨S1x5632, .f32⟩
  | 51 => ⟨S5632, .f32⟩
  | 52 => ⟨S2x2048x5632, .f32⟩
  | 53 => ⟨S1x1x5632, .f32⟩
  | 54 => ⟨S2x2048x5632, .f32⟩
  | 55 => ⟨S2x2048x5632, .f32⟩
  | 56 => ⟨S2x2048x5632, .f32⟩
  | 57 => ⟨S1x1x5632, .f32⟩
  | 58 => ⟨S2x2048x5632, .f32⟩
  | 59 => ⟨S2x2048x5632, .f32⟩
  | 60 => ⟨S2x2048x5632, .f32⟩
  | 61 => ⟨S2x2048x5632, .f32⟩
  | 62 => ⟨S2x2048x5632, .f32⟩
  | 63 => ⟨S2x2048x5632, .f32⟩
  | 64 => ⟨S2x2048x5632, .f32⟩
  | 65 => ⟨S_, .f32⟩
  | 66 => ⟨S5632, .f32⟩
  | 67 => ⟨S1x1x5632, .f32⟩
  | 68 => ⟨S_, .f32⟩
  | 69 => ⟨S5632, .f32⟩
  | 70 => ⟨S_, .f32⟩
  | 71 => ⟨S2x2050x5632, .f32⟩
  | 72 => ⟨S1x5632, .f32⟩
  | 73 => ⟨S_, .f32⟩
  | 74 => ⟨S3x5632, .f32⟩
  | 75 => ⟨S2x2048x5632, .f32⟩
  | 76 => ⟨S2x2048x5632, .f32⟩
  | 77 => ⟨S2x2048x5632, .f32⟩
  | 78 => ⟨S_, .f32⟩
  | 79 => ⟨S5632, .f32⟩
  | 80 => ⟨S1x1x5632, .f32⟩
  | 81 => ⟨S_, .f32⟩
  | 82 => ⟨S5632, .f32⟩
  | 83 => ⟨S_, .f32⟩
  | 84 => ⟨S2x2050x5632, .f32⟩
  | 85 => ⟨S2x2050x5632, .f32⟩
  | 86 => ⟨S1x5632, .f32⟩
  | 87 => ⟨S_, .f32⟩
  | 88 => ⟨S3x5632, .f32⟩
  | 89 => ⟨S3x5632, .f32⟩
  | 90 => ⟨S2x2048x5632, .f32⟩
  | 91 => ⟨S2x2048x5632, .f32⟩
  | 92 => ⟨S2x2048x5632, .f32⟩
  | 93 => ⟨S_, .f32⟩
  | 94 => ⟨S5632, .f32⟩
  | 95 => ⟨S1x1x5632, .f32⟩
  | 96 => ⟨S_, .f32⟩
  | 97 => ⟨S5632, .f32⟩
  | 98 => ⟨S_, .f32⟩
  | 99 => ⟨S2x2050x5632, .f32⟩
  | 100 => ⟨S2x2050x5632, .f32⟩
  | 101 => ⟨S1x5632, .f32⟩
  | 102 => ⟨S_, .f32⟩
  | 103 => ⟨S3x5632, .f32⟩
  | 104 => ⟨S3x5632, .f32⟩
  | 105 => ⟨S2x2x5632, .f32⟩
  | 106 => ⟨S2x2048x5632, .f32⟩
  | 107 => ⟨S1x3x5632, .f32⟩
  | 108 => ⟨S2x2048x1024, .f32⟩
  | 109 => ⟨S2x2048x1024, .f32⟩
  | 110 => ⟨S_, .f32⟩
  | 111 => ⟨S1024, .f32⟩
  | 112 => ⟨S1x1x1024, .f32⟩
  | 113 => ⟨S2x2048x1024, .f32⟩
  | 114 => ⟨S2x2048x1024, .f32⟩
  | 115 => ⟨S_, .f32⟩
  | 116 => ⟨S1024, .f32⟩
  | 117 => ⟨S2x2048x1024, .f32⟩
  | 118 => ⟨S_, .f32⟩
  | 119 => ⟨S2x2048, .f32⟩
  | 120 => ⟨S2x2048x1, .f32⟩
  | 121 => ⟨S2x2048x1024, .f32⟩
  | 122 => ⟨S2x2048x1024, .f32⟩
  | 123 => ⟨S2x2048x1, .f32⟩
  | 124 => ⟨S_, .f32⟩
  | 125 => ⟨S2x2048x1, .f32⟩
  | 126 => ⟨S2x2048x1, .f32⟩
  | 127 => ⟨S_, .f32⟩
  | _ => ⟨S2x2048x1024, .f32⟩

abbrev hbmTy0_1 (i : Nat) : BufTy := match i % 128 with
  | 0 => ⟨S2x2048, .f32⟩
  | 1 => ⟨S2x2048x1024, .f32⟩
  | 2 => ⟨S2x2048x1024, .f32⟩
  | 3 => ⟨S2x2048x1024, .f32⟩
  | 4 => ⟨S2x2048x1024, .f32⟩
  | 5 => ⟨S2x2048x1024, .f32⟩
  | 6 => ⟨S1x1024, .f32⟩
  | 7 => ⟨S4096x5632, .f32⟩
  | 8 => ⟨S4096x5632, .bf16⟩
  | 9 => ⟨S2x2048x1024, .f32⟩
  | 10 => ⟨S4096x1024, .f32⟩
  | 11 => ⟨S3x5632, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_18 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_20 : Ref sig .tc := ⟨.hbm, 124, rfl⟩
abbrev main_v96 : Ref sig .tc := ⟨.hbm, 125, rfl⟩
abbrev main_v97 : Ref sig .tc := ⟨.hbm, 126, rfl⟩
abbrev main_cst_21 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]
-- ==== Kernel4.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S3x5632 : Shape := ⟨2, ![3, 5632]⟩
abbrev S5632 : Shape := ⟨1, ![5632]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S4096x5632 : Shape := ⟨2, ![4096, 5632]⟩
abbrev S4096x2816 : Shape := ⟨2, ![4096, 2816]⟩
abbrev S4096x1024 : Shape := ⟨2, ![4096, 1024]⟩
abbrev S2816x1024 : Shape := ⟨2, ![2816, 1024]⟩
abbrev S1x1 : Shape := ⟨2, ![1, 1]⟩
abbrev S512x2816 : Shape := ⟨2, ![512, 2816]⟩
abbrev S512x1024 : Shape := ⟨2, ![512, 1024]⟩
abbrev S128x1024 : Shape := ⟨2, ![128, 1024]⟩
abbrev S128x1408 : Shape := ⟨2, ![128, 1408]⟩
abbrev S1408x1024 : Shape := ⟨2, ![1408, 1024]⟩
abbrev S128 : Shape := ⟨1, ![128]⟩
abbrev S128x1 : Shape := ⟨2, ![128, 1]⟩
abbrev S1 : Shape := ⟨1, ![1]⟩

abbrev nBuf : Space → Nat
  | .hbm => 67
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S2x2048x1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S1024x5632, .f32⟩
  | .hbm, ⟨26, _⟩ => ⟨S2x2048x5632, .f32⟩
  | .hbm, ⟨27, _⟩ => ⟨S3x5632, .f32⟩
  | .hbm, ⟨28, _⟩ => ⟨S5632, .f32⟩
  | .hbm, ⟨29, _⟩ => ⟨S_, .f32⟩
  | .hbm, ⟨30, _⟩ => ⟨S2x2x5632, .f32⟩
  | .hbm, ⟨31, _⟩ => ⟨S2x2050x5632, .f32⟩
  | .hbm, ⟨32, _⟩ => ⟨S1x5632, .f32⟩
  | .hbm, ⟨33, _⟩ => ⟨S5632, .f32⟩
  | .hbm, ⟨34, _⟩ => ⟨S2x2048x5632, .f32⟩
  | .hbm, ⟨35, _⟩ => ⟨S1x1x5632, .f32⟩
  | .hbm, ⟨36, _⟩ => ⟨S2x2048x5632, .f32⟩
  | .hbm, ⟨37, _⟩ => ⟨S2x2048x5632, .f32⟩
  | .hbm, ⟨38, _⟩ => ⟨S1x5632, .f32⟩
  | .hbm, ⟨39, _⟩ => ⟨S5632, .f32⟩
  | .hbm, ⟨40, _⟩ => ⟨S2x2048x5632, .f32⟩
  | .hbm, ⟨41, _⟩ => ⟨S1x1x5632, .f32⟩
  | .hbm, ⟨42, _⟩ => ⟨S2x2048x5632, .f32⟩
  | .hbm, ⟨43, _⟩ => ⟨S2x2048x5632, .f32⟩
  | .hbm, ⟨44, _⟩ => ⟨S2x2048x5632, .f32⟩
  | .hbm, ⟨45, _⟩ => ⟨S1x5632, .f32⟩
  | .hbm, ⟨46, _⟩ => ⟨S5632, .f32⟩
  | .hbm, ⟨47, _⟩ => ⟨S2x2048x5632, .f32⟩
  | .hbm, ⟨48, _⟩ => ⟨S1x1x5632, .f32⟩
  | .hbm, ⟨49, _⟩ => ⟨S2x2048x5632, .f32⟩
  | .hbm, ⟨50, _⟩ => ⟨S2x2048x5632, .f32⟩
  | .hbm, ⟨51, _⟩ => ⟨S2x2048x5632, .f32⟩
  | .hbm, ⟨52, _⟩ => ⟨S1x1x5632, .f32⟩
  | .hbm, ⟨53, _⟩ => ⟨S2x2048x5632, .f32⟩
  | .hbm, ⟨54, _⟩ => ⟨S2x2048x5632, .f32⟩
  | .hbm, ⟨55, _⟩ => ⟨S4096x5632, .f32⟩
  | .hbm, ⟨56, _⟩ => ⟨S4096x5632, .bf16⟩
  | .hbm, ⟨57, _⟩ => ⟨S4096x2816, .bf16⟩
  | .hbm, ⟨58, _⟩ => ⟨S4096x2816, .bf16⟩
  | .hbm, ⟨59, _⟩ => ⟨S4096x1024, .f32⟩
  | .hbm, ⟨60, _⟩ => ⟨S4096x1024, .f32⟩
  | .hbm, ⟨61, _⟩ => ⟨S2816x1024, .f32⟩
  | .hbm, ⟨62, _⟩ => ⟨S2816x1024, .bf16⟩
  | .hbm, ⟨63, _⟩ => ⟨S1x1024, .f32⟩
  | .hbm, ⟨64, _⟩ => ⟨S4096x1024, .f32⟩
  | .hbm, ⟨65, _⟩ => ⟨S1x1, .f32⟩
  | .hbm, ⟨66, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1, .f32⟩
  | .local _ .vmem, ⟨13, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52_0 : Ref sig .tc := ⟨.hbm, 64, rfl⟩
abbrev main_v52_1 : Ref sig .tc := ⟨.hbm, 65, rfl⟩
abbrev main_v52_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S3x5632 : Shape := ⟨2, ![3, 5632]⟩
abbrev S5632 : Shape := ⟨1, ![5632]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S2816x1024 : Shape := ⟨2, ![2816, 1024]⟩
abbrev S4096x1024 : Shape := ⟨2, ![4096, 1024]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S2x2048x1024, .f32⟩
  | 1 => ⟨S1x1024, .f32⟩
  | 2 => ⟨S1x1024x5632, .f32⟩
  | 3 => ⟨S1x3x5632, .f32⟩
  | 4 => ⟨S1x5632, .f32⟩
  | 5 => ⟨S1x2816x1024, .f32⟩
  | 6 => ⟨S1024, .f32⟩
  | 7 => ⟨S2x2048x1024, .f32⟩
  | 8 => ⟨S1024, .f32⟩
  | 9 => ⟨S2x2048x1024, .f32⟩
  | 10 => ⟨S_, .f32⟩
  | 11 => ⟨S2x2048, .f32⟩
  | 12 => ⟨S2x2048x1, .f32⟩
  | 13 => ⟨S_, .f32⟩
  | 14 => ⟨S2x2048x1, .f32⟩
  | 15 => ⟨S2x2048x1, .f32⟩
  | 16 => ⟨S_, .f32⟩
  | 17 => ⟨S2x2048x1, .f32⟩
  | 18 => ⟨S2x2048x1, .f32⟩
  | 19 => ⟨S2x2048x1, .f32⟩
  | 20 => ⟨S2x2048x1024, .f32⟩
  | 21 => ⟨S2x2048x1024, .f32⟩
  | 22 => ⟨S1x1x1024, .f32⟩
  | 23 => ⟨S2x2048x1024, .f32⟩
  | 24 => ⟨S2x2048x1024, .f32⟩
  | 25 => ⟨S1024x5632, .f32⟩
  | 26 => ⟨S2x2048x5632, .f32⟩
  | 27 => ⟨S3x5632, .f32⟩
  | 28 => ⟨S5632, .f32⟩
  | 29 => ⟨S_, .f32⟩
  | 30 => ⟨S2x2x5632, .f32⟩
  | 31 => ⟨S2x2050x5632, .f32⟩
  | 32 => ⟨S1x5632, .f32⟩
  | 33 => ⟨S5632, .f32⟩
  | 34 => ⟨S2x2048x5632, .f32⟩
  | 35 => ⟨S1x1x5632, .f32⟩
  | 36 => ⟨S2x2048x5632, .f32⟩
  | 37 => ⟨S2x2048x5632, .f32⟩
  | 38 => ⟨S1x5632, .f32⟩
  | 39 => ⟨S5632, .f32⟩
  | 40 => ⟨S2x2048x5632, .f32⟩
  | 41 => ⟨S1x1x5632, .f32⟩
  | 42 => ⟨S2x2048x5632, .f32⟩
  | 43 => ⟨S2x2048x5632, .f32⟩
  | 44 => ⟨S2x2048x5632, .f32⟩
  | 45 => ⟨S1x5632, .f32⟩
  | 46 => ⟨S5632, .f32⟩
  | 47 => ⟨S2x2048x5632, .f32⟩
  | 48 => ⟨S1x1x5632, .f32⟩
  | 49 => ⟨S2x2048x5632, .f32⟩
  | 50 => ⟨S2x2048x5632, .f32⟩
  | 51 => ⟨S2x2048x5632, .f32⟩
  | 52 => ⟨S1x1x5632, .f32⟩
  | 53 => ⟨S2x2048x5632, .f32⟩
  | 54 => ⟨S2x2048x5632, .f32⟩
  | 55 => ⟨S2x2048x2816, .f32⟩
  | 56 => ⟨S2x2048x2816, .f32⟩
  | 57 => ⟨S2x2048x2816, .f32⟩
  | 58 => ⟨S2x2048x2816, .f32⟩
  | 59 => ⟨S_, .f32⟩
  | 60 => ⟨S2x2048x2816, .f32⟩
  | 61 => ⟨S2x2048x2816, .f32⟩
  | 62 => ⟨S_, .f32⟩
  | 63 => ⟨S2x2048x2816, .f32⟩
  | 64 => ⟨S2x2048x2816, .f32⟩
  | 65 => ⟨S2x2048x2816, .f32⟩
  | 66 => ⟨S2x2048x2816, .f32⟩
  | 67 => ⟨S2816x1024, .f32⟩
  | 68 => ⟨S2x2048x1024, .f32⟩
  | 69 => ⟨S2x2048x1024, .f32⟩
  | 70 => ⟨S2x2048x1024, .f32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S_, .f32⟩
  | 78 => ⟨S2x2048x1, .f32⟩
  | 79 => ⟨S2x2048x1, .f32⟩
  | 80 => ⟨S2x2048x1, .f32⟩
  | 81 => ⟨S2x2048x1, .f32⟩
  | 82 => ⟨S_, .f32⟩
  | 83 => ⟨S2x2048x1, .f32⟩
  | 84 => ⟨S2x2048x1, .f32⟩
  | 85 => ⟨S2x2048x1024, .f32⟩
  | 86 => ⟨S2x2048x1024, .f32⟩
  | 87 => ⟨S1x1x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S_, .f32⟩
  | 93 => ⟨S2x2048x1024, .f32⟩
  | 94 => ⟨S2x2048x1024, .f32⟩
  | 95 => ⟨S_, .f32⟩
  | 96 => ⟨S2x2048, .f32⟩
  | 97 => ⟨S_, .f32⟩
  | 98 => ⟨S2x2048, .f32⟩
  | 99 => ⟨S2x2048, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S2x2048, .f32⟩
  | 108 => ⟨S_, .f32⟩
  | 109 => ⟨S2x2048, .f32⟩
  | 110 => ⟨S2x2048, .f32⟩
  | 111 => ⟨S2x2048x1024, .f32⟩
  | 112 => ⟨S2x2048x1024, .f32⟩
  | 113 => ⟨S2x2048x1024, .f32⟩
  | 114 => ⟨S_, .f32⟩
  | 115 => ⟨S1024, .f32⟩
  | 116 => ⟨S1x1x1024, .f32⟩
  | 117 => ⟨S2x2048x1024, .f32⟩
  | 118 => ⟨S2x2048x1024, .f32⟩
  | 119 => ⟨S_, .f32⟩
  | 120 => ⟨S1024, .f32⟩
  | 121 => ⟨S2x2048x1024, .f32⟩
  | 122 => ⟨S_, .f32⟩
  | 123 => ⟨S2x2048, .f32⟩
  | 124 => ⟨S2x2048x1, .f32⟩
  | 125 => ⟨S2x2048x1024, .f32⟩
  | 126 => ⟨S2x2048x1024, .f32⟩
  | 127 => ⟨S2x2048x1, .f32⟩
  | _ => ⟨S2x2048x1024, .f32⟩

abbrev hbmTy0_1 (i : Nat) : BufTy := match i % 128 with
  | 0 => ⟨S_, .f32⟩
  | 1 => ⟨S2x2048x1, .f32⟩
  | 2 => ⟨S2x2048x1, .f32⟩
  | 3 => ⟨S_, .f32⟩
  | 4 => ⟨S2x2048, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S4096x1024, .f32⟩
  | 11 => ⟨S1x1, .f32⟩
  | 12 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_v54 : Ref sig .tc := ⟨.hbm, 76, rfl⟩
abbrev main_cst_5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_7 : Ref sig .tc := ⟨.hbm, 92, rfl⟩
abbrev main_v68 : Ref sig .tc := ⟨.hbm, 93, rfl⟩
abbrev main_v69 : Ref sig .tc := ⟨.hbm, 94, rfl⟩
abbrev main_cst_8 : Ref sig .tc := ⟨.hbm, 95, rfl⟩
abbrev main_v70 : Ref sig .tc := ⟨.hbm, 96, rfl⟩
abbrev main_cst_9 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_cst_12 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_18 : Ref sig .tc := ⟨.hbm, 128, rfl⟩
abbrev main_v93 : Ref sig .tc := ⟨.hbm, 129, rfl⟩
abbrev main_v94 : Ref sig .tc := ⟨.hbm, 130, rfl⟩
abbrev main_cst_19 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]
-- ==== Kernel5.lean ====
abbrev S2x2048x1024 : Shape := ⟨3, ![2, 2048, 1024]⟩
abbrev S1x1024 : Shape := ⟨2, ![1, 1024]⟩
abbrev S1x1024x3840 : Shape := ⟨3, ![1, 1024, 3840]⟩
abbrev S1x512 : Shape := ⟨2, ![1, 512]⟩
abbrev S1x4x128x128 : Shape := ⟨4, ![1, 4, 128, 128]⟩
abbrev S1x4x128 : Shape := ⟨3, ![1, 4, 128]⟩
abbrev S2x2048x512 : Shape := ⟨3, ![2, 2048, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3840 : Shape := ⟨2, ![1024, 3840]⟩
abbrev S2x2048x3840 : Shape := ⟨3, ![2, 2048, 3840]⟩
abbrev S2x2048x2048 : Shape := ⟨3, ![2, 2048, 2048]⟩
abbrev S512 : Shape := ⟨1, ![512]⟩
abbrev S4x128x128 : Shape := ⟨3, ![4, 128, 128]⟩
abbrev S4x128 : Shape := ⟨2, ![4, 128]⟩
abbrev S1x1x512 : Shape := ⟨3, ![1, 1, 512]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S512x1024 : Shape := ⟨2, ![512, 1024]⟩
abbrev S4096x1024 : Shape := ⟨2, ![4096, 1024]⟩
abbrev S4096x512 : Shape := ⟨2, ![4096, 512]⟩
abbrev S4096x2048 : Shape := ⟨2, ![4096, 2048]⟩
abbrev S512x256 : Shape := ⟨2, ![512, 256]⟩
abbrev S1x512x256 : Shape := ⟨3, ![1, 512, 256]⟩
abbrev S4x512x256 : Shape := ⟨3, ![4, 512, 256]⟩
abbrev S1024x1024 : Shape := ⟨2, ![1024, 1024]⟩
abbrev S512x512 : Shape := ⟨2, ![512, 512]⟩
abbrev S512x2048 : Shape := ⟨2, ![512, 2048]⟩
abbrev S512x1 : Shape := ⟨2, ![512, 1]⟩
abbrev S128x1 : Shape := ⟨2, ![128, 1]⟩
abbrev S128 : Shape := ⟨1, ![128]⟩
abbrev S512x128 : Shape := ⟨2, ![512, 128]⟩

abbrev nBuf : Space → Nat
  | .hbm => 194
  | .vmem => 33
  | .smem => 0
  | _ => 0

abbrev hbmTy0_0 (i : Nat) : BufTy := match i % 128 with
  | 0 => ⟨S2x2048x1024, .f32⟩
  | 1 => ⟨S1x1024, .f32⟩
  | 2 => ⟨S1x1024x3840, .f32⟩
  | 3 => ⟨S1x512, .f32⟩
  | 4 => ⟨S1x4x128x128, .f32⟩
  | 5 => ⟨S1x4x128, .f32⟩
  | 6 => ⟨S2x2048x512, .f32⟩
  | 7 => ⟨S1x512x1024, .f32⟩
  | 8 => ⟨S1x512x1024, .f32⟩
  | 9 => ⟨S1x1024x1024, .f32⟩
  | 10 => ⟨S2x2048x1024, .f32⟩
  | 11 => ⟨S1024, .f32⟩
  | 12 => ⟨S2x2048x1024, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S1024x3840, .f32⟩
  | 29 => ⟨S2x2048x3840, .f32⟩
  | 30 => ⟨S2x2048x1024, .f32⟩
  | 31 => ⟨S2x2048x2048, .f32⟩
  | 32 => ⟨S2x2048x512, .f32⟩
  | 33 => ⟨S2x2048x512, .f32⟩
  | 34 => ⟨S2x2048x512, .f32⟩
  | 35 => ⟨S2x2048x512, .f32⟩
  | 36 => ⟨S_, .f32⟩
  | 37 => ⟨S2x2048x512, .f32⟩
  | 38 => ⟨S2x2048x512, .f32⟩
  | 39 => ⟨S2x2048x512, .f32⟩
  | 40 => ⟨S_, .f32⟩
  | 41 => ⟨S2x2048x512, .f32⟩
  | 42 => ⟨S2x2048x512, .f32⟩
  | 43 => ⟨S2x2048x512, .f32⟩
  | 44 => ⟨S_, .f32⟩
  | 45 => ⟨S2x2048x512, .f32⟩
  | 46 => ⟨S2x2048x512, .f32⟩
  | 47 => ⟨S_, .f32⟩
  | 48 => ⟨S2x2048x512, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S2x2048x512, .f32⟩
  | 57 => ⟨S_, .f32⟩
  | 58 => ⟨S2x2048x512, .f32⟩
  | 59 => ⟨S2x2048x512, .f32⟩
  | 60 => ⟨S2x2048x512, .f32⟩
  | 61 => ⟨S_, .f32⟩
  | 62 => ⟨S2x2048x512, .f32⟩
  | 63 => ⟨S2x2048x512, .f32⟩
  | 64 => ⟨S_, .f32⟩
  | 65 => ⟨S2x2048x512, .f32⟩
  | 66 => ⟨S2x2048x512, .f32⟩
  | 67 => ⟨S2x2048x512, .f32⟩
  | 68 => ⟨S512, .f32⟩
  | 69 => ⟨S4x128x128, .f32⟩
  | 70 => ⟨S4x128, .f32⟩
  | 71 => ⟨S2x2048x512, .f32⟩
  | 72 => ⟨S_, .f32⟩
  | 73 => ⟨S2x2048, .f32⟩
  | 74 => ⟨S2x2048x1, .f32⟩
  | 75 => ⟨S_, .f32⟩
  | 76 => ⟨S2x2048x1, .f32⟩
  | 77 => ⟨S2x2048x1, .f32⟩
  | 78 => ⟨S_, .f32⟩
  | 79 => ⟨S2x2048x1, .f32⟩
  | 80 => ⟨S2x2048x1, .f32⟩
  | 81 => ⟨S2x2048x1, .f32⟩
  | 82 => ⟨S2x2048x512, .f32⟩
  | 83 => ⟨S2x2048x512, .f32⟩
  | 84 => ⟨S1x1x512, .f32⟩
  | 85 => ⟨S2x2048x512, .f32⟩
  | 86 => ⟨S2x2048x512, .f32⟩
  | 87 => ⟨S2x16x128x4x128, .f32⟩
  | 88 => ⟨S_, .f32⟩
  | 89 => ⟨S128x128, .f32⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .f32⟩
  | 97 => ⟨S128x128, .f32⟩
  | 98 => ⟨S128x128, .f32⟩
  | 99 => ⟨S1x128x128, .f32⟩
  | 100 => ⟨S4x128x128, .f32⟩
  | 101 => ⟨S4x128x128, .f32⟩
  | 102 => ⟨S4x2x16x128x128, .f32⟩
  | 103 => ⟨S2x16x128x4x128, .f32⟩
  | 104 => ⟨S128x4, .f32⟩
  | 105 => ⟨S1x1x128x4x1, .f32⟩
  | 106 => ⟨S2x16x128x4x128, .f32⟩
  | 107 => ⟨S2x16x128x4x128, .f32⟩
  | 108 => ⟨S2x2048x512, .f32⟩
  | 109 => ⟨S2x2048x512, .f32⟩
  | 110 => ⟨S2x2048x1024, .f32⟩
  | 111 => ⟨S2x2048x1024, .f32⟩
  | 112 => ⟨S2x2048x1024, .f32⟩
  | 113 => ⟨S2x2048x1024, .f32⟩
  | 114 => ⟨S_, .f32⟩
  | 115 => ⟨S2x2048x1024, .f32⟩
  | 116 => ⟨S2x2048x1024, .f32⟩
  | 117 => ⟨S_, .f32⟩
  | 118 => ⟨S2x2048x1024, .f32⟩
  | 119 => ⟨S2x2048x1024, .f32⟩
  | 120 => ⟨S512x1024, .f32⟩
  | 121 => ⟨S2x2048x1024, .f32⟩
  | 122 => ⟨S2x2048x1024, .f32⟩
  | 123 => ⟨S2x2048x1024, .f32⟩
  | 124 => ⟨S2x2048x1024, .f32⟩
  | 125 => ⟨S_, .f32⟩
  | 126 => ⟨S2x2048x1024, .f32⟩
  | 127 => ⟨S2x2048x1024, .f32⟩
  | _ => ⟨S2x2048x1024, .f32⟩

abbrev hbmTy0_1 (i : Nat) : BufTy := match i % 128 with
  | 0 => ⟨S_, .f32⟩
  | 1 => ⟨S2x2048x1024, .f32⟩
  | 2 => ⟨S2x2048x1024, .f32⟩
  | 3 => ⟨S512x1024, .f32⟩
  | 4 => ⟨S2x2048x1024, .f32⟩
  | 5 => ⟨S2x2048x1024, .f32⟩
  | 6 => ⟨S2x2048x1024, .f32⟩
  | 7 => ⟨S4096x1024, .f32⟩
  | 8 => ⟨S4096x1024, .f32⟩
  | 9 => ⟨S4096x1024, .bf16⟩
  | 10 => ⟨S4096x512, .f32⟩
  | 11 => ⟨S4096x512, .bf16⟩
  | 12 => ⟨S4096x512, .f32⟩
  | 13 => ⟨S4096x512, .bf16⟩
  | 14 => ⟨S4096x2048, .f32⟩
  | 15 => ⟨S4096x2048, .bf16⟩
  | 16 => ⟨S4096x1024, .f32⟩
  | 17 => ⟨S4096x1024, .bf16⟩
  | 18 => ⟨S512x1024, .f32⟩
  | 19 => ⟨S512x256, .f32⟩
  | 20 => ⟨S512x256, .bf16⟩
  | 21 => ⟨S512x1024, .f32⟩
  | 22 => ⟨S512x256, .f32⟩
  | 23 => ⟨S512x256, .bf16⟩
  | 24 => ⟨S512x1024, .f32⟩
  | 25 => ⟨S512x256, .f32⟩
  | 26 => ⟨S512x256, .bf16⟩
  | 27 => ⟨S512x1024, .f32⟩
  | 28 => ⟨S512x256, .f32⟩
  | 29 => ⟨S512x256, .bf16⟩
  | 30 => ⟨S1x512x256, .bf16⟩
  | 31 => ⟨S1x512x256, .bf16⟩
  | 32 => ⟨S1x512x256, .bf16⟩
  | 33 => ⟨S1x512x256, .bf16⟩
  | 34 => ⟨S4x512x256, .bf16⟩
  | 35 => ⟨S512x1024, .f32⟩
  | 36 => ⟨S512x256, .f32⟩
  | 37 => ⟨S512x256, .bf16⟩
  | 38 => ⟨S512x1024, .f32⟩
  | 39 => ⟨S512x256, .f32⟩
  | 40 => ⟨S512x256, .bf16⟩
  | 41 => ⟨S512x1024, .f32⟩
  | 42 => ⟨S512x256, .f32⟩
  | 43 => ⟨S512x256, .bf16⟩
  | 44 => ⟨S512x1024, .f32⟩
  | 45 => ⟨S512x256, .f32⟩
  | 46 => ⟨S512x256, .bf16⟩
  | 47 => ⟨S1x512x256, .bf16⟩
  | 48 => ⟨S1x512x256, .bf16⟩
  | 49 => ⟨S1x512x256, .bf16⟩
  | 50 => ⟨S1x512x256, .bf16⟩
  | 51 => ⟨S4x512x256, .bf16⟩
  | 52 => ⟨S1024x1024, .f32⟩
  | 53 => ⟨S1024x1024, .bf16⟩
  | 54 => ⟨S4x128x128, .f32⟩
  | 55 => ⟨S4x128, .f32⟩
  | 56 => ⟨S128x4, .f32⟩
  | 57 => ⟨S4096x2048, .bf16⟩
  | 58 => ⟨S4096x1024, .bf16⟩
  | 59 => ⟨S4096x512, .bf16⟩
  | 60 => ⟨S1024x1024, .bf16⟩
  | 61 => ⟨S512x1024, .bf16⟩
  | 62 => ⟨S512x1024, .bf16⟩
  | 63 => ⟨S4x128x128, .f32⟩
  | 64 => ⟨S128x4, .f32⟩
  | 65 => ⟨S1x512, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .bf16⟩
  | .local _ .vmem, ⟨11, _⟩ => ⟨S512x1024, .bf16⟩
  | .local _ .vmem, ⟨12, _⟩ => ⟨S4x512x256, .bf16⟩
  | .local _ .vmem, ⟨13, _⟩ => ⟨S4x512x256, .bf16⟩
  | .local _ .vmem, ⟨14, _⟩ => ⟨S1024x1024, .bf16⟩
  | .local _ .vmem, ⟨15, _⟩ => ⟨S1x512, .f32⟩
  | .local _ .vmem, ⟨16, _⟩ => ⟨S4x128x128, .f32⟩
  | .local _ .vmem, ⟨17, _⟩ => ⟨S128x4, .f32⟩
  | .local _ .vmem, ⟨18, _⟩ => ⟨S512x2048, .bf16⟩
  | .local _ .vmem, ⟨19, _⟩ => ⟨S512x2048, .bf16⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | .local _ .vmem, ⟨24, _⟩ => ⟨S1024x1024, .bf16⟩
  | .local _ .vmem, ⟨25, _⟩ => ⟨S512x1024, .bf16⟩
  | .local _ .vmem, ⟨26, _⟩ => ⟨S512x1024, .bf16⟩
  | .local _ .vmem, ⟨27, _⟩ => ⟨S4x128x128, .f32⟩
  | .local _ .vmem, ⟨28, _⟩ => ⟨S128x4, .f32⟩
  | .local _ .vmem, ⟨29, _⟩ => ⟨S1x512, .f32⟩
  | .local _ .vmem, ⟨30, _⟩ => ⟨S1024x1024, .f32⟩
  | .local _ .vmem, ⟨31, _⟩ => ⟨S512x1024, .f32⟩
  | .local _ .vmem, ⟨32, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_call0_v0 : Ref sig .tc := ⟨.hbm, 90, rfl⟩
abbrev main_call0_c : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_cst : Ref sig .tc := ⟨.hbm, 96, rfl⟩
abbrev main_call0_v5 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_16 : Ref sig .tc := ⟨.hbm, 125, rfl⟩
abbrev main_v89 : Ref sig .tc := ⟨.hbm, 126, rfl⟩
abbrev main_v90 : Ref sig .tc := ⟨.hbm, 127, rfl⟩
abbrev main_cst_17 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147_0 : Ref sig .tc := ⟨.hbm, 185, rfl⟩
abbrev main_v147_1 : Ref sig .tc := ⟨.hbm, 186, rfl⟩
abbrev main_v147_2 : Ref sig .tc := ⟨.hbm, 187, rfl⟩
abbrev main_v147_3 : Ref sig .tc := ⟨.hbm, 188, rfl⟩
abbrev main_v147_4 : Ref sig .tc := ⟨.hbm, 189, rfl⟩
abbrev main_v147_5 : Ref sig .tc := ⟨.hbm, 190, rfl⟩
abbrev main_v147_6 : Ref sig .tc := ⟨.hbm, 191, rfl⟩
abbrev main_v147_7 : Ref sig .tc := ⟨.hbm, 192, rfl⟩
abbrev main_v147_8 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v616 : BitVec 1 := Scalar.cmpi .eq arg0 c7_i32
  let v617 : BitVec 32 := Scalar.extui v616
  let c0_i32_282 : BitVec 32 := 0#32
  let v618 : BitVec 1 := Scalar.cmpi .ne v617 c0_i32_282
  v618

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference5Ideal.lean ====
abbrev S2x2048x1024 : Shape := ⟨3, ![2, 2048, 1024]⟩
abbrev S1x1024 : Shape := ⟨2, ![1, 1024]⟩
abbrev S1x1024x3840 : Shape := ⟨3, ![1, 1024, 3840]⟩
abbrev S1x512 : Shape := ⟨2, ![1, 512]⟩
abbrev S1x4x128x128 : Shape := ⟨4, ![1, 4, 128, 128]⟩
abbrev S1x4x128 : Shape := ⟨3, ![1, 4, 128]⟩
abbrev S2x2048x512 : Shape := ⟨3, ![2, 2048, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3840 : Shape := ⟨2, ![1024, 3840]⟩
abbrev S2x2048x3840 : Shape := ⟨3, ![2, 2048, 3840]⟩
abbrev S2x2048x2048 : Shape := ⟨3, ![2, 2048, 2048]⟩
abbrev S512 : Shape := ⟨1, ![512]⟩
abbrev S4x128x128 : Shape := ⟨3, ![4, 128, 128]⟩
abbrev S4x128 : Shape := ⟨2, ![4, 128]⟩
abbrev S1x1x512 : Shape := ⟨3, ![1, 1, 512]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S512x1024 : Shape := ⟨2, ![512, 1024]⟩
abbrev S1024x1024 : Shape := ⟨2, ![1024, 1024]⟩
abbrev S1024x512 : Shape := ⟨2, ![1024, 512]⟩
abbrev S4096x2048 : Shape := ⟨2, ![4096, 2048]⟩
abbrev S4096x1024 : Shape := ⟨2, ![4096, 1024]⟩
abbrev S4096x512 : Shape := ⟨2, ![4096, 512]⟩

abbrev nBuf : Space → Nat
  | .hbm => 280
  | .vmem => 0
  | .smem => 0
  | _ => 0

abbrev hbmTy0_0 (i : Nat) : BufTy := match i % 128 with
  | 0 => ⟨S2x2048x1024, .f32⟩
  | 1 => ⟨S1x1024, .f32⟩
  | 2 => ⟨S1x1024x3840, .f32⟩
  | 3 => ⟨S1x512, .f32⟩
  | 4 => ⟨S1x4x128x128, .f32⟩
  | 5 => ⟨S1x4x128, .f32⟩
  | 6 => ⟨S2x2048x512, .f32⟩
  | 7 => ⟨S1x512x1024, .f32⟩
  | 8 => ⟨S1x512x1024, .f32⟩
  | 9 => ⟨S1x1024x1024, .f32⟩
  | 10 => ⟨S2x2048x1024, .f32⟩
  | 11 => ⟨S1024, .f32⟩
  | 12 => ⟨S2x2048x1024, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S1024x3840, .f32⟩
  | 29 => ⟨S2x2048x3840, .f32⟩
  | 30 => ⟨S2x2048x1024, .f32⟩
  | 31 => ⟨S2x2048x2048, .f32⟩
  | 32 => ⟨S2x2048x512, .f32⟩
  | 33 => ⟨S2x2048x512, .f32⟩
  | 34 => ⟨S2x2048x512, .f32⟩
  | 35 => ⟨S2x2048x512, .f32⟩
  | 36 => ⟨S2x2048x512, .f32⟩
  | 37 => ⟨S_, .f32⟩
  | 38 => ⟨S2x2048x512, .f32⟩
  | 39 => ⟨S2x2048x512, .f32⟩
  | 40 => ⟨S_, .f32⟩
  | 41 => ⟨S2x2048x512, .f32⟩
  | 42 => ⟨S2x2048x512, .f32⟩
  | 43 => ⟨S2x2048x512, .f32⟩
  | 44 => ⟨S_, .f32⟩
  | 45 => ⟨S2x2048x512, .f32⟩
  | 46 => ⟨S2x2048x512, .f32⟩
  | 47 => ⟨S2x2048x512, .f32⟩
  | 48 => ⟨S_, .f32⟩
  | 49 => ⟨S2x2048x512, .f32⟩
  | 50 => ⟨S2x2048x512, .f32⟩
  | 51 => ⟨S_, .f32⟩
  | 52 => ⟨S2x2048x512, .f32⟩
  | 53 => ⟨S2x2048x512, .f32⟩
  | 54 => ⟨S2x2048x512, .f32⟩
  | 55 => ⟨S_, .f32⟩
  | 56 => ⟨S2x2048x512, .f32⟩
  | 57 => ⟨S2x2048x512, .f32⟩
  | 58 => ⟨S_, .f32⟩
  | 59 => ⟨S2x2048x512, .f32⟩
  | 60 => ⟨S2x2048x512, .f32⟩
  | 61 => ⟨S2x2048x512, .f32⟩
  | 62 => ⟨S2x2048x512, .f32⟩
  | 63 => ⟨S2x2048x512, .f32⟩
  | 64 => ⟨S2x2048x512, .f32⟩
  | 65 => ⟨S_, .f32⟩
  | 66 => ⟨S2x2048x512, .f32⟩
  | 67 => ⟨S2x2048x512, .f32⟩
  | 68 => ⟨S_, .f32⟩
  | 69 => ⟨S2x2048x512, .f32⟩
  | 70 => ⟨S2x2048x512, .f32⟩
  | 71 => ⟨S2x2048x512, .f32⟩
  | 72 => ⟨S_, .f32⟩
  | 73 => ⟨S2x2048x512, .f32⟩
  | 74 => ⟨S2x2048x512, .f32⟩
  | 75 => ⟨S2x2048x512, .f32⟩
  | 76 => ⟨S_, .f32⟩
  | 77 => ⟨S2x2048x512, .f32⟩
  | 78 => ⟨S2x2048x512, .f32⟩
  | 79 => ⟨S_, .f32⟩
  | 80 => ⟨S2x2048x512, .f32⟩
  | 81 => ⟨S2x2048x512, .f32⟩
  | 82 => ⟨S2x2048x512, .f32⟩
  | 83 => ⟨S_, .f32⟩
  | 84 => ⟨S2x2048x512, .f32⟩
  | 85 => ⟨S2x2048x512, .f32⟩
  | 86 => ⟨S_, .f32⟩
  | 87 => ⟨S2x2048x512, .f32⟩
  | 88 => ⟨S2x2048x512, .f32⟩
  | 89 => ⟨S2x2048x512, .f32⟩
  | 90 => ⟨S512, .f32⟩
  | 91 => ⟨S4x128x128, .f32⟩
  | 92 => ⟨S4x128, .f32⟩
  | 93 => ⟨S2x2048x512, .f32⟩
  | 94 => ⟨S_, .f32⟩
  | 95 => ⟨S2x2048, .f32⟩
  | 96 => ⟨S2x2048x1, .f32⟩
  | 97 => ⟨S_, .f32⟩
  | 98 => ⟨S2x2048x1, .f32⟩
  | 99 => ⟨S2x2048x1, .f32⟩
  | 100 => ⟨S_, .f32⟩
  | 101 => ⟨S2x2048x1, .f32⟩
  | 102 => ⟨S2x2048x1, .f32⟩
  | 103 => ⟨S2x2048x1, .f32⟩
  | 104 => ⟨S2x2048x1, .f32⟩
  | 105 => ⟨S_, .f32⟩
  | 106 => ⟨S2x2048x1, .f32⟩
  | 107 => ⟨S2x2048x1, .f32⟩
  | 108 => ⟨S2x2048x512, .f32⟩
  | 109 => ⟨S2x2048x512, .f32⟩
  | 110 => ⟨S1x1x512, .f32⟩
  | 111 => ⟨S2x2048x512, .f32⟩
  | 112 => ⟨S2x2048x512, .f32⟩
  | 113 => ⟨S2x16x128x4x128, .f32⟩
  | 114 => ⟨S_, .f32⟩
  | 115 => ⟨S128x128, .f32⟩
  | 116 => ⟨S128x128, .i32⟩
  | 117 => ⟨S_, .i32⟩
  | 118 => ⟨S128x128, .i32⟩
  | 119 => ⟨S128x128, .i32⟩
  | 120 => ⟨S128x128, .i32⟩
  | 121 => ⟨S128x128, .i1⟩
  | 122 => ⟨S_, .f32⟩
  | 123 => ⟨S128x128, .f32⟩
  | 124 => ⟨S128x128, .f32⟩
  | 125 => ⟨S1x128x128, .f32⟩
  | 126 => ⟨S4x128x128, .f32⟩
  | 127 => ⟨S4x128x128, .f32⟩
  | _ => ⟨S2x2048x1024, .f32⟩

abbrev hbmTy0_1 (i : Nat) : BufTy := match i % 128 with
  | 0 => ⟨S4x2x16x128x128, .f32⟩
  | 1 => ⟨S2x16x128x4x128, .f32⟩
  | 2 => ⟨S128x4, .f32⟩
  | 3 => ⟨S1x1x128x4x1, .f32⟩
  | 4 => ⟨S2x16x128x4x128, .f32⟩
  | 5 => ⟨S2x16x128x4x128, .f32⟩
  | 6 => ⟨S2x2048x512, .f32⟩
  | 7 => ⟨S2x2048x512, .f32⟩
  | 8 => ⟨S2x2048x1024, .f32⟩
  | 9 => ⟨S2x2048x1024, .f32⟩
  | 10 => ⟨S2x2048x1024, .f32⟩
  | 11 => ⟨S2x2048x1024, .f32⟩
  | 12 => ⟨S_, .f32⟩
  | 13 => ⟨S2x2048x1024, .f32⟩
  | 14 => ⟨S2x2048x1024, .f32⟩
  | 15 => ⟨S_, .f32⟩
  | 16 => ⟨S2x2048x1024, .f32⟩
  | 17 => ⟨S2x2048x1024, .f32⟩
  | 18 => ⟨S_, .f32⟩
  | 19 => ⟨S2x2048x1024, .f32⟩
  | 20 => ⟨S2x2048x1024, .f32⟩
  | 21 => ⟨S2x2048x1024, .f32⟩
  | 22 => ⟨S512x1024, .f32⟩
  | 23 => ⟨S2x2048x1024, .f32⟩
  | 24 => ⟨S2x2048x1024, .f32⟩
  | 25 => ⟨S2x2048x1024, .f32⟩
  | 26 => ⟨S2x2048x1024, .f32⟩
  | 27 => ⟨S_, .f32⟩
  | 28 => ⟨S2x2048x1024, .f32⟩
  | 29 => ⟨S2x2048x1024, .f32⟩
  | 30 => ⟨S_, .f32⟩
  | 31 => ⟨S2x2048x1024, .f32⟩
  | 32 => ⟨S2x2048x1024, .f32⟩
  | 33 => ⟨S_, .f32⟩
  | 34 => ⟨S2x2048x1024, .f32⟩
  | 35 => ⟨S2x2048x1024, .f32⟩
  | 36 => ⟨S2x2048x1024, .f32⟩
  | 37 => ⟨S512x1024, .f32⟩
  | 38 => ⟨S2x2048x1024, .f32⟩
  | 39 => ⟨S2x2048x1024, .f32⟩
  | 40 => ⟨S2x2048x1024, .f32⟩
  | 41 => ⟨S1024x1024, .f32⟩
  | 42 => ⟨S2x2048x1024, .f32⟩
  | 43 => ⟨S1024x1024, .f32⟩
  | 44 => ⟨S1024x1024, .f32⟩
  | 45 => ⟨S2x2048x1024, .f32⟩
  | 46 => ⟨S1x1024x1024, .f32⟩
  | 47 => ⟨S2x2048x1024, .f32⟩
  | 48 => ⟨S2x2048x1024, .f32⟩
  | 49 => ⟨S1024x512, .f32⟩
  | 50 => ⟨S512x1024, .f32⟩
  | 51 => ⟨S2x2048x512, .f32⟩
  | 52 => ⟨S1x512x1024, .f32⟩
  | 53 => ⟨S2x2048x1024, .f32⟩
  | 54 => ⟨S2x2048x1024, .f32⟩
  | 55 => ⟨S2x2048x1024, .f32⟩
  | 56 => ⟨S1024x512, .f32⟩
  | 57 => ⟨S512x1024, .f32⟩
  | 58 => ⟨S2x2048x512, .f32⟩
  | 59 => ⟨S1x512x1024, .f32⟩
  | 60 => ⟨S2x2048x1024, .f32⟩
  | 61 => ⟨S2x2048x2048, .f32⟩
  | 62 => ⟨S2x2048x512, .f32⟩
  | 63 => ⟨S2x2048x512, .f32⟩
  | 64 => ⟨S2x16x128x4x128, .f32⟩
  | 65 => ⟨S_, .f32⟩
  | 66 => ⟨S128x4, .f32⟩
  | 67 => ⟨S1x1x128x4x1, .f32⟩
  | 68 => ⟨S_, .f32⟩
  | 69 => ⟨S128x4, .f32⟩
  | 70 => ⟨S4x128, .f32⟩
  | 71 => ⟨S4x2x16x128x128, .f32⟩
  | 72 => ⟨S4x128x128, .f32⟩
  | 73 => ⟨S4x2x16x128x128, .f32⟩
  | 74 => ⟨S2x16x128x4x128, .f32⟩
  | 75 => ⟨S4x128x128, .f32⟩
  | 76 => ⟨S4x128x128, .f32⟩
  | 77 => ⟨S2x2048x512, .f32⟩
  | 78 => ⟨S2x2048x512, .f32⟩
  | 79 => ⟨S_, .f32⟩
  | 80 => ⟨S512, .f32⟩
  | 81 => ⟨S1x1x512, .f32⟩
  | 82 => ⟨S2x2048x512, .f32⟩
  | 83 => ⟨S2x2048x512, .f32⟩
  | 84 => ⟨S_, .f32⟩
  | 85 => ⟨S512, .f32⟩
  | 86 => ⟨S2x2048x512, .f32⟩
  | 87 => ⟨S_, .f32⟩
  | 88 => ⟨S2x2048, .f32⟩
  | 89 => ⟨S2x2048x1, .f32⟩
  | 90 => ⟨S2x2048x512, .f32⟩
  | 91 => ⟨S2x2048x512, .f32⟩
  | 92 => ⟨S2x2048x1, .f32⟩
  | 93 => ⟨S_, .f32⟩
  | 94 => ⟨S2x2048x1, .f32⟩
  | 95 => ⟨S2x2048x1, .f32⟩
  | 96 => ⟨S_, .f32⟩
  | 97 => ⟨S2x2048, .f32⟩
  | 98 => ⟨S2x2048x512, .f32⟩
  | 99 => ⟨S2x2048x512, .f32⟩
  | 100 => ⟨S2x2048x512, .f32⟩
  | 101 => ⟨S2x2048x512, .f32⟩
  | 102 => ⟨S2x2048x512, .f32⟩
  | 103 => ⟨S1x4x128, .f32⟩
  | 104 => ⟨S1x4x128x128, .f32⟩
  | 105 => ⟨S1x512, .f32⟩
  | 106 => ⟨S2x2048x512, .f32⟩
  | 107 => ⟨S2x2048x512, .f32⟩
  | 108 => ⟨S_, .f32⟩
  | 109 => ⟨S2x2048x512, .f32⟩
  | 110 => ⟨S2x2048x512, .f32⟩
  | 111 => ⟨S2x2048x512, .f32⟩
  | 112 => ⟨S_, .f32⟩
  | 113 => ⟨S2x2048x512, .f32⟩
  | 114 => ⟨S2x2048x512, .f32⟩
  | 115 => ⟨S2x2048x512, .f32⟩
  | 116 => ⟨S_, .f32⟩
  | 117 => ⟨S2x2048x512, .f32⟩
  | 118 => ⟨S2x2048x512, .f32⟩
  | 119 => ⟨S2x2048x512, .f32⟩
  | 120 => ⟨S2x2048x512, .f32⟩
  | 121 => ⟨S2x2048x512, .f32⟩
  | 122 => ⟨S2x2048x512, .f32⟩
  | 123 => ⟨S_, .f32⟩
  | 124 => ⟨S2x2048x512, .f32⟩
  | 125 => ⟨S2x2048x512, .f32⟩
  | 126 => ⟨S2x2048x512, .f32⟩
  | 127 => ⟨S_, .f32⟩
  | _ => ⟨S2x2048x1024, .f32⟩

abbrev hbmTy0_2 (i : Nat) : BufTy := match i % 128 with
  | 0 => ⟨S2x2048x512, .f32⟩
  | 1 => ⟨S2x2048x512, .f32⟩
  | 2 => ⟨S2x2048x512, .f32⟩
  | 3 => ⟨S_, .f32⟩
  | 4 => ⟨S2x2048x512, .f32⟩
  | 5 => ⟨S2x2048x512, .f32⟩
  | 6 => ⟨S2x2048x512, .f32⟩
  | 7 => ⟨S2x2048x512, .f32⟩
  | 8 => ⟨S2x2048x1024, .f32⟩
  | 9 => ⟨S4096x2048, .f32⟩
  | 10 => ⟨S4096x2048, .bf16⟩
  | 11 => ⟨S4096x1024, .f32⟩
  | 12 => ⟨S4096x1024, .bf16⟩
  | 13 => ⟨S4096x512, .f32⟩
  | 14 => ⟨S4096x512, .bf16⟩
  | 15 => ⟨S1024x1024, .f32⟩
  | 16 => ⟨S1024x1024, .bf16⟩
  | 17 => ⟨S512x1024, .f32⟩
  | 18 => ⟨S512x1024, .bf16⟩
  | 19 => ⟨S512x1024, .f32⟩
  | 20 => ⟨S512x1024, .bf16⟩
  | 21 => ⟨S4x128x128, .f32⟩
  | 22 => ⟨S4x128, .f32⟩
  | 23 => ⟨S128x4, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_19 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_call0_v0 : Ref sig .tc := ⟨.hbm, 116, rfl⟩
abbrev main_call0_c : Ref sig .tc := ⟨.hbm, 117, rfl⟩
abbrev main_call0_v1 : Ref sig .tc := ⟨.hbm, 118, rfl⟩
abbrev main_call0_v2 : Ref sig .tc := ⟨.hbm, 119, rfl⟩
abbrev main_call0_v3 : Ref sig .tc := ⟨.hbm, 120, rfl⟩
abbrev main_call0_v4 : Ref sig .tc := ⟨.hbm, 121, rfl⟩
abbrev main_call0_cst : Ref sig .tc := ⟨.hbm, 122, rfl⟩
abbrev main_call0_v5 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_v100 : Ref sig .tc := ⟨.hbm, 142, rfl⟩
abbrev main_cst_22 : Ref sig .tc := ⟨.hbm, 143, rfl⟩
abbrev main_v101 : Ref sig .tc := ⟨.hbm, 144, rfl⟩
abbrev main_v102 : Ref sig .tc := ⟨.hbm, 145, rfl⟩
abbrev main_cst_23 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_24 : Ref sig .tc := ⟨.hbm, 155, rfl⟩
abbrev main_v111 : Ref sig .tc := ⟨.hbm, 156, rfl⟩
abbrev main_v112 : Ref sig .tc := ⟨.hbm, 157, rfl⟩
abbrev main_cst_25 : Ref sig .tc := ⟨.hbm, 158, rfl⟩
abbrev main_v113 : Ref sig .tc := ⟨.hbm, 159, rfl⟩
abbrev main_v114 : Ref sig .tc := ⟨.hbm, 160, rfl⟩
abbrev main_cst_26 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_27 : Ref sig .tc := ⟨.hbm, 193, rfl⟩
abbrev main_v146 : Ref sig .tc := ⟨.hbm, 194, rfl⟩
abbrev main_v147 : Ref sig .tc := ⟨.hbm, 195, rfl⟩
abbrev main_cst_28 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_cst_29 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_30 : Ref sig .tc := ⟨.hbm, 212, rfl⟩
abbrev main_v162 : Ref sig .tc := ⟨.hbm, 213, rfl⟩
abbrev main_v163 : Ref sig .tc := ⟨.hbm, 214, rfl⟩
abbrev main_cst_31 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_32 : Ref sig .tc := ⟨.hbm, 221, rfl⟩
abbrev main_v169 : Ref sig .tc := ⟨.hbm, 222, rfl⟩
abbrev main_v170 : Ref sig .tc := ⟨.hbm, 223, rfl⟩
abbrev main_cst_33 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_34 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_35 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_36 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_cst_37 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_cst_38 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_cst_39 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩

abbrev nD : Nat := 1
abbrev τ : Topo := Topo.v7x

variable {F : FTy → Type} [FloatOps F]
-- ==== Kernel7.lean ====
abbrev S2x2048x1024 : Shape := ⟨3, ![2, 2048, 1024]⟩
abbrev S1x1024 : Shape := ⟨2, ![1, 1024]⟩
abbrev S1x1024x3840 : Shape := ⟨3, ![1, 1024, 3840]⟩
abbrev S1x512 : Shape := ⟨2, ![1, 512]⟩
abbrev S1x4x128x128 : Shape := ⟨4, ![1, 4, 128, 128]⟩
abbrev S1x4x128 : Shape := ⟨3, ![1, 4, 128]⟩
abbrev S4096x1024 : Shape := ⟨2, ![4096, 1024]⟩
abbrev S1024x3840 : Shape := ⟨2, ![1024, 3840]⟩
abbrev S3840x1024 : Shape := ⟨2, ![3840, 1024]⟩
abbrev S4x128x128 : Shape := ⟨3, ![4, 128, 128]⟩
abbrev S4x128 : Shape := ⟨2, ![4, 128]⟩
abbrev S128x4 : Shape := ⟨2, ![128, 4]⟩
abbrev S4096x2048 : Shape := ⟨2, ![4096, 2048]⟩
abbrev S4096x768 : Shape := ⟨2, ![4096, 768]⟩
abbrev S4096x512 : Shape := ⟨2, ![4096, 512]⟩
abbrev S512x1024 : Shape := ⟨2, ![512, 1024]⟩
abbrev S512x2048 : Shape := ⟨2, ![512, 2048]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S2048x1024 : Shape := ⟨2, ![2048, 1024]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 18
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x3840, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S4096x1024, .f32⟩
  | .hbm, ⟨7, _⟩ => ⟨S1024x3840, .f32⟩
  | .hbm, ⟨8, _⟩ => ⟨S3840x1024, .f32⟩
  | .hbm, ⟨9, _⟩ => ⟨S3840x1024, .bf16⟩
  | .hbm, ⟨10, _⟩ => ⟨S4x128x128, .f32⟩
  | .hbm, ⟨11, _⟩ => ⟨S4x128, .f32⟩
  | .hbm, ⟨12, _⟩ => ⟨S128x4, .f32⟩
  | .hbm, ⟨13, _⟩ => ⟨S4096x2048, .bf16⟩
  | .hbm, ⟨14, _⟩ => ⟨S4096x1024, .bf16⟩
  | .hbm, ⟨15, _⟩ => ⟨S4096x768, .bf16⟩
  | .hbm, ⟨16, _⟩ => ⟨S4096x1024, .bf16⟩
  | .hbm, ⟨17, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S512x2048, .bf16⟩
  | .local _ .vmem, ⟨8, _⟩ => ⟨S512x2048, .bf16⟩
  | .local _ .vmem, ⟨9, _⟩ => ⟨S512x1024, .bf16⟩
  | .local _ .vmem, ⟨10, _⟩ => ⟨S512x1024, .bf16⟩
  | .local _ .vmem, ⟨11, _⟩ => ⟨S512x768, .bf16⟩
  | .local _ .vmem, ⟨12, _⟩ => ⟨S512x768, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S2x2048x1024 : Shape := ⟨3, ![2, 2048, 1024]⟩
abbrev S1x1024 : Shape := ⟨2, ![1, 1024]⟩
abbrev S1x1024x3840 : Shape := ⟨3, ![1, 1024, 3840]⟩
abbrev S1x512 : Shape := ⟨2, ![1, 512]⟩
abbrev S1x4x128x128 : Shape := ⟨4, ![1, 4, 128, 128]⟩
abbrev S1x4x128 : Shape := ⟨3, ![1, 4, 128]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3840 : Shape := ⟨2, ![1024, 3840]⟩
abbrev S2x2048x3840 : Shape := ⟨3, ![2, 2048, 3840]⟩
abbrev S2x2048x768 : Shape := ⟨3, ![2, 2048, 768]⟩
abbrev S2x2048x2048 : Shape := ⟨3, ![2, 2048, 2048]⟩
abbrev S2x2048x512 : Shape := ⟨3, ![2, 2048, 512]⟩
abbrev S512 : Shape := ⟨1, ![512]⟩
abbrev S4x128x128 : Shape := ⟨3, ![4, 128, 128]⟩
abbrev S4x128 : Shape := ⟨2, ![4, 128]⟩
abbrev S1x1x512 : Shape := ⟨3, ![1, 1, 512]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S4096x2048 : Shape := ⟨2, ![4096, 2048]⟩
abbrev S4096x1024 : Shape := ⟨2, ![4096, 1024]⟩
abbrev S4096x768 : Shape := ⟨2, ![4096, 768]⟩
abbrev S4096x512 : Shape := ⟨2, ![4096, 512]⟩

abbrev nBuf : Space → Nat
  | .hbm => 133
  | .vmem => 0
  | .smem => 0
  | _ => 0

abbrev hbmTy0_0 (i : Nat) : BufTy := match i % 128 with
  | 0 => ⟨S2x2048x1024, .f32⟩
  | 1 => ⟨S1x1024, .f32⟩
  | 2 => ⟨S1x1024x3840, .f32⟩
  | 3 => ⟨S1x512, .f32⟩
  | 4 => ⟨S1x4x128x128, .f32⟩
  | 5 => ⟨S1x4x128, .f32⟩
  | 6 => ⟨S1024, .f32⟩
  | 7 => ⟨S2x2048x1024, .f32⟩
  | 8 => ⟨S_, .f32⟩
  | 9 => ⟨S2x2048, .f32⟩
  | 10 => ⟨S2x2048x1, .f32⟩
  | 11 => ⟨S_, .f32⟩
  | 12 => ⟨S2x2048x1, .f32⟩
  | 13 => ⟨S2x2048x1, .f32⟩
  | 14 => ⟨S_, .f32⟩
  | 15 => ⟨S2x2048x1, .f32⟩
  | 16 => ⟨S2x2048x1, .f32⟩
  | 17 => ⟨S2x2048x1, .f32⟩
  | 18 => ⟨S2x2048x1024, .f32⟩
  | 19 => ⟨S2x2048x1024, .f32⟩
  | 20 => ⟨S1x1x1024, .f32⟩
  | 21 => ⟨S2x2048x1024, .f32⟩
  | 22 => ⟨S2x2048x1024, .f32⟩
  | 23 => ⟨S1024x3840, .f32⟩
  | 24 => ⟨S2x2048x3840, .f32⟩
  | 25 => ⟨S2x2048x1024, .f32⟩
  | 26 => ⟨S2x2048x768, .f32⟩
  | 27 => ⟨S2x2048x2048, .f32⟩
  | 28 => ⟨S2x2048x512, .f32⟩
  | 29 => ⟨S2x2048x512, .f32⟩
  | 30 => ⟨S2x2048x512, .f32⟩
  | 31 => ⟨S2x2048x512, .f32⟩
  | 32 => ⟨S_, .f32⟩
  | 33 => ⟨S2x2048x512, .f32⟩
  | 34 => ⟨S2x2048x512, .f32⟩
  | 35 => ⟨S2x2048x512, .f32⟩
  | 36 => ⟨S_, .f32⟩
  | 37 => ⟨S2x2048x512, .f32⟩
  | 38 => ⟨S2x2048x512, .f32⟩
  | 39 => ⟨S2x2048x512, .f32⟩
  | 40 => ⟨S_, .f32⟩
  | 41 => ⟨S2x2048x512, .f32⟩
  | 42 => ⟨S2x2048x512, .f32⟩
  | 43 => ⟨S_, .f32⟩
  | 44 => ⟨S2x2048x512, .f32⟩
  | 45 => ⟨S2x2048x512, .f32⟩
  | 46 => ⟨S2x2048x512, .f32⟩
  | 47 => ⟨S2x2048x512, .f32⟩
  | 48 => ⟨S2x2048x512, .f32⟩
  | 49 => ⟨S_, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S2x2048x512, .f32⟩
  | 57 => ⟨S_, .f32⟩
  | 58 => ⟨S2x2048x512, .f32⟩
  | 59 => ⟨S2x2048x512, .f32⟩
  | 60 => ⟨S_, .f32⟩
  | 61 => ⟨S2x2048x512, .f32⟩
  | 62 => ⟨S2x2048x512, .f32⟩
  | 63 => ⟨S2x2048x512, .f32⟩
  | 64 => ⟨S512, .f32⟩
  | 65 => ⟨S4x128x128, .f32⟩
  | 66 => ⟨S4x128, .f32⟩
  | 67 => ⟨S2x2048x512, .f32⟩
  | 68 => ⟨S_, .f32⟩
  | 69 => ⟨S2x2048, .f32⟩
  | 70 => ⟨S2x2048x1, .f32⟩
  | 71 => ⟨S_, .f32⟩
  | 72 => ⟨S2x2048x1, .f32⟩
  | 73 => ⟨S2x2048x1, .f32⟩
  | 74 => ⟨S_, .f32⟩
  | 75 => ⟨S2x2048x1, .f32⟩
  | 76 => ⟨S2x2048x1, .f32⟩
  | 77 => ⟨S2x2048x1, .f32⟩
  | 78 => ⟨S2x2048x512, .f32⟩
  | 79 => ⟨S2x2048x512, .f32⟩
  | 80 => ⟨S1x1x512, .f32⟩
  | 81 => ⟨S2x2048x512, .f32⟩
  | 82 => ⟨S2x2048x512, .f32⟩
  | 83 => ⟨S2x16x128x4x128, .f32⟩
  | 84 => ⟨S_, .f32⟩
  | 85 => ⟨S128x128, .f32⟩
  | 86 => ⟨S128x128, .i32⟩
  | 87 => ⟨S_, .i32⟩
  | 88 => ⟨S128x128, .i32⟩
  | 89 => ⟨S128x128, .i32⟩
  | 90 => ⟨S128x128, .i32⟩
  | 91 => ⟨S128x128, .i1⟩
  | 92 => ⟨S_, .f32⟩
  | 93 => ⟨S128x128, .f32⟩
  | 94 => ⟨S128x128, .f32⟩
  | 95 => ⟨S1x128x128, .f32⟩
  | 96 => ⟨S4x128x128, .f32⟩
  | 97 => ⟨S4x128x128, .f32⟩
  | 98 => ⟨S4x2x16x128x128, .f32⟩
  | 99 => ⟨S2x16x128x4x128, .f32⟩
  | 100 => ⟨S128x4, .f32⟩
  | 101 => ⟨S1x1x128x4x1, .f32⟩
  | 102 => ⟨S2x16x128x4x128, .f32⟩
  | 103 => ⟨S2x16x128x4x128, .f32⟩
  | 104 => ⟨S2x2048x512, .f32⟩
  | 105 => ⟨S2x2048x512, .f32⟩
  | 106 => ⟨S1024, .f32⟩
  | 107 => ⟨S2x2048x1024, .f32⟩
  | 108 => ⟨S_, .f32⟩
  | 109 => ⟨S2x2048, .f32⟩
  | 110 => ⟨S2x2048x1, .f32⟩
  | 111 => ⟨S_, .f32⟩
  | 112 => ⟨S2x2048x1, .f32⟩
  | 113 => ⟨S2x2048x1, .f32⟩
  | 114 => ⟨S_, .f32⟩
  | 115 => ⟨S2x2048x1, .f32⟩
  | 116 => ⟨S2x2048x1, .f32⟩
  | 117 => ⟨S2x2048x1, .f32⟩
  | 118 => ⟨S2x2048x1024, .f32⟩
  | 119 => ⟨S2x2048x1024, .f32⟩
  | 120 => ⟨S1x1x1024, .f32⟩
  | 121 => ⟨S2x2048x1024, .f32⟩
  | 122 => ⟨S2x2048x1024, .f32⟩
  | 123 => ⟨S4096x2048, .f32⟩
  | 124 => ⟨S4096x2048, .bf16⟩
  | 125 => ⟨S4096x1024, .f32⟩
  | 126 => ⟨S4096x1024, .bf16⟩
  | 127 => ⟨S4096x768, .f32⟩
  | _ => ⟨S2x2048x1024, .f32⟩

abbrev hbmTy0_1 (i : Nat) : BufTy := match i % 128 with
  | 0 => ⟨S4096x768, .bf16⟩
  | 1 => ⟨S4096x1024, .f32⟩
  | 2 => ⟨S4096x1024, .bf16⟩
  | 3 => ⟨S4096x512, .f32⟩
  | 4 => ⟨S4096x512, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_call0_v0 : Ref sig .tc := ⟨.hbm, 86, rfl⟩
abbrev main_call0_c : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_cst : Ref sig .tc := ⟨.hbm, 92, rfl⟩
abbrev main_call0_v5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Kernel8.lean ====
abbrev S2x2048x1024 : Shape := ⟨3, ![2, 2048, 1024]⟩
abbrev S2x2048x512 : Shape := ⟨3, ![2, 2048, 512]⟩
abbrev S2x2048x2048 : Shape := ⟨3, ![2, 2048, 2048]⟩
abbrev S1x512x1024 : Shape := ⟨3, ![1, 512, 1024]⟩
abbrev S1x1024x1024 : Shape := ⟨3, ![1, 1024, 1024]⟩
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S512x256 : Shape := ⟨2, ![512, 256]⟩
abbrev S1x512x256 : Shape := ⟨3, ![1, 512, 256]⟩
abbrev S4x512x256 : Shape := ⟨3, ![4, 512, 256]⟩
abbrev S1024x1024 : Shape := ⟨2, ![1024, 1024]⟩
abbrev S512x512 : Shape := ⟨2, ![512, 512]⟩
abbrev S512x2048 : Shape := ⟨2, ![512, 2048]⟩

abbrev nBuf : Space → Nat
  | .hbm => 52
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S4096x1024, .f32⟩
  | .hbm, ⟨8, _⟩ => ⟨S4096x512, .f32⟩
  | .hbm, ⟨9, _⟩ => ⟨S4096x512, .bf16⟩
  | .hbm, ⟨10, _⟩ => ⟨S4096x512, .f32⟩
  | .hbm, ⟨11, _⟩ => ⟨S4096x512, .bf16⟩
  | .hbm, ⟨12, _⟩ => ⟨S4096x2048, .f32⟩
  | .hbm, ⟨13, _⟩ => ⟨S4096x2048, .bf16⟩
  | .hbm, ⟨14, _⟩ => ⟨S512x1024, .f32⟩
  | .hbm, ⟨15, _⟩ => ⟨S512x256, .f32⟩
  | .hbm, ⟨16, _⟩ => ⟨S512x256, .bf16⟩
  | .hbm, ⟨17, _⟩ => ⟨S512x1024, .f32⟩
  | .hbm, ⟨18, _⟩ => ⟨S512x256, .f32⟩
  | .hbm, ⟨19, _⟩ => ⟨S512x256, .bf16⟩
  | .hbm, ⟨20, _⟩ => ⟨S512x1024, .f32⟩
  | .hbm, ⟨21, _⟩ => ⟨S512x256, .f32⟩
  | .hbm, ⟨22, _⟩ => ⟨S512x256, .bf16⟩
  | .hbm, ⟨23, _⟩ => ⟨S512x1024, .f32⟩
  | .hbm, ⟨24, _⟩ => ⟨S512x256, .f32⟩
  | .hbm, ⟨25, _⟩ => ⟨S512x256, .bf16⟩
  | .hbm, ⟨26, _⟩ => ⟨S1x512x256, .bf16⟩
  | .hbm, ⟨27, _⟩ => ⟨S1x512x256, .bf16⟩
  | .hbm, ⟨28, _⟩ => ⟨S1x512x256, .bf16⟩
  | .hbm, ⟨29, _⟩ => ⟨S1x512x256, .bf16⟩
  | .hbm, ⟨30, _⟩ => ⟨S4x512x256, .bf16⟩
  | .hbm, ⟨31, _⟩ => ⟨S512x1024, .f32⟩
  | .hbm, ⟨32, _⟩ => ⟨S512x256, .f32⟩
  | .hbm, ⟨33, _⟩ => ⟨S512x256, .bf16⟩
  | .hbm, ⟨34, _⟩ => ⟨S512x1024, .f32⟩
  | .hbm, ⟨35, _⟩ => ⟨S512x256, .f32⟩
  | .hbm, ⟨36, _⟩ => ⟨S512x256, .bf16⟩
  | .hbm, ⟨37, _⟩ => ⟨S512x1024, .f32⟩
  | .hbm, ⟨38, _⟩ => ⟨S512x256, .f32⟩
  | .hbm, ⟨39, _⟩ => ⟨S512x256, .bf16⟩
  | .hbm, ⟨40, _⟩ => ⟨S512x1024, .f32⟩
  | .hbm, ⟨41, _⟩ => ⟨S512x256, .f32⟩
  | .hbm, ⟨42, _⟩ => ⟨S512x256, .bf16⟩
  | .hbm, ⟨43, _⟩ => ⟨S1x512x256, .bf16⟩
  | .hbm, ⟨44, _⟩ => ⟨S1x512x256, .bf16⟩
  | .hbm, ⟨45, _⟩ => ⟨S1x512x256, .bf16⟩
  | .hbm, ⟨46, _⟩ => ⟨S1x512x256, .bf16⟩
  | .hbm, ⟨47, _⟩ => ⟨S4x512x256, .bf16⟩
  | .hbm, ⟨48, _⟩ => ⟨S1024x1024, .f32⟩
  | .hbm, ⟨49, _⟩ => ⟨S1024x1024, .bf16⟩
  | .hbm, ⟨50, _⟩ => ⟨S4096x1024, .f32⟩
  | .hbm, ⟨51, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S4x512x256, .bf16⟩
  | .local _ .vmem, ⟨9, _⟩ => ⟨S4x512x256, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43_0 : Ref sig .tc := ⟨.hbm, 50, rfl⟩
abbrev main_v43_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S2x2048x1024 : Shape := ⟨3, ![2, 2048, 1024]⟩
abbrev S2x2048x512 : Shape := ⟨3, ![2, 2048, 512]⟩
abbrev S2x2048x2048 : Shape := ⟨3, ![2, 2048, 2048]⟩
abbrev S1x512x1024 : Shape := ⟨3, ![1, 512, 1024]⟩
abbrev S1x1024x1024 : Shape := ⟨3, ![1, 1024, 1024]⟩
abbrev S_ : Shape := ⟨0, ![]⟩
abbrev S512x1024 : Shape := ⟨2, ![512, 1024]⟩
abbrev S1024x1024 : Shape := ⟨2, ![1024, 1024]⟩
abbrev S4096x1024 : Shape := ⟨2, ![4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S512x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S512x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S1024x1024, .f32⟩
  | .hbm, ⟨33, _⟩ => ⟨S2x2048x1024, .f32⟩
  | .hbm, ⟨34, _⟩ => ⟨S2x2048x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Real.lean ====
/-
  Real numbers inside the extended reals: what the ideal operations give on finite operands, the constants that the programs
  share, and a precondition `jnp.all(abs(a) < inf)` read back as "the array is an array of real numbers".
-/
module

public import Idealize.ShloMosaic.Lib.ReduceAll
public import Idealize.ShloMosaic.Lib.Pointwise
public import Idealize.ShloMosaic.Lib.Pipeline.ValueKit
public import Idealize.ShloMosaic.PureOps.Ideal

@[expose] public section

set_option maxRecDepth 16384

noncomputable section

namespace Cert.Lift

open Idealize.ShloMosaic

/-! ### Arithmetic of real operands -/

theorem add_coe (a b : ℝ) : (a : EReal) + (b : EReal) = ((a + b : ℝ) : EReal) := (EReal.coe_add a b).symm

theorem mul_coe (a b : ℝ) : (a : EReal) * (b : EReal) = ((a * b : ℝ) : EReal) := (EReal.coe_mul a b).symm

theorem sub_coe (a b : ℝ) : (a : EReal) - (b : EReal) = ((a - b : ℝ) : EReal) := (EReal.coe_sub a b).symm

theorem neg_coe (a : ℝ) : -(a : EReal) = ((-a : ℝ) : EReal) := (EReal.coe_neg a).symm

theorem zero_coe : (0 : EReal) = ((0 : ℝ) : EReal) := rfl

/-- A finite sum of real numbers is the real number that is their sum. -/
theorem sum_coe {ι : Type*} (s : Finset ι) (f : ι → ℝ) : ∑ k ∈ s, ((f k : ℝ) : EReal) = ((∑ k ∈ s, f k : ℝ) : EReal) := by
  classical
  refine Finset.induction_on s (by simp) fun a s ha ih => ?_
  rw [Finset.sum_insert ha, Finset.sum_insert ha, ih, add_coe]

theorem div_coe {y : ℝ} (h : y ≠ 0) (x : ℝ) : Ideal.div (x : EReal) (y : EReal) = ((x / y : ℝ) : EReal) := by
  rw [Ideal.div_coe h, mul_coe, mul_one_div]

theorem rsqrt_coe {v : ℝ} (h : 0 < v) : Ideal.rsqrt (v : EReal) = (((Real.sqrt v)⁻¹ : ℝ) : EReal) := by
  rw [Ideal.rsqrt_coe, if_neg (not_lt.mpr h.le), if_neg h.ne']

/-! ### The constants of the programs -/

/-- The epsilon added to the mean square, the single-precision word next to `1e-6`. -/
def eps : ℝ := 8796093 / 8796093022208

theorem eps_pos : 0 < eps := by unfold eps; norm_num

theorem ofBits_1024 : (Ideal.ofBits .f32 0x44800000#32 : EReal) = ((1024 : ℝ) : EReal) := by
  simp [Ideal.ofBits, Ideal.ieee, -EReal.coe_mul]; norm_num

theorem ofBits_eps : (Ideal.ofBits .f32 0x358637BD#32 : EReal) = (eps : EReal) := by
  unfold eps; simp [Ideal.ofBits, Ideal.ieee, -EReal.coe_mul]; norm_num

theorem ofBits_neg_half : (Ideal.ofBits .f32 0xBF000000#32 : EReal) = ((-(1/2) : ℝ) : EReal) := by
  simp [Ideal.ofBits, Ideal.ieee, -EReal.coe_mul]; norm_num

theorem ofBits_zero : (Ideal.ofBits .f32 0x00000000#32 : EReal) = 0 := by
  simp [Ideal.ofBits, Ideal.ieee]

theorem ofBits_top : (Ideal.ofBits .f32 0x7F800000#32 : EReal) = ⊤ := by
  simp [Ideal.ofBits, Ideal.ieee]

/-! ### Arrays of real numbers -/

/-- Every element of the array is a real number. -/
def IsReal {ι : Type*} (X : ι → EReal) : Prop := ∃ x : ι → ℝ, X = fun i => (x i : EReal)

theorem isReal_of_forall {ι : Type*} {X : ι → EReal} (h : ∀ i, ∃ r : ℝ, X i = (r : EReal)) : IsReal X := by
  choose x hx using h
  exact ⟨x, funext hx⟩

/-- A number of which the absolute value is below infinity is real. -/
theorem real_of_abs_lt {a : EReal} (h : max a (-a) < ⊤) : ∃ r : ℝ, a = (r : EReal) := by
  induction a using EReal.rec with
  | bot => simp at h
  | coe r => exact ⟨r, rfl⟩
  | top => simp at h

/-- A precondition `jnp.all(abs(a) < inf)` that holds says that the array is one of real numbers. -/
theorem isReal_of_all {s t u : Shape} {axes : List (Fin s.rank)} [Subsingleton t.Idx] (X B : s.Idx → EReal)
    (hB : ∀ i, B i = ⊤) (init : u.Idx → BitVec 1) (hr : s.ReducesTo axes t) (hu : 0 < u.numel) (j : t.Idx)
    (h : Host.reduce IntOp.andi (fun i => BitVec.ofBool (decide (max (X i) (-X i) < B i))) init hr hu j = 1#1) : IsReal X := by
  refine isReal_of_forall fun i => real_of_abs_lt ?_
  have e := Host.reduce_andi_all _ init hr hu j h i
  rw [hB i] at e
  by_contra hn
  rw [decide_eq_false hn] at e
  exact absurd e (by decide)

/-! ### A sum over the two leading axes -/

/-- The indices of a rank-3 array that agree with `j` on the last axis are those with any first two coordinates. -/
theorem sum_drop_lead {a b c : Nat} (h : (⟨3, ![a, b, c]⟩ : Shape).ReducesTo [0, 1] ⟨1, ![c]⟩)
    (v : (⟨3, ![a, b, c]⟩ : Shape).Idx → EReal) (z : EReal) (j : (⟨1, ![c]⟩ : Shape).Idx) :
    Ideal.hostReduceAdd h v z j = z + ∑ p : Fin a, ∑ q : Fin b, v (ix3 p q (j 0)) := by
  refine congrArg (z + ·) ?_
  refine (Finset.sum_filter_eq_sum_of_fiber _ (fun k : Fin a × Fin b => (ix3 k.1 k.2 (j 0) : (⟨3, ![a, b, c]⟩ : Shape).Idx))
    (fun _ _ e => Prod.ext (congrFun e 0) (congrFun e 1)) (fun i => ⟨fun e => ⟨(i 0, i 1), ?_⟩, ?_⟩) v).trans
    (Fintype.sum_prod_type _)
  · subst e
    funext d
    match d with
    | ⟨0, _⟩ => rfl
    | ⟨1, _⟩ => rfl
    | ⟨2, _⟩ => rfl
  · rintro ⟨k, rfl⟩
    funext d
    match d with
    | ⟨0, _⟩ => rfl

/-! ### Sums cut into parts -/

/-- A sum over `a + b` terms is the sum of the first `a` and the last `b`. -/
theorem sum_split {M : Type*} [AddCommMonoid M] (a b : Nat) {n : Nat} (h : n = a + b) (f : Fin n → M) :
    ∑ i, f i = ∑ i : Fin a, f ⟨i.val, by omega⟩ + ∑ i : Fin b, f ⟨a + i.val, by omega⟩ := by
  subst h
  exact Fin.sum_univ_add f

/-- The rows of all sequences, cut into the blocks of a grid: `T` rows a block, `S` positions a sequence. -/
theorem sum_blocks {M : Type*} [AddCommMonoid M] {N T B S : Nat} (hN : N * T = B * S)
    (hb : ∀ (t : Fin N) (y : Fin T), (t.val * T + y.val) / S < B) (hs : ∀ n : Nat, n % S < S) (f : Fin B → Fin S → M) :
    ∑ t : Fin N, ∑ y : Fin T, f ⟨(t.val * T + y.val) / S, hb t y⟩ ⟨(t.val * T + y.val) % S, hs _⟩ = ∑ b, ∑ s, f b s := by
  have hb' : ∀ i : Fin (B * S), i.val / S < B := fun i => Nat.div_lt_of_lt_mul (Nat.mul_comm B S ▸ i.isLt)
  have e : ∑ t : Fin N, ∑ y : Fin T, f ⟨(t.val * T + y.val) / S, hb t y⟩ ⟨(t.val * T + y.val) % S, hs _⟩
      = ∑ i : Fin (B * S), f ⟨i.val / S, hb' i⟩ ⟨i.val % S, hs _⟩ :=
    Fin.sum_mul_add_congr (fun t y hl => rfl) hN.symm
  rw [e, ← Fin.sum_mul_add_congr (S := B) (n := S) (F := f) (fun b s hl => ?_) rfl]
  have hS : 0 < S := Nat.lt_of_le_of_lt (Nat.zero_le _) s.isLt
  have e1 : (b.val * S + s.val) / S = b.val := by
    rw [Nat.mul_comm, Nat.mul_add_div hS, Nat.div_eq_of_lt s.isLt, Nat.add_zero]
  have e2 : (b.val * S + s.val) % S = s.val := by
    rw [Nat.mul_comm, Nat.mul_add_mod, Nat.mod_eq_of_lt s.isLt]
  simp only [e1, e2]

end Cert.Lift

end
-- ==== Proof.Norm.lean ====
/-
  The root-mean-square norm of one row of 1024 numbers and its gradient: the form that the kernels write out, and the form that
  differentiating the norm gives. On rows of real numbers the two are equal.
-/
module

public import proofs.«01_k».proof.Proof.Real

@[expose] public section

set_option maxRecDepth 16384

noncomputable section

namespace Cert.Lift

open Idealize.ShloMosaic

/-- The mean square of a row, plus epsilon. -/
def meanSq (x : Fin 1024 → EReal) : EReal :=
  Ideal.div (∑ k, x k * x k) (Ideal.ofBits .f32 0x44800000#32) + Ideal.ofBits .f32 0x358637BD#32

/-- The reciprocal root of the mean square. -/
def invRms (x : Fin 1024 → EReal) : EReal := Ideal.rsqrt (meanSq x)

/-- The gradient of the norm as the kernels write it: `dn` is the gradient of the normalised row. -/
def normGrad (x dn : Fin 1024 → EReal) (j : Fin 1024) : EReal :=
  invRms x * (dn j - x j * invRms x * Ideal.div (∑ k, dn k * (x k * invRms x)) (Ideal.ofBits .f32 0x44800000#32))

/-- The gradient that reaches the row through the mean square, before it is multiplied by the row. -/
def meanSqGrad (x dn : Fin 1024 → EReal) : EReal :=
  Ideal.div ((∑ k, x k * dn k) * (Ideal.ofBits .f32 0xBF000000#32 * Ideal.div (invRms x) (meanSq x))) (Ideal.ofBits .f32 0x44800000#32)

/-- The mean square of a row of real numbers. -/
def meanSqR (x : Fin 1024 → ℝ) : ℝ := (∑ k, x k * x k) / 1024 + eps

theorem meanSqR_pos (x : Fin 1024 → ℝ) : 0 < meanSqR x :=
  add_pos_of_nonneg_of_pos (div_nonneg (Finset.sum_nonneg fun k _ => mul_self_nonneg (x k)) (by norm_num)) eps_pos

/-- The reciprocal root of the mean square of a row of real numbers. -/
def invRmsR (x : Fin 1024 → ℝ) : ℝ := (Real.sqrt (meanSqR x))⁻¹

theorem meanSq_coe (x : Fin 1024 → ℝ) : meanSq (fun k => (x k : EReal)) = (meanSqR x : EReal) := by
  simp only [meanSq, meanSqR, ofBits_1024, ofBits_eps, mul_coe, sum_coe, div_coe (show (1024 : ℝ) ≠ 0 by norm_num), add_coe]

theorem invRms_coe (x : Fin 1024 → ℝ) : invRms (fun k => (x k : EReal)) = (invRmsR x : EReal) := by
  rw [invRms, meanSq_coe, rsqrt_coe (meanSqR_pos x), invRmsR]

theorem invRmsR_sq (x : Fin 1024 → ℝ) : invRmsR x * invRmsR x = 1 / meanSqR x := by
  rw [invRmsR, ← mul_inv, Real.mul_self_sqrt (meanSqR_pos x).le, one_div]

/-- The gradient of the norm, on rows of real numbers. -/
def normGradR (x dn : Fin 1024 → ℝ) (j : Fin 1024) : ℝ :=
  invRmsR x * (dn j - x j * invRmsR x * ((∑ k, dn k * (x k * invRmsR x)) / 1024))

theorem normGrad_coe (x dn : Fin 1024 → ℝ) (j : Fin 1024) :
    normGrad (fun k => (x k : EReal)) (fun k => (dn k : EReal)) j = (normGradR x dn j : EReal) := by
  simp only [normGrad, normGradR, invRms_coe, ofBits_1024, mul_coe, sum_coe, div_coe (show (1024 : ℝ) ≠ 0 by norm_num), sub_coe]

/-- The kernels' form of the gradient is the differentiated one, on rows of real numbers. -/
theorem normGrad_eq (x dn : Fin 1024 → EReal) (hx : IsReal x) (hd : IsReal dn) (j : Fin 1024) :
    normGrad x dn j = dn j * invRms x + x j * meanSqGrad x dn + meanSqGrad x dn * x j := by
  obtain ⟨x, rfl⟩ := hx
  obtain ⟨dn, rfl⟩ := hd
  rw [normGrad_coe]
  simp only [meanSqGrad, invRms_coe, meanSq_coe, ofBits_1024, ofBits_neg_half, mul_coe, sum_coe,
    div_coe (show (1024 : ℝ) ≠ 0 by norm_num), div_coe (meanSqR_pos x).ne', add_coe]
  congr 1
  have hs : (∑ k, dn k * (x k * invRmsR x)) = (∑ k, x k * dn k) * invRmsR x := by
    rw [Finset.sum_mul]; exact Finset.sum_congr rfl fun k _ => by ring
  have h2 := invRmsR_sq x
  rw [normGradR, hs, div_eq_mul_one_div (invRmsR x) (meanSqR x), ← h2]
  ring

end Cert.Lift

end
-- ==== Proof.InprojSpec.lean ====
/-
  The gradients of the input projection's norm, as functions of the arrays: one row of the activations is `x b s ·`.
-/
module

public import proofs.«01_k».proof.Proof.Norm

@[expose] public section

set_option maxRecDepth 16384

noncomputable section

namespace Cert.Inproj

open Idealize.ShloMosaic Cert.Lift

variable (x dx1 : (⟨3, ![2, 2048, 1024]⟩ : Shape).Idx → EReal) (g : (⟨2, ![1, 1024]⟩ : Shape).Idx → EReal)
  (w : (⟨3, ![1, 1024, 3840]⟩ : Shape).Idx → EReal) (d : (⟨3, ![2, 2048, 3840]⟩ : Shape).Idx → EReal)

/-- One row of the activations. -/
def row (b : Fin 2) (s : Fin 2048) (k : Fin 1024) : EReal := x (ix3 b s k)

/-- The gradient of the normalised, scaled activations: the cotangent of the projection times the weights' transpose. -/
def dh (b : Fin 2) (s : Fin 2048) (j : Fin 1024) : EReal := ∑ k : Fin 3840, d (ix3 b s k) * w (ix3 0 j k)

/-- The gradient of the normalised activations. -/
def dn (b : Fin 2) (s : Fin 2048) (j : Fin 1024) : EReal := dh w d b s j * g (ix2 0 j)

/-- The gradient of the activations. -/
def gradX (b : Fin 2) (s : Fin 2048) (j : Fin 1024) : EReal := dx1 (ix3 b s j) + normGrad (row x b s) (dn g w d b s) j

/-- What one row adds to the gradient of the norm's weight. -/
def gradG (b : Fin 2) (s : Fin 2048) (j : Fin 1024) : EReal := dh w d b s j * (row x b s j * invRms (row x b s))

theorem isReal_row (hx : IsReal x) (b : Fin 2) (s : Fin 2048) : IsReal (row x b s) := by
  obtain ⟨x, rfl⟩ := hx
  exact ⟨fun k => x (ix3 b s k), rfl⟩

theorem isReal_dn (hg : IsReal g) (hw : IsReal w) (hd : IsReal d) (b : Fin 2) (s : Fin 2048) : IsReal (dn g w d b s) := by
  obtain ⟨g, rfl⟩ := hg
  obtain ⟨w, rfl⟩ := hw
  obtain ⟨d, rfl⟩ := hd
  exact isReal_of_forall fun j => ⟨(∑ k : Fin 3840, d (ix3 b s k) * w (ix3 0 j k)) * g (ix2 0 j), by
    simp only [dn, dh, mul_coe, sum_coe]⟩

/-- The product over the projection's columns, over the three groups of columns apart. -/
theorem dh_split (b : Fin 2) (s : Fin 2048) (j : Fin 1024) :
    dh w d b s j = ∑ k : Fin 2048, d (ix3 b s ⟨1792 + k.val, by omega⟩) * w (ix3 0 j ⟨1792 + k.val, by omega⟩)
      + ∑ k : Fin 1024, d (ix3 b s ⟨k.val, by omega⟩) * w (ix3 0 j ⟨k.val, by omega⟩)
      + ∑ k : Fin 768, d (ix3 b s ⟨1024 + k.val, by omega⟩) * w (ix3 0 j ⟨1024 + k.val, by omega⟩) := by
  rw [dh, sum_split 1792 2048 rfl, sum_split 1024 768 rfl, add_comm, add_assoc]

end Cert.Inproj

end
-- ==== Proof.InprojKernel.lean ====
/-
  What the kernel's two output arrays hold at an index, by the gradients of `InprojSpec`.
-/
module

public import proofs.«01_k».proof.Proof.Gen.KernelIdeal.Value
public import proofs.«01_k».proof.Proof.InprojSpec
public import Idealize.ShloMosaic.Lib.Pipeline.ValueKit
public import Idealize.ShloMosaic.Lib.Claim

@[expose] public section

set_option maxRecDepth 16384

noncomputable section

namespace Cert.Inproj.Kernel

open Cert.KernelIdeal Cert.KernelIdeal.Gen Idealize.ShloMosaic Idealize.ShloMosaic.TcCoe Idealize.SL.Sem Cert.Lift Cert.Inproj
open Idealize.ShloMosaic.Pipeline (Dat)

variable (m : (ℓ : Loc nD τ sig) → Buf (Elt Ideal) ℓ) (c : Dev nD)

/-- The activations, the norm's weight, the projection's weights and the two cotangents, as the program gets them. -/
abbrev X : S2x2048x1024.Idx → EReal := m ((c.tc : Thread nD τ).loc main_arg0)
abbrev G : S1x1024.Idx → EReal := m ((c.tc : Thread nD τ).loc main_arg1)
abbrev W : S1x1024x3840.Idx → EReal := m ((c.tc : Thread nD τ).loc main_arg2)
abbrev DX : S2x2048x1024.Idx → EReal := m ((c.tc : Thread nD τ).loc main_arg3)
abbrev D : S2x2048x3840.Idx → EReal := m ((c.tc : Thread nD τ).loc main_arg4)

/-- The block that each window takes at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] :=
  (by decide +kernel : ∀ t : Fin grid0.N, _)

theorem N_eq : cfg0.N = 8 := N_0

/-- The sequence and the position of row `y` of grid point `t`'s block. -/
def sq (t : Fin cfg0.N) (y : Fin 512) : Fin 2 := ⟨(t.val * 512 + y.val) / 2048, by have := t.isLt; have := N_eq; omega⟩
def ps (t : Fin cfg0.N) (y : Fin 512) : Fin 2048 := ⟨(t.val * 512 + y.val) % 2048, by omega⟩

/-- The row of the result that row `y` of grid point `t`'s block is. -/
def rowOf (t : Fin cfg0.N) (y : Fin 512) : Fin 4096 := ⟨t.val * 512 + y.val, by have := t.isLt; have := N_eq; omega⟩

/-- The gradient of the activations, by the row of the result. -/
def spec7 (i : S4096x1024.Idx) : EReal :=
  gradX (X m c) (DX m c) (G m c) (W m c) (D m c)
    ⟨(i 0).val / 2048, Nat.div_lt_of_lt_mul (show (i 0).val < 2048 * 2 from (i 0).isLt)⟩ ⟨(i 0).val % 2048, Nat.mod_lt _ (by decide)⟩ (i 1)

theorem x_at (t : Fin cfg0.N) (y : Fin 512) (k : Fin 1024) :
    iblk m c 3 t (ix2 y k) = X m c (ix3 (sq t y) (ps t y) k) := by
  blk_point [iblk, V, idx t] <;> rfl

theorem dx_at (t : Fin cfg0.N) (y : Fin 512) (k : Fin 1024) :
    iblk m c 4 t (ix2 y k) = DX m c (ix3 (sq t y) (ps t y) k) := by
  blk_point [iblk, V, idx t] <;> rfl

theorem dg_at (t : Fin cfg0.N) (y : Fin 512) (k : Fin 2048) :
    iblk m c 0 t (ix2 y k) = D m c (ix3 (sq t y) (ps t y) ⟨1792 + k.val, by omega⟩) := by
  blk_point [iblk, V, idx t] <;> rfl

theorem da_at (t : Fin cfg0.N) (y : Fin 512) (k : Fin 1024) :
    iblk m c 1 t (ix2 y k) = D m c (ix3 (sq t y) (ps t y) ⟨k.val, by omega⟩) := by
  blk_point [iblk, V, idx t] <;> rfl

theorem db_at (t : Fin cfg0.N) (y : Fin 512) (k : Fin 768) :
    iblk m c 2 t (ix2 y k) = D m c (ix3 (sq t y) (ps t y) ⟨1024 + k.val, by omega⟩) := by
  blk_point [iblk, V, idx t] <;> rfl

theorem w_at (t : Fin cfg0.N) (k : Fin 3840) (j : Fin 1024) :
    iblk m c 6 t (ix2 k j) = W m c (ix3 0 j k) := by
  blk_point [iblk, V, idx t]

theorem g_at (t : Fin cfg0.N) (j : Fin 1024) :
    iblk m c 5 t (ix2 0 j) = G m c (ix2 0 j) := by
  blk_point [iblk, V, idx t]

/-- What the body leaves in the first output's block at a grid point. -/
theorem point7 (t : Fin cfg0.N) (y : S512x1024.Idx) :
    (outsAt0 m c t.val t.isLt).1 y = spec7 m c (ix2 (rowOf t (y 0)) (y 1)) := by
  idx_vars y
  show _ = gradX (X m c) (DX m c) (G m c) (W m c) (D m c) (sq t y0) (ps t y0) y1
  by_cases h : t.val % 8 = 0
  on_goal 1 => rw [outsAt0_A m c t h]
  on_goal 2 => rw [outsAt0_B m c t h]
  all_goals
    frame_out
    canon_tiles x e
  all_goals
    idx_vars x
    obtain rfl : y1 = x1 := Fin.ext e1
    have hb := Nat.lt_of_le_of_lt (Nat.le_of_eq e0.symm) y0.isLt
    obtain rfl : y0 = ⟨_, hb⟩ := Fin.ext e0
    open_payloads
    pointwise [x_at, dx_at, dg_at, da_at, db_at, w_at, g_at]
    simp only [gradX, normGrad, dn, dh_split]
    rfl

/-- What a grid point adds to the second output. -/
def part8 (t : Fin cfg0.N) (j : S1x1024.Idx) : EReal := ∑ y : Fin 512, gradG (X m c) (W m c) (D m c) (sq t y) (ps t y) (j 1)

/-- A block's sum over its rows, as the body takes it: 128 rows at a time. -/
theorem part8_split (t : Fin cfg0.N) (z : Fin 1) (j : Fin 1024) :
    part8 m c t (ix2 z j) = (∑ y : Fin 128, gradG (X m c) (W m c) (D m c) (sq t ⟨y.val, by omega⟩) (ps t ⟨y.val, by omega⟩) j
      + ∑ y : Fin 128, gradG (X m c) (W m c) (D m c) (sq t ⟨128 + y.val, by omega⟩) (ps t ⟨128 + y.val, by omega⟩) j
      + ∑ y : Fin 128, gradG (X m c) (W m c) (D m c) (sq t ⟨256 + y.val, by omega⟩) (ps t ⟨256 + y.val, by omega⟩) j)
      + ∑ y : Fin 128, gradG (X m c) (W m c) (D m c) (sq t ⟨384 + y.val, by omega⟩) (ps t ⟨384 + y.val, by omega⟩) j := by
  rw [part8, sum_split 384 128 rfl, sum_split 256 128 rfl, sum_split 128 128 rfl]
  rfl

theorem point8_A (t : Fin cfg0.N) (h : t.val % 8 = 0) (j : S1x1024.Idx) :
    (outsAt0 m c t.val t.isLt).2 j = 0 + part8 m c t j := by
  rw [outsAt0_A m c t h]
  frame_out
  open_payloads
  idx_vars j
  pointwise [x_at, dx_at, dg_at, da_at, db_at, w_at, g_at]
  simp only [part8_split, gradG, dh_split]
  rfl

theorem point8_B (t : Fin cfg0.N) (h : ¬t.val % 8 = 0) (j : S1x1024.Idx) :
    (outsAt0 m c t.val t.isLt).2 j
      = (outsAt0 m c (t.val - 1) (Nat.lt_of_le_of_lt (Nat.sub_le _ _) t.isLt)).2 j + part8 m c t j := by
  rw [outsAt0_B m c t h]
  frame_out
  open_payloads
  idx_vars j
  pointwise [x_at, dx_at, dg_at, da_at, db_at, w_at, g_at]
  simp only [part8_split, gradG, dh_split]
  rfl

/-- The first output: the gradient of the activations. -/
theorem out7 : (dats m 0 c).arrAt 7 cfg0.N = spec7 m c := by
  refine Dat.arrAt_eq_of_covers (dats m 0 c) 7 _ (by decide +kernel) fun t hf y => ?_
  blk_simp
  rw [after0_7, point7]
  refine congrArg (spec7 m c) ?_
  blk_ext [idx t, rowOf]

/-- The gradient of the norm's weight, over all rows. -/
def spec8 (i : S1x1024.Idx) : EReal := ∑ b : Fin 2, ∑ s : Fin 2048, gradG (X m c) (W m c) (D m c) b s (i 1)

/-- The second output: the gradient of the norm's weight. -/
theorem out8 : (dats m 0 c).arrAt 8 cfg0.N = spec8 m c := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => 0) (part8 m c)
    (point8_A m c) (point8_B m c) (le_of_eq N_0) t0_7 rfl j, zero_add]
  exact sum_blocks (N := cfg0.N) (T := 512) (by rw [N_eq]) (fun t y => (sq t y).isLt) (fun n => Nat.mod_lt n (by decide))
    (fun b s => gradG (X m c) (W m c) (D m c) b s (j 1))

end Cert.Inproj.Kernel

end
-- ==== Proof.InprojReference.lean ====
/-
  What the reference's two results hold at an index, by the gradients of `InprojSpec`.
-/
module

public import proofs.«01_k».proof.Proof.Gen.ReferenceIdeal.Run
public import proofs.«01_k».proof.Proof.Gen.ReferenceIdeal.Read
public import proofs.«01_k».proof.Proof.InprojSpec

@[expose] public section

set_option maxRecDepth 16384

noncomputable section

namespace Cert.Inproj.Reference

open Cert.ReferenceIdeal Cert.ReferenceIdeal.Gen Cert.ReferenceIdeal.Value Cert.ReferenceIdeal.Read Idealize.ShloMosaic Cert.Lift Cert.Inproj

variable (x : (⟨S2x2048x1024, .f32⟩ : BufTy).Contents (Elt Ideal)) (g : (⟨S1x1024, .f32⟩ : BufTy).Contents (Elt Ideal))
  (w : (⟨S1x1024x3840, .f32⟩ : BufTy).Contents (Elt Ideal)) (dx1 : (⟨S2x2048x1024, .f32⟩ : BufTy).Contents (Elt Ideal))
  (d : (⟨S2x2048x3840, .f32⟩ : BufTy).Contents (Elt Ideal))

theorem ms_at (b : Fin 2) (s : Fin 2048) (z : Fin 1) : val_main_v7 (F := Ideal) x (ix3 b s z) = meanSq (row x b s) := by
  pointwise [val_main_v7, val_main_v6, val_main_v5, val_main_v4, val_main_v3, val_main_v2, val_main_v1, val_main_cst,
    val_main_cst_0, val_main_cst_1]
  rfl

theorem r_at (b : Fin 2) (s : Fin 2048) (z : Fin 1) : val_main_v8 (F := Ideal) x (ix3 b s z) = invRms (row x b s) := by
  pointwise [val_main_v8, ms_at]
  rfl

theorem dh_at (b : Fin 2) (s : Fin 2048) (j : Fin 1024) : val_main_v19 (F := Ideal) w d (ix3 b s j) = dh w d b s j := by
  pointwise [val_main_v19, val_main_v17]
  rfl

theorem dn_at (b : Fin 2) (s : Fin 2048) (j : Fin 1024) : val_main_v24 (F := Ideal) g w d (ix3 b s j) = dn g w d b s j := by
  pointwise [val_main_v24, val_main_v23, val_main_v0, val_main_v14, dh_at]
  rfl

theorem s_at (b : Fin 2) (s : Fin 2048) (j : Fin 1024) :
    val_main_v36 (F := Ideal) x g w d (ix3 b s j) = meanSqGrad (row x b s) (dn g w d b s) := by
  pointwise [val_main_v36, val_main_v35, val_main_v34, val_main_v33, val_main_v32, val_main_v28, val_main_v27, val_main_v26,
    val_main_v11, val_main_v10, val_main_v9, val_main_cst_2, val_main_cst_5, val_main_cst_6, val_main_cst_7, dn_at, r_at, ms_at,
    ofBits_zero, Fin.sum_univ_one]
  rfl

/-- The gradient of the activations that the reference returns, a row of the result being a position of a sequence. -/
theorem gradX_at (hx : IsReal x) (hg : IsReal g) (hw : IsReal w) (hd : IsReal d) (i : Fin 4096) (j : Fin 1024) :
    val_main_v42 (F := Ideal) x g w dx1 d (ix2 i j)
      = gradX x dx1 g w d ⟨i.val / 2048, by omega⟩ ⟨i.val % 2048, by omega⟩ j := by
  pointwise [val_main_v42, val_main_v40, val_main_v39, val_main_v38, val_main_v37, val_main_v31, val_main_v30, val_main_v29,
    s_at, r_at, dn_at]
  rw [gradX, normGrad_eq _ _ (isReal_row x hx _ _) (isReal_dn g w d hg hw hd _ _), add_assoc, add_assoc, ← add_assoc (_ * _)]
  rfl

/-- The gradient of the norm's weight that the reference returns. -/
theorem gradG_at (z : Fin 1) (j : Fin 1024) :
    val_main_v41 (F := Ideal) x w d (ix2 z j) = ∑ b : Fin 2, ∑ s : Fin 2048, gradG x w d b s j := by
  pointwise [val_main_v41, val_main_v25, val_main_v22, val_main_v21, val_main_v20, val_main_v13, val_main_v12, val_main_cst_3,
    val_main_cst_4, sum_drop_lead, dh_at, r_at, ofBits_zero, Fin.sum_univ_one]
  exact Finset.sum_congr rfl fun b _ => Finset.sum_congr rfl fun s _ => mul_comm _ _

end Cert.Inproj.Reference

end
-- ==== Proof.InprojClaim.lean ====
/-
  The input projection's norm: on finite arguments the kernel's gradients are the reference's.
-/
module

public import proofs.«01_k».proof.Defs
public import proofs.«01_k».proof.Proof.Gen.Pre_finite_args
public import Idealize.ShloMosaic.Lib.Quiescent
public import proofs.«01_k».proof.Proof.InprojKernel
public import proofs.«01_k».proof.Proof.InprojReference

@[expose] public section

set_option maxRecDepth 16384

noncomputable section

namespace Cert.Inproj

open Idealize.ShloMosaic Idealize.ShloMosaic.TcCoe Idealize.SL.Sem Cert.Lift

/-- The precondition says that the activations, the norm's weight, the projection's weights and its cotangent are real. -/
theorem isReal_args (x : Cert.Pre_finite_args.S2x2048x1024.Idx → EReal) (g : Cert.Pre_finite_args.S1x1024.Idx → EReal)
    (w : Cert.Pre_finite_args.S1x1024x3840.Idx → EReal) (dx1 : Cert.Pre_finite_args.S2x2048x1024.Idx → EReal)
    (d : Cert.Pre_finite_args.S2x2048x3840.Idx → EReal)
    (h : letI := Cert.Pre_finite_args.Gen.facts; Cert.Pre_finite_args.fn (F := Ideal) x g w dx1 d = fun _ => 1#1) :
    IsReal x ∧ IsReal g ∧ IsReal w ∧ IsReal d := by
  have h := congrFun h ix0
  simp only [Cert.Pre_finite_args.fn, Cert.Pre_finite_args.fn_part1] at h
  obtain ⟨h, hd⟩ := IntOp.andi_eq_one.1 h
  obtain ⟨h, hw⟩ := IntOp.andi_eq_one.1 h
  obtain ⟨hx, hg⟩ := IntOp.andi_eq_one.1 h
  exact ⟨isReal_of_all x _ (fun _ => ofBits_top) _ _ _ _ hx, isReal_of_all g _ (fun _ => ofBits_top) _ _ _ _ hg,
    isReal_of_all w _ (fun _ => ofBits_top) _ _ _ _ hw, isReal_of_all d _ (fun _ => ofBits_top) _ _ _ _ hd⟩

/-- The reference runs, its arguments end unchanged and no semaphore counts. -/
theorem frame_reference : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩)
    (Cert.ReferenceIdeal.Value.run (F := Ideal) m ρ)

/-- On finite arguments the reference's results are the kernel's. -/
theorem algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m g m' g' hpre hagree
  refine ⟨fun c => Kernel.spec7 m c, fun c => Kernel.spec8 m c,
    (θ_run _ _ _).mono (fun r h c => ⟨(h c).1.trans (Kernel.out7 m c), (h c).2.1.trans (Kernel.out8 m c), (h c).2.2⟩)
      (Cert.KernelIdeal.Value.run_blocks m g),
    (θ_run _ _ _).mono (fun r h c => ?_) (Cert.ReferenceIdeal.Value.run m' g')⟩
  obtain ⟨e0, e1, e2, e3, e4⟩ := hagree c
  obtain ⟨hx, hg, hw, hd⟩ := isReal_args _ _ _ _ _ (hpre c)
  refine ⟨(h c).1.trans ?_, (h c).2.1.trans ((Cert.ReferenceIdeal.Read.val_main_v41_eq _ _ _).trans ?_), (h c).2.2⟩
  · rw [Cert.ReferenceIdeal.Read.val_main_v42_eq, e0, e1, e2, e3, e4]
    funext i
    idx_vars i
    exact Reference.gradX_at _ _ _ _ _ hx hg hw hd i0 i1
  · rw [e0, e2, e4]
    funext i
    idx_vars i
    exact Reference.gradG_at _ _ _ i0 i1

end Cert.Inproj

end
-- ==== Proof.FfnUpSpec.lean ====
/-
  The gradients of the feed-forward's up-projection: of the convolution along a sequence, of the product and of the norm before it.
-/
module

public import proofs.«01_k».proof.Proof.Norm

@[expose] public section

set_option maxRecDepth 16384

noncomputable section

namespace Cert.FfnUp

open Idealize.ShloMosaic Cert.Lift

variable (x dx2 : (⟨3, ![2, 2048, 1024]⟩ : Shape).Idx → EReal) (g : (⟨2, ![1, 1024]⟩ : Shape).Idx → EReal)
  (w : (⟨3, ![1, 1024, 5632]⟩ : Shape).Idx → EReal) (wc : (⟨3, ![1, 3, 5632]⟩ : Shape).Idx → EReal)
  (d : (⟨3, ![2, 2048, 5632]⟩ : Shape).Idx → EReal)

/-- One row of the activations. -/
def row (b : Fin 2) (s : Fin 2048) (k : Fin 1024) : EReal := x (ix3 b s k)

/-- The up-projection of the normalised row. -/
def pre (b : Fin 2) (s : Fin 2048) (f : Fin 5632) : EReal :=
  ∑ k : Fin 1024, row x b s k * invRms (row x b s) * g (ix2 0 k) * w (ix3 0 k f)

/-- The cotangent `n` positions along the sequence, zero past its end. -/
def dAt (b : Fin 2) (n : Nat) (f : Fin 5632) : EReal := if h : n < 2048 then d (ix3 b ⟨n, h⟩ f) else 0

/-- The gradient of the convolution's input. -/
def du (b : Fin 2) (s : Fin 2048) (f : Fin 5632) : EReal :=
  wc (ix3 0 2 f) * d (ix3 b s f) + wc (ix3 0 1 f) * dAt d b (s.val + 1) f + wc (ix3 0 0 f) * dAt d b (s.val + 2) f

/-- The gradient of the normalised, scaled activations. -/
def dh (b : Fin 2) (s : Fin 2048) (j : Fin 1024) : EReal := ∑ f : Fin 5632, du wc d b s f * w (ix3 0 j f)

/-- The gradient of the normalised activations. -/
def dn (b : Fin 2) (s : Fin 2048) (j : Fin 1024) : EReal := dh w wc d b s j * g (ix2 0 j)

/-- The gradient of the activations. -/
def gradX (b : Fin 2) (s : Fin 2048) (j : Fin 1024) : EReal := dx2 (ix3 b s j) + normGrad (row x b s) (dn g w wc d b s) j

/-- What one row adds to the gradient of the norm's weight. -/
def gradG (b : Fin 2) (s : Fin 2048) (j : Fin 1024) : EReal := dh w wc d b s j * (row x b s j * invRms (row x b s))

/-- What one row adds to the gradient of the convolution's tap `r`, which reads the input `n` positions before. -/
def gradW (n : Nat) (b : Fin 2) (s : Fin 2048) (f : Fin 5632) : EReal := dAt d b (s.val + n) f * pre x g w b s f

theorem dAt_zero (b : Fin 2) (s : Fin 2048) (f : Fin 5632) : dAt d b s.val f = d (ix3 b s f) := dif_pos s.isLt

theorem isReal_row (hx : IsReal x) (b : Fin 2) (s : Fin 2048) : IsReal (row x b s) := by
  obtain ⟨x, rfl⟩ := hx
  exact ⟨fun k => x (ix3 b s k), rfl⟩

theorem isReal_dn (hg : IsReal g) (hw : IsReal w) (hc : IsReal wc) (hd : IsReal d) (b : Fin 2) (s : Fin 2048) :
    IsReal (dn g w wc d b s) := by
  obtain ⟨g, rfl⟩ := hg
  obtain ⟨w, rfl⟩ := hw
  obtain ⟨wc, rfl⟩ := hc
  obtain ⟨d, rfl⟩ := hd
  have ha : ∀ n f, dAt (fun i => (d i : EReal)) b n f = ((if h : n < 2048 then d (ix3 b ⟨n, h⟩ f) else 0 : ℝ) : EReal) := fun n f => by
    unfold dAt
    split <;> rfl
  exact isReal_of_forall fun j => ⟨_, by simp only [dn, dh, du, ha, mul_coe, add_coe, sum_coe]; rfl⟩

/-- The product over the columns, a quarter of them at a time. -/
theorem dh_split (b : Fin 2) (s : Fin 2048) (j : Fin 1024) :
    dh w wc d b s j = ∑ k : Fin 1408, du wc d b s ⟨k.val, by omega⟩ * w (ix3 0 j ⟨k.val, by omega⟩)
      + ∑ k : Fin 1408, du wc d b s ⟨1408 + k.val, by omega⟩ * w (ix3 0 j ⟨1408 + k.val, by omega⟩)
      + ∑ k : Fin 1408, du wc d b s ⟨2816 + k.val, by omega⟩ * w (ix3 0 j ⟨2816 + k.val, by omega⟩)
      + ∑ k : Fin 1408, du wc d b s ⟨4224 + k.val, by omega⟩ * w (ix3 0 j ⟨4224 + k.val, by omega⟩) := by
  rw [dh, sum_split 4224 1408 rfl, sum_split 2816 1408 rfl, sum_split 1408 1408 rfl]

/-- Summed over a sequence, the cotangent `n` positions on times the input is the cotangent times the input `n` positions before. -/
theorem sum_shift (n : Nat) (hn : n ≤ 2048) (a u : Fin 2048 → EReal) :
    ∑ s : Fin 2048, (if h : s.val + n < 2048 then a ⟨s.val + n, h⟩ else 0) * u s
      = ∑ s : Fin 2048, a s * (if h : s.val < n then 0 else u ⟨s.val - n, by omega⟩) := by
  rw [sum_split (2048 - n) n (by omega), sum_split n (2048 - n) (by omega) (fun s => a s * _)]
  have h0 : ∑ i : Fin n, (if h : (2048 - n + i.val) + n < 2048 then a ⟨2048 - n + i.val + n, h⟩ else 0) * u ⟨2048 - n + i.val, by omega⟩ = 0 :=
    Finset.sum_eq_zero fun i _ => by rw [dif_neg (by omega), zero_mul]
  have h1 : ∑ i : Fin n, a ⟨i.val, by omega⟩ * (if h : i.val < n then 0 else u ⟨i.val - n, by omega⟩) = 0 :=
    Finset.sum_eq_zero fun i _ => by rw [dif_pos i.isLt, mul_zero]
  rw [h0, h1, add_zero, zero_add]
  refine Finset.sum_congr rfl fun i _ => ?_
  rw [dif_pos (show i.val + n < 2048 by omega), dif_neg (show ¬ n + i.val < n by omega)]
  congr 2 <;> exact Fin.ext (by simp [Nat.add_comm])

end Cert.FfnUp

end
-- ==== Proof.FfnActSpec.lean ====
/-
  The feed-forward's convolution, gate and down-projection, the loss and their gradients, row by row.
-/
module

public import proofs.«01_k».proof.Proof.FfnUpSpec

@[expose] public section

set_option maxRecDepth 16384

noncomputable section

namespace Cert.FfnAct

open Idealize.ShloMosaic Cert.Lift Cert.FfnUp

variable (x : (⟨3, ![2, 2048, 1024]⟩ : Shape).Idx → EReal) (g : (⟨2, ![1, 1024]⟩ : Shape).Idx → EReal)
  (w : (⟨3, ![1, 1024, 5632]⟩ : Shape).Idx → EReal) (wc : (⟨3, ![1, 3, 5632]⟩ : Shape).Idx → EReal)
  (bc : (⟨2, ![1, 5632]⟩ : Shape).Idx → EReal) (wd : (⟨3, ![1, 2816, 1024]⟩ : Shape).Idx → EReal)
  (gf : (⟨1, ![1024]⟩ : Shape).Idx → EReal) (tg : (⟨3, ![2, 2048, 1024]⟩ : Shape).Idx → EReal)

/-- The up-projection `n` rows into a sequence that two rows of zeros precede. -/
def padded (b : Fin 2) (n : Nat) (hn : n < 2050) (f : Fin 5632) : EReal := if h : n < 2 then 0 else pre x g w b ⟨n - 2, by omega⟩ f

/-- The convolution of the up-projection, with its bias. -/
def up (b : Fin 2) (s : Fin 2048) (f : Fin 5632) : EReal :=
  wc (ix3 0 0 f) * padded x g w b s.val (by omega) f + wc (ix3 0 1 f) * padded x g w b (1 + s.val) (by omega) f
    + wc (ix3 0 2 f) * pre x g w b s f + bc (ix2 0 f)

/-- The gate's function. -/
def silu (z : EReal) : EReal := z * Ideal.logistic z

/-- The gated activations. -/
def act (b : Fin 2) (s : Fin 2048) (f : Fin 2816) : EReal :=
  silu (up x g w wc bc b s ⟨f.val, by omega⟩) * up x g w wc bc b s ⟨2816 + f.val, by omega⟩

/-- The rows that the last norm takes. -/
def x2 (b : Fin 2) (s : Fin 2048) (j : Fin 1024) : EReal := x (ix3 b s j) + ∑ f : Fin 2816, act x g w wc bc b s f * wd (ix3 0 f j)

/-- The distance from the target. -/
def diff (b : Fin 2) (s : Fin 2048) (j : Fin 1024) : EReal :=
  x2 x g w wc bc wd b s j * invRms (x2 x g w wc bc wd b s) * gf (ix1 j) - tg (ix3 b s j)

/-- The loss's gradient with respect to the norm's result. -/
def dy (b : Fin 2) (s : Fin 2048) (j : Fin 1024) : EReal := diff x g w wc bc wd gf tg b s j * Ideal.ofBits .f32 0x3A800000#32

/-- The gradient of the normalised rows. -/
def dn2 (b : Fin 2) (s : Fin 2048) (j : Fin 1024) : EReal := dy x g w wc bc wd gf tg b s j * gf (ix1 j)

/-- The gradient of the norm's rows. -/
def gradX2 (b : Fin 2) (s : Fin 2048) (j : Fin 1024) : EReal := normGrad (x2 x g w wc bc wd b s) (dn2 x g w wc bc wd gf tg b s) j

/-- What one row adds to the gradient of the last norm's weight. -/
def gradF (b : Fin 2) (s : Fin 2048) (j : Fin 1024) : EReal :=
  dy x g w wc bc wd gf tg b s j * (x2 x g w wc bc wd b s j * invRms (x2 x g w wc bc wd b s))

/-- One row's mean square distance from the target. -/
def rowLoss (b : Fin 2) (s : Fin 2048) : EReal :=
  Ideal.div (∑ k : Fin 1024, diff x g w wc bc wd gf tg b s k * diff x g w wc bc wd gf tg b s k) (Ideal.ofBits .f32 0x44800000#32)

/-! ### On real arguments -/

theorem logistic_real {z : EReal} (h : ∃ r : ℝ, z = (r : EReal)) : ∃ r : ℝ, Ideal.logistic z = (r : EReal) := by
  obtain ⟨r, rfl⟩ := h
  exact ⟨_, Ideal.logistic_coe r⟩

theorem mul_real {a b : EReal} (ha : ∃ r : ℝ, a = (r : EReal)) (hb : ∃ r : ℝ, b = (r : EReal)) : ∃ r : ℝ, a * b = (r : EReal) := by
  obtain ⟨a, rfl⟩ := ha
  obtain ⟨b, rfl⟩ := hb
  exact ⟨_, mul_coe a b⟩

theorem add_real {a b : EReal} (ha : ∃ r : ℝ, a = (r : EReal)) (hb : ∃ r : ℝ, b = (r : EReal)) : ∃ r : ℝ, a + b = (r : EReal) := by
  obtain ⟨a, rfl⟩ := ha
  obtain ⟨b, rfl⟩ := hb
  exact ⟨_, add_coe a b⟩

theorem sub_real {a b : EReal} (ha : ∃ r : ℝ, a = (r : EReal)) (hb : ∃ r : ℝ, b = (r : EReal)) : ∃ r : ℝ, a - b = (r : EReal) := by
  obtain ⟨a, rfl⟩ := ha
  obtain ⟨b, rfl⟩ := hb
  exact ⟨_, sub_coe a b⟩

theorem sum_real {ι : Type*} [Fintype ι] {f : ι → EReal} (h : ∀ i, ∃ r : ℝ, f i = (r : EReal)) : ∃ r : ℝ, ∑ i, f i = (r : EReal) := by
  choose r hr using h
  exact ⟨_, (Finset.sum_congr rfl fun i _ => hr i).trans (sum_coe _ r)⟩

theorem at_real {ι : Type*} {X : ι → EReal} (h : IsReal X) (i : ι) : ∃ r : ℝ, X i = (r : EReal) := by
  obtain ⟨x, rfl⟩ := h
  exact ⟨x i, rfl⟩

theorem invRms_real {r : Fin 1024 → EReal} (h : IsReal r) : ∃ q : ℝ, invRms r = (q : EReal) := by
  obtain ⟨r, rfl⟩ := h
  exact ⟨_, invRms_coe r⟩

theorem pre_real (hx : IsReal x) (hg : IsReal g) (hw : IsReal w) (b : Fin 2) (s : Fin 2048) (f : Fin 5632) :
    ∃ r : ℝ, pre x g w b s f = (r : EReal) :=
  sum_real fun k => mul_real (mul_real (mul_real (at_real hx _) (invRms_real (isReal_row x hx b s))) (at_real hg _)) (at_real hw _)

theorem up_real (hx : IsReal x) (hg : IsReal g) (hw : IsReal w) (hc : IsReal wc) (hb : IsReal bc) (b : Fin 2) (s : Fin 2048)
    (f : Fin 5632) : ∃ r : ℝ, up x g w wc bc b s f = (r : EReal) := by
  have hp : ∀ n hn, ∃ r : ℝ, padded x g w b n hn f = (r : EReal) := fun n hn => by
    unfold padded
    split
    · exact ⟨0, rfl⟩
    · exact pre_real x g w hx hg hw _ _ _
  exact add_real (add_real (add_real (mul_real (at_real hc _) (hp _ _)) (mul_real (at_real hc _) (hp _ _)))
    (mul_real (at_real hc _) (pre_real x g w hx hg hw _ _ _))) (at_real hb _)

theorem silu_real {z : EReal} (h : ∃ r : ℝ, z = (r : EReal)) : ∃ r : ℝ, silu z = (r : EReal) := mul_real h (logistic_real h)

theorem isReal_x2 (hx : IsReal x) (hg : IsReal g) (hw : IsReal w) (hc : IsReal wc) (hb : IsReal bc) (hd : IsReal wd) (b : Fin 2)
    (s : Fin 2048) : IsReal (x2 x g w wc bc wd b s) :=
  isReal_of_forall fun j => add_real (at_real hx _) (sum_real fun f =>
    mul_real (mul_real (silu_real (up_real x g w wc bc hx hg hw hc hb _ _ _)) (up_real x g w wc bc hx hg hw hc hb _ _ _)) (at_real hd _))

theorem ofBits_one_1024 : (Ideal.ofBits .f32 0x3A800000#32 : EReal) = ((1 / 1024 : ℝ) : EReal) := by
  simp [Ideal.ofBits, Ideal.ieee, -EReal.coe_mul]; norm_num

theorem isReal_dn2 (hx : IsReal x) (hg : IsReal g) (hw : IsReal w) (hc : IsReal wc) (hb : IsReal bc) (hd : IsReal wd) (hf : IsReal gf)
    (ht : IsReal tg) (b : Fin 2) (s : Fin 2048) : IsReal (dn2 x g w wc bc wd gf tg b s) := by
  have h := isReal_x2 x g w wc bc wd hx hg hw hc hb hd b s
  exact isReal_of_forall fun j => mul_real (mul_real (sub_real (mul_real (mul_real (at_real h j) (invRms_real h)) (at_real hf _)) (at_real ht _))
    ⟨_, ofBits_one_1024⟩) (at_real hf _)

/-! ### Sums as the bodies take them -/

/-- The down-projection, half of the columns at a time. -/
theorem x2_split (b : Fin 2) (s : Fin 2048) (j : Fin 1024) :
    x2 x g w wc bc wd b s j = x (ix3 b s j)
      + (∑ k : Fin 1408, act x g w wc bc b s ⟨k.val, by omega⟩ * wd (ix3 0 ⟨k.val, by omega⟩ j)
        + ∑ k : Fin 1408, act x g w wc bc b s ⟨1408 + k.val, by omega⟩ * wd (ix3 0 ⟨1408 + k.val, by omega⟩ j)) := by
  rw [x2, sum_split 1408 1408 rfl]

/-- A nonnegative real factor goes into a sum. -/
theorem mul_sum_of_nonneg {ι : Type*} [Fintype ι] (r : ℝ) (hr : 0 ≤ r) (f : ι → EReal) : (r : EReal) * ∑ i, f i = ∑ i, (r : EReal) * f i := by
  classical
  refine Finset.induction_on (motive := fun s => (r : EReal) * ∑ i ∈ s, f i = ∑ i ∈ s, (r : EReal) * f i) Finset.univ (by simp)
    fun a s ha ih => ?_
  rw [Finset.sum_insert ha, Finset.sum_insert ha, EReal.left_distrib_of_nonneg_of_ne_top (by exact_mod_cast hr) (EReal.coe_ne_top r), ih]

theorem ofBits_half : (Ideal.ofBits .f32 0x3F000000#32 : EReal) = ((1 / 2 : ℝ) : EReal) := by
  simp [Ideal.ofBits, Ideal.ieee, -EReal.coe_mul]; norm_num

end Cert.FfnAct

end
-- ==== Proof.FfnActGradSpec.lean ====
/-
  The gate's and the down-projection's gradients, row by row.
-/
module

public import proofs.«01_k».proof.Proof.FfnActSpec

@[expose] public section

set_option maxRecDepth 16384

noncomputable section

namespace Cert.FfnAct

open Idealize.ShloMosaic Cert.Lift Cert.FfnUp

variable (x : (⟨3, ![2, 2048, 1024]⟩ : Shape).Idx → EReal) (g : (⟨2, ![1, 1024]⟩ : Shape).Idx → EReal)
  (w : (⟨3, ![1, 1024, 5632]⟩ : Shape).Idx → EReal) (wc : (⟨3, ![1, 3, 5632]⟩ : Shape).Idx → EReal)
  (bc : (⟨2, ![1, 5632]⟩ : Shape).Idx → EReal) (wd : (⟨3, ![1, 2816, 1024]⟩ : Shape).Idx → EReal)
  (dx : (⟨3, ![2, 2048, 1024]⟩ : Shape).Idx → EReal)

/-- The gradient of the gated activations. -/
def dAct (b : Fin 2) (s : Fin 2048) (f : Fin 2816) : EReal := ∑ j : Fin 1024, dx (ix3 b s j) * wd (ix3 0 f j)

/-- The gradient of the values that the gate scales. -/
def dVal (b : Fin 2) (s : Fin 2048) (f : Fin 2816) : EReal := dAct wd dx b s f * silu (up x g w wc bc b s ⟨f.val, by omega⟩)

/-- The gate's derivative. -/
def siluGrad (z : EReal) : EReal := Ideal.logistic z * (1 + z * (1 - Ideal.logistic z))

/-- The gradient of the gate. -/
def dGate (b : Fin 2) (s : Fin 2048) (f : Fin 2816) : EReal :=
  dAct wd dx b s f * up x g w wc bc b s ⟨2816 + f.val, by omega⟩ * siluGrad (up x g w wc bc b s ⟨f.val, by omega⟩)

/-- What one row adds to the gradient of the down-projection's weight. -/
def gradWd (b : Fin 2) (s : Fin 2048) (f : Fin 2816) (j : Fin 1024) : EReal := act x g w wc bc b s f * dx (ix3 b s j)

theorem dAct_real (hd : IsReal wd) (hx : IsReal dx) (b : Fin 2) (s : Fin 2048) (f : Fin 2816) : ∃ r : ℝ, dAct wd dx b s f = (r : EReal) :=
  sum_real fun j => mul_real (at_real hx _) (at_real hd _)

/-- The derivative of `z * logistic z`, as a sum of two products, is the closed form where everything is real. -/
theorem siluGrad_sum {a z : EReal} (ha : ∃ r : ℝ, a = (r : EReal)) (hz : ∃ r : ℝ, z = (r : EReal)) :
    a * Ideal.logistic z + z * a * (Ideal.logistic z * (1 - Ideal.logistic z)) = a * siluGrad z := by
  obtain ⟨l, hl⟩ := logistic_real hz
  obtain ⟨a, rfl⟩ := ha
  obtain ⟨z, rfl⟩ := hz
  rw [siluGrad, hl, ← EReal.coe_one, ← EReal.coe_sub, mul_coe, mul_coe, mul_coe, mul_coe, mul_coe, ← EReal.coe_add, ← EReal.coe_add, mul_coe,
    mul_coe]
  congr 1
  ring

end Cert.FfnAct

end
-- ==== Proof.FfnGateBlocks.lean ====
/-
  The gate's kernel: the blocks that a grid point takes.
-/
module

public import proofs.«01_k».proof.Proof.Gen.Kernel2Ideal.Value
public import Idealize.ShloMosaic.Lib.StableHlo.RunRead
public import proofs.«01_k».proof.Proof.FfnActGradSpec

@[expose] public section

set_option maxRecDepth 16384

noncomputable section

namespace Cert.FfnGate.Kernel

open Cert.Kernel2Ideal Cert.Kernel2Ideal.Gen Idealize.ShloMosaic Idealize.ShloMosaic.TcCoe Idealize.SL.Sem Cert.Lift Cert.FfnAct
open Cert.FfnUp (row pre)
open Idealize.ShloMosaic.Pipeline (Dat)

variable (m : (ℓ : Loc nD τ sig) → Buf (Elt Ideal) ℓ) (c : Dev nD)

/-- The activations, the norm's weight, the projection's, the convolution's weight and bias, the down-projection's weight and the cotangent, as the program gets them. -/
abbrev X : S2x2048x1024.Idx → EReal := m ((c.tc : Thread nD τ).loc main_arg0)
abbrev G : S1x1024.Idx → EReal := m ((c.tc : Thread nD τ).loc main_arg1)
abbrev W : S1x1024x5632.Idx → EReal := m ((c.tc : Thread nD τ).loc main_arg2)
abbrev WC : S1x3x5632.Idx → EReal := m ((c.tc : Thread nD τ).loc main_arg3)
abbrev BC : S1x5632.Idx → EReal := m ((c.tc : Thread nD τ).loc main_arg4)
abbrev WD : S1x2816x1024.Idx → EReal := m ((c.tc : Thread nD τ).loc main_arg5)
abbrev DX : S2x2048x1024.Idx → EReal := m ((c.tc : Thread nD τ).loc main_arg6)

/-- The block that each window takes at a grid point. -/
theorem idx : ∀ t : Fin cfg0.N, win0_0.index t = ![t.val % 8, t.val / 8] ∧ win0_1.index t = ![t.val % 8, t.val / 8]
    ∧ win0_2.index t = ![t.val % 8, 0] ∧ win0_3.index t = ![t.val / 8, 0] ∧ win0_4.index t = ![t.val % 8, t.val / 8]
    ∧ win0_5.index t = ![t.val % 8, t.val / 8] ∧ win0_6.index t = ![t.val / 8, 0] ∧ win0_7.index t = ![0, t.val / 8]
    ∧ win0_8.index t = ![0, t.val / 8] :=
  (by decide +kernel : ∀ t : Fin grid0.N, _)

theorem N_eq : cfg0.N = 16 := N_0

/-- The sequence and the position of row `y` of grid point `t`'s block. -/
def sq (t : Fin cfg0.N) (y : Fin 512) : Fin 2 := ⟨(t.val % 8 * 512 + y.val) / 2048, by omega⟩
def ps (t : Fin cfg0.N) (y : Fin 512) : Fin 2048 := ⟨(t.val % 8 * 512 + y.val) % 2048, by omega⟩

/-- The row and the column of the result that row `y` and column `k` of grid point `t`'s block are. -/
def rowOf (t : Fin cfg0.N) (y : Fin 512) : Fin 4096 := ⟨t.val % 8 * 512 + y.val, by omega⟩
def colOf (t : Fin cfg0.N) (k : Fin 1408) : Fin 2816 := ⟨t.val / 8 * 1408 + k.val, by have := t.isLt; have := N_eq; omega⟩

theorem gate_at (t : Fin cfg0.N) (y : Fin 512) (k : Fin 1408) : iblk m c 0 t (ix2 y k) = up (X m c) (G m c) (W m c) (WC m c) (BC m c) (sq t y) (ps t y) ⟨(colOf t k).val, by omega⟩ := by
  refine (congrArg (V m c main_v45) (?_ : _ = ix2 (rowOf t y) (colOf t k))).trans ?_
  · blk_ext [idx t, rowOf, colOf]
  unfold V
  after_reads_simp
  pointwise
  after_reads_simp
  pointwise [ofBits_zero]
  rfl

theorem val_at (t : Fin cfg0.N) (y : Fin 512) (k : Fin 1408) : iblk m c 1 t (ix2 y k) = up (X m c) (G m c) (W m c) (WC m c) (BC m c) (sq t y) (ps t y) ⟨2816 + (colOf t k).val, by omega⟩ := by
  refine (congrArg (V m c main_v46) (?_ : _ = ix2 (rowOf t y) (colOf t k))).trans ?_
  · blk_ext [idx t, rowOf, colOf]
  unfold V
  after_reads_simp
  pointwise
  after_reads_simp
  pointwise [ofBits_zero]
  rfl

theorem dx_at (t : Fin cfg0.N) (y : Fin 512) (k : Fin 1024) : iblk m c 2 t (ix2 y k) = DX m c (ix3 (sq t y) (ps t y) k) := by
  refine (congrArg (V m c main_v47) (?_ : _ = ix2 (rowOf t y) k)).trans ?_
  · blk_ext [idx t, rowOf]
  unfold V
  after_reads_simp
  pointwise
  rfl

theorem wd_at (t : Fin cfg0.N) (k : Fin 1408) (j : Fin 1024) : iblk m c 3 t (ix2 k j) = WD m c (ix3 0 (colOf t k) j) := by
  refine (congrArg (V m c main_v49) (?_ : _ = ix2 (colOf t k) j)).trans ?_
  · blk_ext [idx t, colOf]
  unfold V
  after_reads_simp
  pointwise

end Cert.FfnGate.Kernel

end
-- ==== Proof.FfnGateKernel.lean ====
/-
  The gate's kernel: what its output arrays end with.
-/
module

public import proofs.«01_k».proof.Proof.FfnGateBlocks

@[expose] public section

set_option maxRecDepth 16384

noncomputable section

namespace Cert.FfnGate.Kernel

open Cert.Kernel2Ideal Cert.Kernel2Ideal.Gen Idealize.ShloMosaic Idealize.ShloMosaic.TcCoe Idealize.SL.Sem Cert.Lift Cert.FfnAct
open Cert.FfnUp (row pre)
open Idealize.ShloMosaic.Pipeline (Dat)

variable (m : (ℓ : Loc nD τ sig) → Buf (Elt Ideal) ℓ) (c : Dev nD)

/-- The gate's gradient, by the row of the result. -/
def spec4 (i : S4096x2816.Idx) : EReal := dGate (X m c) (G m c) (W m c) (WC m c) (BC m c) (WD m c) (DX m c) ⟨(i 0).val / 2048, Nat.div_lt_of_lt_mul (show (i 0).val < 2048 * 2 from (i 0).isLt)⟩ ⟨(i 0).val % 2048, Nat.mod_lt _ (by decide)⟩ (i 1)

/-- What the body leaves in the block of the gate's gradient at a grid point. -/
theorem point4 (t : Fin cfg0.N) (y : S512x1408.Idx) :
    (outsAt0 m c t.val t.isLt).1 y = spec4 m c (ix2 (rowOf t (y 0)) (colOf t (y 1))) := by
  idx_vars y
  show _ = dGate (X m c) (G m c) (W m c) (WC m c) (BC m c) (WD m c) (DX m c) (sq t y0) (ps t y0) (colOf t y1)
  by_cases h0 : t.val % 8 = 0 <;> by_cases h1 : t.val % 8 = 7
  · exfalso; omega
  · rw [outsAt0_A m c t h0 h1]
    frame_out
    open_payloads
    pointwise [gate_at, val_at, dx_at, wd_at]
    simp only [zero_sub, dGate, dVal, dAct, silu, siluGrad, Ideal.logistic]
  · rw [outsAt0_C m c t h0 h1]
    frame_out
    open_payloads
    pointwise [gate_at, val_at, dx_at, wd_at]
    simp only [zero_sub, dGate, dVal, dAct, silu, siluGrad, Ideal.logistic]
  · rw [outsAt0_B m c t h0 h1]
    frame_out
    open_payloads
    pointwise [gate_at, val_at, dx_at, wd_at]
    simp only [zero_sub, dGate, dVal, dAct, silu, siluGrad, Ideal.logistic]

/-- The output of the gate's gradient. -/
theorem out4 : (dats m 0 c).arrAt 4 cfg0.N = spec4 m c := by
  refine Dat.arrAt_eq_of_covers (dats m 0 c) 4 _ (by decide +kernel) fun t hf y => ?_
  blk_simp
  rw [after0_4, point4]
  refine congrArg (spec4 m c) ?_
  blk_ext [idx t, rowOf, colOf]

/-- The values' gradient, by the row of the result. -/
def spec5 (i : S4096x2816.Idx) : EReal := dVal (X m c) (G m c) (W m c) (WC m c) (BC m c) (WD m c) (DX m c) ⟨(i 0).val / 2048, Nat.div_lt_of_lt_mul (show (i 0).val < 2048 * 2 from (i 0).isLt)⟩ ⟨(i 0).val % 2048, Nat.mod_lt _ (by decide)⟩ (i 1)

/-- What the body leaves in the block of the values' gradient at a grid point. -/
theorem point5 (t : Fin cfg0.N) (y : S512x1408.Idx) :
    (outsAt0 m c t.val t.isLt).2.1 y = spec5 m c (ix2 (rowOf t (y 0)) (colOf t (y 1))) := by
  idx_vars y
  show _ = dVal (X m c) (G m c) (W m c) (WC m c) (BC m c) (WD m c) (DX m c) (sq t y0) (ps t y0) (colOf t y1)
  by_cases h0 : t.val % 8 = 0 <;> by_cases h1 : t.val % 8 = 7
  · exfalso; omega
  · rw [outsAt0_A m c t h0 h1]
    frame_out
    open_payloads
    pointwise [gate_at, val_at, dx_at, wd_at]
    simp only [zero_sub, dGate, dVal, dAct, silu, siluGrad, Ideal.logistic]
  · rw [outsAt0_C m c t h0 h1]
    frame_out
    open_payloads
    pointwise [gate_at, val_at, dx_at, wd_at]
    simp only [zero_sub, dGate, dVal, dAct, silu, siluGrad, Ideal.logistic]
  · rw [outsAt0_B m c t h0 h1]
    frame_out
    open_payloads
    pointwise [gate_at, val_at, dx_at, wd_at]
    simp only [zero_sub, dGate, dVal, dAct, silu, siluGrad, Ideal.logistic]

/-- The output of the values' gradient. -/
theorem out5 : (dats m 0 c).arrAt 5 cfg0.N = spec5 m c := by
  refine Dat.arrAt_eq_of_covers (dats m 0 c) 5 _ (by decide +kernel) fun t hf y => ?_
  blk_simp
  rw [after0_5, point5]
  refine congrArg (spec5 m c) ?_
  blk_ext [idx t, rowOf, colOf]

/-- What a grid point adds to the gradient of the bias's gate half. -/
def part7 (t : Fin cfg0.N) (j : S1x1408.Idx) : EReal := ∑ y : Fin 512, dGate (X m c) (G m c) (W m c) (WC m c) (BC m c) (WD m c) (DX m c) (sq t y) (ps t y) (colOf t (j 1))

theorem point7_A (t : Fin cfg0.N) (h0 : t.val % 8 = 0) (h1 : ¬t.val % 8 = 7) (j : S1x1408.Idx) :
    (outsAt0 m c t.val t.isLt).2.2.2.1 j = 0 + part7 m c t j := by
  rw [outsAt0_A m c t h0 h1]
  frame_out
  open_payloads
  idx_vars j
  pointwise [gate_at, val_at, dx_at, wd_at, ofBits_zero]
  simp only [zero_sub, zero_add, part7, dGate, dAct, siluGrad, Ideal.logistic]
  rfl

theorem point7_B (t : Fin cfg0.N) (h0 : ¬t.val % 8 = 0) (h1 : ¬t.val % 8 = 7) (j : S1x1408.Idx) :
    (outsAt0 m c t.val t.isLt).2.2.2.1 j = (outsAt0 m c (t.val - 1) (Nat.lt_of_le_of_lt (Nat.sub_le _ _) t.isLt)).2.2.2.1 j + part7 m c t j := by
  rw [outsAt0_B m c t h0 h1]
  frame_out
  open_payloads
  idx_vars j
  pointwise [gate_at, val_at, dx_at, wd_at, ofBits_zero]
  simp only [zero_sub, zero_add, part7, dGate, dAct, siluGrad, Ideal.logistic]
  rfl

theorem point7_C (t : Fin cfg0.N) (h0 : ¬t.val % 8 = 0) (h1 : t.val % 8 = 7) (j : S1x1408.Idx) :
    (outsAt0 m c t.val t.isLt).2.2.2.1 j = (outsAt0 m c (t.val - 1) (Nat.lt_of_le_of_lt (Nat.sub_le _ _) t.isLt)).2.2.2.1 j + part7 m c t j := by
  rw [outsAt0_C m c t h0 h1]
  frame_out
  open_payloads
  idx_vars j
  pointwise [gate_at, val_at, dx_at, wd_at, ofBits_zero]
  simp only [zero_sub, zero_add, part7, dGate, dAct, siluGrad, Ideal.logistic]
  rfl

/-- At every point but a run's first the bias's gate half's gradient grows by the point's part. -/
theorem step7 (t : Fin cfg0.N) (h0 : ¬t.val % 8 = 0) (j : S1x1408.Idx) :
    (outsAt0 m c t.val t.isLt).2.2.2.1 j
      = (outsAt0 m c (t.val - 1) (Nat.lt_of_le_of_lt (Nat.sub_le _ _) t.isLt)).2.2.2.1 j + part7 m c t j := by
  by_cases h1 : t.val % 8 = 7
  · exact point7_C m c t h0 h1 j
  · exact point7_B m c t h0 h1 j

/-- At a run's last point: the sum over all rows. -/
theorem sum7 (t : Fin cfg0.N) (h : t.val % 8 = 7) (j : S1x1408.Idx) :
    (outsAt0 m c t.val t.isLt).2.2.2.1 j = ∑ b : Fin 2, ∑ s : Fin 2048, dGate (X m c) (G m c) (W m c) (WC m c) (BC m c) (WD m c) (DX m c) b s (colOf t (j 1)) := by
  rw [Pipeline.eq_sum_fin_of_reset_step_apply_of_flush (fun n h => (outsAt0 m c n h).2.2.2.1) 8 (fun _ => 0) (part7 m c)
    (fun t h0 => point7_A m c t h0 (by omega)) (step7 m c) t h j, zero_add]
  refine Eq.trans ?_ (sum_blocks (N := 8) (T := 512) (B := 2) (S := 2048) rfl (fun t y => by omega) (fun n => Nat.mod_lt n (by decide))
    (fun b s => dGate (X m c) (G m c) (W m c) (WC m c) (BC m c) (WD m c) (DX m c) b s (colOf t (j 1))))
  refine Finset.sum_congr rfl fun u _ => Finset.sum_congr rfl fun y _ => ?_
  have e1 : (8 * (t.val / 8) + u.val) % 8 = u.val := by omega
  have e2 : (8 * (t.val / 8) + u.val) / 8 = t.val / 8 := by omega
  simp only [sq, ps, colOf, e1, e2]

/-- What a grid point adds to the gradient of the bias's value half. -/
def part8 (t : Fin cfg0.N) (j : S1x1408.Idx) : EReal := ∑ y : Fin 512, dVal (X m c) (G m c) (W m c) (WC m c) (BC m c) (WD m c) (DX m c) (sq t y) (ps t y) (colOf t (j 1))

theorem point8_A (t : Fin cfg0.N) (h0 : t.val % 8 = 0) (h1 : ¬t.val % 8 = 7) (j : S1x1408.Idx) :
    (outsAt0 m c t.val t.isLt).2.2.2.2.1 j = 0 + part8 m c t j := by
  rw [outsAt0_A m c t h0 h1]
  frame_out
  open_payloads
  idx_vars j
  pointwise [gate_at, val_at, dx_at, wd_at, ofBits_zero]
  simp only [zero_sub, zero_add, part8, dVal, dAct, silu, Ideal.logistic]
  rfl

theorem point8_B (t : Fin cfg0.N) (h0 : ¬t.val % 8 = 0) (h1 : ¬t.val % 8 = 7) (j : S1x1408.Idx) :
    (outsAt0 m c t.val t.isLt).2.2.2.2.1 j = (outsAt0 m c (t.val - 1) (Nat.lt_of_le_of_lt (Nat.sub_le _ _) t.isLt)).2.2.2.2.1 j + part8 m c t j := by
  rw [outsAt0_B m c t h0 h1]
  frame_out
  open_payloads
  idx_vars j
  pointwise [gate_at, val_at, dx_at, wd_at, ofBits_zero]
  simp only [zero_sub, zero_add, part8, dVal, dAct, silu, Ideal.logistic]
  rfl

theorem point8_C (t : Fin cfg0.N) (h0 : ¬t.val % 8 = 0) (h1 : t.val % 8 = 7) (j : S1x1408.Idx) :
    (outsAt0 m c t.val t.isLt).2.2.2.2.1 j = (outsAt0 m c (t.val - 1) (Nat.lt_of_le_of_lt (Nat.sub_le _ _) t.isLt)).2.2.2.2.1 j + part8 m c t j := by
  rw [outsAt0_C m c t h0 h1]
  frame_out
  open_payloads
  idx_vars j
  pointwise [gate_at, val_at, dx_at, wd_at, ofBits_zero]
  simp only [zero_sub, zero_add, part8, dVal, dAct, silu, Ideal.logistic]
  rfl

/-- At every point but a run's first the bias's value half's gradient grows by the point's part. -/
theorem step8 (t : Fin cfg0.N) (h0 : ¬t.val % 8 = 0) (j : S1x1408.Idx) :
    (outsAt0 m c t.val t.isLt).2.2.2.2.1 j
      = (outsAt0 m c (t.val - 1) (Nat.lt_of_le_of_lt (Nat.sub_le _ _) t.isLt)).2.2.2.2.1 j + part8 m c t j := by
  by_cases h1 : t.val % 8 = 7
  · exact point8_C m c t h0 h1 j
  · exact point8_B m c t h0 h1 j

/-- At a run's last point: the sum over all rows. -/
theorem sum8 (t : Fin cfg0.N) (h : t.val % 8 = 7) (j : S1x1408.Idx) :
    (outsAt0 m c t.val t.isLt).2.2.2.2.1 j = ∑ b : Fin 2, ∑ s : Fin 2048, dVal (X m c) (G m c) (W m c) (WC m c) (BC m c) (WD m c) (DX m c) b s (colOf t (j 1)) := by
  rw [Pipeline.eq_sum_fin_of_reset_step_apply_of_flush (fun n h => (outsAt0 m c n h).2.2.2.2.1) 8 (fun _ => 0) (part8 m c)
    (fun t h0 => point8_A m c t h0 (by omega)) (step8 m c) t h j, zero_add]
  refine Eq.trans ?_ (sum_blocks (N := 8) (T := 512) (B := 2) (S := 2048) rfl (fun t y => by omega) (fun n => Nat.mod_lt n (by decide))
    (fun b s => dVal (X m c) (G m c) (W m c) (WC m c) (BC m c) (WD m c) (DX m c) b s (colOf t (j 1))))
  refine Finset.sum_congr rfl fun u _ => Finset.sum_congr rfl fun y _ => ?_
  have e1 : (8 * (t.val / 8) + u.val) % 8 = u.val := by omega
  have e2 : (8 * (t.val / 8) + u.val) / 8 = t.val / 8 := by omega
  simp only [sq, ps, colOf, e1, e2]

/-- What a grid point adds to the gradient of the down-projection's weight. -/
def partS (t : Fin cfg0.N) (j : S1408x1024.Idx) : EReal := ∑ y : Fin 512, gradWd (X m c) (G m c) (W m c) (WC m c) (BC m c) (DX m c) (sq t y) (ps t y) (colOf t (j 0)) (j 1)

theorem pointS_A (t : Fin cfg0.N) (h0 : t.val % 8 = 0) (h1 : ¬t.val % 8 = 7) (j : S1408x1024.Idx) :
    (outsAt0 m c t.val t.isLt).2.2.2.2.2 j = 0 + partS m c t j := by
  rw [outsAt0_A m c t h0 h1]
  frame_out
  open_payloads
  idx_vars j
  pointwise [gate_at, val_at, dx_at, wd_at, ofBits_zero]
  simp only [zero_sub, zero_add, partS, gradWd, act, silu, Ideal.logistic]
  rfl

theorem pointS_B (t : Fin cfg0.N) (h0 : ¬t.val % 8 = 0) (h1 : ¬t.val % 8 = 7) (j : S1408x1024.Idx) :
    (outsAt0 m c t.val t.isLt).2.2.2.2.2 j = (outsAt0 m c (t.val - 1) (Nat.lt_of_le_of_lt (Nat.sub_le _ _) t.isLt)).2.2.2.2.2 j + partS m c t j := by
  rw [outsAt0_B m c t h0 h1]
  frame_out
  open_payloads
  idx_vars j
  pointwise [gate_at, val_at, dx_at, wd_at, ofBits_zero]
  rw [(Memref.isWhole_whole _).read_unread]
  simp only [zero_sub, zero_add, partS, gradWd, act, silu, Ideal.logistic]
  rfl

theorem pointS_C (t : Fin cfg0.N) (h0 : ¬t.val % 8 = 0) (h1 : t.val % 8 = 7) (j : S1408x1024.Idx) :
    (outsAt0 m c t.val t.isLt).2.2.2.2.2 j = (outsAt0 m c (t.val - 1) (Nat.lt_of_le_of_lt (Nat.sub_le _ _) t.isLt)).2.2.2.2.2 j + partS m c t j := by
  rw [outsAt0_C m c t h0 h1]
  frame_out
  open_payloads
  idx_vars j
  pointwise [gate_at, val_at, dx_at, wd_at, ofBits_zero]
  rw [(Memref.isWhole_whole _).read_unread]
  simp only [zero_sub, zero_add, partS, gradWd, act, silu, Ideal.logistic]
  rfl

/-- At every point but a run's first the down-projection's weight's gradient grows by the point's part. -/
theorem stepS (t : Fin cfg0.N) (h0 : ¬t.val % 8 = 0) (j : S1408x1024.Idx) :
    (outsAt0 m c t.val t.isLt).2.2.2.2.2 j
      = (outsAt0 m c (t.val - 1) (Nat.lt_of_le_of_lt (Nat.sub_le _ _) t.isLt)).2.2.2.2.2 j + partS m c t j := by
  by_cases h1 : t.val % 8 = 7
  · exact pointS_C m c t h0 h1 j
  · exact pointS_B m c t h0 h1 j

/-- At a run's last point: the sum over all rows. -/
theorem sumS (t : Fin cfg0.N) (h : t.val % 8 = 7) (j : S1408x1024.Idx) :
    (outsAt0 m c t.val t.isLt).2.2.2.2.2 j = ∑ b : Fin 2, ∑ s : Fin 2048, gradWd (X m c) (G m c) (W m c) (WC m c) (BC m c) (DX m c) b s (colOf t (j 0)) (j 1) := by
  rw [Pipeline.eq_sum_fin_of_reset_step_apply_of_flush (fun n h => (outsAt0 m c n h).2.2.2.2.2) 8 (fun _ => 0) (partS m c)
    (fun t h0 => pointS_A m c t h0 (by omega)) (stepS m c) t h j, zero_add]
  refine Eq.trans ?_ (sum_blocks (N := 8) (T := 512) (B := 2) (S := 2048) rfl (fun t y => by omega) (fun n => Nat.mod_lt n (by decide))
    (fun b s => gradWd (X m c) (G m c) (W m c) (WC m c) (BC m c) (DX m c) b s (colOf t (j 0)) (j 1)))
  refine Finset.sum_congr rfl fun u _ => Finset.sum_congr rfl fun y _ => ?_
  have e1 : (8 * (t.val / 8) + u.val) % 8 = u.val := by omega
  have e2 : (8 * (t.val / 8) + u.val) / 8 = t.val / 8 := by omega
  simp only [sq, ps, colOf, e1, e2]

/-- The gradient of the bias's gate half, over all rows. -/
def spec7 (i : S1x2816.Idx) : EReal := ∑ b : Fin 2, ∑ s : Fin 2048, dGate (X m c) (G m c) (W m c) (WC m c) (BC m c) (WD m c) (DX m c) b s (i 1)

theorem out7 : (dats m 0 c).arrAt 7 cfg0.N = spec7 m c := by
  refine Dat.arrAt_eq_of_covers (dats m 0 c) 7 _ (by decide +kernel) fun t hf y => ?_
  blk_simp
  rw [after0_7, sum7 m c t ((flush0_7 t).mp hf)]
  have e : (win0_7.blk t).view.emb y = ix2 0 (colOf t (y 1)) := by
    blk_ext [idx t, colOf]
  exact (congrArg (spec7 m c) e).symm

/-- The gradient of the bias's value half, over all rows. -/
def spec8 (i : S1x2816.Idx) : EReal := ∑ b : Fin 2, ∑ s : Fin 2048, dVal (X m c) (G m c) (W m c) (WC m c) (BC m c) (WD m c) (DX m c) b s (i 1)

theorem out8 : (dats m 0 c).arrAt 8 cfg0.N = spec8 m c := by
  refine Dat.arrAt_eq_of_covers (dats m 0 c) 8 _ (by decide +kernel) fun t hf y => ?_
  blk_simp
  rw [after0_8, sum8 m c t ((flush0_8 t).mp hf)]
  have e : (win0_8.blk t).view.emb y = ix2 0 (colOf t (y 1)) := by
    blk_ext [idx t, colOf]
  exact (congrArg (spec8 m c) e).symm

/-- The gradient of the down-projection's weight, over all rows. -/
def spec6 (i : S2816x1024.Idx) : EReal := ∑ b : Fin 2, ∑ s : Fin 2048, gradWd (X m c) (G m c) (W m c) (WC m c) (BC m c) (DX m c) b s (i 0) (i 1)

/-- At a run's last point the block of the weight's gradient is the scratch. -/
theorem point6 (t : Fin cfg0.N) (h : t.val % 8 = 7) (j : S1408x1024.Idx) :
    (outsAt0 m c t.val t.isLt).2.2.1 j = (outsAt0 m c t.val t.isLt).2.2.2.2.2 j := by
  rw [outsAt0_C m c t (by omega) h]
  frame_out
  open_payloads
  idx_vars j
  pointwise

theorem out6 : (dats m 0 c).arrAt 6 cfg0.N = spec6 m c := by
  refine Dat.arrAt_eq_of_covers (dats m 0 c) 6 _ (by decide +kernel) fun t hf y => ?_
  blk_simp
  rw [after0_6, point6 m c t ((flush0_6 t).mp hf), sumS m c t ((flush0_6 t).mp hf)]
  have e : (win0_6.blk t).view.emb y = ix2 (colOf t (y 0)) (y 1) := by
    blk_ext [idx t, colOf]
  exact (congrArg (spec6 m c) e).symm

end Cert.FfnGate.Kernel

end
-- ==== Proof.FfnGateReference.lean ====
/-
  The gate's reference, row by row.
-/
module

public import proofs.«01_k».proof.Proof.Gen.Reference2Ideal.Run
public import proofs.«01_k».proof.Proof.Gen.Reference2Ideal.Read
public import proofs.«01_k».proof.Proof.FfnActGradSpec

@[expose] public section

set_option maxRecDepth 16384

noncomputable section

namespace Cert.FfnGate.Reference

open Cert.Reference2Ideal Cert.Reference2Ideal.Gen Cert.Reference2Ideal.Value Cert.Reference2Ideal.Read Idealize.ShloMosaic Cert.Lift
open Cert.FfnAct
open Cert.FfnUp (row pre)

variable (x dx : (⟨S2x2048x1024, .f32⟩ : BufTy).Contents (Elt Ideal)) (g : (⟨S1x1024, .f32⟩ : BufTy).Contents (Elt Ideal))
  (w : (⟨S1x1024x5632, .f32⟩ : BufTy).Contents (Elt Ideal)) (wc : (⟨S1x3x5632, .f32⟩ : BufTy).Contents (Elt Ideal))
  (bc : (⟨S1x5632, .f32⟩ : BufTy).Contents (Elt Ideal)) (wd : (⟨S1x2816x1024, .f32⟩ : BufTy).Contents (Elt Ideal))

theorem r_at (b : Fin 2) (s : Fin 2048) (z : Fin 1) : val_main_v8 (F := Ideal) x (ix3 b s z) = invRms (row x b s) := by
  pointwise [val_main_v8, val_main_v7, val_main_v6, val_main_v5, val_main_v4, val_main_v3, val_main_v2, val_main_v1, val_main_cst,
    val_main_cst_0, val_main_cst_1, ofBits_zero]
  rfl

theorem pre_at (b : Fin 2) (s : Fin 2048) (f : Fin 5632) : val_main_v15 (F := Ideal) x g w (ix3 b s f) = pre x g w b s f := by
  pointwise [val_main_v15, val_main_v14, val_main_v13, val_main_v12, val_main_v11, val_main_v10, val_main_v9, val_main_v0, r_at]
  rfl

theorem up_at (b : Fin 2) (s : Fin 2048) (f : Fin 5632) : val_main_v42 (F := Ideal) x g w wc bc (ix3 b s f) = up x g w wc bc b s f := by
  pointwise [val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_cst_2, pre_at, ofBits_zero]
  rfl

theorem logistic_at (b : Fin 2) (s : Fin 2048) (f : Fin 2816) :
    val_main_v45_2 (F := Ideal) x g w wc bc (ix3 b s f) = Ideal.logistic (up x g w wc bc b s ⟨f.val, by omega⟩) := by
  pointwise [val_main_v45_2, val_main_call0_v4, val_main_call0_v3, val_main_call0_v2, val_main_call0_v1,
    val_main_call0_v0, val_main_call0_cst, val_main_call0_cst_0, val_main_v43, up_at]
  rfl

theorem gate_at (b : Fin 2) (s : Fin 2048) (f : Fin 2816) :
    val_main_v43 (F := Ideal) x g w wc bc (ix3 b s f) = up x g w wc bc b s ⟨f.val, by omega⟩ := by
  pointwise [val_main_v43, up_at]

theorem val_at (b : Fin 2) (s : Fin 2048) (f : Fin 2816) :
    val_main_v44 (F := Ideal) x g w wc bc (ix3 b s f) = up x g w wc bc b s ⟨2816 + f.val, by omega⟩ := by
  pointwise [val_main_v44, up_at]

theorem dAct_at (b : Fin 2) (s : Fin 2048) (f : Fin 2816) : val_main_v51 (F := Ideal) wd dx (ix3 b s f) = dAct wd dx b s f := by
  pointwise [val_main_v51, val_main_v47]
  rfl

theorem dVal_at (b : Fin 2) (s : Fin 2048) (f : Fin 2816) :
    val_main_v53 (F := Ideal) x g w wc bc wd dx (ix3 b s f) = dVal x g w wc bc wd dx b s f := by
  pointwise [val_main_v53, val_main_v45_0, gate_at, logistic_at, dAct_at]
  exact mul_comm _ _

theorem dGate_at (hx : IsReal x) (hg : IsReal g) (hw : IsReal w) (hc : IsReal wc) (hb : IsReal bc) (hd : IsReal wd) (ht : IsReal dx)
    (b : Fin 2) (s : Fin 2048) (f : Fin 2816) :
    val_main_v55 (F := Ideal) x g w wc bc wd dx (ix3 b s f) = dGate x g w wc bc wd dx b s f := by
  pointwise [val_main_v55, val_main_call1_v2, val_main_call1_v1, val_main_call1_v0, val_main_v54, val_main_v45_1, val_main_call0_v7,
    val_main_call0_v6, val_main_call0_cst_1, gate_at, val_at, logistic_at, dAct_at]
  exact siluGrad_sum (mul_real (dAct_real wd dx hd ht b s f) (up_real x g w wc bc hx hg hw hc hb b s _)) (up_real x g w wc bc hx hg hw hc hb b s _)

/-- Both gradients side by side. -/
theorem du_gate_at (hx : IsReal x) (hg : IsReal g) (hw : IsReal w) (hc : IsReal wc) (hb : IsReal bc) (hd : IsReal wd) (ht : IsReal dx)
    (b : Fin 2) (s : Fin 2048) (f : Fin 2816) :
    val_main_v56 (F := Ideal) x g w wc bc wd dx (ix3 b s ⟨f.val, by omega⟩) = dGate x g w wc bc wd dx b s f := by
  pointwise [val_main_v56, dGate_at x dx g w wc bc wd hx hg hw hc hb hd ht]

theorem du_val_at (b : Fin 2) (s : Fin 2048) (f : Fin 2816) :
    val_main_v56 (F := Ideal) x g w wc bc wd dx (ix3 b s ⟨2816 + f.val, by omega⟩) = dVal x g w wc bc wd dx b s f := by
  pointwise [val_main_v56, dVal_at]

/-- The first result: the gate's gradient. -/
theorem res_gate (hx : IsReal x) (hg : IsReal g) (hw : IsReal w) (hc : IsReal wc) (hb : IsReal bc) (hd : IsReal wd) (ht : IsReal dx)
    (i : Fin 4096) (f : Fin 2816) :
    val_main_v63 (F := Ideal) x g w wc bc wd dx (ix2 i f)
      = dGate x g w wc bc wd dx ⟨i.val / 2048, by omega⟩ ⟨i.val % 2048, by omega⟩ f := by
  pointwise [val_main_v63, val_main_v62, val_main_v61]
  exact du_gate_at x dx g w wc bc wd hx hg hw hc hb hd ht _ _ _

/-- The second result: the values' gradient. -/
theorem res_val (i : Fin 4096) (f : Fin 2816) :
    val_main_v64 (F := Ideal) x g w wc bc wd dx (ix2 i f)
      = dVal x g w wc bc wd dx ⟨i.val / 2048, by omega⟩ ⟨i.val % 2048, by omega⟩ f := by
  pointwise [val_main_v64, val_main_v62, val_main_v61]
  exact du_val_at x dx g w wc bc wd _ _ _

/-- The third result: the down-projection's weight's gradient. -/
theorem res_wd (f : Fin 2816) (j : Fin 1024) :
    val_main_v66 (F := Ideal) x g w wc bc dx (ix2 f j) = ∑ b : Fin 2, ∑ s : Fin 2048, gradWd x g w wc bc dx b s f j := by
  pointwise [val_main_v66, val_main_v65, val_main_v52, val_main_v50, val_main_v49, val_main_v46, val_main_v45_0, gate_at, val_at,
    logistic_at]
  exact Finset.sum_congr rfl fun b _ => Finset.sum_congr rfl fun s _ => mul_comm _ _

/-- The fourth and the fifth result: the halves of the bias's gradient. -/
theorem res_bg (hx : IsReal x) (hg : IsReal g) (hw : IsReal w) (hc : IsReal wc) (hb : IsReal bc) (hd : IsReal wd) (ht : IsReal dx)
    (z : Fin 1) (f : Fin 2816) :
    val_main_v67 (F := Ideal) x g w wc bc wd dx (ix2 z f) = ∑ b : Fin 2, ∑ s : Fin 2048, dGate x g w wc bc wd dx b s f := by
  pointwise [val_main_v67, val_main_v60, val_main_v59, val_main_v58, val_main_v57, val_main_cst_3, val_main_cst_4, sum_drop_lead,
    ofBits_zero, Fin.sum_univ_one]
  exact Finset.sum_congr rfl fun b _ => Finset.sum_congr rfl fun s _ => du_gate_at x dx g w wc bc wd hx hg hw hc hb hd ht b s f

theorem res_bv (z : Fin 1) (f : Fin 2816) :
    val_main_v68 (F := Ideal) x g w wc bc wd dx (ix2 z f) = ∑ b : Fin 2, ∑ s : Fin 2048, dVal x g w wc bc wd dx b s f := by
  pointwise [val_main_v68, val_main_v60, val_main_v59, val_main_v58, val_main_v57, val_main_cst_3, val_main_cst_4, sum_drop_lead,
    ofBits_zero, Fin.sum_univ_one]
  exact Finset.sum_congr rfl fun b _ => Finset.sum_congr rfl fun s _ => du_val_at x dx g w wc bc wd b s f

end Cert.FfnGate.Reference

end
-- ==== Proof.FfnGateClaim.lean ====
/-
  The feed-forward's gate: on finite arguments the kernel's gradients are the reference's.
-/
module

public import proofs.«01_k».proof.Defs
public import proofs.«01_k».proof.Proof.Gen.Pre_finite_args2
public import Idealize.ShloMosaic.Lib.Quiescent
public import proofs.«01_k».proof.Proof.FfnGateKernel
public import proofs.«01_k».proof.Proof.FfnGateReference

@[expose] public section

set_option maxRecDepth 16384

noncomputable section

namespace Cert.FfnGate

open Idealize.ShloMosaic Idealize.ShloMosaic.TcCoe Idealize.SL.Sem Cert.Lift Cert.Pre_finite_args2

/-- The precondition says that every argument is real. -/
theorem isReal_args (x : S2x2048x1024.Idx → EReal) (g : S1x1024.Idx → EReal) (w : S1x1024x5632.Idx → EReal) (wc : S1x3x5632.Idx → EReal)
    (bc : S1x5632.Idx → EReal) (wd : S1x2816x1024.Idx → EReal) (dx : S2x2048x1024.Idx → EReal)
    (h : letI := Cert.Pre_finite_args2.Gen.facts; fn (F := Ideal) x g w wc bc wd dx = fun _ => 1#1) :
    IsReal x ∧ IsReal g ∧ IsReal w ∧ IsReal wc ∧ IsReal bc ∧ IsReal wd ∧ IsReal dx := by
  have h := congrFun h ix0
  simp only [fn, fn_part1] at h
  obtain ⟨h, ht⟩ := IntOp.andi_eq_one.1 h
  obtain ⟨h, hd⟩ := IntOp.andi_eq_one.1 h
  obtain ⟨h, hb⟩ := IntOp.andi_eq_one.1 h
  obtain ⟨h, hc⟩ := IntOp.andi_eq_one.1 h
  obtain ⟨h, hw⟩ := IntOp.andi_eq_one.1 h
  obtain ⟨hx, hg⟩ := IntOp.andi_eq_one.1 h
  exact ⟨isReal_of_all x _ (fun _ => ofBits_top) _ _ _ _ hx, isReal_of_all g _ (fun _ => ofBits_top) _ _ _ _ hg,
    isReal_of_all w _ (fun _ => ofBits_top) _ _ _ _ hw, isReal_of_all wc _ (fun _ => ofBits_top) _ _ _ _ hc,
    isReal_of_all bc _ (fun _ => ofBits_top) _ _ _ _ hb, isReal_of_all wd _ (fun _ => ofBits_top) _ _ _ _ hd,
    isReal_of_all dx _ (fun _ => ofBits_top) _ _ _ _ ht⟩

/-- The reference runs, its arguments end unchanged and no semaphore counts. -/
theorem frame_reference : Cert.quiescent_Reference2Ideal (hReference2Ideal := Cert.Reference2Ideal.Gen.facts) := fun m ρ _ =>
  (θ_run _ _ _).mono (fun r h => ⟨fun c => (h c).2.2.2.2.2, sem_eq_zero_of_no_sems (by decide) r.2⟩)
    (Cert.Reference2Ideal.Value.run (F := Ideal) m ρ)

/-- On finite arguments the reference's results are the kernel's. -/
theorem algebraic : Cert.algebraic_Kernel2Ideal_Reference2Ideal_pre_finite_args2 (hKernel2Ideal := Cert.Kernel2Ideal.Gen.facts)
    (hReference2Ideal := Cert.Reference2Ideal.Gen.facts) (hPre_finite_args2 := Cert.Pre_finite_args2.Gen.facts) := by
  intro m g m' g' hpre hagree
  refine ⟨fun c => Kernel.spec4 m c, fun c => Kernel.spec5 m c, fun c => Kernel.spec6 m c, fun c => Kernel.spec7 m c,
    fun c => Kernel.spec8 m c,
    (θ_run _ _ _).mono (fun r h c => ⟨(h c).1.trans (Kernel.out4 m c), (h c).2.1.trans (Kernel.out5 m c),
      (h c).2.2.1.trans (Kernel.out6 m c), (h c).2.2.2.1.trans (Kernel.out7 m c), (h c).2.2.2.2.1.trans (Kernel.out8 m c),
      (h c).2.2.2.2.2⟩)
      (Cert.Kernel2Ideal.Value.run_blocks m g),
    (θ_run _ _ _).mono (fun r h c => ?_) (Cert.Reference2Ideal.Value.run m' g')⟩
  obtain ⟨e0, e1, e2, e3, e4, e5, e6⟩ := hagree c
  obtain ⟨hx, hg, hw, hc, hb, hd, ht⟩ := isReal_args _ _ _ _ _ _ _ (hpre c)
  refine ⟨(h c).1.trans ((Cert.Reference2Ideal.Read.val_main_v63_eq _ _).trans ?_),
    (h c).2.1.trans ((Cert.Reference2Ideal.Read.val_main_v64_eq _ _).trans ?_),
    (h c).2.2.1.trans ((Cert.Reference2Ideal.Read.val_main_v66_eq _ _).trans ?_),
    (h c).2.2.2.1.trans ((Cert.Reference2Ideal.Read.val_main_v67_eq _ _).trans ?_),
    (h c).2.2.2.2.1.trans ((Cert.Reference2Ideal.Read.val_main_v68_eq _ _).trans ?_), (h c).2.2.2.2.2⟩
  all_goals
    simp only [e0, e1, e2, e3, e4, e5, e6]
    funext i
    idx_vars i
  · exact Reference.res_gate _ _ _ _ _ _ _ hx hg hw hc hb hd ht i0 i1
  · exact Reference.res_val _ _ _ _ _ _ _ i0 i1
  · exact Reference.res_wd _ _ _ _ _ _ i0 i1
  · exact Reference.res_bg _ _ _ _ _ _ _ hx hg hw hc hb hd ht i0 i1
  · exact Reference.res_bv _ _ _ _ _ _ _ i0 i1

end Cert.FfnGate

end
-- ==== Proof.FfnUpBlocks.lean ====
/-
  What the kernel's blocks hold at a grid point: the arguments' entries, and the cotangents one and two rows on.
-/
module

public import proofs.«01_k».proof.Proof.Gen.Kernel3Ideal.Value
public import proofs.«01_k».proof.Proof.FfnUpSpec
public import Idealize.ShloMosaic.Lib.Pipeline.ValueKit
public import Idealize.ShloMosaic.Lib.Claim
public import Idealize.ShloMosaic.Lib.StableHlo.RunRead

@[expose] public section

set_option maxRecDepth 16384

noncomputable section

namespace Cert.FfnUp.Kernel

open Cert.Kernel3Ideal Cert.Kernel3Ideal.Gen Idealize.ShloMosaic Idealize.ShloMosaic.TcCoe Idealize.SL.Sem Cert.Lift Cert.FfnUp
open Idealize.ShloMosaic.Pipeline (Dat)

variable (m : (ℓ : Loc nD τ sig) → Buf (Elt Ideal) ℓ) (c : Dev nD)

/-- The activations, the norm's weight, the projection's weights, the convolution's taps and the two cotangents, as the program gets them. -/
abbrev X : S2x2048x1024.Idx → EReal := m ((c.tc : Thread nD τ).loc main_arg0)
abbrev G : S1x1024.Idx → EReal := m ((c.tc : Thread nD τ).loc main_arg1)
abbrev W : S1x1024x5632.Idx → EReal := m ((c.tc : Thread nD τ).loc main_arg2)
abbrev WC : S1x3x5632.Idx → EReal := m ((c.tc : Thread nD τ).loc main_arg3)
abbrev DX : S2x2048x1024.Idx → EReal := m ((c.tc : Thread nD τ).loc main_arg5)
abbrev D : S2x2048x5632.Idx → EReal := m ((c.tc : Thread nD τ).loc main_arg6)

/-- The block that each window takes at a grid point. -/
theorem idx : ∀ t : Fin cfg0.N, win0_0.index t = ![t.val, 0] ∧ win0_1.index t = ![t.val, 0]
    ∧ win0_2.index t = ![min ((t.val + 1) * 16) 255, 0] ∧ win0_3.index t = ![min ((t.val + 1) * 16) 255, 0]
    ∧ win0_4.index t = ![t.val, 0] ∧ win0_5.index t = ![t.val, 0] ∧ win0_6.index t = ![t.val, 0] ∧ win0_7.index t = ![0, 0]
    ∧ win0_8.index t = ![0, 0] ∧ win0_9.index t = ![0, 0, 0] ∧ win0_10.index t = ![t.val, 0] ∧ win0_11.index t = ![t.val, 0]
    ∧ win0_12.index t = ![0, 0] ∧ win0_13.index t = ![0, 0] :=
  (by decide +kernel : ∀ t : Fin grid0.N, _)

theorem N_eq : cfg0.N = 16 := N_0

/-- The sequence and the position of row `y` of grid point `t`'s block. -/
def sq (t : Fin cfg0.N) (y : Fin 256) : Fin 2 := ⟨(t.val * 256 + y.val) / 2048, by have := t.isLt; have := N_eq; omega⟩
def ps (t : Fin cfg0.N) (y : Fin 256) : Fin 2048 := ⟨(t.val * 256 + y.val) % 2048, by omega⟩

/-- The row of the result that row `y` of grid point `t`'s block is. -/
def rowOf (t : Fin cfg0.N) (y : Fin 256) : Fin 4096 := ⟨t.val * 256 + y.val, by have := t.isLt; have := N_eq; omega⟩

/-- The block that follows grid point `t`'s, or the last one. -/
def nextRow (t : Fin cfg0.N) (y : Fin 16) : Fin 4096 := ⟨min ((t.val + 1) * 16) 255 * 16 + y.val, by omega⟩

theorem dg_at (t : Fin cfg0.N) (y : Fin 256) (k : Fin 2816) :
    iblk m c 0 t (ix2 y k) = D m c (ix3 (sq t y) (ps t y) ⟨k.val, by omega⟩) := by
  refine (congrArg (V m c main_v37) (?_ : _ = ix2 (rowOf t y) k)).trans ?_
  · blk_ext [idx t, rowOf]
  unfold V
  after_reads_simp
  pointwise
  rfl

theorem dv_at (t : Fin cfg0.N) (y : Fin 256) (k : Fin 2816) :
    iblk m c 1 t (ix2 y k) = D m c (ix3 (sq t y) (ps t y) ⟨2816 + k.val, by omega⟩) := by
  refine (congrArg (V m c main_v38) (?_ : _ = ix2 (rowOf t y) k)).trans ?_
  · blk_ext [idx t, rowOf]
  unfold V
  after_reads_simp
  pointwise
  rfl

theorem hg_at (t : Fin cfg0.N) (y : Fin 16) (k : Fin 2816) :
    iblk m c 2 t (ix2 y k) = D m c (ix3 ⟨(nextRow t y).val / 2048, by omega⟩ ⟨(nextRow t y).val % 2048, by omega⟩ ⟨k.val, by omega⟩) := by
  refine (congrArg (V m c main_v37) (?_ : _ = ix2 (nextRow t y) k)).trans ?_
  · blk_ext [idx t, nextRow]
  unfold V
  after_reads_simp
  pointwise

theorem hv_at (t : Fin cfg0.N) (y : Fin 16) (k : Fin 2816) :
    iblk m c 3 t (ix2 y k) = D m c (ix3 ⟨(nextRow t y).val / 2048, by omega⟩ ⟨(nextRow t y).val % 2048, by omega⟩ ⟨2816 + k.val, by omega⟩) := by
  refine (congrArg (V m c main_v38) (?_ : _ = ix2 (nextRow t y) k)).trans ?_
  · blk_ext [idx t, nextRow]
  unfold V
  after_reads_simp
  pointwise

theorem u_at (t : Fin cfg0.N) (y : Fin 256) (k : Fin 5632) :
    iblk m c 4 t (ix2 y k) = pre (X m c) (G m c) (W m c) (sq t y) (ps t y) k := by
  refine (congrArg (V m c main_v17) (?_ : _ = ix2 (rowOf t y) k)).trans ?_
  · blk_ext [idx t, rowOf]
  unfold V
  after_reads_simp
  pointwise
  rfl

theorem dx_at (t : Fin cfg0.N) (y : Fin 256) (k : Fin 1024) :
    iblk m c 5 t (ix2 y k) = DX m c (ix3 (sq t y) (ps t y) k) := by
  refine (congrArg (V m c main_v39) (?_ : _ = ix2 (rowOf t y) k)).trans ?_
  · blk_ext [idx t, rowOf]
  unfold V
  after_reads_simp
  pointwise
  rfl

theorem x_at (t : Fin cfg0.N) (y : Fin 256) (k : Fin 1024) :
    iblk m c 6 t (ix2 y k) = X m c (ix3 (sq t y) (ps t y) k) := by
  refine (congrArg (V m c main_v40) (?_ : _ = ix2 (rowOf t y) k)).trans ?_
  · blk_ext [idx t, rowOf]
  unfold V
  after_reads_simp
  pointwise
  rfl

theorem g_at (t : Fin cfg0.N) (j : Fin 1024) : iblk m c 7 t (ix2 0 j) = G m c (ix2 0 j) := by
  blk_point [iblk, V, idx t]

theorem wc_at (t : Fin cfg0.N) (r : Fin 3) (f : Fin 5632) : iblk m c 8 t (ix2 r f) = WC m c (ix3 0 r f) := by
  refine (congrArg (V m c main_v41) (?_ : _ = ix2 r f)).trans ?_
  · blk_ext [idx t]
  unfold V
  after_reads_simp
  pointwise

/-- The stacked weights, a quarter of the columns in each. -/
theorem w_at (t : Fin cfg0.N) (j : Fin 1024) (k : Fin 1408) :
    iblk m c 9 t (ix3 0 j k) = W m c (ix3 0 j ⟨k.val, by omega⟩)
    ∧ iblk m c 9 t (ix3 1 j k) = W m c (ix3 0 j ⟨1408 + k.val, by omega⟩)
    ∧ iblk m c 9 t (ix3 2 j k) = W m c (ix3 0 j ⟨2816 + k.val, by omega⟩)
    ∧ iblk m c 9 t (ix3 3 j k) = W m c (ix3 0 j ⟨4224 + k.val, by omega⟩) := by
  have e : ∀ q : Fin 4, iblk m c 9 t (ix3 q j k) = V m c main_v36 (ix3 q j k) := fun q => by
    refine congrArg (V m c main_v36) ?_
    blk_ext [idx t]
  simp only [e]
  unfold V
  after_reads_simp
  refine ⟨?_, ?_, ?_, ?_⟩ <;> pointwise
  all_goals
    after_reads_simp
    pointwise

/-- The body's test for the last block of a sequence. -/
theorem end_at : ∀ t : Fin cfg0.N, (Scalar.cmpi CmpIPredicate.eq
        (Scalar.select
          (Scalar.andi
            (Scalar.xori (Scalar.cmpi CmpIPredicate.slt (Scalar.remsi (BitVec.ofNat 32 ↑(grid0.coords t 0)) 8#32) 0#32) 0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        7#32) = if t.val % 8 = 7 then 1#1 else 0#1 :=
  (by decide +kernel : ∀ t : Fin grid0.N, _)

/-- The same test, its divisor guarded. -/
theorem end_at' : ∀ t : Fin cfg0.N, (Scalar.cmpi CmpIPredicate.eq
        (Scalar.select
          (Scalar.andi
            (Scalar.xori
              (Scalar.cmpi CmpIPredicate.slt
                (Scalar.remsi (BitVec.ofNat 32 ↑(grid0.coords t 0)) (Scalar.select (Scalar.cmpi CmpIPredicate.eq 8#32 0#32) 1#32 8#32)) 0#32)
              (Scalar.cmpi CmpIPredicate.slt (Scalar.select (Scalar.cmpi CmpIPredicate.eq 8#32 0#32) 1#32 8#32) 0#32))
            (Scalar.cmpi CmpIPredicate.ne
              (Scalar.remsi (BitVec.ofNat 32 ↑(grid0.coords t 0)) (Scalar.select (Scalar.cmpi CmpIPredicate.eq 8#32 0#32) 1#32 8#32)) 0#32))
          (Scalar.addi
            (Scalar.remsi (BitVec.ofNat 32 ↑(grid0.coords t 0)) (Scalar.select (Scalar.cmpi CmpIPredicate.eq 8#32 0#32) 1#32 8#32))
            (Scalar.select (Scalar.cmpi CmpIPredicate.eq 8#32 0#32) 1#32 8#32))
          (Scalar.remsi (BitVec.ofNat 32 ↑(grid0.coords t 0)) (Scalar.select (Scalar.cmpi CmpIPredicate.eq 8#32 0#32) 1#32 8#32)))
        7#32) = if t.val % 8 = 7 then 1#1 else 0#1 :=
  (by decide +kernel : ∀ t : Fin grid0.N, _)

theorem is_row (r : Fin 8) : ∀ n : Fin 8, IntOp.cmpi CmpIPredicate.eq (BitVec.ofNat 32 n.val) (BitVec.ofNat 32 r.val)
    = if n.val = r.val then 1#1 else 0#1 := by
  revert r
  decide +kernel

/-- The cotangent that follows the block's last row: of the next block, or zero after the last block of a sequence. -/
theorem halo_at (t : Fin cfg0.N) (r : Fin 16) (h : r.val < 2) (f : Fin 5632) :
    (Scalar.select (if t.val % 8 = 7 then 1#1 else 0#1) (0 : EReal)
      (D m c (ix3 ⟨(nextRow t r).val / 2048, by omega⟩ ⟨(nextRow t r).val % 2048, by omega⟩ f)))
      = dAt (D m c) (sq t ⟨255, by decide⟩) ((ps t ⟨255, by decide⟩).val + 1 + r.val) f := by
  have ht := t.isLt
  have hN := N_eq
  by_cases e : t.val % 8 = 7
  · rw [if_pos e, dAt, dif_neg (by simp only [ps]; omega)]
    rfl
  · rw [if_neg e, dAt, dif_pos (by simp only [ps]; omega)]
    show D m c (ix3 _ _ f) = D m c (ix3 _ _ f)
    congr 2 <;> refine Fin.ext ?_ <;> simp only [nextRow, sq, ps] <;> omega

/-- A row of the block, `n` rows on. -/
theorem here_at (t : Fin cfg0.N) (y : Fin 256) (n : Nat) (z : Fin 256) (hz : z.val = y.val + n) (f : Fin 5632) :
    D m c (ix3 (sq t z) (ps t z) f) = dAt (D m c) (sq t y) ((ps t y).val + n) f := by
  have ht := t.isLt
  have hN := N_eq
  have := z.isLt
  rw [dAt, dif_pos (by simp only [ps]; omega)]
  congr 2 <;> refine Fin.ext ?_ <;> simp only [sq, ps] <;> omega

/-- The cotangents one row on, as the body takes them. -/
theorem shift1 (t : Fin cfg0.N) (y : Fin 256) (f : Fin 5632) :
    (if h : y.val < 248 then D m c (ix3 (sq t ⟨(y.val + 256 - 255) % 256, by omega⟩) (ps t ⟨(y.val + 256 - 255) % 256, by omega⟩) f)
      else Scalar.select (IntOp.cmpi CmpIPredicate.eq (BitVec.ofNat 32 (y.val - 248)) 7#32)
        (Scalar.select (if t.val % 8 = 7 then 1#1 else 0#1) 0
          (D m c (ix3 ⟨(nextRow t 0).val / 2048, by omega⟩ ⟨(nextRow t 0).val % 2048, by omega⟩ f)))
        (D m c (ix3 (sq t ⟨(248 + (y.val - 248) + 256 - 255) % 256, by omega⟩) (ps t ⟨(248 + (y.val - 248) + 256 - 255) % 256, by omega⟩) f)))
      = dAt (D m c) (sq t y) ((ps t y).val + 1) f := by
  have hy := y.isLt
  split
  · exact here_at m c t y 1 _ (by simp only; omega) f
  · have e := is_row 7 ⟨y.val - 248, by omega⟩
    simp only [show ((7 : Fin 8).val : Nat) = 7 from rfl] at e
    rw [e, halo_at m c t 0 (by decide)]
    by_cases h : y.val = 255
    · obtain rfl : y = ⟨255, by decide⟩ := Fin.ext h
      rfl
    · rw [if_neg (by omega)]
      exact here_at m c t y 1 _ (by simp only; omega) f

/-- The cotangents two rows on, as the body takes them. -/
theorem shift2 (t : Fin cfg0.N) (y : Fin 256) (f : Fin 5632) :
    (if h : y.val < 248 then D m c (ix3 (sq t ⟨(y.val + 256 - 254) % 256, by omega⟩) (ps t ⟨(y.val + 256 - 254) % 256, by omega⟩) f)
      else Scalar.select (IntOp.cmpi CmpIPredicate.eq (BitVec.ofNat 32 (y.val - 248)) 6#32)
        (Scalar.select (if t.val % 8 = 7 then 1#1 else 0#1) 0
          (D m c (ix3 ⟨(nextRow t 0).val / 2048, by omega⟩ ⟨(nextRow t 0).val % 2048, by omega⟩ f)))
        (Scalar.select (IntOp.cmpi CmpIPredicate.eq (BitVec.ofNat 32 (y.val - 248)) 7#32)
          (Scalar.select (if t.val % 8 = 7 then 1#1 else 0#1) 0
            (D m c (ix3 ⟨(nextRow t 1).val / 2048, by omega⟩ ⟨(nextRow t 1).val % 2048, by omega⟩ f)))
          (D m c (ix3 (sq t ⟨(248 + (y.val - 248) + 256 - 254) % 256, by omega⟩) (ps t ⟨(248 + (y.val - 248) + 256 - 254) % 256, by omega⟩) f))))
      = dAt (D m c) (sq t y) ((ps t y).val + 2) f := by
  have hy := y.isLt
  split
  · exact here_at m c t y 2 _ (by simp only; omega) f
  · have e6 := is_row 6 ⟨y.val - 248, by omega⟩
    have e7 := is_row 7 ⟨y.val - 248, by omega⟩
    simp only [show ((6 : Fin 8).val : Nat) = 6 from rfl] at e6
    simp only [show ((7 : Fin 8).val : Nat) = 7 from rfl] at e7
    rw [e6, e7, halo_at m c t 0 (by decide), halo_at m c t 1 (by decide)]
    by_cases h : y.val = 255
    · obtain rfl : y = ⟨255, by decide⟩ := Fin.ext h
      rfl
    · by_cases h' : y.val = 254
      · rw [if_pos (by omega)]
        show dAt (D m c) (sq t ⟨255, by decide⟩) _ f = _
        congr 1
        · refine Fin.ext ?_
          simp only [sq]
          omega
        · simp only [ps, show ((0 : Fin 16).val : Nat) = 0 from rfl]
          omega
      · rw [if_neg (by omega), if_neg (by omega)]
        exact here_at m c t y 2 _ (by simp only; omega) f

/-- The same, of the block's first rows and of its last eight. -/
theorem shift1_lo (t : Fin cfg0.N) (y : Fin 248) (f : Fin 5632) :
    D m c (ix3 (sq t ⟨(y.val + 256 - 255) % 256, by omega⟩) (ps t ⟨(y.val + 256 - 255) % 256, by omega⟩) f)
      = dAt (D m c) (sq t ⟨y.val, by omega⟩) ((ps t ⟨y.val, by omega⟩).val + 1) f :=
  here_at m c t ⟨y.val, by omega⟩ 1 _ (by simp only; omega) f

theorem shift1_hi (t : Fin cfg0.N) (y : Fin 8) (f : Fin 5632) :
    Scalar.select (IntOp.cmpi CmpIPredicate.eq (BitVec.ofNat 32 y.val) 7#32)
        (Scalar.select (if t.val % 8 = 7 then 1#1 else 0#1) 0
          (D m c (ix3 ⟨(nextRow t 0).val / 2048, by omega⟩ ⟨(nextRow t 0).val % 2048, by omega⟩ f)))
        (D m c (ix3 (sq t ⟨(248 + y.val + 256 - 255) % 256, by omega⟩) (ps t ⟨(248 + y.val + 256 - 255) % 256, by omega⟩) f))
      = dAt (D m c) (sq t ⟨248 + y.val, by omega⟩) ((ps t ⟨248 + y.val, by omega⟩).val + 1) f := by
  have h := shift1 m c t ⟨248 + y.val, by omega⟩ f
  rw [dif_neg (by simp only; omega)] at h
  simpa only [Nat.add_sub_cancel_left] using h

theorem shift2_lo (t : Fin cfg0.N) (y : Fin 248) (f : Fin 5632) :
    D m c (ix3 (sq t ⟨(y.val + 256 - 254) % 256, by omega⟩) (ps t ⟨(y.val + 256 - 254) % 256, by omega⟩) f)
      = dAt (D m c) (sq t ⟨y.val, by omega⟩) ((ps t ⟨y.val, by omega⟩).val + 2) f :=
  here_at m c t ⟨y.val, by omega⟩ 2 _ (by simp only; omega) f

theorem shift2_hi (t : Fin cfg0.N) (y : Fin 8) (f : Fin 5632) :
    Scalar.select (IntOp.cmpi CmpIPredicate.eq (BitVec.ofNat 32 y.val) 6#32)
        (Scalar.select (if t.val % 8 = 7 then 1#1 else 0#1) 0
          (D m c (ix3 ⟨(nextRow t 0).val / 2048, by omega⟩ ⟨(nextRow t 0).val % 2048, by omega⟩ f)))
        (Scalar.select (IntOp.cmpi CmpIPredicate.eq (BitVec.ofNat 32 y.val) 7#32)
          (Scalar.select (if t.val % 8 = 7 then 1#1 else 0#1) 0
            (D m c (ix3 ⟨(nextRow t 1).val / 2048, by omega⟩ ⟨(nextRow t 1).val % 2048, by omega⟩ f)))
          (D m c (ix3 (sq t ⟨(248 + y.val + 256 - 254) % 256, by omega⟩) (ps t ⟨(248 + y.val + 256 - 254) % 256, by omega⟩) f)))
      = dAt (D m c) (sq t ⟨248 + y.val, by omega⟩) ((ps t ⟨248 + y.val, by omega⟩).val + 2) f := by
  have h := shift2 m c t ⟨248 + y.val, by omega⟩ f
  rw [dif_neg (by simp only; omega)] at h
  simpa only [Nat.add_sub_cancel_left] using h

end Cert.FfnUp.Kernel

end
-- ==== Proof.FfnUpKernelDu.lean ====
/-
  The kernel's first output array: the gradient of the convolution's input.
-/
module

public import proofs.«01_k».proof.Proof.FfnUpBlocks

@[expose] public section

set_option maxRecDepth 16384

noncomputable section

namespace Cert.FfnUp.Kernel

open Cert.Kernel3Ideal Cert.Kernel3Ideal.Gen Idealize.ShloMosaic Idealize.ShloMosaic.TcCoe Idealize.SL.Sem Cert.Lift Cert.FfnUp
open Idealize.ShloMosaic.Pipeline (Dat)

variable (m : (ℓ : Loc nD τ sig) → Buf (Elt Ideal) ℓ) (c : Dev nD)

/-- The gradient of the convolution's input, by the row of the result. -/
def spec10 (i : S4096x5632.Idx) : EReal :=
  du (WC m c) (D m c)
    ⟨(i 0).val / 2048, Nat.div_lt_of_lt_mul (show (i 0).val < 2048 * 2 from (i 0).isLt)⟩ ⟨(i 0).val % 2048, Nat.mod_lt _ (by decide)⟩ (i 1)

set_option maxHeartbeats 2000000 in
/-- What the body leaves in the first output's block at a grid point. -/
theorem point10 (t : Fin cfg0.N) (y : S256x5632.Idx) :
    (outsAt0 m c t.val t.isLt).1 y = spec10 m c (ix2 (rowOf t (y 0)) (y 1)) := by
  idx_vars y
  show _ = du (WC m c) (D m c) (sq t y0) (ps t y0) y1
  by_cases h : t.val % 16 = 0
  on_goal 1 => rw [outsAt0_A m c t h]
  on_goal 2 => rw [outsAt0_B m c t h]
  all_goals
    frame_out
    canon_tiles x e
  all_goals
    idx_vars x
    obtain rfl : y0 = x0 := Fin.ext e0
    have hb := Nat.lt_of_le_of_lt (Nat.le_of_eq e1.symm) y1.isLt
    obtain rfl : y1 = ⟨_, hb⟩ := Fin.ext e1
    open_payloads
    pointwise [dg_at, dv_at, hg_at, hv_at, wc_at]
    simp only [end_at, end_at', shift1, shift2, du, ← Nat.add_assoc, Nat.reduceAdd]

/-- The first output: the gradient of the convolution's input. -/
theorem out10 : (dats m 0 c).arrAt 10 cfg0.N = spec10 m c := by
  refine Dat.arrAt_eq_of_covers (dats m 0 c) 10 _ (by decide +kernel) fun t hf y => ?_
  blk_simp
  rw [after0_10, point10]
  refine congrArg (spec10 m c) ?_
  blk_ext [idx t, rowOf]

end Cert.FfnUp.Kernel

end
-- ==== Proof.FfnUpKernelX.lean ====
/-
  The kernel's second and third output arrays: the gradients of the activations and of the norm's weight.
-/
module

public import proofs.«01_k».proof.Proof.FfnUpBlocks

@[expose] public section

set_option maxRecDepth 16384

noncomputable section

namespace Cert.FfnUp.Kernel

open Cert.Kernel3Ideal Cert.Kernel3Ideal.Gen Idealize.ShloMosaic Idealize.ShloMosaic.TcCoe Idealize.SL.Sem Cert.Lift Cert.FfnUp
open Idealize.ShloMosaic.Pipeline (Dat)

variable (m : (ℓ : Loc nD τ sig) → Buf (Elt Ideal) ℓ) (c : Dev nD)

/-- The gradient of the activations, by the row of the result. -/
def spec11 (i : S4096x1024.Idx) : EReal :=
  gradX (X m c) (DX m c) (G m c) (W m c) (WC m c) (D m c)
    ⟨(i 0).val / 2048, Nat.div_lt_of_lt_mul (show (i 0).val < 2048 * 2 from (i 0).isLt)⟩ ⟨(i 0).val % 2048, Nat.mod_lt _ (by decide)⟩ (i 1)

set_option maxHeartbeats 4000000 in
/-- What the body leaves in the second output's block at a grid point. -/
theorem point11 (t : Fin cfg0.N) (y : S256x1024.Idx) :
    (outsAt0 m c t.val t.isLt).2.1 y = spec11 m c (ix2 (rowOf t (y 0)) (y 1)) := by
  idx_vars y
  show _ = gradX (X m c) (DX m c) (G m c) (W m c) (WC m c) (D m c) (sq t y0) (ps t y0) y1
  by_cases h : t.val % 16 = 0
  on_goal 1 => rw [outsAt0_A m c t h]
  on_goal 2 => rw [outsAt0_B m c t h]
  all_goals
    frame_out
    open_payloads
    pointwise [dg_at, dv_at, hg_at, hv_at, wc_at, w_at, x_at, dx_at, g_at]
    simp only [end_at, end_at', shift1, shift2, shift1_lo m c, shift1_hi, shift2_lo m c, shift2_hi, ← Nat.add_assoc, Nat.reduceAdd]
    simp only [gradX, normGrad, dn, dh_split, du]
  all_goals rfl

/-- What a grid point adds to the third output. -/
def part12 (t : Fin cfg0.N) (j : S1x1024.Idx) : EReal := ∑ y : Fin 256, gradG (X m c) (W m c) (WC m c) (D m c) (sq t y) (ps t y) (j 1)

/-- A block's sum over its rows, the last eight apart. -/
theorem part12_split (t : Fin cfg0.N) (z : Fin 1) (j : Fin 1024) :
    part12 m c t (ix2 z j) = ∑ y : Fin 248, gradG (X m c) (W m c) (WC m c) (D m c) (sq t ⟨y.val, by omega⟩) (ps t ⟨y.val, by omega⟩) j
      + ∑ y : Fin 8, gradG (X m c) (W m c) (WC m c) (D m c) (sq t ⟨248 + y.val, by omega⟩) (ps t ⟨248 + y.val, by omega⟩) j := by
  rw [part12, sum_split 248 8 rfl]
  rfl

set_option maxHeartbeats 4000000 in
theorem point12_A (t : Fin cfg0.N) (h : t.val % 16 = 0) (j : S1x1024.Idx) :
    (outsAt0 m c t.val t.isLt).2.2.1 j = 0 + part12 m c t j := by
  rw [outsAt0_A m c t h]
  frame_out
  open_payloads
  idx_vars j
  pointwise [dg_at, dv_at, hg_at, hv_at, wc_at, w_at, x_at]
  simp only [end_at, end_at', shift1, shift2, shift1_lo m c, shift1_hi, shift2_lo m c, shift2_hi, ← Nat.add_assoc, Nat.reduceAdd]
  simp only [part12_split, gradG, dh_split, du]
  rfl

set_option maxHeartbeats 4000000 in
theorem point12_B (t : Fin cfg0.N) (h : ¬t.val % 16 = 0) (j : S1x1024.Idx) :
    (outsAt0 m c t.val t.isLt).2.2.1 j
      = (outsAt0 m c (t.val - 1) (Nat.lt_of_le_of_lt (Nat.sub_le _ _) t.isLt)).2.2.1 j + part12 m c t j := by
  rw [outsAt0_B m c t h]
  frame_out
  open_payloads
  idx_vars j
  pointwise [dg_at, dv_at, hg_at, hv_at, wc_at, w_at, x_at]
  simp only [end_at, end_at', shift1, shift2, shift1_lo m c, shift1_hi, shift2_lo m c, shift2_hi, ← Nat.add_assoc, Nat.reduceAdd]
  simp only [part12_split, gradG, dh_split, du]
  rfl

end Cert.FfnUp.Kernel

end
-- ==== Proof.FfnUpKernelW.lean ====
/-
  The kernel's fourth output array: the gradient of the convolution's taps.
-/
module

public import proofs.«01_k».proof.Proof.FfnUpBlocks
public import Idealize.ShloMosaic.Lib.Pipeline.ReadBack

@[expose] public section

set_option maxRecDepth 16384

noncomputable section

namespace Cert.FfnUp.Kernel

open Cert.Kernel3Ideal Cert.Kernel3Ideal.Gen Idealize.ShloMosaic Idealize.ShloMosaic.TcCoe Idealize.SL.Sem Cert.Lift Cert.FfnUp
open Idealize.ShloMosaic.Pipeline (Dat)

variable (m : (ℓ : Loc nD τ sig) → Buf (Elt Ideal) ℓ) (c : Dev nD)

/-- What a grid point adds to the fourth output. -/
def part13 (t : Fin cfg0.N) (j : S3x5632.Idx) : EReal :=
  ∑ y : Fin 256, gradW (X m c) (G m c) (W m c) (D m c) (2 - (j 0).val) (sq t y) (ps t y) (j 1)

/-- Where the last stores cover an index, the earlier ones do not show. -/
theorem canon_front {Val : EltTy → Type} [∀ e, Nonempty (Val e)] {S : Shape} {e : EltTy} (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_front L' L y ?_
      obtain ⟨q, hq, hyq⟩ := hy
      rcases List.mem_cons.mp hq with rfl | hq'
      · exact absurd hyq hm
      · exact ⟨q, hq', hyq⟩

/-- The first tap reads two rows on, the block's last eight rows apart. -/
theorem part13_0 (t : Fin cfg0.N) (f : Fin 5632) :
    part13 m c t (ix2 0 f)
      = ∑ y : Fin 248, dAt (D m c) (sq t ⟨y.val, by omega⟩) ((ps t ⟨y.val, by omega⟩).val + 2) f
          * pre (X m c) (G m c) (W m c) (sq t ⟨y.val, by omega⟩) (ps t ⟨y.val, by omega⟩) f
        + ∑ y : Fin 8, dAt (D m c) (sq t ⟨248 + y.val, by omega⟩) ((ps t ⟨248 + y.val, by omega⟩).val + 2) f
          * pre (X m c) (G m c) (W m c) (sq t ⟨248 + y.val, by omega⟩) (ps t ⟨248 + y.val, by omega⟩) f := by
  rw [part13, sum_split 248 8 rfl]
  rfl

/-- The second tap reads one row on. -/
theorem part13_1 (t : Fin cfg0.N) (f : Fin 5632) :
    part13 m c t (ix2 1 f)
      = ∑ y : Fin 248, dAt (D m c) (sq t ⟨y.val, by omega⟩) ((ps t ⟨y.val, by omega⟩).val + 1) f
          * pre (X m c) (G m c) (W m c) (sq t ⟨y.val, by omega⟩) (ps t ⟨y.val, by omega⟩) f
        + ∑ y : Fin 8, dAt (D m c) (sq t ⟨248 + y.val, by omega⟩) ((ps t ⟨248 + y.val, by omega⟩).val + 1) f
          * pre (X m c) (G m c) (W m c) (sq t ⟨248 + y.val, by omega⟩) (ps t ⟨248 + y.val, by omega⟩) f := by
  rw [part13, sum_split 248 8 rfl]
  rfl

/-- The third tap reads the row itself. -/
theorem part13_2 (t : Fin cfg0.N) (f : Fin 5632) :
    part13 m c t (ix2 2 f) = ∑ y : Fin 256, D m c (ix3 (sq t y) (ps t y) f) * pre (X m c) (G m c) (W m c) (sq t y) (ps t y) f :=
  Finset.sum_congr rfl fun y _ => congrArg (· * _) (dAt_zero (D m c) (sq t y) (ps t y) f)

/-- There are three taps. -/
theorem tap (r : Fin 3) : (r.val = 0 ∧ r = 0) ∨ (r.val = 1 ∧ r = 1) ∨ (r.val = 2 ∧ r = 2) := by
  revert r
  decide

set_option maxHeartbeats 4000000 in
theorem point13_A (t : Fin cfg0.N) (h : t.val % 16 = 0) (j : S3x5632.Idx) :
    (outsAt0 m c t.val t.isLt).2.2.2 j = 0 + part13 m c t j := by
  rw [outsAt0_A m c t h]
  idx_vars j
  frame_out
  refine Eq.trans (canon_front [_] [_, _, _, _, _, _, _, _, _, _, _, _] _ (View.cover_of_tiled_head _ _ _ (by rfl) _)) ?_
  canon_tiles x e
  all_goals
    simp (disch := first | rfl | decide) only [↓View.readCov_skip, ↓View.readCov_fill]
    idx_vars x
    have hb := Nat.lt_of_le_of_lt (Nat.le_of_eq e1.symm) j1.isLt
    obtain rfl : j1 = ⟨_, hb⟩ := Fin.ext e1
    open_payloads
    obtain rfl : x0 = 0 := Subsingleton.elim _ _
    rcases tap j0 with ⟨r, rfl⟩ | ⟨r, rfl⟩ | ⟨r, rfl⟩ <;> rw [r] at e0 <;> try (exfalso; revert e0; decide)
    pointwise [dg_at, dv_at, hg_at, hv_at, u_at]
    simp only [end_at, end_at', shift1, shift2, shift1_lo m c, shift1_hi, shift2_lo m c, shift2_hi, part13_0, part13_1, part13_2,
      ← Nat.add_assoc, Nat.reduceAdd]
  all_goals rfl

set_option maxHeartbeats 4000000 in
theorem point13_B (t : Fin cfg0.N) (h : ¬t.val % 16 = 0) (j : S3x5632.Idx) :
    (outsAt0 m c t.val t.isLt).2.2.2 j
      = (outsAt0 m c (t.val - 1) (Nat.lt_of_le_of_lt (Nat.sub_le _ _) t.isLt)).2.2.2 j + part13 m c t j := by
  rw [outsAt0_B m c t h]
  idx_vars j
  frame_out
  canon_tiles x e
  all_goals
    try simp (disch := first | rfl | decide) only [↓View.readCov_skip, ↓View.readCov_fill]
    idx_vars x
    have hb := Nat.lt_of_le_of_lt (Nat.le_of_eq e1.symm) j1.isLt
    obtain rfl : j1 = ⟨_, hb⟩ := Fin.ext e1
    open_payloads
    obtain rfl : x0 = 0 := Subsingleton.elim _ _
    rcases tap j0 with ⟨r, rfl⟩ | ⟨r, rfl⟩ | ⟨r, rfl⟩ <;> rw [r] at e0 <;> try (exfalso; revert e0; decide)
    pointwise [dg_at, dv_at, hg_at, hv_at, u_at]
    simp only [end_at, end_at', shift1, shift2, shift1_lo m c, shift1_hi, shift2_lo m c, shift2_hi, part13_0, part13_1, part13_2,
      ← Nat.add_assoc, Nat.reduceAdd]
  all_goals rfl

end Cert.FfnUp.Kernel

end
-- ==== Proof.FfnUpKernel.lean ====
/-
  The kernel's second, third and fourth output arrays, all blocks together.
-/
module

public import proofs.«01_k».proof.Proof.FfnUpKernelX
public import proofs.«01_k».proof.Proof.FfnUpKernelW

@[expose] public section

set_option maxRecDepth 16384

noncomputable section

namespace Cert.FfnUp.Kernel

open Cert.Kernel3Ideal Cert.Kernel3Ideal.Gen Idealize.ShloMosaic Idealize.ShloMosaic.TcCoe Idealize.SL.Sem Cert.Lift Cert.FfnUp
open Idealize.ShloMosaic.Pipeline (Dat)

variable (m : (ℓ : Loc nD τ sig) → Buf (Elt Ideal) ℓ) (c : Dev nD)

/-- The second output: the gradient of the activations. -/
theorem out11 : (dats m 0 c).arrAt 11 cfg0.N = spec11 m c := by
  refine Dat.arrAt_eq_of_covers (dats m 0 c) 11 _ (by decide +kernel) fun t hf y => ?_
  blk_simp
  rw [after0_11, point11]
  refine congrArg (spec11 m c) ?_
  blk_ext [idx t, rowOf]

/-- The gradient of the norm's weight, over all rows. -/
def spec12 (i : S1x1024.Idx) : EReal := ∑ b : Fin 2, ∑ s : Fin 2048, gradG (X m c) (W m c) (WC m c) (D m c) b s (i 1)

/-- The third output: the gradient of the norm's weight. -/
theorem out12 : (dats m 0 c).arrAt 12 cfg0.N = spec12 m c := by
  refine (dats m 0 c).arrAt_eq_of_after_last 12 t0_15 (by decide +kernel) _ fun j => ?_
  blk_simp
  rw [after0_12, Pipeline.eq_sum_fin_of_reset_step_apply_last (fun n h => (outsAt0 m c n h).2.2.1) 16 (fun _ => 0) (part12 m c)
    (point12_A m c) (point12_B m c) (le_of_eq N_0) t0_15 rfl j, zero_add]
  exact sum_blocks (N := cfg0.N) (T := 256) (by rw [N_eq]) (fun t y => (sq t y).isLt) (fun n => Nat.mod_lt n (by decide))
    (fun b s => gradG (X m c) (W m c) (WC m c) (D m c) b s (j 1))

/-- The gradient of the convolution's taps, over all rows. -/
def spec13 (i : S3x5632.Idx) : EReal := ∑ b : Fin 2, ∑ s : Fin 2048, gradW (X m c) (G m c) (W m c) (D m c) (2 - (i 0).val) b s (i 1)

/-- The fourth output: the gradient of the convolution's taps. -/
theorem out13 : (dats m 0 c).arrAt 13 cfg0.N = spec13 m c := by
  refine (dats m 0 c).arrAt_eq_of_after_last 13 t0_15 (by decide +kernel) _ fun j => ?_
  blk_simp
  rw [after0_13, Pipeline.eq_sum_fin_of_reset_step_apply_last (fun n h => (outsAt0 m c n h).2.2.2) 16 (fun _ => 0) (part13 m c)
    (point13_A m c) (point13_B m c) (le_of_eq N_0) t0_15 rfl j, zero_add]
  exact sum_blocks (N := cfg0.N) (T := 256) (by rw [N_eq]) (fun t y => (sq t y).isLt) (fun n => Nat.mod_lt n (by decide))
    (fun b s => gradW (X m c) (G m c) (W m c) (D m c) (2 - (j 0).val) b s (j 1))

end Cert.FfnUp.Kernel

end
-- ==== Proof.FfnUpReference.lean ====
/-
  What the reference's four results hold at an index, by the gradients of `FfnUpSpec`.
-/
module

public import proofs.«01_k».proof.Proof.Gen.Reference3Ideal.Run
public import proofs.«01_k».proof.Proof.Gen.Reference3Ideal.Read
public import proofs.«01_k».proof.Proof.FfnUpSpec

@[expose] public section

set_option maxRecDepth 16384

noncomputable section

namespace Cert.FfnUp.Reference

open Cert.Reference3Ideal Cert.Reference3Ideal.Gen Cert.Reference3Ideal.Value Cert.Reference3Ideal.Read Idealize.ShloMosaic Cert.Lift Cert.FfnUp

variable (x dx2 : (⟨S2x2048x1024, .f32⟩ : BufTy).Contents (Elt Ideal)) (g : (⟨S1x1024, .f32⟩ : BufTy).Contents (Elt Ideal))
  (w : (⟨S1x1024x5632, .f32⟩ : BufTy).Contents (Elt Ideal)) (wc : (⟨S1x3x5632, .f32⟩ : BufTy).Contents (Elt Ideal))
  (d : (⟨S2x2048x5632, .f32⟩ : BufTy).Contents (Elt Ideal))

theorem ms_at (b : Fin 2) (s : Fin 2048) (z : Fin 1) : val_main_v7 (F := Ideal) x (ix3 b s z) = meanSq (row x b s) := by
  pointwise [val_main_v7, val_main_v6, val_main_v5, val_main_v4, val_main_v3, val_main_v2, val_main_v1, val_main_cst,
    val_main_cst_0, val_main_cst_1]
  rfl

theorem r_at (b : Fin 2) (s : Fin 2048) (z : Fin 1) : val_main_v8 (F := Ideal) x (ix3 b s z) = invRms (row x b s) := by
  pointwise [val_main_v8, ms_at]
  rfl

theorem pre_at (b : Fin 2) (s : Fin 2048) (f : Fin 5632) : val_main_v18 (F := Ideal) x g w (ix3 b s f) = pre x g w b s f := by
  pointwise [val_main_v18, val_main_v17, val_main_v16, val_main_v15, val_main_v14, val_main_v13, val_main_v12, val_main_v0, r_at]
  rfl

theorem du_at (b : Fin 2) (s : Fin 2048) (f : Fin 5632) : val_main_v81 (F := Ideal) wc d (ix3 b s f) = du wc d b s f := by
  pointwise [val_main_v81, val_main_v76, val_main_v75, val_main_v70, val_main_v69, val_main_v65, val_main_v64, val_main_v59,
    val_main_v58, val_main_v55, val_main_v50, val_main_v49, val_main_v48, val_main_v47, val_main_v40, val_main_v38, val_main_v37,
    val_main_v33, val_main_v31, val_main_v30, val_main_v27, val_main_v25, val_main_v24, val_main_v19, val_main_cst_7,
    val_main_cst_11, val_main_cst_15, ofBits_zero]
  rw [du, dAt, dAt]
  congr 1
  · congr 1
    by_cases h : s.val + 1 < 2048
    · rw [dif_pos (by omega), dif_pos h]
      simp only [show 2 + s.val - 1 = s.val + 1 by omega]
    · rw [dif_neg (by omega), dif_neg h, mul_zero]
  · by_cases h : s.val + 2 < 2048
    · rw [dif_pos (by omega), dif_pos h]
      simp only [Nat.add_comm]
    · rw [dif_neg (by omega), dif_neg h, mul_zero]

theorem dh_at (b : Fin 2) (s : Fin 2048) (j : Fin 1024) : val_main_v83 (F := Ideal) w wc d (ix3 b s j) = dh w wc d b s j := by
  pointwise [val_main_v83, val_main_v17, du_at]
  rfl

theorem dn_at (b : Fin 2) (s : Fin 2048) (j : Fin 1024) : val_main_v88 (F := Ideal) g w wc d (ix3 b s j) = dn g w wc d b s j := by
  pointwise [val_main_v88, val_main_v87, val_main_v0, val_main_v14, dh_at]
  rfl

theorem s_at (b : Fin 2) (s : Fin 2048) (j : Fin 1024) :
    val_main_v99 (F := Ideal) x g w wc d (ix3 b s j) = meanSqGrad (row x b s) (dn g w wc d b s) := by
  pointwise [val_main_v99, val_main_v98, val_main_v97, val_main_v96, val_main_v95, val_main_v92, val_main_v91, val_main_v90,
    val_main_v11, val_main_v10, val_main_v9, val_main_cst_2, val_main_cst_19, val_main_cst_20, val_main_cst_21, dn_at, r_at, ms_at,
    ofBits_zero, Fin.sum_univ_one]
  rfl

/-- The gradient of the convolution's input that the reference returns. -/
theorem du_res_at (i : Fin 4096) (f : Fin 5632) :
    val_main_v106 (F := Ideal) wc d (ix2 i f) = du wc d ⟨i.val / 2048, by omega⟩ ⟨i.val % 2048, by omega⟩ f := by
  pointwise [val_main_v106, val_main_v105, du_at]

/-- The gradient of the activations that the reference returns, a row of the result being a position of a sequence. -/
theorem gradX_at (hx : IsReal x) (hg : IsReal g) (hw : IsReal w) (hc : IsReal wc) (hd : IsReal d) (i : Fin 4096) (j : Fin 1024) :
    val_main_v108 (F := Ideal) x g w wc dx2 d (ix2 i j)
      = gradX x dx2 g w wc d ⟨i.val / 2048, by omega⟩ ⟨i.val % 2048, by omega⟩ j := by
  pointwise [val_main_v108, val_main_v107, val_main_v103, val_main_v102, val_main_v101, val_main_v100, val_main_v94, val_main_v93,
    s_at, r_at, dn_at]
  rw [gradX, normGrad_eq _ _ (isReal_row x hx _ _) (isReal_dn g w wc d hg hw hc hd _ _)]
  rfl

/-- The gradient of the norm's weight that the reference returns. -/
theorem gradG_at (z : Fin 1) (j : Fin 1024) :
    val_main_v104 (F := Ideal) x w wc d (ix2 z j) = ∑ b : Fin 2, ∑ s : Fin 2048, gradG x w wc d b s j := by
  pointwise [val_main_v104, val_main_v89, val_main_v86, val_main_v85, val_main_v84, val_main_v13, val_main_v12, val_main_cst_17,
    val_main_cst_18, sum_drop_lead, dh_at, r_at, ofBits_zero, Fin.sum_univ_one]
  exact Finset.sum_congr rfl fun b _ => Finset.sum_congr rfl fun s _ => mul_comm _ _

/-- The gradient of the convolution's taps that the reference returns. -/
theorem gradW_at (r : Fin 3) (f : Fin 5632) :
    val_main_v109 (F := Ideal) x g w d (ix2 r f) = ∑ b : Fin 2, ∑ s : Fin 2048, gradW x g w d (2 - r.val) b s f := by
  have e : ∀ (n : Nat) (hn : n ≤ 2048) (b : Fin 2), ∑ s : Fin 2048, gradW x g w d n b s f
      = ∑ s : Fin 2048, d (ix3 b s f) * (if h : s.val < n then 0 else pre x g w b ⟨s.val - n, by omega⟩ f) := fun n hn b =>
    sum_shift n hn (fun s => d (ix3 b s f)) (fun s => pre x g w b s f)
  rw [Finset.sum_congr rfl fun b _ => e (2 - r.val) (by omega) b]
  obtain ⟨r, hr⟩ := r
  interval_cases r
  on_goal 2 => generalize hR : (∑ b : Fin 2, _ : EReal) = R
  all_goals
    pointwise [val_main_v109, val_main_v82, val_main_v79, val_main_v78, val_main_v77, val_main_v74, val_main_v73, val_main_v72,
      val_main_v71, val_main_v68, val_main_v67, val_main_v66, val_main_v63, val_main_v62, val_main_v61, val_main_v60, val_main_v57,
      val_main_v56, val_main_v54, val_main_v53, val_main_v52, val_main_v51, val_main_v48, val_main_v47, val_main_v39, val_main_v32,
      val_main_v26, val_main_v22, val_main_v21, val_main_cst_3, val_main_cst_5, val_main_cst_6, val_main_cst_8, val_main_cst_9,
      val_main_cst_10, val_main_cst_12, val_main_cst_13, val_main_cst_14, val_main_cst_16, sum_drop_lead, pre_at, ofBits_zero,
      Fin.sum_univ_one]
  · rw [← hR]
    refine Finset.sum_congr rfl fun b _ => Finset.sum_congr rfl fun s _ => congrArg (d (ix3 b s f) * ·) ?_
    change _ = if h : s.val < 1 then (0 : EReal) else pre x g w b ⟨s.val - 1, _⟩ f
    by_cases h : s.val < 1
    · rw [dif_pos (by omega), dif_pos h]
    · rw [dif_neg (by omega), dif_neg h]
      exact congrArg (pre x g w b · f) (Fin.ext (show 1 + s.val - 2 = s.val - 1 by omega))
  · exact Finset.sum_congr rfl fun b _ => Finset.sum_congr rfl fun s _ => by rw [dif_neg (Nat.not_lt_zero _)]

end Cert.FfnUp.Reference

end
-- ==== Proof.FfnUpClaim.lean ====
/-
  The up-projection's norm and convolution: on finite arguments the kernel's gradients are the reference's.
-/
module

public import proofs.«01_k».proof.Defs
public import proofs.«01_k».proof.Proof.Gen.Pre_finite_args3
public import Idealize.ShloMosaic.Lib.Quiescent
public import proofs.«01_k».proof.Proof.FfnUpKernelDu
public import proofs.«01_k».proof.Proof.FfnUpKernel
public import proofs.«01_k».proof.Proof.FfnUpReference

@[expose] public section

set_option maxRecDepth 16384

noncomputable section

namespace Cert.FfnUp

open Idealize.ShloMosaic Idealize.ShloMosaic.TcCoe Idealize.SL.Sem Cert.Lift Cert.Pre_finite_args3

/-- The precondition says that the activations, the norm's weight, both weights and the second cotangent are real. -/
theorem isReal_args (x : S2x2048x1024.Idx → EReal) (g : S1x1024.Idx → EReal) (w : S1x1024x5632.Idx → EReal) (wc : S1x3x5632.Idx → EReal)
    (bc : S1x5632.Idx → EReal) (dx2 : S2x2048x1024.Idx → EReal) (d : S2x2048x5632.Idx → EReal)
    (h : letI := Cert.Pre_finite_args3.Gen.facts; fn (F := Ideal) x g w wc bc dx2 d = fun _ => 1#1) :
    IsReal x ∧ IsReal g ∧ IsReal w ∧ IsReal wc ∧ IsReal d := by
  have h := congrFun h ix0
  simp only [fn, fn_part1] at h
  obtain ⟨h, hd⟩ := IntOp.andi_eq_one.1 h
  obtain ⟨h, hc⟩ := IntOp.andi_eq_one.1 h
  obtain ⟨h, hw⟩ := IntOp.andi_eq_one.1 h
  obtain ⟨hx, hg⟩ := IntOp.andi_eq_one.1 h
  exact ⟨isReal_of_all x _ (fun _ => ofBits_top) _ _ _ _ hx, isReal_of_all g _ (fun _ => ofBits_top) _ _ _ _ hg,
    isReal_of_all w _ (fun _ => ofBits_top) _ _ _ _ hw, isReal_of_all wc _ (fun _ => ofBits_top) _ _ _ _ hc,
    isReal_of_all d _ (fun _ => ofBits_top) _ _ _ _ hd⟩

/-- The reference runs, its arguments end unchanged and no semaphore counts. -/
theorem frame_reference : Cert.quiescent_Reference3Ideal (hReference3Ideal := Cert.Reference3Ideal.Gen.facts) := fun m ρ _ =>
  (θ_run _ _ _).mono (fun r h => ⟨fun c => (h c).2.2.2.2, sem_eq_zero_of_no_sems (by decide) r.2⟩)
    (Cert.Reference3Ideal.Value.run (F := Ideal) m ρ)

/-- On finite arguments the reference's results are the kernel's. -/
theorem algebraic : Cert.algebraic_Kernel3Ideal_Reference3Ideal_pre_finite_args3 (hKernel3Ideal := Cert.Kernel3Ideal.Gen.facts)
    (hReference3Ideal := Cert.Reference3Ideal.Gen.facts) (hPre_finite_args3 := Cert.Pre_finite_args3.Gen.facts) := by
  intro m g m' g' hpre hagree
  refine ⟨fun c => Kernel.spec10 m c, fun c => Kernel.spec11 m c, fun c => Kernel.spec12 m c, fun c => Kernel.spec13 m c,
    (θ_run _ _ _).mono (fun r h c => ⟨(h c).1.trans (Kernel.out10 m c), (h c).2.1.trans (Kernel.out11 m c),
      (h c).2.2.1.trans (Kernel.out12 m c), (h c).2.2.2.1.trans (Kernel.out13 m c), (h c).2.2.2.2⟩)
      (Cert.Kernel3Ideal.Value.run_blocks m g),
    (θ_run _ _ _).mono (fun r h c => ?_) (Cert.Reference3Ideal.Value.run m' g')⟩
  obtain ⟨e0, e1, e2, e3, e4, e5, e6⟩ := hagree c
  obtain ⟨hx, hg, hw, hc, hd⟩ := isReal_args _ _ _ _ _ _ _ (hpre c)
  refine ⟨(h c).1.trans ((Cert.Reference3Ideal.Read.val_main_v106_eq _ _).trans ?_), (h c).2.1.trans ?_,
    (h c).2.2.1.trans ((Cert.Reference3Ideal.Read.val_main_v104_eq _ _ _ _).trans ?_), (h c).2.2.2.1.trans ?_, (h c).2.2.2.2⟩
  · rw [e3, e6]
    funext i
    idx_vars i
    exact Reference.du_res_at _ _ i0 i1
  · rw [Cert.Reference3Ideal.Read.val_main_v108_eq, e0, e1, e2, e3, e5, e6]
    funext i
    idx_vars i
    exact Reference.gradX_at _ _ _ _ _ _ hx hg hw hc hd i0 i1
  · rw [e0, e2, e3, e6]
    funext i
    idx_vars i
    exact Reference.gradG_at _ _ _ _ i0 i1
  · rw [Cert.Reference3Ideal.Read.val_main_v109_eq, e0, e1, e2, e6]
    funext i
    idx_vars i
    exact Reference.gradW_at _ _ _ _ i0 i1

end Cert.FfnUp

end
-- ==== Proof.FfnLossBlocks.lean ====
/-
  The loss's kernel: the blocks that a grid point takes.
-/
module

public import proofs.«01_k».proof.Proof.Gen.Kernel4Ideal.Value
public import Idealize.ShloMosaic.Lib.StableHlo.RunRead
public import proofs.«01_k».proof.Proof.FfnActSpec

@[expose] public section

set_option maxRecDepth 16384

noncomputable section

namespace Cert.FfnLoss.Kernel

open Cert.Kernel4Ideal Cert.Kernel4Ideal.Gen Idealize.ShloMosaic Idealize.ShloMosaic.TcCoe Idealize.SL.Sem Cert.Lift Cert.FfnAct
open Cert.FfnUp (row pre)
open Idealize.ShloMosaic.Pipeline (Dat)

variable (m : (ℓ : Loc nD τ sig) → Buf (Elt Ideal) ℓ) (c : Dev nD)

/-- The activations, the norm's weight, the projections' weights, the convolution's, the last norm's weight and the target, as the program gets them. -/
abbrev X : S2x2048x1024.Idx → EReal := m ((c.tc : Thread nD τ).loc main_arg0)
abbrev G : S1x1024.Idx → EReal := m ((c.tc : Thread nD τ).loc main_arg1)
abbrev W : S1x1024x5632.Idx → EReal := m ((c.tc : Thread nD τ).loc main_arg2)
abbrev WC : S1x3x5632.Idx → EReal := m ((c.tc : Thread nD τ).loc main_arg3)
abbrev BC : S1x5632.Idx → EReal := m ((c.tc : Thread nD τ).loc main_arg4)
abbrev WD : S1x2816x1024.Idx → EReal := m ((c.tc : Thread nD τ).loc main_arg5)
abbrev GF : S1024.Idx → EReal := m ((c.tc : Thread nD τ).loc main_arg6)
abbrev TG : S2x2048x1024.Idx → EReal := m ((c.tc : Thread nD τ).loc main_arg7)

/-- The block that each window takes at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] :=
  (by decide +kernel : ∀ t : Fin grid0.N, _)

theorem N_eq : cfg0.N = 8 := N_0

/-- The sequence and the position of row `y` of grid point `t`'s block. -/
def sq (t : Fin cfg0.N) (y : Fin 512) : Fin 2 := ⟨(t.val * 512 + y.val) / 2048, by have := t.isLt; have := N_eq; omega⟩
def ps (t : Fin cfg0.N) (y : Fin 512) : Fin 2048 := ⟨(t.val * 512 + y.val) % 2048, by omega⟩

/-- The row of the result that row `y` of grid point `t`'s block is. -/
def rowOf (t : Fin cfg0.N) (y : Fin 512) : Fin 4096 := ⟨t.val * 512 + y.val, by have := t.isLt; have := N_eq; omega⟩

theorem gate_at (t : Fin cfg0.N) (y : Fin 512) (k : Fin 2816) : iblk m c 0 t (ix2 y k) = up (X m c) (G m c) (W m c) (WC m c) (BC m c) (sq t y) (ps t y) ⟨k.val, by omega⟩ := by
  refine (congrArg (V m c main_v45) (?_ : _ = ix2 (rowOf t y) k)).trans ?_
  · blk_ext [idx t, rowOf]
  unfold V
  after_reads_simp
  pointwise
  after_reads_simp
  pointwise [ofBits_zero]
  rfl

theorem val_at (t : Fin cfg0.N) (y : Fin 512) (k : Fin 2816) : iblk m c 1 t (ix2 y k) = up (X m c) (G m c) (W m c) (WC m c) (BC m c) (sq t y) (ps t y) ⟨2816 + k.val, by omega⟩ := by
  refine (congrArg (V m c main_v46) (?_ : _ = ix2 (rowOf t y) k)).trans ?_
  · blk_ext [idx t, rowOf]
  unfold V
  after_reads_simp
  pointwise
  after_reads_simp
  pointwise [ofBits_zero]
  rfl

theorem x_at (t : Fin cfg0.N) (y : Fin 512) (k : Fin 1024) : iblk m c 2 t (ix2 y k) = X m c (ix3 (sq t y) (ps t y) k) := by
  refine (congrArg (V m c main_v47) (?_ : _ = ix2 (rowOf t y) k)).trans ?_
  · blk_ext [idx t, rowOf]
  unfold V
  after_reads_simp
  pointwise
  rfl

theorem tg_at (t : Fin cfg0.N) (y : Fin 512) (k : Fin 1024) : iblk m c 3 t (ix2 y k) = TG m c (ix3 (sq t y) (ps t y) k) := by
  refine (congrArg (V m c main_v48) (?_ : _ = ix2 (rowOf t y) k)).trans ?_
  · blk_ext [idx t, rowOf]
  unfold V
  after_reads_simp
  pointwise
  rfl

theorem wd_at (t : Fin cfg0.N) (k : Fin 2816) (j : Fin 1024) : iblk m c 4 t (ix2 k j) = WD m c (ix3 0 k j) := by
  refine (congrArg (V m c main_v50) (?_ : _ = ix2 k j)).trans ?_
  · blk_ext [idx t, rowOf]
  unfold V
  after_reads_simp
  pointwise

theorem gf_at (t : Fin cfg0.N) (j : Fin 1024) : iblk m c 5 t (ix2 0 j) = GF m c (ix1 j) := by
  refine (congrArg (V m c main_v51) (?_ : _ = ix2 0 j)).trans ?_
  · blk_ext [idx t, rowOf]
  unfold V
  after_reads_simp
  pointwise

end Cert.FfnLoss.Kernel

end
-- ==== Proof.FfnLossKernel.lean ====
/-
  The loss's kernel: what its second and third output arrays end with.
-/
module

public import proofs.«01_k».proof.Proof.FfnLossBlocks

@[expose] public section

set_option maxRecDepth 16384

noncomputable section

namespace Cert.FfnLoss.Kernel

open Cert.Kernel4Ideal Cert.Kernel4Ideal.Gen Idealize.ShloMosaic Idealize.ShloMosaic.TcCoe Idealize.SL.Sem Cert.Lift Cert.FfnAct
open Cert.FfnUp (row pre)
open Idealize.ShloMosaic.Pipeline (Dat)

variable (m : (ℓ : Loc nD τ sig) → Buf (Elt Ideal) ℓ) (c : Dev nD)

/-- The loss of a block's rows. -/
def part7 (t : Fin cfg0.N) (j : S1x1.Idx) : EReal := Ideal.ofBits .f32 0x3F000000#32 * ∑ y : Fin 512, rowLoss (X m c) (G m c) (W m c) (WC m c) (BC m c) (WD m c) (GF m c) (TG m c) (sq t y) (ps t y)

/-- What a grid point adds to the third output. -/
def part8 (t : Fin cfg0.N) (j : S1x1024.Idx) : EReal := ∑ y : Fin 512, gradF (X m c) (G m c) (W m c) (WC m c) (BC m c) (WD m c) (GF m c) (TG m c) (sq t y) (ps t y) (j 1)

/-- A block's sum over its rows, 128 at a time. -/
theorem part7_split (t : Fin cfg0.N) (z z' : Fin 1) :
    part7 m c t (ix2 z z') = Ideal.ofBits .f32 0x3F000000#32 * (((∑ y : Fin 128, rowLoss (X m c) (G m c) (W m c) (WC m c) (BC m c) (WD m c) (GF m c) (TG m c) (sq t ⟨y.val, by omega⟩) (ps t ⟨y.val, by omega⟩)
      + ∑ y : Fin 128, rowLoss (X m c) (G m c) (W m c) (WC m c) (BC m c) (WD m c) (GF m c) (TG m c) (sq t ⟨128 + y.val, by omega⟩) (ps t ⟨128 + y.val, by omega⟩))
      + ∑ y : Fin 128, rowLoss (X m c) (G m c) (W m c) (WC m c) (BC m c) (WD m c) (GF m c) (TG m c) (sq t ⟨256 + y.val, by omega⟩) (ps t ⟨256 + y.val, by omega⟩))
      + ∑ y : Fin 128, rowLoss (X m c) (G m c) (W m c) (WC m c) (BC m c) (WD m c) (GF m c) (TG m c) (sq t ⟨384 + y.val, by omega⟩) (ps t ⟨384 + y.val, by omega⟩)) := by
  rw [part7, sum_split 384 128 rfl, sum_split 256 128 rfl, sum_split 128 128 rfl]

set_option maxHeartbeats 4000000 in
theorem point7_A (t : Fin cfg0.N) (h : t.val % 8 = 0) (j : S1x1.Idx) :
    (outsAt0 m c t.val t.isLt).2.1 j = 0 + part7 m c t j := by
  rw [outsAt0_A m c t h]
  frame_out
  open_payloads
  idx_vars j
  pointwise [gate_at, val_at, x_at, tg_at, wd_at, gf_at]
  simp only [zero_sub, zero_add, ← Nat.add_assoc, Nat.reduceAdd]
  simp only [part7_split, rowLoss, dy, diff, invRms, meanSq, x2_split, act, silu, Ideal.logistic]
  rfl

set_option maxHeartbeats 4000000 in
theorem point7_B (t : Fin cfg0.N) (h : ¬t.val % 8 = 0) (j : S1x1.Idx) :
    (outsAt0 m c t.val t.isLt).2.1 j = (outsAt0 m c (t.val - 1) (Nat.lt_of_le_of_lt (Nat.sub_le _ _) t.isLt)).2.1 j + part7 m c t j := by
  rw [outsAt0_B m c t h]
  frame_out
  open_payloads
  idx_vars j
  pointwise [gate_at, val_at, x_at, tg_at, wd_at, gf_at]
  simp only [zero_sub, zero_add, ← Nat.add_assoc, Nat.reduceAdd]
  simp only [part7_split, rowLoss, dy, diff, invRms, meanSq, x2_split, act, silu, Ideal.logistic]
  rfl

/-- A block's sum over its rows, 128 at a time. -/
theorem part8_split (t : Fin cfg0.N) (z : Fin 1) (j : Fin 1024) :
    part8 m c t (ix2 z j) = (((∑ y : Fin 128, gradF (X m c) (G m c) (W m c) (WC m c) (BC m c) (WD m c) (GF m c) (TG m c) (sq t ⟨y.val, by omega⟩) (ps t ⟨y.val, by omega⟩) j
      + ∑ y : Fin 128, gradF (X m c) (G m c) (W m c) (WC m c) (BC m c) (WD m c) (GF m c) (TG m c) (sq t ⟨128 + y.val, by omega⟩) (ps t ⟨128 + y.val, by omega⟩) j)
      + ∑ y : Fin 128, gradF (X m c) (G m c) (W m c) (WC m c) (BC m c) (WD m c) (GF m c) (TG m c) (sq t ⟨256 + y.val, by omega⟩) (ps t ⟨256 + y.val, by omega⟩) j)
      + ∑ y : Fin 128, gradF (X m c) (G m c) (W m c) (WC m c) (BC m c) (WD m c) (GF m c) (TG m c) (sq t ⟨384 + y.val, by omega⟩) (ps t ⟨384 + y.val, by omega⟩) j) := by
  rw [part8, sum_split 384 128 rfl, sum_split 256 128 rfl, sum_split 128 128 rfl]
  rfl

set_option maxHeartbeats 4000000 in
theorem point8_A (t : Fin cfg0.N) (h : t.val % 8 = 0) (j : S1x1024.Idx) :
    (outsAt0 m c t.val t.isLt).2.2 j = 0 + part8 m c t j := by
  rw [outsAt0_A m c t h]
  frame_out
  open_payloads
  idx_vars j
  pointwise [gate_at, val_at, x_at, tg_at, wd_at, gf_at]
  simp only [zero_sub, zero_add, ← Nat.add_assoc, Nat.reduceAdd]
  simp only [part8_split, gradF, dy, diff, invRms, meanSq, x2_split, act, silu, Ideal.logistic]
  rfl

set_option maxHeartbeats 4000000 in
theorem point8_B (t : Fin cfg0.N) (h : ¬t.val % 8 = 0) (j : S1x1024.Idx) :
    (outsAt0 m c t.val t.isLt).2.2 j = (outsAt0 m c (t.val - 1) (Nat.lt_of_le_of_lt (Nat.sub_le _ _) t.isLt)).2.2 j + part8 m c t j := by
  rw [outsAt0_B m c t h]
  frame_out
  open_payloads
  idx_vars j
  pointwise [gate_at, val_at, x_at, tg_at, wd_at, gf_at]
  simp only [zero_sub, zero_add, ← Nat.add_assoc, Nat.reduceAdd]
  simp only [part8_split, gradF, dy, diff, invRms, meanSq, x2_split, act, silu, Ideal.logistic]
  rfl

/-- The loss, over all rows. -/
def spec7 (i : S1x1.Idx) : EReal := ∑ b : Fin 2, ∑ s : Fin 2048, Ideal.ofBits .f32 0x3F000000#32 * rowLoss (X m c) (G m c) (W m c) (WC m c) (BC m c) (WD m c) (GF m c) (TG m c) b s

/-- The second output: the loss. -/
theorem out7 : (dats m 0 c).arrAt 7 cfg0.N = spec7 m c := by
  refine (dats m 0 c).arrAt_eq_of_after_last 7 t0_7 (by decide +kernel) _ fun j => ?_
  blk_simp
  rw [after0_7, Pipeline.eq_sum_fin_of_reset_step_apply_last (fun n h => (outsAt0 m c n h).2.1) 8 (fun _ => 0) (part7 m c)
    (point7_A m c) (point7_B m c) (le_of_eq N_0) t0_7 rfl j, zero_add]
  simp only [part7, ofBits_half, mul_sum_of_nonneg (1 / 2) (by norm_num)]
  refine (sum_blocks (N := cfg0.N) (T := 512) (by rw [N_eq]) (fun t y => (sq t y).isLt) (fun n => Nat.mod_lt n (by decide))
    (fun b s => ((1 / 2 : ℝ) : EReal) * rowLoss (X m c) (G m c) (W m c) (WC m c) (BC m c) (WD m c) (GF m c) (TG m c) b s)).trans ?_
  simp only [spec7, ofBits_half]

/-- The gradient of the last norm's weight, over all rows. -/
def spec8 (i : S1x1024.Idx) : EReal := ∑ b : Fin 2, ∑ s : Fin 2048, gradF (X m c) (G m c) (W m c) (WC m c) (BC m c) (WD m c) (GF m c) (TG m c) b s (i 1)

/-- The third output: the gradient of the last norm's weight. -/
theorem out8 : (dats m 0 c).arrAt 8 cfg0.N = spec8 m c := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0) (part8 m c)
    (point8_A m c) (point8_B m c) (le_of_eq N_0) t0_7 rfl j, zero_add]
  exact sum_blocks (N := cfg0.N) (T := 512) (by rw [N_eq]) (fun t y => (sq t y).isLt) (fun n => Nat.mod_lt n (by decide))
    (fun b s => gradF (X m c) (G m c) (W m c) (WC m c) (BC m c) (WD m c) (GF m c) (TG m c) b s (j 1))

end Cert.FfnLoss.Kernel

end
-- ==== Proof.FfnLossKernelX.lean ====
/-
  The loss's kernel: what its first output array ends with.
-/
module

public import proofs.«01_k».proof.Proof.FfnLossBlocks

@[expose] public section

set_option maxRecDepth 16384

noncomputable section

namespace Cert.FfnLoss.Kernel

open Cert.Kernel4Ideal Cert.Kernel4Ideal.Gen Idealize.ShloMosaic Idealize.ShloMosaic.TcCoe Idealize.SL.Sem Cert.Lift Cert.FfnAct
open Cert.FfnUp (row pre)
open Idealize.ShloMosaic.Pipeline (Dat)

variable (m : (ℓ : Loc nD τ sig) → Buf (Elt Ideal) ℓ) (c : Dev nD)

/-- The gradient of the last norm's rows, by the row of the result. -/
def spec6 (i : S4096x1024.Idx) : EReal :=
  gradX2 (X m c) (G m c) (W m c) (WC m c) (BC m c) (WD m c) (GF m c) (TG m c)
    ⟨(i 0).val / 2048, Nat.div_lt_of_lt_mul (show (i 0).val < 2048 * 2 from (i 0).isLt)⟩ ⟨(i 0).val % 2048, Nat.mod_lt _ (by decide)⟩ (i 1)

set_option maxHeartbeats 16000000 in
theorem point6_A (t : Fin cfg0.N) (h : t.val % 8 = 0) (y : S512x1024.Idx) :
    (outsAt0 m c t.val t.isLt).1 y = spec6 m c (ix2 (rowOf t (y 0)) (y 1)) := by
  idx_vars y
  show _ = gradX2 (X m c) (G m c) (W m c) (WC m c) (BC m c) (WD m c) (GF m c) (TG m c) (sq t y0) (ps t y0) y1
  rw [outsAt0_A m c t h]
  frame_out
  canon_tiles x e
  all_goals
    idx_vars x
    obtain rfl : y1 = x1 := Fin.ext e1
    have hb := Nat.lt_of_le_of_lt (Nat.le_of_eq e0.symm) y0.isLt
    obtain rfl : y0 = ⟨_, hb⟩ := Fin.ext e0
    open_payloads
    pointwise [gate_at, val_at, x_at, tg_at, wd_at, gf_at]
    simp only [zero_sub, zero_add, ← Nat.add_assoc, Nat.reduceAdd]
    simp only [gradX2, normGrad, dn2, dy, diff, invRms, meanSq, x2_split, act, silu, Ideal.logistic]
    rfl

set_option maxHeartbeats 16000000 in
theorem point6_B (t : Fin cfg0.N) (h : ¬t.val % 8 = 0) (y : S512x1024.Idx) :
    (outsAt0 m c t.val t.isLt).1 y = spec6 m c (ix2 (rowOf t (y 0)) (y 1)) := by
  idx_vars y
  show _ = gradX2 (X m c) (G m c) (W m c) (WC m c) (BC m c) (WD m c) (GF m c) (TG m c) (sq t y0) (ps t y0) y1
  rw [outsAt0_B m c t h]
  frame_out
  canon_tiles x e
  all_goals
    idx_vars x
    obtain rfl : y1 = x1 := Fin.ext e1
    have hb := Nat.lt_of_le_of_lt (Nat.le_of_eq e0.symm) y0.isLt
    obtain rfl : y0 = ⟨_, hb⟩ := Fin.ext e0
    open_payloads
    pointwise [gate_at, val_at, x_at, tg_at, wd_at, gf_at]
    simp only [zero_sub, zero_add, ← Nat.add_assoc, Nat.reduceAdd]
    simp only [gradX2, normGrad, dn2, dy, diff, invRms, meanSq, x2_split, act, silu, Ideal.logistic]
    rfl

/-- What the body leaves in the first output's block at a grid point. -/
theorem point6 (t : Fin cfg0.N) (y : S512x1024.Idx) :
    (outsAt0 m c t.val t.isLt).1 y = spec6 m c (ix2 (rowOf t (y 0)) (y 1)) := by
  by_cases h : t.val % 8 = 0
  · exact point6_A m c t h y
  · exact point6_B m c t h y

/-- The first output: the gradient of the last norm's rows. -/
theorem out6 : (dats m 0 c).arrAt 6 cfg0.N = spec6 m c := by
  refine Dat.arrAt_eq_of_covers (dats m 0 c) 6 _ (by decide +kernel) fun t hf y => ?_
  blk_simp
  rw [after0_6, point6]
  refine congrArg (spec6 m c) ?_
  blk_ext [idx t, rowOf]

end Cert.FfnLoss.Kernel

end
-- ==== Proof.FfnLossReference.lean ====
/-
  The loss's reference, row by row.
-/
module

public import proofs.«01_k».proof.Proof.Gen.Reference4Ideal.Run
public import proofs.«01_k».proof.Proof.Gen.Reference4Ideal.Read
public import proofs.«01_k».proof.Proof.FfnActSpec

@[expose] public section

set_option maxRecDepth 16384

noncomputable section

namespace Cert.FfnLoss.Reference

open Cert.Reference4Ideal Cert.Reference4Ideal.Gen Cert.Reference4Ideal.Value Cert.Reference4Ideal.Read Idealize.ShloMosaic Cert.Lift
open Cert.FfnAct
open Cert.FfnUp (row pre)

variable (x tg : (⟨S2x2048x1024, .f32⟩ : BufTy).Contents (Elt Ideal)) (g : (⟨S1x1024, .f32⟩ : BufTy).Contents (Elt Ideal))
  (w : (⟨S1x1024x5632, .f32⟩ : BufTy).Contents (Elt Ideal)) (wc : (⟨S1x3x5632, .f32⟩ : BufTy).Contents (Elt Ideal))
  (bc : (⟨S1x5632, .f32⟩ : BufTy).Contents (Elt Ideal)) (wd : (⟨S1x2816x1024, .f32⟩ : BufTy).Contents (Elt Ideal))
  (gf : (⟨S1024, .f32⟩ : BufTy).Contents (Elt Ideal))

theorem r_at (b : Fin 2) (s : Fin 2048) (z : Fin 1) : val_main_v8 (F := Ideal) x (ix3 b s z) = invRms (row x b s) := by
  pointwise [val_main_v8, val_main_v7, val_main_v6, val_main_v5, val_main_v4, val_main_v3, val_main_v2, val_main_v1, val_main_cst,
    val_main_cst_0, val_main_cst_1, ofBits_zero]
  rfl

theorem pre_at (b : Fin 2) (s : Fin 2048) (f : Fin 5632) : val_main_v15 (F := Ideal) x g w (ix3 b s f) = pre x g w b s f := by
  pointwise [val_main_v15, val_main_v14, val_main_v13, val_main_v12, val_main_v11, val_main_v10, val_main_v9, val_main_v0, r_at]
  rfl

theorem up_at (b : Fin 2) (s : Fin 2048) (f : Fin 5632) : val_main_v42 (F := Ideal) x g w wc bc (ix3 b s f) = up x g w wc bc b s f := by
  pointwise [val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_cst_2, pre_at, ofBits_zero]
  rfl

theorem act_at (b : Fin 2) (s : Fin 2048) (f : Fin 2816) : val_main_v46 (F := Ideal) x g w wc bc (ix3 b s f) = act x g w wc bc b s f := by
  pointwise [val_main_v46, val_main_v45, val_main_v44, val_main_v43, val_main_call0_v5, val_main_call0_v4, val_main_call0_v3,
    val_main_call0_v2, val_main_call0_v1,
    val_main_call0_v0, val_main_call0_cst, val_main_call0_cst_0, up_at]
  rfl

theorem x2_at (b : Fin 2) (s : Fin 2048) (j : Fin 1024) :
    val_main_v49 (F := Ideal) x g w wc bc wd (ix3 b s j) = x2 x g w wc bc wd b s j := by
  pointwise [val_main_v49, val_main_v48, val_main_v47, act_at]
  rfl

theorem r2_at (b : Fin 2) (s : Fin 2048) (z : Fin 1) :
    val_main_v57 (F := Ideal) x g w wc bc wd (ix3 b s z) = invRms (x2 x g w wc bc wd b s) := by
  pointwise [val_main_v57, val_main_v56, val_main_v55, val_main_v54, val_main_v53, val_main_v52, val_main_v51, val_main_v50,
    val_main_cst_3, val_main_cst_4, val_main_cst_5, x2_at, ofBits_zero]
  rfl

theorem ms2_at (b : Fin 2) (s : Fin 2048) (z : Fin 1) :
    val_main_v56 (F := Ideal) x g w wc bc wd (ix3 b s z) = meanSq (x2 x g w wc bc wd b s) := by
  pointwise [val_main_v56, val_main_v55, val_main_v54, val_main_v53, val_main_v52, val_main_v51, val_main_v50, val_main_cst_3,
    val_main_cst_4, val_main_cst_5, x2_at, ofBits_zero]
  rfl

theorem diff_at (b : Fin 2) (s : Fin 2048) (j : Fin 1024) :
    val_main_v66 (F := Ideal) x g w wc bc wd gf tg (ix3 b s j) = diff x g w wc bc wd gf tg b s j := by
  pointwise [val_main_v66, val_main_v65, val_main_v64, val_main_v63, val_main_v62, val_main_v61, x2_at, r2_at]
  rfl

/-- The loss's derivative: half the mean of a square. -/
theorem half_two (d : EReal) : Ideal.div (Ideal.ofBits .f32 0x3F000000#32) (Ideal.ofBits .f32 0x44800000#32)
    * (Ideal.ofBits .f32 0x40000000#32 * d) = d * Ideal.ofBits .f32 0x3A800000#32 := by
  have h2 : (Ideal.ofBits .f32 0x40000000#32 : EReal) = ((2 : ℝ) : EReal) := by
    simp [Ideal.ofBits, Ideal.ieee, -EReal.coe_mul]; norm_num
  rw [h2, ofBits_half, ofBits_1024, ofBits_one_1024, div_coe (by norm_num), ← mul_assoc, mul_coe, mul_comm]
  norm_num

theorem dy_at (b : Fin 2) (s : Fin 2048) (j : Fin 1024) :
    val_main_v80 (F := Ideal) x g w wc bc wd gf tg (ix3 b s j) = dy x g w wc bc wd gf tg b s j := by
  pointwise [val_main_v80, val_main_v79, val_main_v78, val_main_v77, val_main_v76, val_main_v75, val_main_v69, val_main_v68,
    val_main_cst_7, val_main_cst_12, val_main_cst_13, val_main_cst_14, diff_at]
  exact half_two _

theorem dn_at (b : Fin 2) (s : Fin 2048) (j : Fin 1024) :
    val_main_v85 (F := Ideal) x g w wc bc wd gf tg (ix3 b s j) = dn2 x g w wc bc wd gf tg b s j := by
  pointwise [val_main_v85, val_main_v84, val_main_v63, dy_at]
  rfl

theorem s_at (b : Fin 2) (s : Fin 2048) (j : Fin 1024) :
    val_main_v96 (F := Ideal) x g w wc bc wd gf tg (ix3 b s j)
      = meanSqGrad (x2 x g w wc bc wd b s) (dn2 x g w wc bc wd gf tg b s) := by
  pointwise [val_main_v96, val_main_v95, val_main_v94, val_main_v93, val_main_v92, val_main_v89, val_main_v88, val_main_v87,
    val_main_v60, val_main_v59, val_main_v58, val_main_cst_6, val_main_cst_17, val_main_cst_18, val_main_cst_19, dn_at, x2_at, r2_at,
    ms2_at, ofBits_zero, Fin.sum_univ_one]
  rfl

/-- The gradient of the last norm's rows that the reference returns. -/
theorem gradX2_at (hx : IsReal x) (hg : IsReal g) (hw : IsReal w) (hc : IsReal wc) (hb : IsReal bc) (hd : IsReal wd) (hf : IsReal gf)
    (ht : IsReal tg) (i : Fin 4096) (j : Fin 1024) :
    val_main_v101 (F := Ideal) x g w wc bc wd gf tg (ix2 i j)
      = gradX2 x g w wc bc wd gf tg ⟨i.val / 2048, by omega⟩ ⟨i.val % 2048, by omega⟩ j := by
  pointwise [val_main_v101, val_main_v100, val_main_v99, val_main_v98, val_main_v97, val_main_v91, val_main_v90, s_at, dn_at, r2_at, x2_at]
  rw [gradX2,
    normGrad_eq _ _ (isReal_x2 x g w wc bc wd hx hg hw hc hb hd _ _) (isReal_dn2 x g w wc bc wd gf tg hx hg hw hc hb hd hf ht _ _)]

/-- The loss that the reference returns. -/
theorem loss_at (z z' : Fin 1) :
    val_main_v102 (F := Ideal) x g w wc bc wd gf tg (ix2 z z')
      = ∑ b : Fin 2, ∑ s : Fin 2048, Ideal.ofBits .f32 0x3F000000#32 * rowLoss x g w wc bc wd gf tg b s := by
  pointwise [val_main_v102, val_main_v74, val_main_v73, val_main_v72, val_main_v71, val_main_v70, val_main_v67, val_main_cst_8,
    val_main_cst_9, val_main_cst_10, val_main_cst_11, diff_at, ofBits_zero]
  rw [ofBits_half, mul_sum_of_nonneg _ (by norm_num)]
  refine Finset.sum_congr rfl fun b _ => ?_
  rw [mul_sum_of_nonneg _ (by norm_num)]
  rfl

/-- The gradient of the last norm's weight that the reference returns. -/
theorem gradF_at (z : Fin 1) (j : Fin 1024) :
    val_main_v103 (F := Ideal) x g w wc bc wd gf tg (ix2 z j)
      = ∑ b : Fin 2, ∑ s : Fin 2048, gradF x g w wc bc wd gf tg b s j := by
  pointwise [val_main_v103, val_main_v86, val_main_v83, val_main_v82, val_main_v81, val_main_v62, val_main_v61, val_main_cst_15,
    val_main_cst_16, sum_drop_lead, dy_at, x2_at, r2_at, ofBits_zero, Fin.sum_univ_one]
  exact Finset.sum_congr rfl fun b _ => Finset.sum_congr rfl fun s _ => mul_comm _ _

end Cert.FfnLoss.Reference

end
-- ==== Proof.FfnLossClaim.lean ====
/-
  The loss with the last norm: on finite arguments the kernel's loss and gradients are the reference's.
-/
module

public import proofs.«01_k».proof.Defs
public import proofs.«01_k».proof.Proof.Gen.Pre_finite_args4
public import Idealize.ShloMosaic.Lib.Quiescent
public import proofs.«01_k».proof.Proof.FfnLossKernel
public import proofs.«01_k».proof.Proof.FfnLossKernelX
public import proofs.«01_k».proof.Proof.FfnLossReference

@[expose] public section

set_option maxRecDepth 16384

noncomputable section

namespace Cert.FfnLoss

open Idealize.ShloMosaic Idealize.ShloMosaic.TcCoe Idealize.SL.Sem Cert.Lift Cert.Pre_finite_args4

/-- The precondition says that every argument is real. -/
theorem isReal_args (x : S2x2048x1024.Idx → EReal) (g : S1x1024.Idx → EReal) (w : S1x1024x5632.Idx → EReal) (wc : S1x3x5632.Idx → EReal)
    (bc : S1x5632.Idx → EReal) (wd : S1x2816x1024.Idx → EReal) (gf : S1024.Idx → EReal) (tg : S2x2048x1024.Idx → EReal)
    (h : letI := Cert.Pre_finite_args4.Gen.facts; fn (F := Ideal) x g w wc bc wd gf tg = fun _ => 1#1) :
    IsReal x ∧ IsReal g ∧ IsReal w ∧ IsReal wc ∧ IsReal bc ∧ IsReal wd ∧ IsReal gf ∧ IsReal tg := by
  have h := congrFun h ix0
  simp only [fn, fn_part1, fn_part2] at h
  obtain ⟨h, ht⟩ := IntOp.andi_eq_one.1 h
  obtain ⟨h, hf⟩ := IntOp.andi_eq_one.1 h
  obtain ⟨h, hd⟩ := IntOp.andi_eq_one.1 h
  obtain ⟨h, hb⟩ := IntOp.andi_eq_one.1 h
  obtain ⟨h, hc⟩ := IntOp.andi_eq_one.1 h
  obtain ⟨h, hw⟩ := IntOp.andi_eq_one.1 h
  obtain ⟨hx, hg⟩ := IntOp.andi_eq_one.1 h
  exact ⟨isReal_of_all x _ (fun _ => ofBits_top) _ _ _ _ hx, isReal_of_all g _ (fun _ => ofBits_top) _ _ _ _ hg,
    isReal_of_all w _ (fun _ => ofBits_top) _ _ _ _ hw, isReal_of_all wc _ (fun _ => ofBits_top) _ _ _ _ hc,
    isReal_of_all bc _ (fun _ => ofBits_top) _ _ _ _ hb, isReal_of_all wd _ (fun _ => ofBits_top) _ _ _ _ hd,
    isReal_of_all gf _ (fun _ => ofBits_top) _ _ _ _ hf, isReal_of_all tg _ (fun _ => ofBits_top) _ _ _ _ ht⟩

/-- The reference runs, its arguments end unchanged and no semaphore counts. -/
theorem frame_reference : Cert.quiescent_Reference4Ideal (hReference4Ideal := Cert.Reference4Ideal.Gen.facts) := fun m ρ _ =>
  (θ_run _ _ _).mono (fun r h => ⟨fun c => (h c).2.2.2, sem_eq_zero_of_no_sems (by decide) r.2⟩)
    (Cert.Reference4Ideal.Value.run (F := Ideal) m ρ)

/-- A function of eight equal arguments. -/
theorem congr8 {A B C D E F G H R : Type} (f : A → B → C → D → E → F → G → H → R) {a a' b b' c c' d d' e e' f' f'' g g' h h'}
    (h0 : a = a') (h1 : b = b') (h2 : c = c') (h3 : d = d') (h4 : e = e') (h5 : f' = f'') (h6 : g = g') (h7 : h = h') :
    f a b c d e f' g h = f a' b' c' d' e' f'' g' h' := by
  subst h0 h1 h2 h3 h4 h5 h6 h7
  rfl

/-- On finite arguments the reference's results are the kernel's. -/
theorem algebraic : Cert.algebraic_Kernel4Ideal_Reference4Ideal_pre_finite_args4 (hKernel4Ideal := Cert.Kernel4Ideal.Gen.facts)
    (hReference4Ideal := Cert.Reference4Ideal.Gen.facts) (hPre_finite_args4 := Cert.Pre_finite_args4.Gen.facts) := by
  intro m g m' g' hpre hagree
  refine ⟨fun c => Kernel.spec6 m c, fun c => Kernel.spec7 m c, fun c => Kernel.spec8 m c,
    (θ_run _ _ _).mono (fun r h c => ⟨(h c).1.trans (Kernel.out6 m c), (h c).2.1.trans (Kernel.out7 m c),
      (h c).2.2.1.trans (Kernel.out8 m c), (h c).2.2.2⟩)
      (Cert.Kernel4Ideal.Value.run_blocks m g),
    (θ_run _ _ _).mono (fun r h c => ?_) (Cert.Reference4Ideal.Value.run m' g')⟩
  obtain ⟨e0, e1, e2, e3, e4, e5, e6, e7⟩ := hagree c
  obtain ⟨hx, hg, hw, hc, hb, hd, hf, ht⟩ := isReal_args _ _ _ _ _ _ _ _ (hpre c)
  refine ⟨(h c).1.trans (((Cert.Reference4Ideal.Read.val_main_v101_eq _).trans (congr8 _ e0 e1 e2 e3 e4 e5 e6 e7)).trans (funext fun i => ?_)),
    (h c).2.1.trans (((Cert.Reference4Ideal.Read.val_main_v102_eq _).trans (congr8 _ e0 e1 e2 e3 e4 e5 e6 e7)).trans (funext fun i => ?_)),
    (h c).2.2.1.trans (((Cert.Reference4Ideal.Read.val_main_v103_eq _).trans (congr8 _ e0 e1 e2 e3 e4 e5 e6 e7)).trans (funext fun i => ?_)),
    (h c).2.2.2⟩
  · idx_vars i
    exact Reference.gradX2_at _ _ _ _ _ _ _ _ hx hg hw hc hb hd hf ht i0 i1
  · idx_vars i
    exact Reference.loss_at _ _ _ _ _ _ _ _ i0 i1
  · idx_vars i
    exact Reference.gradF_at _ _ _ _ _ _ _ _ i0 i1

end Cert.FfnLoss

end
-- ==== Proof.NormOf.lean ====
/-
  The root-mean-square norm of one row of any length and its gradient: the form that the kernels write out, and the form that
  differentiating the norm gives. `N` is the number by which the programs divide the sum of squares. On rows of real numbers the two
  forms are equal.
-/
module

public import proofs.«01_k».proof.Proof.Real

@[expose] public section

set_option maxRecDepth 16384

noncomputable section

namespace Cert.Lift.AnyRow

open Idealize.ShloMosaic Cert.Lift

variable {n : Nat}

/-- The mean square of a row, plus epsilon. -/
def meanSqOf (N : EReal) (x : Fin n → EReal) : EReal := Ideal.div (∑ k, x k * x k) N + Ideal.ofBits .f32 0x358637BD#32

/-- The reciprocal root of the mean square. -/
def invRmsOf (N : EReal) (x : Fin n → EReal) : EReal := Ideal.rsqrt (meanSqOf N x)

/-- The gradient of the norm as the kernels write it: `dn` is the gradient of the normalised row. -/
def normGradOf (N : EReal) (x dn : Fin n → EReal) (j : Fin n) : EReal :=
  invRmsOf N x * (dn j - x j * invRmsOf N x * Ideal.div (∑ k, dn k * (x k * invRmsOf N x)) N)

/-- The gradient that reaches the row through the mean square, before it is multiplied by the row. -/
def meanSqGradOf (N : EReal) (x dn : Fin n → EReal) : EReal :=
  Ideal.div ((∑ k, x k * dn k) * (Ideal.ofBits .f32 0xBF000000#32 * Ideal.div (invRmsOf N x) (meanSqOf N x))) N

/-- The mean square of a row of real numbers. -/
def meanSqR (N : ℝ) (x : Fin n → ℝ) : ℝ := (∑ k, x k * x k) / N + eps

theorem meanSqR_pos {N : ℝ} (hN : 0 < N) (x : Fin n → ℝ) : 0 < meanSqR N x :=
  add_pos_of_nonneg_of_pos (div_nonneg (Finset.sum_nonneg fun k _ => mul_self_nonneg (x k)) hN.le) eps_pos

/-- The reciprocal root of the mean square of a row of real numbers. -/
def invRmsR (N : ℝ) (x : Fin n → ℝ) : ℝ := (Real.sqrt (meanSqR N x))⁻¹

theorem meanSqOf_coe {N : ℝ} (hN : 0 < N) (x : Fin n → ℝ) :
    meanSqOf (N : EReal) (fun k => (x k : EReal)) = (meanSqR N x : EReal) := by
  simp only [meanSqOf, meanSqR, ofBits_eps, mul_coe, sum_coe, div_coe hN.ne', add_coe]

theorem invRmsOf_coe {N : ℝ} (hN : 0 < N) (x : Fin n → ℝ) :
    invRmsOf (N : EReal) (fun k => (x k : EReal)) = (invRmsR N x : EReal) := by
  rw [invRmsOf, meanSqOf_coe hN, rsqrt_coe (meanSqR_pos hN x), invRmsR]

theorem invRmsR_sq {N : ℝ} (hN : 0 < N) (x : Fin n → ℝ) : invRmsR N x * invRmsR N x = 1 / meanSqR N x := by
  rw [invRmsR, ← mul_inv, Real.mul_self_sqrt (meanSqR_pos hN x).le, one_div]

/-- The gradient of the norm, on rows of real numbers. -/
def normGradR (N : ℝ) (x dn : Fin n → ℝ) (j : Fin n) : ℝ :=
  invRmsR N x * (dn j - x j * invRmsR N x * ((∑ k, dn k * (x k * invRmsR N x)) / N))

theorem normGradOf_coe {N : ℝ} (hN : 0 < N) (x dn : Fin n → ℝ) (j : Fin n) :
    normGradOf (N : EReal) (fun k => (x k : EReal)) (fun k => (dn k : EReal)) j = (normGradR N x dn j : EReal) := by
  simp only [normGradOf, normGradR, invRmsOf_coe hN, mul_coe, sum_coe, div_coe hN.ne', sub_coe]

/-- The kernels' form of the gradient is the differentiated one, on rows of real numbers. -/
theorem normGradOf_eq {N : ℝ} (hN : 0 < N) (x dn : Fin n → EReal) (hx : IsReal x) (hd : IsReal dn) (j : Fin n) :
    normGradOf (N : EReal) x dn j
      = dn j * invRmsOf (N : EReal) x + x j * meanSqGradOf (N : EReal) x dn + meanSqGradOf (N : EReal) x dn * x j := by
  obtain ⟨x, rfl⟩ := hx
  obtain ⟨dn, rfl⟩ := hd
  rw [normGradOf_coe hN]
  simp only [meanSqGradOf, invRmsOf_coe hN, meanSqOf_coe hN, ofBits_neg_half, mul_coe, sum_coe, div_coe hN.ne',
    div_coe (meanSqR_pos hN x).ne', add_coe]
  congr 1
  have hs : (∑ k, dn k * (x k * invRmsR N x)) = (∑ k, x k * dn k) * invRmsR N x := by
    rw [Finset.sum_mul]; exact Finset.sum_congr rfl fun k _ => by ring
  have h2 := invRmsR_sq hN x
  rw [normGradR, hs, div_eq_mul_one_div (invRmsR N x) (meanSqR N x), ← h2]
  ring

end Cert.Lift.AnyRow

end
-- ==== Proof.MergeSpec.lean ====
/-
  The mixing layer's spatial gating unit, the gated merge of its two branches and their gradients, row by row. A sequence of 2048
  positions is 16 chunks of 128; position `n * 128 + t` is row `t` of chunk `n`, and column `h * 128 + d` is column `d` of group `h`.
-/
module

public import proofs.«01_k».proof.Proof.FfnActSpec
public import proofs.«01_k».proof.Proof.NormOf
public import Idealize.ShloMosaic.Lib.WordCmp

@[expose] public section

set_option maxRecDepth 16384

noncomputable section

namespace Cert.Merge

open Idealize.ShloMosaic Cert.Lift Cert.Lift.AnyRow
open Cert.FfnUp (row isReal_row)
open Cert.FfnAct (mul_real add_real sub_real sum_real at_real logistic_real invRms_real)

variable (x : (⟨3, ![2, 2048, 1024]⟩ : Shape).Idx → EReal) (g : (⟨2, ![1, 1024]⟩ : Shape).Idx → EReal)
  (w : (⟨3, ![1, 1024, 3840]⟩ : Shape).Idx → EReal) (gs : (⟨2, ![1, 512]⟩ : Shape).Idx → EReal)
  (ws : (⟨4, ![1, 4, 128, 128]⟩ : Shape).Idx → EReal) (bs : (⟨3, ![1, 4, 128]⟩ : Shape).Idx → EReal)
  (yb : (⟨3, ![2, 2048, 512]⟩ : Shape).Idx → EReal) (wa wb : (⟨3, ![1, 512, 1024]⟩ : Shape).Idx → EReal)
  (wo : (⟨3, ![1, 1024, 1024]⟩ : Shape).Idx → EReal) (dx : (⟨3, ![2, 2048, 1024]⟩ : Shape).Idx → EReal)

/-- The mixing layer's projection of the normalised row. -/
def proj (b : Fin 2) (s : Fin 2048) (e : Fin 3840) : EReal :=
  ∑ k : Fin 1024, row x b s k * invRms (row x b s) * g (ix2 0 k) * w (ix3 0 k e)

/-! ### The activation -/

/-- The hyperbolic tangent inside the activation. -/
def gTanh (z : EReal) : EReal := Ideal.tanh (Ideal.ofBits .f32 0x3F4C422A#32 * (z + Ideal.ofBits .f32 0x3D372713#32 * (z * z * z)))

/-- The activation. -/
def gelu (z : EReal) : EReal := Ideal.ofBits .f32 0x3F000000#32 * z * (1 + gTanh z)

/-- The activation's derivative. -/
def geluGrad (z : EReal) : EReal :=
  Ideal.ofBits .f32 0x3F000000#32 * (1 + gTanh z) + Ideal.ofBits .f32 0x3F000000#32 * z * (1 - gTanh z * gTanh z)
    * (Ideal.ofBits .f32 0x3F4C422A#32 * (1 + Ideal.ofBits .f32 0x40400000#32 * (Ideal.ofBits .f32 0x3D372713#32 * z * z)))

/-- The activation, written with the factor one half on the other side. -/
theorem gelu_eq (z : EReal) : z * (Ideal.ofBits .f32 0x3F000000#32 * (1 + gTanh z)) = gelu z := by
  rw [gelu, mul_left_comm, mul_assoc]

/-! ### The spatial gating unit -/

/-- The half of the projection that the unit scales, and the half that it mixes along the sequence. -/
def pu (b : Fin 2) (s : Fin 2048) (e : Fin 512) : EReal := proj x g w b s ⟨e.val, by omega⟩
def pv (b : Fin 2) (s : Fin 2048) (e : Fin 512) : EReal := proj x g w b s ⟨512 + e.val, by omega⟩

/-- The activation of the mixed half. -/
def vv (b : Fin 2) (s : Fin 2048) (e : Fin 512) : EReal := gelu (pv x g w b s e)

/-- The reciprocal root of the mean square of the mixed half. -/
def rv (b : Fin 2) (s : Fin 2048) : EReal := invRmsOf (Ideal.ofBits .f32 0x44000000#32) (vv x g w b s)

/-- The mixed half, normalised, without and with the norm's weight. -/
def vhat (b : Fin 2) (s : Fin 2048) (e : Fin 512) : EReal := vv x g w b s e * rv x g w b s
def vn (b : Fin 2) (s : Fin 2048) (e : Fin 512) : EReal := vhat x g w b s e * gs (ix2 0 e)

/-- Row `t` of chunk `n`, and column `d` of group `h`. -/
def pos (n : Fin 16) (t : Fin 128) : Fin 2048 := ⟨n.val * 128 + t.val, by omega⟩
def col (h : Fin 4) (d : Fin 128) : Fin 512 := ⟨h.val * 128 + d.val, by omega⟩

/-- The mixing weights, of which a row takes itself and those before it. -/
def wm (h : Fin 4) (t j : Fin 128) : EReal := if j ≤ t then ws (ix4 0 h t j) else 0

/-- A number times the mask of ones and zeros is the number where the mask is one. -/
theorem mask_mul (p : Prop) [Decidable p] (a : EReal) : (a * if p then 1 else 0) = if p then a else 0 := by
  split
  · exact mul_one a
  · exact mul_zero a

/-- A choice by whether the row's number is at least the column's. -/
theorem mask_select (t j : Fin 128) (a b : EReal) :
    Scalar.select (IntOp.cmpi .sge (BitVec.ofNat 32 t.val) (BitVec.ofNat 32 j.val)) a b = if j ≤ t then a else b := by
  rw [WordCmp.cmpi_sge_ofNat (by omega) (by omega)]
  by_cases h : j ≤ t
  · rw [if_pos h, decide_eq_true (Fin.le_def.mp h)]; rfl
  · rw [if_neg h, decide_eq_false (fun e => h (Fin.le_def.mpr e))]; rfl

/-- The mixed rows of one chunk. -/
def mix (b : Fin 2) (n : Fin 16) (t : Fin 128) (h : Fin 4) (d : Fin 128) : EReal :=
  (∑ j : Fin 128, wm ws h t j * vn x g w gs b (pos n j) (col h d)) + bs (ix3 0 h t)

/-- The chunk and the row of a position, and the group and the column of a column. -/
def chunkOf (s : Fin 2048) : Fin 16 := ⟨s.val / 128, by omega⟩
def inChunk (s : Fin 2048) : Fin 128 := ⟨s.val % 128, by omega⟩
def groupOf (e : Fin 512) : Fin 4 := ⟨e.val / 128, by omega⟩
def inGroup (e : Fin 512) : Fin 128 := ⟨e.val % 128, by omega⟩

theorem pos_split (s : Fin 2048) : pos (chunkOf s) (inChunk s) = s := Fin.ext (Nat.div_add_mod' s.val 128)
theorem col_split (e : Fin 512) : col (groupOf e) (inGroup e) = e := Fin.ext (Nat.div_add_mod' e.val 128)

/-- The mixed row at a position. -/
def mixAt (b : Fin 2) (s : Fin 2048) (e : Fin 512) : EReal := mix x g w gs ws bs b (chunkOf s) (inChunk s) (groupOf e) (inGroup e)

/-- The unit's result. -/
def ya (b : Fin 2) (s : Fin 2048) (e : Fin 512) : EReal := gelu (pu x g w b s e) * mixAt x g w gs ws bs b s e

/-! ### The gated merge -/

/-- The gates of the two branches. -/
def gateA (b : Fin 2) (s : Fin 2048) (e : Fin 1024) : EReal := Ideal.logistic (proj x g w b s ⟨1792 + e.val, by omega⟩)
def gateB (b : Fin 2) (s : Fin 2048) (e : Fin 1024) : EReal := Ideal.logistic (proj x g w b s ⟨2816 + e.val, by omega⟩)

/-- The two branches' projections. -/
def pa (b : Fin 2) (s : Fin 2048) (e : Fin 1024) : EReal := ∑ k : Fin 512, ya x g w gs ws bs b s k * wa (ix3 0 k e)
def pb (b : Fin 2) (s : Fin 2048) (e : Fin 1024) : EReal := ∑ k : Fin 512, yb (ix3 b s k) * wb (ix3 0 k e)

/-- The merge of the branches. -/
def merged (b : Fin 2) (s : Fin 2048) (e : Fin 1024) : EReal :=
  gateA x g w b s e * pa x g w gs ws bs wa b s e + gateB x g w b s e * pb yb wb b s e

/-! ### The gradients -/

/-- The gradient of the merge. -/
def dm (b : Fin 2) (s : Fin 2048) (e : Fin 1024) : EReal := ∑ j : Fin 1024, dx (ix3 b s j) * wo (ix3 0 e j)

/-- The gradients of the gates' arguments. -/
def dgA (b : Fin 2) (s : Fin 2048) (e : Fin 1024) : EReal :=
  dm wo dx b s e * pa x g w gs ws bs wa b s e * (gateA x g w b s e * (1 - gateA x g w b s e))
def dgB (b : Fin 2) (s : Fin 2048) (e : Fin 1024) : EReal :=
  dm wo dx b s e * pb yb wb b s e * (gateB x g w b s e * (1 - gateB x g w b s e))

/-- The gradients of the branches' projections. -/
def dpa (b : Fin 2) (s : Fin 2048) (e : Fin 1024) : EReal := dm wo dx b s e * gateA x g w b s e
def dpb (b : Fin 2) (s : Fin 2048) (e : Fin 1024) : EReal := dm wo dx b s e * gateB x g w b s e

/-- The gradients of the branches. -/
def dya (b : Fin 2) (s : Fin 2048) (k : Fin 512) : EReal := ∑ e : Fin 1024, dpa x g w wo dx b s e * wa (ix3 0 k e)
def dyb (b : Fin 2) (s : Fin 2048) (k : Fin 512) : EReal := ∑ e : Fin 1024, dpb x g w wo dx b s e * wb (ix3 0 k e)

/-- What one row adds to the gradients of the merge's three weights. -/
def gradOut (b : Fin 2) (s : Fin 2048) (e j : Fin 1024) : EReal := merged x g w gs ws bs yb wa wb b s e * dx (ix3 b s j)
def gradA (b : Fin 2) (s : Fin 2048) (k : Fin 512) (e : Fin 1024) : EReal := ya x g w gs ws bs b s k * dpa x g w wo dx b s e
def gradB (b : Fin 2) (s : Fin 2048) (k : Fin 512) (e : Fin 1024) : EReal := yb (ix3 b s k) * dpb x g w wo dx b s e

/-- The gradient of the mixed rows. -/
def ds (b : Fin 2) (s : Fin 2048) (e : Fin 512) : EReal := dya x g w wa wo dx b s e * gelu (pu x g w b s e)

/-- The gradient of the normalised half, in one chunk and at a position. -/
def dvn (b : Fin 2) (n : Fin 16) (j : Fin 128) (h : Fin 4) (d : Fin 128) : EReal :=
  ∑ t : Fin 128, wm ws h t j * ds x g w wa wo dx b (pos n t) (col h d)
def dvnAt (b : Fin 2) (s : Fin 2048) (e : Fin 512) : EReal :=
  dvn x g w ws wa wo dx b (chunkOf s) (inChunk s) (groupOf e) (inGroup e)

/-- What one chunk adds to the gradients of the mixing weights and of the mixing bias. -/
def gradWs (b : Fin 2) (n : Fin 16) (h : Fin 4) (t j : Fin 128) : EReal :=
  ∑ d : Fin 128, ds x g w wa wo dx b (pos n t) (col h d) * vn x g w gs b (pos n j) (col h d)
def gradBs (b : Fin 2) (n : Fin 16) (h : Fin 4) (t : Fin 128) : EReal := ∑ d : Fin 128, ds x g w wa wo dx b (pos n t) (col h d)

/-- What one row adds to the gradient of the norm's weight. -/
def gradGs (b : Fin 2) (s : Fin 2048) (e : Fin 512) : EReal := dvnAt x g w ws wa wo dx b s e * vhat x g w b s e

/-- The gradient of the scaling half of the projection. -/
def du (b : Fin 2) (s : Fin 2048) (e : Fin 512) : EReal :=
  dya x g w wa wo dx b s e * mixAt x g w gs ws bs b s e * geluGrad (pu x g w b s e)

/-- The gradient of the normalised half with the norm's weight. -/
def dnv (b : Fin 2) (s : Fin 2048) (e : Fin 512) : EReal := dvnAt x g w ws wa wo dx b s e * gs (ix2 0 e)

/-- The gradient of the mixed half of the projection. -/
def dv (b : Fin 2) (s : Fin 2048) (e : Fin 512) : EReal :=
  normGradOf (Ideal.ofBits .f32 0x44000000#32) (vv x g w b s) (dnv x g w gs ws wa wo dx b s) e * geluGrad (pv x g w b s e)

/-- The indices of a rank-5 array that agree with `j` on the third and fourth axes are those with any other coordinates. -/
theorem sum_drop_mix {a b c d e : Nat} (h : (⟨5, ![a, b, c, d, e]⟩ : Shape).ReducesTo [0, 1, 4] ⟨2, ![c, d]⟩)
    (v : (⟨5, ![a, b, c, d, e]⟩ : Shape).Idx → EReal) (z : EReal) (j : (⟨2, ![c, d]⟩ : Shape).Idx) :
    Ideal.hostReduceAdd h v z j = z + ∑ p : Fin a, ∑ q : Fin b, ∑ r : Fin e, v (ix5 p q (j 0) (j 1) r) := by
  refine congrArg (z + ·) ?_
  refine (Finset.sum_filter_eq_sum_of_fiber _ (fun k : Fin a × Fin b × Fin e =>
    (ix5 k.1 k.2.1 (j 0) (j 1) k.2.2 : (⟨5, ![a, b, c, d, e]⟩ : Shape).Idx))
    (fun _ _ e => Prod.ext (congrFun e 0) (Prod.ext (congrFun e 1) (congrFun e 4))) (fun i => ⟨fun e => ⟨(i 0, i 1, i 4), ?_⟩, ?_⟩) v).trans
    ((Fintype.sum_prod_type _).trans (Finset.sum_congr rfl fun _ _ => Fintype.sum_prod_type _))
  · subst e
    funext d
    match d with
    | ⟨0, _⟩ => rfl
    | ⟨1, _⟩ => rfl
    | ⟨2, _⟩ => rfl
    | ⟨3, _⟩ => rfl
    | ⟨4, _⟩ => rfl
  · rintro ⟨k, rfl⟩
    funext d
    match d with
    | ⟨0, _⟩ => rfl
    | ⟨1, _⟩ => rfl

/-! ### On real arguments -/

theorem ofBits_512 : (Ideal.ofBits .f32 0x44000000#32 : EReal) = ((512 : ℝ) : EReal) := by
  simp [Ideal.ofBits, Ideal.ieee, -EReal.coe_mul]; norm_num

theorem half_real : ∃ r : ℝ, Ideal.ofBits .f32 0x3F000000#32 = (r : EReal) := by
  simp [Ideal.ofBits, Ideal.ieee, -EReal.coe_mul]

theorem outer_real : ∃ r : ℝ, Ideal.ofBits .f32 0x3F4C422A#32 = (r : EReal) := by
  simp [Ideal.ofBits, Ideal.ieee, -EReal.coe_mul]

theorem inner_real : ∃ r : ℝ, Ideal.ofBits .f32 0x3D372713#32 = (r : EReal) := by
  simp [Ideal.ofBits, Ideal.ieee, -EReal.coe_mul]

theorem three_real : ∃ r : ℝ, Ideal.ofBits .f32 0x40400000#32 = (r : EReal) := by
  simp [Ideal.ofBits, Ideal.ieee, -EReal.coe_mul]

theorem one_real : ∃ r : ℝ, (1 : EReal) = (r : EReal) := ⟨1, rfl⟩

theorem gTanh_real {z : EReal} (h : ∃ r : ℝ, z = (r : EReal)) : ∃ r : ℝ, gTanh z = (r : EReal) := by
  obtain ⟨r, hr⟩ := mul_real outer_real (add_real h (mul_real inner_real (mul_real (mul_real h h) h)))
  exact ⟨Real.tanh r, (congrArg Ideal.tanh hr).trans (Ideal.tanh_coe r)⟩

theorem gelu_real {z : EReal} (h : ∃ r : ℝ, z = (r : EReal)) : ∃ r : ℝ, gelu z = (r : EReal) :=
  mul_real (mul_real half_real h) (add_real one_real (gTanh_real h))

/-- The activation's derivative, as a sum of three products, is the closed form where everything is real. -/
theorem geluGrad_sum {d z : EReal} (hd : ∃ r : ℝ, d = (r : EReal)) (hz : ∃ r : ℝ, z = (r : EReal)) :
    d * (Ideal.ofBits .f32 0x3F000000#32 * (1 + gTanh z))
      + Ideal.ofBits .f32 0x3F4C422A#32 * (Ideal.ofBits .f32 0x3F000000#32 * (z * d) * ((1 + gTanh z) * (1 - gTanh z)))
      + Ideal.ofBits .f32 0x3D372713#32
        * (Ideal.ofBits .f32 0x3F4C422A#32 * (Ideal.ofBits .f32 0x3F000000#32 * (z * d) * ((1 + gTanh z) * (1 - gTanh z))))
        * (Ideal.ofBits .f32 0x40400000#32 * (z * z)) = d * geluGrad z := by
  obtain ⟨t, ht⟩ := gTanh_real hz
  obtain ⟨a, ha⟩ := half_real
  obtain ⟨o, ho⟩ := outer_real
  obtain ⟨i, hi⟩ := inner_real
  obtain ⟨q, hq⟩ := three_real
  obtain ⟨d, rfl⟩ := hd
  obtain ⟨z, rfl⟩ := hz
  simp only [geluGrad, ht, ha, ho, hi, hq, ← EReal.coe_one, mul_coe, add_coe, sub_coe]
  congr 1
  ring

theorem proj_real (hx : IsReal x) (hg : IsReal g) (hw : IsReal w) (b : Fin 2) (s : Fin 2048) (e : Fin 3840) :
    ∃ r : ℝ, proj x g w b s e = (r : EReal) :=
  sum_real fun k => mul_real (mul_real (mul_real (at_real hx _) (invRms_real (isReal_row x hx b s))) (at_real hg _)) (at_real hw _)

theorem isReal_vv (hx : IsReal x) (hg : IsReal g) (hw : IsReal w) (b : Fin 2) (s : Fin 2048) : IsReal (vv x g w b s) :=
  isReal_of_forall fun _ => gelu_real (proj_real x g w hx hg hw b s _)

theorem rv_real (hx : IsReal x) (hg : IsReal g) (hw : IsReal w) (b : Fin 2) (s : Fin 2048) : ∃ r : ℝ, rv x g w b s = (r : EReal) := by
  obtain ⟨q, hq⟩ := isReal_vv x g w hx hg hw b s
  rw [rv, hq, ofBits_512]
  exact ⟨_, invRmsOf_coe (by norm_num) q⟩

theorem wm_real (hs : IsReal ws) (h : Fin 4) (t j : Fin 128) : ∃ r : ℝ, wm ws h t j = (r : EReal) := by
  unfold wm
  split
  · exact at_real hs _
  · exact ⟨0, rfl⟩

theorem mixAt_real (hx : IsReal x) (hg : IsReal g) (hw : IsReal w) (hgs : IsReal gs) (hs : IsReal ws) (hb : IsReal bs) (b : Fin 2)
    (s : Fin 2048) (e : Fin 512) : ∃ r : ℝ, mixAt x g w gs ws bs b s e = (r : EReal) :=
  add_real (sum_real fun j => mul_real (wm_real ws hs _ _ _) (mul_real (mul_real (at_real (isReal_vv x g w hx hg hw _ _) _)
    (rv_real x g w hx hg hw _ _)) (at_real hgs _))) (at_real hb _)

theorem dya_real (hx : IsReal x) (hg : IsReal g) (hw : IsReal w) (ha : IsReal wa) (ho : IsReal wo) (hd : IsReal dx) (b : Fin 2)
    (s : Fin 2048) (k : Fin 512) : ∃ r : ℝ, dya x g w wa wo dx b s k = (r : EReal) :=
  sum_real fun e => mul_real (mul_real (sum_real fun j => mul_real (at_real hd _) (at_real ho _))
    (logistic_real (proj_real x g w hx hg hw b s _))) (at_real ha _)

theorem ds_real (hx : IsReal x) (hg : IsReal g) (hw : IsReal w) (ha : IsReal wa) (ho : IsReal wo) (hd : IsReal dx) (b : Fin 2)
    (s : Fin 2048) (k : Fin 512) : ∃ r : ℝ, ds x g w wa wo dx b s k = (r : EReal) :=
  mul_real (dya_real x g w wa wo dx hx hg hw ha ho hd b s k) (gelu_real (proj_real x g w hx hg hw b s _))

theorem dvnAt_real (hx : IsReal x) (hg : IsReal g) (hw : IsReal w) (hs : IsReal ws) (ha : IsReal wa) (ho : IsReal wo) (hd : IsReal dx)
    (b : Fin 2) (s : Fin 2048) (e : Fin 512) : ∃ r : ℝ, dvnAt x g w ws wa wo dx b s e = (r : EReal) := by
  unfold dvnAt dvn
  exact sum_real fun t => mul_real (wm_real ws hs _ _ _) (ds_real x g w wa wo dx hx hg hw ha ho hd b _ _)

theorem isReal_dnv (hx : IsReal x) (hg : IsReal g) (hw : IsReal w) (hgs : IsReal gs) (hs : IsReal ws) (ha : IsReal wa) (ho : IsReal wo)
    (hd : IsReal dx) (b : Fin 2) (s : Fin 2048) : IsReal (dnv x g w gs ws wa wo dx b s) :=
  isReal_of_forall fun e => mul_real (dvnAt_real x g w ws wa wo dx hx hg hw hs ha ho hd b s e) (at_real hgs _)

/-- The gradient of the norm's row, differentiated, is the one that the kernel writes. -/
theorem normGrad_sum (hx : IsReal x) (hg : IsReal g) (hw : IsReal w) (hgs : IsReal gs) (hs : IsReal ws) (ha : IsReal wa)
    (ho : IsReal wo) (hd : IsReal dx) (b : Fin 2) (s : Fin 2048) (e : Fin 512) :
    dnv x g w gs ws wa wo dx b s e * rv x g w b s
        + vv x g w b s e * meanSqGradOf (Ideal.ofBits .f32 0x44000000#32) (vv x g w b s) (dnv x g w gs ws wa wo dx b s)
        + meanSqGradOf (Ideal.ofBits .f32 0x44000000#32) (vv x g w b s) (dnv x g w gs ws wa wo dx b s) * vv x g w b s e
      = normGradOf (Ideal.ofBits .f32 0x44000000#32) (vv x g w b s) (dnv x g w gs ws wa wo dx b s) e := by
  rw [rv, ofBits_512]
  exact (normGradOf_eq (by norm_num) _ _ (isReal_vv x g w hx hg hw b s) (isReal_dnv x g w gs ws wa wo dx hx hg hw hgs hs ha ho hd b s) e).symm

theorem normGrad_real (hx : IsReal x) (hg : IsReal g) (hw : IsReal w) (hgs : IsReal gs) (hs : IsReal ws) (ha : IsReal wa)
    (ho : IsReal wo) (hd : IsReal dx) (b : Fin 2) (s : Fin 2048) (e : Fin 512) :
    ∃ r : ℝ, normGradOf (Ideal.ofBits .f32 0x44000000#32) (vv x g w b s) (dnv x g w gs ws wa wo dx b s) e = (r : EReal) := by
  obtain ⟨p, hp⟩ := isReal_vv x g w hx hg hw b s
  obtain ⟨q, hq⟩ := isReal_dnv x g w gs ws wa wo dx hx hg hw hgs hs ha ho hd b s
  rw [hp, hq, ofBits_512]
  exact ⟨_, normGradOf_coe (by norm_num) p q e⟩

end Cert.Merge

end
-- ==== Proof.MergeBlocks.lean ====
/-
  The gated merge's kernel: the blocks that a grid point takes.
-/
module

public import proofs.«01_k».proof.Proof.Gen.Kernel5Ideal.Value
public import Idealize.ShloMosaic.Lib.StableHlo.RunRead
public import proofs.«01_k».proof.Proof.MergeSpec

@[expose] public section

set_option maxRecDepth 16384

noncomputable section

namespace Cert.Merge.Kernel

open Cert.Kernel5Ideal Cert.Kernel5Ideal.Gen Idealize.ShloMosaic Idealize.ShloMosaic.TcCoe Idealize.SL.Sem Cert.Lift
open Cert.Lift.AnyRow
open Cert.FfnUp (row)
open Idealize.ShloMosaic.Pipeline (Dat)

variable (m : (ℓ : Loc nD τ sig) → Buf (Elt Ideal) ℓ) (c : Dev nD)

/-- The activations, the norm's weight, the projection's, the unit's norm's weight, its mixing weights and bias, the other branch, the branches' weights, the merge's weight and the cotangent, as the program gets them. -/
abbrev X : S2x2048x1024.Idx → EReal := m ((c.tc : Thread nD τ).loc main_arg0)
abbrev G : S1x1024.Idx → EReal := m ((c.tc : Thread nD τ).loc main_arg1)
abbrev W : S1x1024x3840.Idx → EReal := m ((c.tc : Thread nD τ).loc main_arg2)
abbrev GS : S1x512.Idx → EReal := m ((c.tc : Thread nD τ).loc main_arg3)
abbrev WS : S1x4x128x128.Idx → EReal := m ((c.tc : Thread nD τ).loc main_arg4)
abbrev BS : S1x4x128.Idx → EReal := m ((c.tc : Thread nD τ).loc main_arg5)
abbrev YB : S2x2048x512.Idx → EReal := m ((c.tc : Thread nD τ).loc main_arg6)
abbrev WA : S1x512x1024.Idx → EReal := m ((c.tc : Thread nD τ).loc main_arg7)
abbrev WB : S1x512x1024.Idx → EReal := m ((c.tc : Thread nD τ).loc main_arg8)
abbrev WO : S1x1024x1024.Idx → EReal := m ((c.tc : Thread nD τ).loc main_arg9)
abbrev DX : S2x2048x1024.Idx → EReal := m ((c.tc : Thread nD τ).loc main_arg10)

/-- The block that each window takes at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0, 0] ∧ win0_8.index t = ![0, 0] ∧ win0_9.index t = ![0, 0] ∧ win0_10.index t = ![0, 0, 0]
    ∧ win0_11.index t = ![0, 0] ∧ win0_12.index t = ![t.val, 0] ∧ win0_13.index t = ![t.val, 0] ∧ win0_14.index t = ![t.val, 0]
    ∧ win0_15.index t = ![0, 0] ∧ win0_16.index t = ![0, 0] ∧ win0_17.index t = ![0, 0] ∧ win0_18.index t = ![0, 0, 0]
    ∧ win0_19.index t = ![0, 0] ∧ win0_20.index t = ![0, 0] :=
  (by decide +kernel : ∀ t : Fin grid0.N, _)

theorem N_eq : cfg0.N = 8 := N_0

/-- The sequence and the position of row `y` of grid point `t`'s block. -/
def sq (t : Fin cfg0.N) (y : Fin 512) : Fin 2 := ⟨(t.val * 512 + y.val) / 2048, by have := t.isLt; have := N_eq; omega⟩
def ps (t : Fin cfg0.N) (y : Fin 512) : Fin 2048 := ⟨(t.val * 512 + y.val) % 2048, by omega⟩

/-- The row of the result that row `y` of grid point `t`'s block is. -/
def rowOf (t : Fin cfg0.N) (y : Fin 512) : Fin 4096 := ⟨t.val * 512 + y.val, by have := t.isLt; have := N_eq; omega⟩

theorem dx_at (t : Fin cfg0.N) (y : Fin 512) (k : Fin 1024) : iblk m c 0 t (ix2 y k) = DX m c (ix3 (sq t y) (ps t y) k) := by
  refine (congrArg (V m c main_v97) (?_ : _ = ix2 (rowOf t y) k)).trans ?_
  · blk_ext [idx t, rowOf]
  unfold V
  after_reads_simp
  pointwise
  rfl

theorem yb_at (t : Fin cfg0.N) (y : Fin 512) (k : Fin 512) : iblk m c 3 t (ix2 y k) = YB m c (ix3 (sq t y) (ps t y) k) := by
  refine (congrArg (V m c main_v103) (?_ : _ = ix2 (rowOf t y) k)).trans ?_
  · blk_ext [idx t, rowOf]
  unfold V
  after_reads_simp
  pointwise
  rfl

theorem g_at (t : Fin cfg0.N) (y : Fin 512) (e : Fin 2048) : iblk m c 4 t (ix2 y e) = proj (X m c) (G m c) (W m c) (sq t y) (ps t y) ⟨1792 + e.val, by omega⟩ := by
  refine (congrArg (V m c main_v105) (?_ : _ = ix2 (rowOf t y) e)).trans ?_
  · blk_ext [idx t, rowOf]
  unfold V
  after_reads_simp
  pointwise
  rfl

theorem a_at (t : Fin cfg0.N) (y : Fin 512) (e : Fin 1024) : iblk m c 5 t (ix2 y e) = proj (X m c) (G m c) (W m c) (sq t y) (ps t y) ⟨e.val, by omega⟩ := by
  refine (congrArg (V m c main_v107) (?_ : _ = ix2 (rowOf t y) e)).trans ?_
  · blk_ext [idx t, rowOf]
  unfold V
  after_reads_simp
  pointwise
  rfl

/-- The weight arrives in four blocks of 256 columns. -/
theorem wa_at (t : Fin cfg0.N) (k : Fin 512) (e : Fin 256) :
    iblk m c 6 t (ix3 0 k e) = WA m c (ix3 0 k ⟨e.val, by omega⟩)
    ∧ iblk m c 6 t (ix3 1 k e) = WA m c (ix3 0 k ⟨256 + e.val, by omega⟩)
    ∧ iblk m c 6 t (ix3 2 k e) = WA m c (ix3 0 k ⟨512 + e.val, by omega⟩)
    ∧ iblk m c 6 t (ix3 3 k e) = WA m c (ix3 0 k ⟨768 + e.val, by omega⟩) := by
  have h : ∀ q : Fin 4, iblk m c 6 t (ix3 q k e) = V m c main_v124 (ix3 q k e) := fun q => by
    refine congrArg (V m c main_v124) (?_ : _ = ix3 q k e)
    blk_ext [idx t]
  simp only [h]
  unfold V
  after_reads_simp
  refine ⟨?_, ?_, ?_, ?_⟩ <;> pointwise
  all_goals
    after_reads_simp
    pointwise

/-- The weight arrives in four blocks of 256 columns. -/
theorem wb_at (t : Fin cfg0.N) (k : Fin 512) (e : Fin 256) :
    iblk m c 7 t (ix3 0 k e) = WB m c (ix3 0 k ⟨e.val, by omega⟩)
    ∧ iblk m c 7 t (ix3 1 k e) = WB m c (ix3 0 k ⟨256 + e.val, by omega⟩)
    ∧ iblk m c 7 t (ix3 2 k e) = WB m c (ix3 0 k ⟨512 + e.val, by omega⟩)
    ∧ iblk m c 7 t (ix3 3 k e) = WB m c (ix3 0 k ⟨768 + e.val, by omega⟩) := by
  have h : ∀ q : Fin 4, iblk m c 7 t (ix3 q k e) = V m c main_v141 (ix3 q k e) := fun q => by
    refine congrArg (V m c main_v141) (?_ : _ = ix3 q k e)
    blk_ext [idx t]
  simp only [h]
  unfold V
  after_reads_simp
  refine ⟨?_, ?_, ?_, ?_⟩ <;> pointwise
  all_goals
    after_reads_simp
    pointwise

theorem wo_at (t : Fin cfg0.N) (e j : Fin 1024) : iblk m c 8 t (ix2 e j) = WO m c (ix3 0 e j) := by
  refine (congrArg (V m c main_v143) (?_ : _ = ix2 e j)).trans ?_
  · blk_ext [idx t, rowOf]
  unfold V
  after_reads_simp
  pointwise

theorem gs_at (t : Fin cfg0.N) (e : Fin 512) : iblk m c 9 t (ix2 0 e) = GS m c (ix2 0 e) := by
  refine (congrArg (V m c main_arg3) (?_ : _ = ix2 0 e)).trans ?_
  · blk_ext [idx t, rowOf]
  unfold V
  after_reads_simp

theorem ws_at (t : Fin cfg0.N) (h : Fin 4) (t' j : Fin 128) : iblk m c 10 t (ix3 h t' j) = WS m c (ix4 0 h t' j) := by
  refine (congrArg (V m c main_v144) (?_ : _ = ix3 h t' j)).trans ?_
  · blk_ext [idx t, rowOf]
  unfold V
  after_reads_simp
  pointwise

theorem bs_at (t : Fin cfg0.N) (t' : Fin 128) (h : Fin 4) : iblk m c 11 t (ix2 t' h) = BS m c (ix3 0 h t') := by
  refine (congrArg (V m c main_v146) (?_ : _ = ix2 t' h)).trans ?_
  · blk_ext [idx t, rowOf]
  unfold V
  after_reads_simp
  pointwise

end Cert.Merge.Kernel

end
-- ==== Proof.MergeHost.lean ====
/-
  The gated merge's kernel: what the host lines put into the blocks of the unit's result and of the merge.
-/
module

public import proofs.«01_k».proof.Proof.MergeBlocks

@[expose] public section

set_option maxRecDepth 16384

noncomputable section

namespace Cert.Merge.Kernel

open Cert.Kernel5Ideal Cert.Kernel5Ideal.Gen Idealize.ShloMosaic Idealize.ShloMosaic.TcCoe Idealize.SL.Sem Cert.Lift
open Cert.Lift.AnyRow
open Cert.FfnUp (row)
open Idealize.ShloMosaic.Pipeline (Dat)

variable (m : (ℓ : Loc nD τ sig) → Buf (Elt Ideal) ℓ) (c : Dev nD)

/-- The host's mask of ones and zeros: one where the row's number is at least the column's. -/
theorem mask_eq (t j : Fin 128) :
    Scalar.select (IntOp.cmpi .sge (IntOp.addi (BitVec.ofNat 32 t.val) 0#32) (BitVec.ofNat 32 j.val))
      (Ideal.ofBits .f32 0x3F800000#32) (Ideal.ofBits .f32 0x00000000#32) = if j ≤ t then (1 : EReal) else 0 := by
  rw [show IntOp.addi (BitVec.ofNat 32 t.val) 0#32 = BitVec.ofNat 32 t.val from BitVec.add_zero _, mask_select, ofBits_zero, Ideal.ofBits_one_f32]

/-- The masked weights, as the host writes them. -/
theorem wm_eq (h : Fin 4) (t j : Fin 128) {k : EReal} (e : k = Scalar.select (IntOp.cmpi .sge (IntOp.addi (BitVec.ofNat 32 t.val) 0#32)
    (BitVec.ofNat 32 j.val)) (Ideal.ofBits .f32 0x3F800000#32) (Ideal.ofBits .f32 0x00000000#32)) :
    WS m c (ix4 0 h t j) * k = wm (WS m c) h t j := by
  rw [e, mask_eq]
  exact mask_mul _ _

/-- The normalised half, as the host lines leave it. -/
theorem vn_host (b : Fin 2) (s : Fin 2048) (e : Fin 512) : V m c main_v61 (ix3 b s e) = vn (X m c) (G m c) (W m c) (GS m c) b s e := by
  unfold V
  after_reads_simp
  pointwise [ofBits_zero]
  simp only [vn, vhat, rv, invRmsOf, meanSqOf, vv, ← gelu_eq]
  rfl

set_option maxHeartbeats 16000000 in
/-- The unit's result, as the host lines leave it. -/
theorem ya_host (b : Fin 2) (s : Fin 2048) (k : Fin 512) :
    V m c main_v75 (ix3 b s k) = ya (X m c) (G m c) (W m c) (GS m c) (WS m c) (BS m c) b s k := by
  simp only [ya, mixAt, mix, ← vn_host, ← gelu_eq]
  unfold V
  after_reads_simp
  pointwise [ofBits_zero]
  refine congrArg₂ (· * ·) rfl (congrArg (· + _) (Finset.sum_congr rfl fun j _ => ?_))
  exact (mul_comm _ _).trans (congrArg (· * _) (wm_eq m c _ _ _ rfl))

set_option maxHeartbeats 16000000 in
theorem ya_at (t : Fin cfg0.N) (y : Fin 512) (k : Fin 512) :
    iblk m c 2 t (ix2 y k) = ya (X m c) (G m c) (W m c) (GS m c) (WS m c) (BS m c) (sq t y) (ps t y) k := by
  rw [← ya_host]
  refine (congrArg (V m c main_v101) (?_ : _ = ix2 (rowOf t y) k)).trans ?_
  · blk_ext [idx t, rowOf]
  unfold V
  after_reads_simp
  pointwise [ofBits_zero]
  rfl

set_option maxHeartbeats 16000000 in
theorem merged_at (t : Fin cfg0.N) (y : Fin 512) (k : Fin 1024) :
    iblk m c 1 t (ix2 y k)
      = merged (X m c) (G m c) (W m c) (GS m c) (WS m c) (BS m c) (YB m c) (WA m c) (WB m c) (sq t y) (ps t y) k := by
  simp only [merged, pa, ← ya_host]
  refine (congrArg (V m c main_v99) (?_ : _ = ix2 (rowOf t y) k)).trans ?_
  · blk_ext [idx t, rowOf]
  unfold V
  after_reads_simp
  pointwise [ofBits_zero]
  refine congrArg₂ (· + ·) rfl (congrArg₂ (· * ·) (congrArg (fun n => Ideal.logistic (proj _ _ _ _ _ n)) (Fin.ext (Nat.add_assoc 1792 1024 k.val).symm)) rfl)

end Cert.Merge.Kernel

end
-- ==== Proof.MergePoint.lean ====
/-
  The gated merge's kernel: what a grid point computes before the mixing.
-/
module

public import proofs.«01_k».proof.Proof.MergeHost

@[expose] public section

set_option maxRecDepth 16384

noncomputable section

namespace Cert.Merge.Kernel

open Cert.Kernel5Ideal Cert.Kernel5Ideal.Gen Idealize.ShloMosaic Idealize.ShloMosaic.TcCoe Idealize.SL.Sem Cert.Lift
open Cert.Lift.AnyRow
open Cert.FfnUp (row)
open Idealize.ShloMosaic.Pipeline (Dat)

variable (m : (ℓ : Loc nD τ sig) → Buf (Elt Ideal) ℓ) (c : Dev nD)

/-- A choice among four blocks of rows or columns, each at the place inside it, is the value at the place. -/
theorem four {α : Type} (n N : Nat) (hN : N = n + n + n + n) (f : Fin N → α) (y : Fin N) :
    (if h : y.val < n then f ⟨y.val, y.isLt⟩ else if h' : y.val - n < n then f ⟨n + (y.val - n), by omega⟩
      else if h'' : y.val - n - n < n then f ⟨n + n + (y.val - n - n), by omega⟩ else f ⟨n + n + n + (y.val - n - n - n), by omega⟩) = f y := by
  split
  · rfl
  split
  · exact congrArg f (Fin.ext (show n + (y.val - n) = y.val by omega))
  split
  · exact congrArg f (Fin.ext (show n + n + (y.val - n - n) = y.val by omega))
  · exact congrArg f (Fin.ext (show n + n + n + (y.val - n - n - n) = y.val by omega))

/-- A sum over 1024 in four quarters. -/
theorem sum_quarters (f : Fin 1024 → EReal) : ∑ e, f e = ∑ e : Fin 256, f ⟨e.val, by omega⟩ + ∑ e : Fin 256, f ⟨256 + e.val, by omega⟩
    + ∑ e : Fin 256, f ⟨512 + e.val, by omega⟩ + ∑ e : Fin 256, f ⟨768 + e.val, by omega⟩ := by
  rw [sum_split 768 256 rfl f, sum_split 512 256 rfl, sum_split 256 256 rfl]

/-- The gradient of the merge. -/
def dmBlk (t : Fin cfg0.N) : FVec Ideal S512x1024 .f32 := k0_pay13 (iblk m c 0 t) (iblk m c 8 t)

theorem dm_at (t : Fin cfg0.N) (y : Fin 512) (e : Fin 1024) :
    dmBlk m c t (ix2 y e) = dm (WO m c) (DX m c) (sq t y) (ps t y) e := by
  unfold dmBlk
  open_payloads
  pointwise [dx_at, wo_at]
  rfl

/-- The gates. -/
def gateABlk (t : Fin cfg0.N) : FVec Ideal S512x1024 .f32 := k0_pay19 (k0_pay14 (iblk m c 4 t))
def gateBBlk (t : Fin cfg0.N) : FVec Ideal S512x1024 .f32 := k0_pay20 (k0_pay14 (iblk m c 4 t))

theorem gateA_at (t : Fin cfg0.N) (y : Fin 512) (e : Fin 1024) : gateABlk m c t (ix2 y e) = gateA (X m c) (G m c) (W m c) (sq t y) (ps t y) e := by
  unfold gateABlk
  open_payloads
  pointwise [g_at]
  simp only [zero_sub]
  rfl

theorem gateB_at (t : Fin cfg0.N) (y : Fin 512) (e : Fin 1024) : gateBBlk m c t (ix2 y e) = gateB (X m c) (G m c) (W m c) (sq t y) (ps t y) e := by
  unfold gateBBlk
  open_payloads
  pointwise [g_at]
  simp only [zero_sub]
  exact congrArg (fun n => Ideal.logistic (proj _ _ _ _ _ n)) (Fin.ext (Nat.add_assoc 1792 1024 e.val).symm)

/-- The column blocks of the branches' weights, as the body reads them. -/
theorem wa_ld (t : Fin cfg0.N) :
    (∀ (k : Fin 512) (e : Fin 256), View.ld (iblk m c 6 t) (Rect.unit ![0, 0, 0] ![1, 512, 256] inb_S4x512x256_S1x512x256_0_0_0) (ix3 0 k e) = WA m c (ix3 0 k ⟨e.val, by omega⟩))
    ∧ (∀ (k : Fin 512) (e : Fin 256), View.ld (iblk m c 6 t) (Rect.unit ![1, 0, 0] ![1, 512, 256] inb_S4x512x256_S1x512x256_1_0_0) (ix3 0 k e) = WA m c (ix3 0 k ⟨256 + e.val, by omega⟩))
    ∧ (∀ (k : Fin 512) (e : Fin 256), View.ld (iblk m c 6 t) (Rect.unit ![2, 0, 0] ![1, 512, 256] inb_S4x512x256_S1x512x256_2_0_0) (ix3 0 k e) = WA m c (ix3 0 k ⟨512 + e.val, by omega⟩))
    ∧ (∀ (k : Fin 512) (e : Fin 256), View.ld (iblk m c 6 t) (Rect.unit ![3, 0, 0] ![1, 512, 256] inb_S4x512x256_S1x512x256_3_0_0) (ix3 0 k e) = WA m c (ix3 0 k ⟨768 + e.val, by omega⟩)) := by
  refine ⟨?_, ?_, ?_, ?_⟩ <;> intro k e <;> pointwise
  · exact (wa_at m c t k e).1
  · exact (wa_at m c t k e).2.1
  · exact (wa_at m c t k e).2.2.1
  · exact (wa_at m c t k e).2.2.2

theorem wb_ld (t : Fin cfg0.N) :
    (∀ (k : Fin 512) (e : Fin 256), View.ld (iblk m c 7 t) (Rect.unit ![0, 0, 0] ![1, 512, 256] inb_S4x512x256_S1x512x256_0_0_0) (ix3 0 k e) = WB m c (ix3 0 k ⟨e.val, by omega⟩))
    ∧ (∀ (k : Fin 512) (e : Fin 256), View.ld (iblk m c 7 t) (Rect.unit ![1, 0, 0] ![1, 512, 256] inb_S4x512x256_S1x512x256_1_0_0) (ix3 0 k e) = WB m c (ix3 0 k ⟨256 + e.val, by omega⟩))
    ∧ (∀ (k : Fin 512) (e : Fin 256), View.ld (iblk m c 7 t) (Rect.unit ![2, 0, 0] ![1, 512, 256] inb_S4x512x256_S1x512x256_2_0_0) (ix3 0 k e) = WB m c (ix3 0 k ⟨512 + e.val, by omega⟩))
    ∧ (∀ (k : Fin 512) (e : Fin 256), View.ld (iblk m c 7 t) (Rect.unit ![3, 0, 0] ![1, 512, 256] inb_S4x512x256_S1x512x256_3_0_0) (ix3 0 k e) = WB m c (ix3 0 k ⟨768 + e.val, by omega⟩)) := by
  refine ⟨?_, ?_, ?_, ?_⟩ <;> intro k e <;> pointwise
  · exact (wb_at m c t k e).1
  · exact (wb_at m c t k e).2.1
  · exact (wb_at m c t k e).2.2.1
  · exact (wb_at m c t k e).2.2.2

/-- The branches' projections. -/
def paBlk (t : Fin cfg0.N) : FVec Ideal S512x1024 .f32 := k0_pay17 (iblk m c 2 t)
    (View.ld (iblk m c 6 t) (Rect.unit ![0, 0, 0] ![1, 512, 256] inb_S4x512x256_S1x512x256_0_0_0))
    (View.ld (iblk m c 6 t) (Rect.unit ![1, 0, 0] ![1, 512, 256] inb_S4x512x256_S1x512x256_1_0_0))
    (View.ld (iblk m c 6 t) (Rect.unit ![2, 0, 0] ![1, 512, 256] inb_S4x512x256_S1x512x256_2_0_0))
    (View.ld (iblk m c 6 t) (Rect.unit ![3, 0, 0] ![1, 512, 256] inb_S4x512x256_S1x512x256_3_0_0))
def pbBlk (t : Fin cfg0.N) : FVec Ideal S512x1024 .f32 := k0_pay18 (k0_pay16 (iblk m c 3 t))
    (View.ld (iblk m c 7 t) (Rect.unit ![0, 0, 0] ![1, 512, 256] inb_S4x512x256_S1x512x256_0_0_0))
    (View.ld (iblk m c 7 t) (Rect.unit ![1, 0, 0] ![1, 512, 256] inb_S4x512x256_S1x512x256_1_0_0))
    (View.ld (iblk m c 7 t) (Rect.unit ![2, 0, 0] ![1, 512, 256] inb_S4x512x256_S1x512x256_2_0_0))
    (View.ld (iblk m c 7 t) (Rect.unit ![3, 0, 0] ![1, 512, 256] inb_S4x512x256_S1x512x256_3_0_0))

/-- The product by a weight, its columns in four blocks. -/
theorem pay17_at (v : Vec Ideal S512x512 .bf16) (w0 w1 w2 w3 : Vec Ideal S1x512x256 .bf16)
    (a : Fin 512 → Fin 512 → EReal) (W : Fin 512 → Fin 1024 → EReal) (hv : ∀ y k, v (ix2 y k) = a y k)
    (h0 : ∀ k (e : Fin 256), w0 (ix3 0 k e) = W k ⟨e.val, by omega⟩) (h1 : ∀ k (e : Fin 256), w1 (ix3 0 k e) = W k ⟨256 + e.val, by omega⟩)
    (h2 : ∀ k (e : Fin 256), w2 (ix3 0 k e) = W k ⟨512 + e.val, by omega⟩) (h3 : ∀ k (e : Fin 256), w3 (ix3 0 k e) = W k ⟨768 + e.val, by omega⟩)
    (y : Fin 512) (e : Fin 1024) : k0_pay17 v w0 w1 w2 w3 (ix2 y e) = ∑ k, a y k * W k e := by
  open_payloads
  pointwise [hv, h0, h1, h2, h3]
  exact four 256 1024 rfl (fun e => ∑ k, a y k * W k e) e

theorem pa_at (t : Fin cfg0.N) (y : Fin 512) (e : Fin 1024) :
    paBlk m c t (ix2 y e) = pa (X m c) (G m c) (W m c) (GS m c) (WS m c) (BS m c) (WA m c) (sq t y) (ps t y) e :=
  pay17_at _ _ _ _ _ _ (fun k e => WA m c (ix3 0 k e)) (ya_at m c t) (wa_ld m c t).1 (wa_ld m c t).2.1 (wa_ld m c t).2.2.1 (wa_ld m c t).2.2.2 y e

theorem pb_at (t : Fin cfg0.N) (y : Fin 512) (e : Fin 1024) : pbBlk m c t (ix2 y e) = pb (YB m c) (WB m c) (sq t y) (ps t y) e :=
  pay17_at _ _ _ _ _ _ (fun k e => WB m c (ix3 0 k e)) (yb_at m c t) (wb_ld m c t).1 (wb_ld m c t).2.1 (wb_ld m c t).2.2.1 (wb_ld m c t).2.2.2 y e

/-- The gradients of the branches' projections. -/
def dpaBlk (t : Fin cfg0.N) : FVec Ideal S512x1024 .bf16 := k0_pay21 (k0_pay13 (iblk m c 0 t) (iblk m c 8 t)) (k0_pay14 (iblk m c 4 t))
def dpbBlk (t : Fin cfg0.N) : FVec Ideal S512x1024 .bf16 := k0_pay22 (k0_pay13 (iblk m c 0 t) (iblk m c 8 t)) (k0_pay14 (iblk m c 4 t))

theorem dpa_at (t : Fin cfg0.N) (y : Fin 512) (e : Fin 1024) :
    dpaBlk m c t (ix2 y e) = dpa (X m c) (G m c) (W m c) (WO m c) (DX m c) (sq t y) (ps t y) e := by
  unfold dpaBlk k0_pay21
  pointwise
  exact congrArg₂ (· * ·) (dm_at m c t y e) (gateA_at m c t y e)

theorem dpb_at (t : Fin cfg0.N) (y : Fin 512) (e : Fin 1024) :
    dpbBlk m c t (ix2 y e) = dpb (X m c) (G m c) (W m c) (WO m c) (DX m c) (sq t y) (ps t y) e := by
  unfold dpbBlk k0_pay22
  pointwise
  exact congrArg₂ (· * ·) (dm_at m c t y e) (gateB_at m c t y e)

/-- The product by a weight's transpose, its columns in four blocks. -/
theorem pay27_at (v : Vec Ideal S512x1024 .bf16) (w0 w1 w2 w3 : Vec Ideal S1x512x256 .bf16)
    (a : Fin 512 → Fin 1024 → EReal) (W : Fin 512 → Fin 1024 → EReal) (hv : ∀ y k, v (ix2 y k) = a y k)
    (h0 : ∀ k (e : Fin 256), w0 (ix3 0 k e) = W k ⟨e.val, by omega⟩) (h1 : ∀ k (e : Fin 256), w1 (ix3 0 k e) = W k ⟨256 + e.val, by omega⟩)
    (h2 : ∀ k (e : Fin 256), w2 (ix3 0 k e) = W k ⟨512 + e.val, by omega⟩) (h3 : ∀ k (e : Fin 256), w3 (ix3 0 k e) = W k ⟨768 + e.val, by omega⟩)
    (y : Fin 512) (k : Fin 512) : k0_pay27 v w0 w1 w2 w3 (ix2 y k) = ∑ e, a y e * W k e := by
  open_payloads
  pointwise [hv, h0, h1, h2, h3]
  exact (sum_quarters fun e => a y e * W k e).symm

/-- The gradient of the first branch. -/
def dyBlk (t : Fin cfg0.N) : FVec Ideal S512x512 .f32 := k0_pay31 (k0_pay27 (dpaBlk m c t)
    (View.ld (iblk m c 6 t) (Rect.unit ![0, 0, 0] ![1, 512, 256] inb_S4x512x256_S1x512x256_0_0_0))
    (View.ld (iblk m c 6 t) (Rect.unit ![1, 0, 0] ![1, 512, 256] inb_S4x512x256_S1x512x256_1_0_0))
    (View.ld (iblk m c 6 t) (Rect.unit ![2, 0, 0] ![1, 512, 256] inb_S4x512x256_S1x512x256_2_0_0))
    (View.ld (iblk m c 6 t) (Rect.unit ![3, 0, 0] ![1, 512, 256] inb_S4x512x256_S1x512x256_3_0_0)))

theorem dy_at (t : Fin cfg0.N) (y : Fin 512) (k : Fin 512) :
    dyBlk m c t (ix2 y k) = dya (X m c) (G m c) (W m c) (WA m c) (WO m c) (DX m c) (sq t y) (ps t y) k :=
  pay27_at _ _ _ _ _ _ (fun k e => WA m c (ix3 0 k e)) (dpa_at m c t) (wa_ld m c t).1 (wa_ld m c t).2.1 (wa_ld m c t).2.2.1 (wa_ld m c t).2.2.2 y k

/-- The scaling half and its activation; the mixed half, its activation, its reciprocal root, and normalised without and with the weight. -/
def puBlk (t : Fin cfg0.N) : FVec Ideal S512x512 .f32 := k0_pay33 (iblk m c 5 t)
def pvBlk (t : Fin cfg0.N) : FVec Ideal S512x512 .f32 := k0_pay34 (iblk m c 5 t)
def uBlk (t : Fin cfg0.N) : FVec Ideal S512x512 .f32 :=
  k0_pay37 (k0_pay33 (iblk m c 5 t)) (k0_pay35 (iblk m c 5 t)) (FloatOps.ofBits FTy.f32 1061962282#32)
def vvBlk (t : Fin cfg0.N) : FVec Ideal S512x512 .f32 := k0_pay39 (k0_pay34 (iblk m c 5 t))
def rvBlk (t : Fin cfg0.N) : FVec Ideal S512x1 .f32 := k0_pay40 (k0_pay34 (iblk m c 5 t))
def vnBlk (t : Fin cfg0.N) : FVec Ideal S512x512 .bf16 := k0_pay41 (iblk m c 9 t) (k0_pay34 (iblk m c 5 t))

theorem pu_at (t : Fin cfg0.N) (y : Fin 512) (e : Fin 512) : puBlk m c t (ix2 y e) = pu (X m c) (G m c) (W m c) (sq t y) (ps t y) e := by
  unfold puBlk
  open_payloads
  pointwise [a_at]
  rfl

theorem pv_at (t : Fin cfg0.N) (y : Fin 512) (e : Fin 512) : pvBlk m c t (ix2 y e) = pv (X m c) (G m c) (W m c) (sq t y) (ps t y) e := by
  unfold pvBlk
  open_payloads
  pointwise [a_at]
  rfl

theorem u_at (t : Fin cfg0.N) (y : Fin 512) (e : Fin 512) : uBlk m c t (ix2 y e) = gelu (pu (X m c) (G m c) (W m c) (sq t y) (ps t y) e) := by
  unfold uBlk
  open_payloads
  pointwise [a_at]
  rfl

theorem vv_at (t : Fin cfg0.N) (y : Fin 512) (e : Fin 512) : vvBlk m c t (ix2 y e) = vv (X m c) (G m c) (W m c) (sq t y) (ps t y) e := by
  unfold vvBlk
  open_payloads
  pointwise [a_at]
  rfl

theorem rv_at (t : Fin cfg0.N) (y : Fin 512) (z : Fin 1) : rvBlk m c t (ix2 y z) = rv (X m c) (G m c) (W m c) (sq t y) (ps t y) := by
  unfold rvBlk k0_pay40
  pointwise [show ∀ i, k0_pay39 (k0_pay34 (iblk m c 5 t)) i = vvBlk m c t i from fun _ => rfl, vv_at]
  rfl

theorem vn_at (t : Fin cfg0.N) (y : Fin 512) (e : Fin 512) : vnBlk m c t (ix2 y e) = vn (X m c) (G m c) (W m c) (GS m c) (sq t y) (ps t y) e := by
  unfold vnBlk k0_pay41
  pointwise [show ∀ i, k0_pay39 (k0_pay34 (iblk m c 5 t)) i = vvBlk m c t i from fun _ => rfl, vv_at,
    show ∀ i, k0_pay40 (k0_pay34 (iblk m c 5 t)) i = rvBlk m c t i from fun _ => rfl, rv_at, gs_at]
  rfl

/-- The body's terms, by the names above. -/
theorem names (t : Fin cfg0.N) : k0_pay13 (iblk m c 0 t) (iblk m c 8 t) = dmBlk m c t
    ∧ k0_pay21 (dmBlk m c t) (k0_pay14 (iblk m c 4 t)) = dpaBlk m c t ∧ k0_pay22 (dmBlk m c t) (k0_pay14 (iblk m c 4 t)) = dpbBlk m c t
    ∧ k0_pay31 (k0_pay27 (dpaBlk m c t)
    (View.ld (iblk m c 6 t) (Rect.unit ![0, 0, 0] ![1, 512, 256] inb_S4x512x256_S1x512x256_0_0_0))
    (View.ld (iblk m c 6 t) (Rect.unit ![1, 0, 0] ![1, 512, 256] inb_S4x512x256_S1x512x256_1_0_0))
    (View.ld (iblk m c 6 t) (Rect.unit ![2, 0, 0] ![1, 512, 256] inb_S4x512x256_S1x512x256_2_0_0))
    (View.ld (iblk m c 6 t) (Rect.unit ![3, 0, 0] ![1, 512, 256] inb_S4x512x256_S1x512x256_3_0_0))) = dyBlk m c t
    ∧ k0_pay37 (k0_pay33 (iblk m c 5 t)) (k0_pay35 (iblk m c 5 t)) (FloatOps.ofBits FTy.f32 1061962282#32) = uBlk m c t
    ∧ k0_pay39 (k0_pay34 (iblk m c 5 t)) = vvBlk m c t ∧ k0_pay40 (k0_pay34 (iblk m c 5 t)) = rvBlk m c t
    ∧ k0_pay41 (iblk m c 9 t) (k0_pay34 (iblk m c 5 t)) = vnBlk m c t ∧ k0_pay33 (iblk m c 5 t) = puBlk m c t
    ∧ k0_pay34 (iblk m c 5 t) = pvBlk m c t
    ∧ k0_pay17 (iblk m c 2 t)
    (View.ld (iblk m c 6 t) (Rect.unit ![0, 0, 0] ![1, 512, 256] inb_S4x512x256_S1x512x256_0_0_0))
    (View.ld (iblk m c 6 t) (Rect.unit ![1, 0, 0] ![1, 512, 256] inb_S4x512x256_S1x512x256_1_0_0))
    (View.ld (iblk m c 6 t) (Rect.unit ![2, 0, 0] ![1, 512, 256] inb_S4x512x256_S1x512x256_2_0_0))
    (View.ld (iblk m c 6 t) (Rect.unit ![3, 0, 0] ![1, 512, 256] inb_S4x512x256_S1x512x256_3_0_0)) = paBlk m c t
    ∧ k0_pay18 (k0_pay16 (iblk m c 3 t))
    (View.ld (iblk m c 7 t) (Rect.unit ![0, 0, 0] ![1, 512, 256] inb_S4x512x256_S1x512x256_0_0_0))
    (View.ld (iblk m c 7 t) (Rect.unit ![1, 0, 0] ![1, 512, 256] inb_S4x512x256_S1x512x256_1_0_0))
    (View.ld (iblk m c 7 t) (Rect.unit ![2, 0, 0] ![1, 512, 256] inb_S4x512x256_S1x512x256_2_0_0))
    (View.ld (iblk m c 7 t) (Rect.unit ![3, 0, 0] ![1, 512, 256] inb_S4x512x256_S1x512x256_3_0_0)) = pbBlk m c t
    ∧ k0_pay19 (k0_pay14 (iblk m c 4 t)) = gateABlk m c t ∧ k0_pay20 (k0_pay14 (iblk m c 4 t)) = gateBBlk m c t :=
  ⟨rfl, rfl, rfl, rfl, rfl, rfl, rfl, rfl, rfl, rfl, rfl, rfl, rfl, rfl⟩

end Cert.Merge.Kernel

end
-- ==== Proof.MergeTiles.lean ====
/-
  The gated merge's kernel: the mixing of one grid point's four chunks, group by group, and its gradients.
-/
module

public import proofs.«01_k».proof.Proof.MergePoint

@[expose] public section

set_option maxRecDepth 16384

noncomputable section

namespace Cert.Merge.Kernel

open Cert.Kernel5Ideal Cert.Kernel5Ideal.Gen Idealize.ShloMosaic Idealize.ShloMosaic.TcCoe Idealize.SL.Sem Cert.Lift
open Cert.Lift.AnyRow
open Cert.FfnUp (row)
open Idealize.ShloMosaic.Pipeline (Dat)

variable {dy u : Vec Ideal S512x512 .f32} {vn : Vec Ideal S512x512 .bf16} {w : Vec Ideal S1x128x128 .f32} {b : Vec Ideal S128x1 .f32}
  {D U N : Fin 512 → Fin 512 → EReal} {C : Fin 128 → Fin 128 → EReal} {B : Fin 128 → EReal}

/-- Row `i` of chunk `q`, and column `d` of group `q`, as the body cuts them out. -/
theorem col_0 (i : Fin 128) : (⟨i.val, by omega⟩ : Fin 512) = col 0 i := Fin.ext (by show i.val = 0 * 128 + i.val; omega)
theorem col_1 (i : Fin 128) : (⟨128 + i.val, by omega⟩ : Fin 512) = col 1 i := rfl
theorem col_2 (i : Fin 128) : (⟨256 + i.val, by omega⟩ : Fin 512) = col 2 i := rfl
theorem col_3 (i : Fin 128) : (⟨384 + i.val, by omega⟩ : Fin 512) = col 3 i := rfl

/-- The gradient of the mixed rows, in column `e`, whose group has the weights `C`. -/
def dvnG (D U : Fin 512 → Fin 512 → EReal) (C : Fin 128 → Fin 128 → EReal) (y e : Fin 512) : EReal :=
  ∑ t : Fin 128, if inGroup y ≤ t then C t (inGroup y) * (D (col (groupOf y) t) e * U (col (groupOf y) t) e) else 0

/-- The mixed rows, in column `e`. -/
def mixG (N : Fin 512 → Fin 512 → EReal) (C : Fin 128 → Fin 128 → EReal) (B : Fin 128 → EReal) (y e : Fin 512) : EReal :=
  (∑ t : Fin 128, if t ≤ inGroup y then C (inGroup y) t * N (col (groupOf y) t) e else 0) + B (inGroup y)

/-- The two, read in one chunk by the row's place in it. -/
theorem dvnG_of {y e : Fin 512} (q : Fin 4) (a : Fin 128) (hq : y.val / 128 = q.val) (ha : y.val % 128 = a.val) :
    ∑ x : Fin 128, Scalar.select (IntOp.cmpi .sge (BitVec.ofNat 32 x.val) (BitVec.ofNat 32 a.val))
      (C x a * (D (col q x) e * U (col q x) e)) 0 = dvnG D U C y e := by
  obtain rfl : groupOf y = q := Fin.ext hq
  obtain rfl : inGroup y = a := Fin.ext ha
  exact Finset.sum_congr rfl fun x _ => mask_select x _ _ _

theorem mixG_of {y e : Fin 512} (q : Fin 4) (a : Fin 128) (hq : y.val / 128 = q.val) (ha : y.val % 128 = a.val) :
    (∑ x : Fin 128, Scalar.select (IntOp.cmpi .sge (BitVec.ofNat 32 a.val) (BitVec.ofNat 32 x.val))
      (C a x * N (col q x) e) 0) + B a = mixG N C B y e := by
  obtain rfl : groupOf y = q := Fin.ext hq
  obtain rfl : inGroup y = a := Fin.ext ha
  exact congrArg (· + B (inGroup y)) (Finset.sum_congr rfl fun x _ => mask_select _ x _ _)

/-- What a grid point adds to the gradients of group `h`'s mixing weights and mixing bias. -/
def gwG (D U N : Fin 512 → Fin 512 → EReal) (h : Fin 4) (i j : Fin 128) : EReal :=
  if j ≤ i then ∑ q : Fin 4, ∑ d : Fin 128, D (col q i) (col h d) * U (col q i) (col h d) * N (col q j) (col h d) else 0
def gbG (D U : Fin 512 → Fin 512 → EReal) (h : Fin 4) (i : Fin 128) : EReal :=
  ∑ q : Fin 4, ∑ d : Fin 128, D (col q i) (col h d) * U (col q i) (col h d)

section
variable (hd : ∀ y e, dy (ix2 y e) = D y e) (hu : ∀ y e, u (ix2 y e) = U y e) (hn : ∀ y e, vn (ix2 y e) = N y e)
  (hw : ∀ i j, w (ix3 0 i j) = C i j) (hb : ∀ i, b (ix2 i 0) = B i)
include hd hu

theorem gb_at (s : Vec Ideal S128x1 .f32) (i : Fin 128) (z : Fin 1) :
    k0_pay70 dy u (k0_pay63 dy u) s (ix2 i z) = s (ix2 i z) + gbG D U 0 i
    ∧ k0_pay101 dy u (k0_pay87 dy u) (k0_pay95 dy u) s (ix2 i z) = s (ix2 i z) + gbG D U 1 i
    ∧ k0_pay131 dy u (k0_pay119 dy u) (k0_pay123 dy u) s (ix2 i z) = s (ix2 i z) + gbG D U 2 i
    ∧ k0_pay163 dy u (k0_pay150 dy u) (k0_pay154 dy) (k0_pay155 u) s (ix2 i z) = s (ix2 i z) + gbG D U 3 i := by
  refine ⟨?_, ?_, ?_, ?_⟩
  all_goals
    open_payloads
    pointwise [hd, hu, ofBits_zero]
    simp only [zero_add, col_0, col_1, col_2, col_3, gbG, Fin.sum_univ_four]

include hn in
theorem gw_at (s : Vec Ideal S1x128x128 .f32) (z : Fin 1) (i j : Fin 128) :
    k0_pay69 dy k0_pay32 u vn (k0_pay62 dy u vn (FloatOps.ofBits FTy.f32 0#32)) s (ix3 z i j) = s (ix3 0 i j) + gwG D U N 0 i j
    ∧ k0_pay100 dy k0_pay32 u vn (k0_pay94 dy u vn) s (ix3 z i j) = s (ix3 0 i j) + gwG D U N 1 i j
    ∧ k0_pay130 dy k0_pay32 u vn (k0_pay118 dy u vn) (k0_pay121 vn) (k0_pay125 dy u) (constant S128x128 FTy.f32 0#32) s (ix3 z i j)
      = s (ix3 0 i j) + gwG D U N 2 i j
    ∧ k0_pay162 dy k0_pay32 u vn (k0_pay149 dy u vn) (k0_pay152 vn) (k0_pay154 dy) (k0_pay155 u) s (ix3 z i j)
      = s (ix3 0 i j) + gwG D U N 3 i j := by
  refine ⟨?_, ?_, ?_, ?_⟩
  all_goals
    open_payloads
    pointwise [hd, hu, hn, ofBits_zero]
    simp only [mask_select, zero_add, col_0, col_1, col_2, col_3, gwG, Fin.sum_univ_four]

include hw in
/-- The gradient of the mixed rows, group by group. -/
theorem dvn_groups (y : Fin 512) (e : Fin 128) :
    k0_pay72 dy u (k0_pay43 k0_pay32 w) (k0_pay50 dy u (k0_pay43 k0_pay32 w)) (k0_pay56 dy u (k0_pay43 k0_pay32 w))
        (k0_pay64 dy u (k0_pay43 k0_pay32 w)) (ix2 y e) = dvnG D U C y (col 0 e)
    ∧ k0_pay103 dy u (k0_pay74 k0_pay32 w) (k0_pay81 dy u (k0_pay74 k0_pay32 w)) (k0_pay88 dy u (k0_pay74 k0_pay32 w))
        (k0_pay93 dy u) (ix2 y e) = dvnG D U C y (col 1 e)
    ∧ k0_pay133 dy u (k0_pay105 (k0_pay104 k0_pay32 w)) (k0_pay112 dy u (k0_pay104 k0_pay32 w))
        (k0_pay120 dy u (k0_pay104 k0_pay32 w)) (k0_pay125 dy u) (ix2 y e) = dvnG D U C y (col 2 e)
    ∧ k0_pay164 dy u (k0_pay136 k0_pay32 (k0_pay134 w)) (k0_pay143 dy k0_pay32 u (k0_pay134 w))
        (k0_pay151 dy k0_pay32 u (k0_pay134 w)) (k0_pay154 dy) (k0_pay155 u) (ix2 y e) = dvnG D U C y (col 3 e) := by
  refine ⟨?_, ?_, ?_, ?_⟩
  all_goals
    open_payloads
    pointwise [hd, hu, hw, ofBits_zero]
    simp only [zero_add, col_0, col_1, col_2, col_3]
    split_ifs
  all_goals
    refine dvnG_of _ ⟨_, _⟩ ?_ ?_
  all_goals
    first | omega | (simp; omega)

omit hu in
include hn hw hb in
/-- The gradient of the gated half of the projection before the gate's derivative, group by group. -/
theorem mix_groups (y : Fin 512) (e : Fin 128) :
    k0_pay71 dy vn (k0_pay42 k0_pay32 w) (k0_pay44 b) (k0_pay48 dy vn (k0_pay42 k0_pay32 w) (k0_pay44 b))
        (k0_pay54 dy vn (k0_pay42 k0_pay32 w) (k0_pay44 b)) (k0_pay60 dy vn (k0_pay42 k0_pay32 w) (k0_pay44 b)) (ix2 y e)
      = D y (col 0 e) * mixG N C B y (col 0 e)
    ∧ k0_pay102 dy vn (k0_pay73 k0_pay32 w) (k0_pay75 b) (k0_pay79 dy vn (k0_pay73 k0_pay32 w) b)
        (k0_pay85 dy vn (k0_pay73 k0_pay32 w) b) (k0_pay92 dy vn (k0_pay73 k0_pay32 w) b) (ix2 y e)
      = D y (col 1 e) * mixG N C B y (col 1 e)
    ∧ k0_pay132 dy vn (k0_pay104 k0_pay32 w) (k0_pay106 b) (k0_pay110 dy vn (k0_pay104 k0_pay32 w) b)
        (k0_pay116 dy vn (k0_pay104 k0_pay32 w) b) (k0_pay124 dy vn (k0_pay104 k0_pay32 w) b) (ix2 y e)
      = D y (col 2 e) * mixG N C B y (col 2 e) := by
  refine ⟨?_, ?_, ?_⟩
  all_goals
    open_payloads
    pointwise [hd, hn, hw, hb, ofBits_zero]
    simp only [zero_add, col_0, col_1, col_2, col_3]
    split_ifs
  all_goals
    refine congrArg₂ (· * ·) (congrArg (fun r => D r _) (Fin.ext ?_)) (mixG_of _ ⟨_, _⟩ ?_ ?_)
  all_goals
    first | rfl | omega | (simp [col]; omega)

end

end Cert.Merge.Kernel

end
-- ==== Proof.MergeMix.lean ====
/-
  The gated merge's kernel: what a grid point computes by the mixing and its gradients.
-/
module

public import proofs.«01_k».proof.Proof.MergeTiles

@[expose] public section

set_option maxRecDepth 16384

noncomputable section

namespace Cert.Merge.Kernel

open Cert.Kernel5Ideal Cert.Kernel5Ideal.Gen Idealize.ShloMosaic Idealize.ShloMosaic.TcCoe Idealize.SL.Sem Cert.Lift
open Cert.Lift.AnyRow
open Cert.FfnUp (row)
open Idealize.ShloMosaic.Pipeline (Dat)

variable (m : (ℓ : Loc nD τ sig) → Buf (Elt Ideal) ℓ) (c : Dev nD)

/-- Four blocks of columns that hold a matrix. -/
def Cols (F : Fin 512 → Fin 512 → EReal) (v0 v1 v2 v3 : Vec Ideal S512x128 .f32) : Prop :=
  ∀ (y : Fin 512) (d : Fin 128), v0 (ix2 y d) = F y (col 0 d) ∧ v1 (ix2 y d) = F y (col 1 d) ∧ v2 (ix2 y d) = F y (col 2 d)
    ∧ v3 (ix2 y d) = F y (col 3 d)

section
variable {F : Fin 512 → Fin 512 → EReal} {v0 v1 v2 v3 : Vec Ideal S512x128 .f32} (h : Cols F v0 v1 v2 v3)
  {vv : Vec Ideal S512x512 .f32} {rv : Vec Ideal S512x1 .f32} {V' : Fin 512 → Fin 512 → EReal} {R : Fin 512 → EReal}
  (hv : ∀ y e, vv (ix2 y e) = V' y e) (hr : ∀ y, rv (ix2 y 0) = R y)

include h in
theorem pay166_at (y e : Fin 512) : k0_pay166 (F := Ideal) v0 v1 v2 v3 (ix2 y e) = F y e := by
  unfold k0_pay166
  pointwise [fun y d => (h y d).1, fun y d => (h y d).2.1, fun y d => (h y d).2.2.1, fun y d => (h y d).2.2.2]
  refine Eq.trans ?_ (four 128 512 rfl (F y) e)
  split_ifs <;> exact congrArg (F y) (Fin.ext (by simp [col]))

include h hv hr in
theorem pay168_at (s : Vec Ideal S1x512 .f32) (z : Fin 1) (e : Fin 512) :
    k0_pay168 vv rv v0 v1 v2 v3 s (ix2 z e) = s (ix2 z e) + ∑ y, F y e * (V' y e * R y) := by
  unfold k0_pay168 k0_pay167
  pointwise [pay166_at h, hv, hr, ofBits_zero]

include h hv hr in
theorem pay169_at {g : Vec Ideal S1x512 .f32} {G' : Fin 512 → EReal} (hg : ∀ e, g (ix2 0 e) = G' e) (y e : Fin 512) :
    k0_pay169 g vv rv v0 v1 v2 v3 (ix2 y e)
      = R y * (F y e * G' e - V' y e * R y * Ideal.div (∑ j, F y j * G' j * (V' y j * R y)) (Ideal.ofBits .f32 0x44000000#32)) := by
  unfold k0_pay169 k0_pay167
  pointwise [pay166_at h, hv, hr, hg, ofBits_zero]

end

/-- The product by the activation's derivative, as the body writes it for the two halves. -/
theorem pay171_at {s p q : Vec Ideal S512x512 .f32} {a z : EReal} (y e : Fin 512) (hs : s (ix2 y e) = a) (hp : p (ix2 y e) = z)
    (hq : q (ix2 y e) = gTanh z) : k0_pay171 (F := Ideal) s (k0_pay170 p q) (ix2 y e) = a * geluGrad z := by
  open_payloads
  pointwise [hs, hp, hq]
  rfl

theorem pay172_at {s p q : Vec Ideal S512x512 .f32} {a z : EReal} (y e : Fin 512) (hs : s (ix2 y e) = a) (hp : p (ix2 y e) = z)
    (hq : q (ix2 y e) = gTanh z) : k0_pay172 (F := Ideal) p q s (ix2 y e) = a * geluGrad z := by
  open_payloads
  pointwise [hs, hp, hq]
  rfl

section
variable {dy : Vec Ideal S512x512 .f32} {vn : Vec Ideal S512x512 .bf16} {w : Vec Ideal S1x128x128 .f32} {b : Vec Ideal S128x1 .f32}
  {D N : Fin 512 → Fin 512 → EReal} {C : Fin 128 → Fin 128 → EReal} {B : Fin 128 → EReal}
  (hd : ∀ y e, dy (ix2 y e) = D y e) (hn : ∀ y e, vn (ix2 y e) = N y e) (hw : ∀ i j, w (ix3 0 i j) = C i j) (hb : ∀ i, b (ix2 i 0) = B i)

set_option maxHeartbeats 16000000 in
include hd hn hw hb in
/-- The last group, which the body writes into the four groups' matrix. -/
theorem pay165_at {F : Fin 512 → Fin 512 → EReal} {v0 v1 v2 : Vec Ideal S512x128 .f32}
    (h : ∀ (y : Fin 512) (d : Fin 128), v0 (ix2 y d) = F y (col 0 d) ∧ v1 (ix2 y d) = F y (col 1 d) ∧ v2 (ix2 y d) = F y (col 2 d)
      ∧ D y (col 3 d) * mixG N C B y (col 3 d) = F y (col 3 d)) (y e : Fin 512) :
    k0_pay165 dy vn v0 v1 v2 (k0_pay135 k0_pay32 (k0_pay134 w)) (k0_pay137 b) (k0_pay141 dy k0_pay32 vn (k0_pay134 w) b)
      (k0_pay147 dy k0_pay32 vn (k0_pay134 w) b) (k0_pay153 k0_pay32 vn (k0_pay134 w) b) (k0_pay154 dy) (ix2 y e) = F y e := by
  open_payloads
  pointwise [hd, hn, hw, hb, fun y d => (h y d).1, fun y d => (h y d).2.1, fun y d => (h y d).2.2.1, ofBits_zero]
  simp only [zero_add, col_0, col_1, col_2, col_3]
  refine Eq.trans ?_ (four 128 512 rfl (F y) e)
  by_cases h0 : e.val < 128
  · rw [dif_pos h0, dif_pos h0]; exact congrArg (F y) (Fin.ext (by simp [col]))
  rw [dif_neg h0, dif_neg h0]
  by_cases h1 : e.val - 128 < 128
  · rw [dif_pos h1, dif_pos h1]; exact congrArg (F y) (Fin.ext (by simp [col]))
  rw [dif_neg h1, dif_neg h1]
  by_cases h2 : e.val - 128 - 128 < 128
  · rw [dif_pos h2, dif_pos h2]; exact congrArg (F y) (Fin.ext (by simp [col]))
  rw [dif_neg h2, dif_neg h2]
  refine Eq.trans ?_ ((h y ⟨e.val - 128 - 128 - 128, by omega⟩).2.2.2.trans (congrArg (F y) (Fin.ext (by simp [col]))))
  split_ifs
  all_goals
    refine congrArg₂ (· * ·) (congrArg (fun r => D r _) (Fin.ext ?_)) (mixG_of _ ⟨_, _⟩ ?_ ?_)
  all_goals
    first | rfl | omega | (simp [col]; omega)

end

/-! ### At a grid point -/

/-- A chunk of a grid point's block is a chunk of a sequence. -/
theorem chunk_row (t : Fin cfg0.N) (y : Fin 512) (j : Fin 128) : sq t (col (groupOf y) j) = sq t y
    ∧ ps t (col (groupOf y) j) = pos (chunkOf (ps t y)) j ∧ inChunk (ps t y) = inGroup y := by
  refine ⟨Fin.ext ?_, Fin.ext ?_, Fin.ext ?_⟩
  · show (t.val * 512 + (y.val / 128 * 128 + j.val)) / 2048 = (t.val * 512 + y.val) / 2048
    omega
  · show (t.val * 512 + (y.val / 128 * 128 + j.val)) % 2048 = (t.val * 512 + y.val) % 2048 / 128 * 128 + j.val
    omega
  · show (t.val * 512 + y.val) % 2048 % 128 = y.val % 128
    omega

theorem group_col (h : Fin 4) (d : Fin 128) : groupOf (col h d) = h ∧ inGroup (col h d) = d := by
  refine ⟨Fin.ext ?_, Fin.ext ?_⟩
  · show (h.val * 128 + d.val) / 128 = h.val
    omega
  · show (h.val * 128 + d.val) % 128 = d.val
    omega

/-- The blocks' entries. -/
abbrev DY (t : Fin cfg0.N) (y e : Fin 512) : EReal := dya (X m c) (G m c) (W m c) (WA m c) (WO m c) (DX m c) (sq t y) (ps t y) e
abbrev U (t : Fin cfg0.N) (y e : Fin 512) : EReal := gelu (pu (X m c) (G m c) (W m c) (sq t y) (ps t y) e)
abbrev VN (t : Fin cfg0.N) (y e : Fin 512) : EReal := vn (X m c) (G m c) (W m c) (GS m c) (sq t y) (ps t y) e
abbrev DVN (t : Fin cfg0.N) (y e : Fin 512) : EReal :=
  dvnAt (X m c) (G m c) (W m c) (WS m c) (WA m c) (WO m c) (DX m c) (sq t y) (ps t y) e
abbrev MIX (t : Fin cfg0.N) (y e : Fin 512) : EReal :=
  mixAt (X m c) (G m c) (W m c) (GS m c) (WS m c) (BS m c) (sq t y) (ps t y) e

theorem dvnG_eq (t : Fin cfg0.N) (h : Fin 4) (y : Fin 512) (d : Fin 128) :
    dvnG (DY m c t) (U m c t) (fun i j => WS m c (ix4 0 h i j)) y (col h d) = DVN m c t y (col h d) := by
  obtain ⟨e1, e2⟩ := group_col h d
  simp only [dvnG, DVN, dvnAt, dvn, e1, e2, (chunk_row t y 0).2.2]
  refine Finset.sum_congr rfl fun j _ => ?_
  obtain ⟨a, b, _⟩ := chunk_row t y j
  simp only [DY, U, a, b, wm, ds]
  split
  · rfl
  · exact (zero_mul _).symm

theorem mixG_eq (t : Fin cfg0.N) (h : Fin 4) (y : Fin 512) (d : Fin 128) :
    mixG (VN m c t) (fun i j => WS m c (ix4 0 h i j)) (fun i => BS m c (ix3 0 h i)) y (col h d) = MIX m c t y (col h d) := by
  obtain ⟨e1, e2⟩ := group_col h d
  simp only [mixG, MIX, mixAt, mix, e1, e2, (chunk_row t y 0).2.2]
  refine congrArg (· + _) (Finset.sum_congr rfl fun j _ => ?_)
  obtain ⟨a, b, _⟩ := chunk_row t y j
  simp only [VN, a, b, wm]
  split
  · rfl
  · exact (zero_mul _).symm

/-- The groups' mixing weights and biases, as the body reads them. -/
theorem ws_ld (t : Fin cfg0.N) (i j : Fin 128) : (View.ld (iblk m c 10 t) (Rect.unit ![0, 0, 0] ![1, 128, 128] inb_S4x128x128_S1x128x128_0_0_0)) (ix3 0 i j) = WS m c (ix4 0 0 i j) ∧ (View.ld (iblk m c 10 t) (Rect.unit ![1, 0, 0] ![1, 128, 128] inb_S4x128x128_S1x128x128_1_0_0)) (ix3 0 i j) = WS m c (ix4 0 1 i j) ∧ (View.ld (iblk m c 10 t) (Rect.unit ![2, 0, 0] ![1, 128, 128] inb_S4x128x128_S1x128x128_2_0_0)) (ix3 0 i j) = WS m c (ix4 0 2 i j) ∧ (View.ld (iblk m c 10 t) (Rect.unit ![3, 0, 0] ![1, 128, 128] inb_S4x128x128_S1x128x128_3_0_0)) (ix3 0 i j) = WS m c (ix4 0 3 i j) := by
  refine ⟨?_, ?_, ?_, ?_⟩ <;> pointwise <;> exact ws_at m c t _ i j

theorem bs_ld (t : Fin cfg0.N) (i : Fin 128) : (View.ld (iblk m c 11 t) (Rect.unit ![0, 0] ![128, 1] inb_S128x4_S128x1_0_0)) (ix2 i 0) = BS m c (ix3 0 0 i) ∧ (View.ld (iblk m c 11 t) (Rect.unit ![0, 1] ![128, 1] inb_S128x4_S128x1_0_1)) (ix2 i 0) = BS m c (ix3 0 1 i) ∧ (View.ld (iblk m c 11 t) (Rect.unit ![0, 2] ![128, 1] inb_S128x4_S128x1_0_2)) (ix2 i 0) = BS m c (ix3 0 2 i) ∧ (View.ld (iblk m c 11 t) (Rect.unit ![0, 3] ![128, 1] inb_S128x4_S128x1_0_3)) (ix2 i 0) = BS m c (ix3 0 3 i) := by
  refine ⟨?_, ?_, ?_, ?_⟩ <;> pointwise <;> exact bs_at m c t i _

/-- The gradient of the mixed rows, in its four groups of columns. -/
theorem dvn_cols (t : Fin cfg0.N) : Cols (DVN m c t)
    (k0_pay72 (dyBlk m c t) (uBlk m c t) (k0_pay43 k0_pay32 (View.ld (iblk m c 10 t) (Rect.unit ![0, 0, 0] ![1, 128, 128] inb_S4x128x128_S1x128x128_0_0_0))) (k0_pay50 (dyBlk m c t) (uBlk m c t) (k0_pay43 k0_pay32 (View.ld (iblk m c 10 t) (Rect.unit ![0, 0, 0] ![1, 128, 128] inb_S4x128x128_S1x128x128_0_0_0)))) (k0_pay56 (dyBlk m c t) (uBlk m c t) (k0_pay43 k0_pay32 (View.ld (iblk m c 10 t) (Rect.unit ![0, 0, 0] ![1, 128, 128] inb_S4x128x128_S1x128x128_0_0_0)))) (k0_pay64 (dyBlk m c t) (uBlk m c t) (k0_pay43 k0_pay32 (View.ld (iblk m c 10 t) (Rect.unit ![0, 0, 0] ![1, 128, 128] inb_S4x128x128_S1x128x128_0_0_0)))))
    (k0_pay103 (dyBlk m c t) (uBlk m c t) (k0_pay74 k0_pay32 (View.ld (iblk m c 10 t) (Rect.unit ![1, 0, 0] ![1, 128, 128] inb_S4x128x128_S1x128x128_1_0_0))) (k0_pay81 (dyBlk m c t) (uBlk m c t) (k0_pay74 k0_pay32 (View.ld (iblk m c 10 t) (Rect.unit ![1, 0, 0] ![1, 128, 128] inb_S4x128x128_S1x128x128_1_0_0)))) (k0_pay88 (dyBlk m c t) (uBlk m c t) (k0_pay74 k0_pay32 (View.ld (iblk m c 10 t) (Rect.unit ![1, 0, 0] ![1, 128, 128] inb_S4x128x128_S1x128x128_1_0_0)))) (k0_pay93 (dyBlk m c t) (uBlk m c t)))
    (k0_pay133 (dyBlk m c t) (uBlk m c t) (k0_pay105 (k0_pay104 k0_pay32 (View.ld (iblk m c 10 t) (Rect.unit ![2, 0, 0] ![1, 128, 128] inb_S4x128x128_S1x128x128_2_0_0)))) (k0_pay112 (dyBlk m c t) (uBlk m c t) (k0_pay104 k0_pay32 (View.ld (iblk m c 10 t) (Rect.unit ![2, 0, 0] ![1, 128, 128] inb_S4x128x128_S1x128x128_2_0_0)))) (k0_pay120 (dyBlk m c t) (uBlk m c t) (k0_pay104 k0_pay32 (View.ld (iblk m c 10 t) (Rect.unit ![2, 0, 0] ![1, 128, 128] inb_S4x128x128_S1x128x128_2_0_0)))) (k0_pay125 (dyBlk m c t) (uBlk m c t)))
    (k0_pay164 (dyBlk m c t) (uBlk m c t) (k0_pay136 k0_pay32 (k0_pay134 (View.ld (iblk m c 10 t) (Rect.unit ![3, 0, 0] ![1, 128, 128] inb_S4x128x128_S1x128x128_3_0_0)))) (k0_pay143 (dyBlk m c t) k0_pay32 (uBlk m c t) (k0_pay134 (View.ld (iblk m c 10 t) (Rect.unit ![3, 0, 0] ![1, 128, 128] inb_S4x128x128_S1x128x128_3_0_0)))) (k0_pay151 (dyBlk m c t) k0_pay32 (uBlk m c t) (k0_pay134 (View.ld (iblk m c 10 t) (Rect.unit ![3, 0, 0] ![1, 128, 128] inb_S4x128x128_S1x128x128_3_0_0)))) (k0_pay154 (dyBlk m c t)) (k0_pay155 (uBlk m c t))) := fun y d =>
  have w := ws_ld m c t
  ⟨(dvn_groups (dy_at m c t) (u_at m c t) (fun i j => (w i j).1) y d).1.trans (dvnG_eq m c t 0 y d),
    (dvn_groups (dy_at m c t) (u_at m c t) (fun i j => (w i j).2.1) y d).2.1.trans (dvnG_eq m c t 1 y d),
    (dvn_groups (dy_at m c t) (u_at m c t) (fun i j => (w i j).2.2.1) y d).2.2.1.trans (dvnG_eq m c t 2 y d),
    (dvn_groups (dy_at m c t) (u_at m c t) (fun i j => (w i j).2.2.2) y d).2.2.2.trans (dvnG_eq m c t 3 y d)⟩

set_option maxHeartbeats 4000000 in
/-- The gradient of the scaling half before the activation's derivative. -/
theorem dym_at (t : Fin cfg0.N) (y e : Fin 512) :
    k0_pay165 (dyBlk m c t) (vnBlk m c t)
    (k0_pay71 (dyBlk m c t) (vnBlk m c t) (k0_pay42 k0_pay32 (View.ld (iblk m c 10 t) (Rect.unit ![0, 0, 0] ![1, 128, 128] inb_S4x128x128_S1x128x128_0_0_0))) (k0_pay44 (View.ld (iblk m c 11 t) (Rect.unit ![0, 0] ![128, 1] inb_S128x4_S128x1_0_0))) (k0_pay48 (dyBlk m c t) (vnBlk m c t) (k0_pay42 k0_pay32 (View.ld (iblk m c 10 t) (Rect.unit ![0, 0, 0] ![1, 128, 128] inb_S4x128x128_S1x128x128_0_0_0))) (k0_pay44 (View.ld (iblk m c 11 t) (Rect.unit ![0, 0] ![128, 1] inb_S128x4_S128x1_0_0)))) (k0_pay54 (dyBlk m c t) (vnBlk m c t) (k0_pay42 k0_pay32 (View.ld (iblk m c 10 t) (Rect.unit ![0, 0, 0] ![1, 128, 128] inb_S4x128x128_S1x128x128_0_0_0))) (k0_pay44 (View.ld (iblk m c 11 t) (Rect.unit ![0, 0] ![128, 1] inb_S128x4_S128x1_0_0)))) (k0_pay60 (dyBlk m c t) (vnBlk m c t) (k0_pay42 k0_pay32 (View.ld (iblk m c 10 t) (Rect.unit ![0, 0, 0] ![1, 128, 128] inb_S4x128x128_S1x128x128_0_0_0))) (k0_pay44 (View.ld (iblk m c 11 t) (Rect.unit ![0, 0] ![128, 1] inb_S128x4_S128x1_0_0)))))
    (k0_pay102 (dyBlk m c t) (vnBlk m c t) (k0_pay73 k0_pay32 (View.ld (iblk m c 10 t) (Rect.unit ![1, 0, 0] ![1, 128, 128] inb_S4x128x128_S1x128x128_1_0_0))) (k0_pay75 (View.ld (iblk m c 11 t) (Rect.unit ![0, 1] ![128, 1] inb_S128x4_S128x1_0_1))) (k0_pay79 (dyBlk m c t) (vnBlk m c t) (k0_pay73 k0_pay32 (View.ld (iblk m c 10 t) (Rect.unit ![1, 0, 0] ![1, 128, 128] inb_S4x128x128_S1x128x128_1_0_0))) (View.ld (iblk m c 11 t) (Rect.unit ![0, 1] ![128, 1] inb_S128x4_S128x1_0_1))) (k0_pay85 (dyBlk m c t) (vnBlk m c t) (k0_pay73 k0_pay32 (View.ld (iblk m c 10 t) (Rect.unit ![1, 0, 0] ![1, 128, 128] inb_S4x128x128_S1x128x128_1_0_0))) (View.ld (iblk m c 11 t) (Rect.unit ![0, 1] ![128, 1] inb_S128x4_S128x1_0_1))) (k0_pay92 (dyBlk m c t) (vnBlk m c t) (k0_pay73 k0_pay32 (View.ld (iblk m c 10 t) (Rect.unit ![1, 0, 0] ![1, 128, 128] inb_S4x128x128_S1x128x128_1_0_0))) (View.ld (iblk m c 11 t) (Rect.unit ![0, 1] ![128, 1] inb_S128x4_S128x1_0_1))))
    (k0_pay132 (dyBlk m c t) (vnBlk m c t) (k0_pay104 k0_pay32 (View.ld (iblk m c 10 t) (Rect.unit ![2, 0, 0] ![1, 128, 128] inb_S4x128x128_S1x128x128_2_0_0))) (k0_pay106 (View.ld (iblk m c 11 t) (Rect.unit ![0, 2] ![128, 1] inb_S128x4_S128x1_0_2))) (k0_pay110 (dyBlk m c t) (vnBlk m c t) (k0_pay104 k0_pay32 (View.ld (iblk m c 10 t) (Rect.unit ![2, 0, 0] ![1, 128, 128] inb_S4x128x128_S1x128x128_2_0_0))) (View.ld (iblk m c 11 t) (Rect.unit ![0, 2] ![128, 1] inb_S128x4_S128x1_0_2))) (k0_pay116 (dyBlk m c t) (vnBlk m c t) (k0_pay104 k0_pay32 (View.ld (iblk m c 10 t) (Rect.unit ![2, 0, 0] ![1, 128, 128] inb_S4x128x128_S1x128x128_2_0_0))) (View.ld (iblk m c 11 t) (Rect.unit ![0, 2] ![128, 1] inb_S128x4_S128x1_0_2))) (k0_pay124 (dyBlk m c t) (vnBlk m c t) (k0_pay104 k0_pay32 (View.ld (iblk m c 10 t) (Rect.unit ![2, 0, 0] ![1, 128, 128] inb_S4x128x128_S1x128x128_2_0_0))) (View.ld (iblk m c 11 t) (Rect.unit ![0, 2] ![128, 1] inb_S128x4_S128x1_0_2))))
    (k0_pay135 k0_pay32 (k0_pay134 (View.ld (iblk m c 10 t) (Rect.unit ![3, 0, 0] ![1, 128, 128] inb_S4x128x128_S1x128x128_3_0_0)))) (k0_pay137 (View.ld (iblk m c 11 t) (Rect.unit ![0, 3] ![128, 1] inb_S128x4_S128x1_0_3)))
    (k0_pay141 (dyBlk m c t) k0_pay32 (vnBlk m c t) (k0_pay134 (View.ld (iblk m c 10 t) (Rect.unit ![3, 0, 0] ![1, 128, 128] inb_S4x128x128_S1x128x128_3_0_0))) (View.ld (iblk m c 11 t) (Rect.unit ![0, 3] ![128, 1] inb_S128x4_S128x1_0_3)))
    (k0_pay147 (dyBlk m c t) k0_pay32 (vnBlk m c t) (k0_pay134 (View.ld (iblk m c 10 t) (Rect.unit ![3, 0, 0] ![1, 128, 128] inb_S4x128x128_S1x128x128_3_0_0))) (View.ld (iblk m c 11 t) (Rect.unit ![0, 3] ![128, 1] inb_S128x4_S128x1_0_3)))
    (k0_pay153 k0_pay32 (vnBlk m c t) (k0_pay134 (View.ld (iblk m c 10 t) (Rect.unit ![3, 0, 0] ![1, 128, 128] inb_S4x128x128_S1x128x128_3_0_0))) (View.ld (iblk m c 11 t) (Rect.unit ![0, 3] ![128, 1] inb_S128x4_S128x1_0_3))) (k0_pay154 (dyBlk m c t)) (ix2 y e)
      = DY m c t y e * MIX m c t y e :=
  have w := ws_ld m c t
  have b := bs_ld m c t
  pay165_at (F := fun y e => DY m c t y e * MIX m c t y e) (dy_at m c t) (vn_at m c t) (fun i j => (w i j).2.2.2) (fun i => (b i).2.2.2)
    (fun y d => ⟨(mix_groups (dy_at m c t) (vn_at m c t) (fun i j => (w i j).1) (fun i => (b i).1) y d).1.trans (congrArg (_ * ·) (mixG_eq m c t 0 y d)),
      (mix_groups (dy_at m c t) (vn_at m c t) (fun i j => (w i j).2.1) (fun i => (b i).2.1) y d).2.1.trans (congrArg (_ * ·) (mixG_eq m c t 1 y d)),
      (mix_groups (dy_at m c t) (vn_at m c t) (fun i j => (w i j).2.2.1) (fun i => (b i).2.2.1) y d).2.2.trans (congrArg (_ * ·) (mixG_eq m c t 2 y d)),
      congrArg (_ * ·) (mixG_eq m c t 3 y d)⟩) y e

end Cert.Merge.Kernel

end
-- ==== Proof.MergeKernelA.lean ====
/-
  The gated merge's kernel: the gradients of the gates' arguments and of the second branch.
-/
module

public import proofs.«01_k».proof.Proof.MergeMix

@[expose] public section

set_option maxRecDepth 16384

noncomputable section

namespace Cert.Merge.Kernel

open Cert.Kernel5Ideal Cert.Kernel5Ideal.Gen Idealize.ShloMosaic Idealize.ShloMosaic.TcCoe Idealize.SL.Sem Cert.Lift
open Cert.Lift.AnyRow
open Cert.FfnUp (row)
open Idealize.ShloMosaic.Pipeline (Dat)

variable (m : (ℓ : Loc nD τ sig) → Buf (Elt Ideal) ℓ) (c : Dev nD)

/-- The gradients of the gates' arguments at a grid point. -/
theorem dgA_at (t : Fin cfg0.N) (y : Fin 512) (e : Fin 1024) :
    k0_pay25 (k0_pay23 (dmBlk m c t) (paBlk m c t)) (k0_pay24 (k0_pay14 (iblk m c 4 t))) (ix2 y e)
      = dgA (X m c) (G m c) (W m c) (GS m c) (WS m c) (BS m c) (WA m c) (WO m c) (DX m c) (sq t y) (ps t y) e := by
  unfold k0_pay25 k0_pay23 k0_pay24
  pointwise [show ∀ i, k0_pay19 (k0_pay14 (iblk m c 4 t)) i = gateABlk m c t i from fun _ => rfl, gateA_at, dm_at, pa_at]
  rfl

theorem dgB_at (t : Fin cfg0.N) (y : Fin 512) (e : Fin 1024) :
    k0_pay26 (dmBlk m c t) (pbBlk m c t) (gateBBlk m c t) (ix2 y e)
      = dgB (X m c) (G m c) (W m c) (YB m c) (WB m c) (WO m c) (DX m c) (sq t y) (ps t y) e := by
  unfold k0_pay26
  pointwise [gateB_at, dm_at, pb_at]
  rfl

/-- The gradient of the second branch at a grid point. -/
theorem pay29_at (v : Vec Ideal S512x1024 .bf16) (w0 w1 w2 w3 : Vec Ideal S1x512x256 .bf16)
    (a : Fin 512 → Fin 1024 → EReal) (W : Fin 512 → Fin 1024 → EReal) (hv : ∀ y k, v (ix2 y k) = a y k)
    (h0 : ∀ k (e : Fin 256), w0 (ix3 0 k e) = W k ⟨e.val, by omega⟩) (h1 : ∀ k (e : Fin 256), w1 (ix3 0 k e) = W k ⟨256 + e.val, by omega⟩)
    (h2 : ∀ k (e : Fin 256), w2 (ix3 0 k e) = W k ⟨512 + e.val, by omega⟩) (h3 : ∀ k (e : Fin 256), w3 (ix3 0 k e) = W k ⟨768 + e.val, by omega⟩)
    (y : Fin 512) (k : Fin 512) : k0_pay29 v (k0_pay28 v) w0 w1 w2 w3 (ix2 y k) = ∑ e, a y e * W k e := by
  open_payloads
  pointwise [hv, h0, h1, h2, h3]
  exact (sum_quarters fun e => a y e * W k e).symm

theorem dyb_at (t : Fin cfg0.N) (y k : Fin 512) : k0_pay29 (dpbBlk m c t) (k0_pay28 (dpbBlk m c t))
    (View.ld (iblk m c 7 t) (Rect.unit ![0, 0, 0] ![1, 512, 256] inb_S4x512x256_S1x512x256_0_0_0))
    (View.ld (iblk m c 7 t) (Rect.unit ![1, 0, 0] ![1, 512, 256] inb_S4x512x256_S1x512x256_1_0_0))
    (View.ld (iblk m c 7 t) (Rect.unit ![2, 0, 0] ![1, 512, 256] inb_S4x512x256_S1x512x256_2_0_0))
    (View.ld (iblk m c 7 t) (Rect.unit ![3, 0, 0] ![1, 512, 256] inb_S4x512x256_S1x512x256_3_0_0)) (ix2 y k)
      = dyb (X m c) (G m c) (W m c) (WB m c) (WO m c) (DX m c) (sq t y) (ps t y) k :=
  pay29_at _ _ _ _ _ _ (fun k e => WB m c (ix3 0 k e)) (dpb_at m c t) (wb_ld m c t).1 (wb_ld m c t).2.1 (wb_ld m c t).2.2.1 (wb_ld m c t).2.2.2 y k

/-- The gradients of the gates' arguments, by the row of the result. -/
def spec12 (i : S4096x2048.Idx) : EReal :=
  if h : (i 1).val < 1024 then
    dgA (X m c) (G m c) (W m c) (GS m c) (WS m c) (BS m c) (WA m c) (WO m c) (DX m c)
      ⟨(i 0).val / 2048, Nat.div_lt_of_lt_mul (show (i 0).val < 2048 * 2 from (i 0).isLt)⟩ ⟨(i 0).val % 2048, Nat.mod_lt _ (by decide)⟩ ⟨(i 1).val, h⟩
  else
    dgB (X m c) (G m c) (W m c) (YB m c) (WB m c) (WO m c) (DX m c)
      ⟨(i 0).val / 2048, Nat.div_lt_of_lt_mul (show (i 0).val < 2048 * 2 from (i 0).isLt)⟩ ⟨(i 0).val % 2048, Nat.mod_lt _ (by decide)⟩
      ⟨(i 1).val - 1024, Nat.sub_lt_left_of_lt_add (Nat.le_of_not_lt h) (show (i 1).val < 1024 + 1024 from (i 1).isLt)⟩

theorem spec12_left (t : Fin cfg0.N) (y : Fin 512) (e : Fin 1024) :
    spec12 m c (ix2 (rowOf t y) ⟨e.val, by omega⟩)
      = dgA (X m c) (G m c) (W m c) (GS m c) (WS m c) (BS m c) (WA m c) (WO m c) (DX m c) (sq t y) (ps t y) e := by
  refine (dif_pos (show e.val < 1024 from e.isLt)).trans ?_
  rfl

theorem spec12_right (t : Fin cfg0.N) (y : Fin 512) (e : Fin 1024) :
    spec12 m c (ix2 (rowOf t y) ⟨1024 + e.val, by omega⟩)
      = dgB (X m c) (G m c) (W m c) (YB m c) (WB m c) (WO m c) (DX m c) (sq t y) (ps t y) e := by
  refine (dif_neg (show ¬1024 + e.val < 1024 by omega)).trans ?_
  exact congrArg (dgB _ _ _ _ _ _ _ _ _) (Fin.ext (Nat.add_sub_cancel_left _ _))

/-- The gradient of the second branch, by the row of the result. -/
def spec14 (i : S4096x512.Idx) : EReal :=
  dyb (X m c) (G m c) (W m c) (WB m c) (WO m c) (DX m c) ⟨(i 0).val / 2048, Nat.div_lt_of_lt_mul (show (i 0).val < 2048 * 2 from (i 0).isLt)⟩ ⟨(i 0).val % 2048, Nat.mod_lt _ (by decide)⟩ (i 1)

set_option maxHeartbeats 16000000 in
theorem point12_A (t : Fin cfg0.N) (h0 : t.val % 8 = 0) (h1 : ¬t.val % 8 = 7) (y : S512x2048.Idx) :
    (outsAt0 m c t.val t.isLt).1 y = spec12 m c (ix2 (rowOf t (y 0)) (y 1)) := by
  idx_vars y
  rw [outsAt0_A m c t h0 h1]
  frame_out
  canon_tiles x e
  all_goals
    idx_vars x
    have hb := Nat.lt_of_le_of_lt (Nat.le_of_eq e1.symm) y1.isLt
    obtain rfl : y1 = ⟨_, hb⟩ := Fin.ext e1
    obtain rfl : y0 = x0 := Fin.ext e0
  · refine (dgB_at m c t y0 x1).trans ?_
    exact (spec12_right m c t y0 x1).symm
  · refine (dgA_at m c t y0 x1).trans ?_
    exact (spec12_left m c t y0 x1).symm

set_option maxHeartbeats 16000000 in
theorem point12_B (t : Fin cfg0.N) (h0 : ¬t.val % 8 = 0) (h1 : ¬t.val % 8 = 7) (y : S512x2048.Idx) :
    (outsAt0 m c t.val t.isLt).1 y = spec12 m c (ix2 (rowOf t (y 0)) (y 1)) := by
  idx_vars y
  rw [outsAt0_B m c t h0 h1]
  frame_out
  canon_tiles x e
  all_goals
    idx_vars x
    have hb := Nat.lt_of_le_of_lt (Nat.le_of_eq e1.symm) y1.isLt
    obtain rfl : y1 = ⟨_, hb⟩ := Fin.ext e1
    obtain rfl : y0 = x0 := Fin.ext e0
  · refine (dgB_at m c t y0 x1).trans ?_
    exact (spec12_right m c t y0 x1).symm
  · refine (dgA_at m c t y0 x1).trans ?_
    exact (spec12_left m c t y0 x1).symm

set_option maxHeartbeats 16000000 in
theorem point12_C (t : Fin cfg0.N) (h0 : ¬t.val % 8 = 0) (h1 : t.val % 8 = 7) (y : S512x2048.Idx) :
    (outsAt0 m c t.val t.isLt).1 y = spec12 m c (ix2 (rowOf t (y 0)) (y 1)) := by
  idx_vars y
  rw [outsAt0_C m c t h0 h1]
  frame_out
  canon_tiles x e
  all_goals
    idx_vars x
    have hb := Nat.lt_of_le_of_lt (Nat.le_of_eq e1.symm) y1.isLt
    obtain rfl : y1 = ⟨_, hb⟩ := Fin.ext e1
    obtain rfl : y0 = x0 := Fin.ext e0
  · refine (dgB_at m c t y0 x1).trans ?_
    exact (spec12_right m c t y0 x1).symm
  · refine (dgA_at m c t y0 x1).trans ?_
    exact (spec12_left m c t y0 x1).symm

set_option maxHeartbeats 16000000 in
theorem point14_A (t : Fin cfg0.N) (h0 : t.val % 8 = 0) (h1 : ¬t.val % 8 = 7) (y : S512x512.Idx) :
    (outsAt0 m c t.val t.isLt).2.2.1 y = spec14 m c (ix2 (rowOf t (y 0)) (y 1)) := by
  idx_vars y
  rw [outsAt0_A m c t h0 h1]
  frame_out
  obtain ⟨a1, a2, a3, a4, a5, a6, a7, a8, a9, a10, a11, a12, a13, a14⟩ := names m c t
  simp only [a1, a3]
  exact dyb_at m c t y0 y1

set_option maxHeartbeats 16000000 in
theorem point14_B (t : Fin cfg0.N) (h0 : ¬t.val % 8 = 0) (h1 : ¬t.val % 8 = 7) (y : S512x512.Idx) :
    (outsAt0 m c t.val t.isLt).2.2.1 y = spec14 m c (ix2 (rowOf t (y 0)) (y 1)) := by
  idx_vars y
  rw [outsAt0_B m c t h0 h1]
  frame_out
  obtain ⟨a1, a2, a3, a4, a5, a6, a7, a8, a9, a10, a11, a12, a13, a14⟩ := names m c t
  simp only [a1, a3]
  exact dyb_at m c t y0 y1

set_option maxHeartbeats 16000000 in
theorem point14_C (t : Fin cfg0.N) (h0 : ¬t.val % 8 = 0) (h1 : t.val % 8 = 7) (y : S512x512.Idx) :
    (outsAt0 m c t.val t.isLt).2.2.1 y = spec14 m c (ix2 (rowOf t (y 0)) (y 1)) := by
  idx_vars y
  rw [outsAt0_C m c t h0 h1]
  frame_out
  obtain ⟨a1, a2, a3, a4, a5, a6, a7, a8, a9, a10, a11, a12, a13, a14⟩ := names m c t
  simp only [a1, a3]
  exact dyb_at m c t y0 y1

/-- What the body leaves in the block at a grid point. -/
theorem point12 (t : Fin cfg0.N) (y : S512x2048.Idx) : (outsAt0 m c t.val t.isLt).1 y = spec12 m c (ix2 (rowOf t (y 0)) (y 1)) := by
  by_cases h0 : t.val % 8 = 0 <;> by_cases h1 : t.val % 8 = 7
  · exfalso; omega
  · exact point12_A m c t h0 h1 y
  · exact point12_C m c t h0 h1 y
  · exact point12_B m c t h0 h1 y

theorem out12 : (dats m 0 c).arrAt 12 cfg0.N = spec12 m c := by
  refine Dat.arrAt_eq_of_covers (dats m 0 c) 12 _ (by decide +kernel) fun t hf y => ?_
  blk_simp
  rw [after0_12, point12]
  refine congrArg (spec12 m c) ?_
  blk_ext [idx t, rowOf]

/-- What the body leaves in the block at a grid point. -/
theorem point14 (t : Fin cfg0.N) (y : S512x512.Idx) : (outsAt0 m c t.val t.isLt).2.2.1 y = spec14 m c (ix2 (rowOf t (y 0)) (y 1)) := by
  by_cases h0 : t.val % 8 = 0 <;> by_cases h1 : t.val % 8 = 7
  · exfalso; omega
  · exact point14_A m c t h0 h1 y
  · exact point14_C m c t h0 h1 y
  · exact point14_B m c t h0 h1 y

theorem out14 : (dats m 0 c).arrAt 14 cfg0.N = spec14 m c := by
  refine Dat.arrAt_eq_of_covers (dats m 0 c) 14 _ (by decide +kernel) fun t hf y => ?_
  blk_simp
  rw [after0_14, point14]
  refine congrArg (spec14 m c) ?_
  blk_ext [idx t, rowOf]

end Cert.Merge.Kernel

end
-- ==== Proof.MergeKernelB.lean ====
/-
  The gated merge's kernel: the gradients of the merge's three weights.
-/
module

public import proofs.«01_k».proof.Proof.MergeMix

@[expose] public section

set_option maxRecDepth 16384

noncomputable section

namespace Cert.Merge.Kernel

open Cert.Kernel5Ideal Cert.Kernel5Ideal.Gen Idealize.ShloMosaic Idealize.ShloMosaic.TcCoe Idealize.SL.Sem Cert.Lift
open Cert.Lift.AnyRow
open Cert.FfnUp (row)
open Idealize.ShloMosaic.Pipeline (Dat)

variable (m : (ℓ : Loc nD τ sig) → Buf (Elt Ideal) ℓ) (c : Dev nD)

/-- What a grid point adds to the gradient of the weight of the merge's result. -/
def part15 (t : Fin cfg0.N) (j : S1024x1024.Idx) : EReal := ∑ y : Fin 512, gradOut (X m c) (G m c) (W m c) (GS m c) (WS m c) (BS m c) (YB m c) (WA m c) (WB m c) (DX m c) (sq t y) (ps t y) (j 0) (j 1)

set_option maxHeartbeats 16000000 in
theorem point15_A (t : Fin cfg0.N) (h0 : t.val % 8 = 0) (h1 : ¬t.val % 8 = 7) (j : S1024x1024.Idx) :
    (outsAt0 m c t.val t.isLt).2.2.2.2.2.2.2.2.2.1 j = 0 + part15 m c t j := by
  rw [outsAt0_A m c t h0 h1]
  frame_out
  unfold k0_pay173 k0_pay12 k0_pay6
  idx_vars j
  pointwise [merged_at, dx_at, ofBits_zero]
  rfl

set_option maxHeartbeats 16000000 in
theorem point15_B (t : Fin cfg0.N) (h0 : ¬t.val % 8 = 0) (h1 : ¬t.val % 8 = 7) (j : S1024x1024.Idx) :
    (outsAt0 m c t.val t.isLt).2.2.2.2.2.2.2.2.2.1 j = (outsAt0 m c (t.val - 1) (Nat.lt_of_le_of_lt (Nat.sub_le _ _) t.isLt)).2.2.2.2.2.2.2.2.2.1 j + part15 m c t j := by
  rw [outsAt0_B m c t h0 h1]
  frame_out
  unfold k0_pay173 k0_pay12
  idx_vars j
  pointwise [merged_at, dx_at, ofBits_zero]
  rw [(Memref.isWhole_whole _).read_unread]
  rfl

set_option maxHeartbeats 16000000 in
theorem point15_C (t : Fin cfg0.N) (h0 : ¬t.val % 8 = 0) (h1 : t.val % 8 = 7) (j : S1024x1024.Idx) :
    (outsAt0 m c t.val t.isLt).2.2.2.2.2.2.2.2.2.1 j = (outsAt0 m c (t.val - 1) (Nat.lt_of_le_of_lt (Nat.sub_le _ _) t.isLt)).2.2.2.2.2.2.2.2.2.1 j + part15 m c t j := by
  rw [outsAt0_C m c t h0 h1]
  frame_out
  unfold k0_pay173 k0_pay12
  idx_vars j
  pointwise [merged_at, dx_at, ofBits_zero]
  rw [(Memref.isWhole_whole _).read_unread]
  rfl

theorem step15 (t : Fin cfg0.N) (h0 : ¬t.val % 8 = 0) (j : S1024x1024.Idx) :
    (outsAt0 m c t.val t.isLt).2.2.2.2.2.2.2.2.2.1 j
      = (outsAt0 m c (t.val - 1) (Nat.lt_of_le_of_lt (Nat.sub_le _ _) t.isLt)).2.2.2.2.2.2.2.2.2.1 j + part15 m c t j := by
  by_cases h1 : t.val % 8 = 7
  · exact point15_C m c t h0 h1 j
  · exact point15_B m c t h0 h1 j

/-- At the last point: the sum over all rows. -/
theorem sum15 (t : Fin cfg0.N) (h : t.val % 8 = 7) (j : S1024x1024.Idx) :
    (outsAt0 m c t.val t.isLt).2.2.2.2.2.2.2.2.2.1 j = ∑ b : Fin 2, ∑ s : Fin 2048, gradOut (X m c) (G m c) (W m c) (GS m c) (WS m c) (BS m c) (YB m c) (WA m c) (WB m c) (DX m c) b s (j 0) (j 1) := by
  rw [Pipeline.eq_sum_fin_of_reset_step_apply_of_flush (fun n h => (outsAt0 m c n h).2.2.2.2.2.2.2.2.2.1) 8 (fun _ => 0) (part15 m c)
    (fun t h0 => point15_A m c t h0 (by omega)) (step15 m c) t h j, zero_add]
  refine Eq.trans ?_ (sum_blocks (N := 8) (T := 512) (B := 2) (S := 2048) rfl (fun t y => by omega) (fun n => Nat.mod_lt n (by decide))
    (fun b s => gradOut (X m c) (G m c) (W m c) (GS m c) (WS m c) (BS m c) (YB m c) (WA m c) (WB m c) (DX m c) b s (j 0) (j 1)))
  refine Finset.sum_congr rfl fun u _ => Finset.sum_congr rfl fun y _ => ?_
  have e0 := t.isLt
  have e0' := N_eq
  have e1 : 8 * (t.val / 8) + u.val = u.val := by omega
  simp only [sq, ps, e1]

/-- The gradient of the weight of the merge's result, over all rows. -/
def spec15 (i : S1024x1024.Idx) : EReal := ∑ b : Fin 2, ∑ s : Fin 2048, gradOut (X m c) (G m c) (W m c) (GS m c) (WS m c) (BS m c) (YB m c) (WA m c) (WB m c) (DX m c) b s (i 0) (i 1)

/-- At the last point the block is the scratch. -/
theorem point15 (t : Fin cfg0.N) (h : t.val % 8 = 7) (j : S1024x1024.Idx) :
    (outsAt0 m c t.val t.isLt).2.2.2.1 j = (outsAt0 m c t.val t.isLt).2.2.2.2.2.2.2.2.2.1 j := by
  rw [outsAt0_C m c t (by omega) h]
  frame_out
  unfold k0_pay3
  idx_vars j
  pointwise

theorem out15 : (dats m 0 c).arrAt 15 cfg0.N = spec15 m c := by
  refine Dat.arrAt_eq_of_covers (dats m 0 c) 15 _ (by decide +kernel) fun t hf y => ?_
  blk_simp
  rw [after0_15, point15 m c t ((flush0_15 t).mp hf), sum15 m c t ((flush0_15 t).mp hf)]
  have e : (win0_15.blk t).view.emb y = ix2 (y 0) (y 1) := by
    blk_ext [idx t]
  exact (congrArg (spec15 m c) e).symm

/-- What a grid point adds to the gradient of the weight of the first branch. -/
def part16 (t : Fin cfg0.N) (j : S512x1024.Idx) : EReal := ∑ y : Fin 512, gradA (X m c) (G m c) (W m c) (GS m c) (WS m c) (BS m c) (WO m c) (DX m c) (sq t y) (ps t y) (j 0) (j 1)

set_option maxHeartbeats 16000000 in
theorem point16_A (t : Fin cfg0.N) (h0 : t.val % 8 = 0) (h1 : ¬t.val % 8 = 7) (j : S512x1024.Idx) :
    (outsAt0 m c t.val t.isLt).2.2.2.2.2.2.2.2.2.2.1 j = 0 + part16 m c t j := by
  rw [outsAt0_A m c t h0 h1]
  frame_out
  obtain ⟨a1, a2, a3, a4, a5, a6, a7, a8, a9, a10, a11, a12, a13, a14⟩ := names m c t
  simp only [a1, a2]
  unfold k0_pay1 k0_pay15 k0_pay7
  idx_vars j
  pointwise [ya_at, dpa_at, ofBits_zero]
  rfl

set_option maxHeartbeats 16000000 in
theorem point16_B (t : Fin cfg0.N) (h0 : ¬t.val % 8 = 0) (h1 : ¬t.val % 8 = 7) (j : S512x1024.Idx) :
    (outsAt0 m c t.val t.isLt).2.2.2.2.2.2.2.2.2.2.1 j = (outsAt0 m c (t.val - 1) (Nat.lt_of_le_of_lt (Nat.sub_le _ _) t.isLt)).2.2.2.2.2.2.2.2.2.2.1 j + part16 m c t j := by
  rw [outsAt0_B m c t h0 h1]
  frame_out
  obtain ⟨a1, a2, a3, a4, a5, a6, a7, a8, a9, a10, a11, a12, a13, a14⟩ := names m c t
  simp only [a1, a2]
  unfold k0_pay1 k0_pay15
  idx_vars j
  pointwise [ya_at, dpa_at, ofBits_zero]
  rw [(Memref.isWhole_whole _).read_unread]
  rfl

set_option maxHeartbeats 16000000 in
theorem point16_C (t : Fin cfg0.N) (h0 : ¬t.val % 8 = 0) (h1 : t.val % 8 = 7) (j : S512x1024.Idx) :
    (outsAt0 m c t.val t.isLt).2.2.2.2.2.2.2.2.2.2.1 j = (outsAt0 m c (t.val - 1) (Nat.lt_of_le_of_lt (Nat.sub_le _ _) t.isLt)).2.2.2.2.2.2.2.2.2.2.1 j + part16 m c t j := by
  rw [outsAt0_C m c t h0 h1]
  frame_out
  obtain ⟨a1, a2, a3, a4, a5, a6, a7, a8, a9, a10, a11, a12, a13, a14⟩ := names m c t
  simp only [a1, a2]
  unfold k0_pay1 k0_pay15
  idx_vars j
  pointwise [ya_at, dpa_at, ofBits_zero]
  rw [(Memref.isWhole_whole _).read_unread]
  rfl

theorem step16 (t : Fin cfg0.N) (h0 : ¬t.val % 8 = 0) (j : S512x1024.Idx) :
    (outsAt0 m c t.val t.isLt).2.2.2.2.2.2.2.2.2.2.1 j
      = (outsAt0 m c (t.val - 1) (Nat.lt_of_le_of_lt (Nat.sub_le _ _) t.isLt)).2.2.2.2.2.2.2.2.2.2.1 j + part16 m c t j := by
  by_cases h1 : t.val % 8 = 7
  · exact point16_C m c t h0 h1 j
  · exact point16_B m c t h0 h1 j

/-- At the last point: the sum over all rows. -/
theorem sum16 (t : Fin cfg0.N) (h : t.val % 8 = 7) (j : S512x1024.Idx) :
    (outsAt0 m c t.val t.isLt).2.2.2.2.2.2.2.2.2.2.1 j = ∑ b : Fin 2, ∑ s : Fin 2048, gradA (X m c) (G m c) (W m c) (GS m c) (WS m c) (BS m c) (WO m c) (DX m c) b s (j 0) (j 1) := by
  rw [Pipeline.eq_sum_fin_of_reset_step_apply_of_flush (fun n h => (outsAt0 m c n h).2.2.2.2.2.2.2.2.2.2.1) 8 (fun _ => 0) (part16 m c)
    (fun t h0 => point16_A m c t h0 (by omega)) (step16 m c) t h j, zero_add]
  refine Eq.trans ?_ (sum_blocks (N := 8) (T := 512) (B := 2) (S := 2048) rfl (fun t y => by omega) (fun n => Nat.mod_lt n (by decide))
    (fun b s => gradA (X m c) (G m c) (W m c) (GS m c) (WS m c) (BS m c) (WO m c) (DX m c) b s (j 0) (j 1)))
  refine Finset.sum_congr rfl fun u _ => Finset.sum_congr rfl fun y _ => ?_
  have e0 := t.isLt
  have e0' := N_eq
  have e1 : 8 * (t.val / 8) + u.val = u.val := by omega
  simp only [sq, ps, e1]

/-- The gradient of the weight of the first branch, over all rows. -/
def spec16 (i : S512x1024.Idx) : EReal := ∑ b : Fin 2, ∑ s : Fin 2048, gradA (X m c) (G m c) (W m c) (GS m c) (WS m c) (BS m c) (WO m c) (DX m c) b s (i 0) (i 1)

/-- At the last point the block is the scratch. -/
theorem point16 (t : Fin cfg0.N) (h : t.val % 8 = 7) (j : S512x1024.Idx) :
    (outsAt0 m c t.val t.isLt).2.2.2.2.1 j = (outsAt0 m c t.val t.isLt).2.2.2.2.2.2.2.2.2.2.1 j := by
  rw [outsAt0_C m c t (by omega) h]
  frame_out
  unfold k0_pay4
  idx_vars j
  pointwise

theorem out16 : (dats m 0 c).arrAt 16 cfg0.N = spec16 m c := by
  refine Dat.arrAt_eq_of_covers (dats m 0 c) 16 _ (by decide +kernel) fun t hf y => ?_
  blk_simp
  rw [after0_16, point16 m c t ((flush0_16 t).mp hf), sum16 m c t ((flush0_16 t).mp hf)]
  have e : (win0_16.blk t).view.emb y = ix2 (y 0) (y 1) := by
    blk_ext [idx t]
  exact (congrArg (spec16 m c) e).symm

/-- What a grid point adds to the gradient of the weight of the second branch. -/
def part17 (t : Fin cfg0.N) (j : S512x1024.Idx) : EReal := ∑ y : Fin 512, gradB (X m c) (G m c) (W m c) (YB m c) (WO m c) (DX m c) (sq t y) (ps t y) (j 0) (j 1)

set_option maxHeartbeats 16000000 in
theorem point17_A (t : Fin cfg0.N) (h0 : t.val % 8 = 0) (h1 : ¬t.val % 8 = 7) (j : S512x1024.Idx) :
    (outsAt0 m c t.val t.isLt).2.2.2.2.2.2.2.2.2.2.2 j = 0 + part17 m c t j := by
  rw [outsAt0_A m c t h0 h1]
  frame_out
  obtain ⟨a1, a2, a3, a4, a5, a6, a7, a8, a9, a10, a11, a12, a13, a14⟩ := names m c t
  simp only [a1, a3]
  unfold k0_pay2 k0_pay16 k0_pay8
  idx_vars j
  pointwise [yb_at, dpb_at, ofBits_zero]
  rfl

set_option maxHeartbeats 16000000 in
theorem point17_B (t : Fin cfg0.N) (h0 : ¬t.val % 8 = 0) (h1 : ¬t.val % 8 = 7) (j : S512x1024.Idx) :
    (outsAt0 m c t.val t.isLt).2.2.2.2.2.2.2.2.2.2.2 j = (outsAt0 m c (t.val - 1) (Nat.lt_of_le_of_lt (Nat.sub_le _ _) t.isLt)).2.2.2.2.2.2.2.2.2.2.2 j + part17 m c t j := by
  rw [outsAt0_B m c t h0 h1]
  frame_out
  obtain ⟨a1, a2, a3, a4, a5, a6, a7, a8, a9, a10, a11, a12, a13, a14⟩ := names m c t
  simp only [a1, a3]
  unfold k0_pay2 k0_pay16
  idx_vars j
  pointwise [yb_at, dpb_at, ofBits_zero]
  rw [(Memref.isWhole_whole _).read_unread]
  rfl

set_option maxHeartbeats 16000000 in
theorem point17_C (t : Fin cfg0.N) (h0 : ¬t.val % 8 = 0) (h1 : t.val % 8 = 7) (j : S512x1024.Idx) :
    (outsAt0 m c t.val t.isLt).2.2.2.2.2.2.2.2.2.2.2 j = (outsAt0 m c (t.val - 1) (Nat.lt_of_le_of_lt (Nat.sub_le _ _) t.isLt)).2.2.2.2.2.2.2.2.2.2.2 j + part17 m c t j := by
  rw [outsAt0_C m c t h0 h1]
  frame_out
  obtain ⟨a1, a2, a3, a4, a5, a6, a7, a8, a9, a10, a11, a12, a13, a14⟩ := names m c t
  simp only [a1, a3]
  unfold k0_pay2 k0_pay16
  idx_vars j
  pointwise [yb_at, dpb_at, ofBits_zero]
  rw [(Memref.isWhole_whole _).read_unread]
  rfl

theorem step17 (t : Fin cfg0.N) (h0 : ¬t.val % 8 = 0) (j : S512x1024.Idx) :
    (outsAt0 m c t.val t.isLt).2.2.2.2.2.2.2.2.2.2.2 j
      = (outsAt0 m c (t.val - 1) (Nat.lt_of_le_of_lt (Nat.sub_le _ _) t.isLt)).2.2.2.2.2.2.2.2.2.2.2 j + part17 m c t j := by
  by_cases h1 : t.val % 8 = 7
  · exact point17_C m c t h0 h1 j
  · exact point17_B m c t h0 h1 j

/-- At the last point: the sum over all rows. -/
theorem sum17 (t : Fin cfg0.N) (h : t.val % 8 = 7) (j : S512x1024.Idx) :
    (outsAt0 m c t.val t.isLt).2.2.2.2.2.2.2.2.2.2.2 j = ∑ b : Fin 2, ∑ s : Fin 2048, gradB (X m c) (G m c) (W m c) (YB m c) (WO m c) (DX m c) b s (j 0) (j 1) := by
  rw [Pipeline.eq_sum_fin_of_reset_step_apply_of_flush (fun n h => (outsAt0 m c n h).2.2.2.2.2.2.2.2.2.2.2) 8 (fun _ => 0) (part17 m c)
    (fun t h0 => point17_A m c t h0 (by omega)) (step17 m c) t h j, zero_add]
  refine Eq.trans ?_ (sum_blocks (N := 8) (T := 512) (B := 2) (S := 2048) rfl (fun t y => by omega) (fun n => Nat.mod_lt n (by decide))
    (fun b s => gradB (X m c) (G m c) (W m c) (YB m c) (WO m c) (DX m c) b s (j 0) (j 1)))
  refine Finset.sum_congr rfl fun u _ => Finset.sum_congr rfl fun y _ => ?_
  have e0 := t.isLt
  have e0' := N_eq
  have e1 : 8 * (t.val / 8) + u.val = u.val := by omega
  simp only [sq, ps, e1]

/-- The gradient of the weight of the second branch, over all rows. -/
def spec17 (i : S512x1024.Idx) : EReal := ∑ b : Fin 2, ∑ s : Fin 2048, gradB (X m c) (G m c) (W m c) (YB m c) (WO m c) (DX m c) b s (i 0) (i 1)

/-- At the last point the block is the scratch. -/
theorem point17 (t : Fin cfg0.N) (h : t.val % 8 = 7) (j : S512x1024.Idx) :
    (outsAt0 m c t.val t.isLt).2.2.2.2.2.1 j = (outsAt0 m c t.val t.isLt).2.2.2.2.2.2.2.2.2.2.2 j := by
  rw [outsAt0_C m c t (by omega) h]
  frame_out
  unfold k0_pay5
  idx_vars j
  pointwise

theorem out17 : (dats m 0 c).arrAt 17 cfg0.N = spec17 m c := by
  refine Dat.arrAt_eq_of_covers (dats m 0 c) 17 _ (by decide +kernel) fun t hf y => ?_
  blk_simp
  rw [after0_17, point17 m c t ((flush0_17 t).mp hf), sum17 m c t ((flush0_17 t).mp hf)]
  have e : (win0_17.blk t).view.emb y = ix2 (y 0) (y 1) := by
    blk_ext [idx t]
  exact (congrArg (spec17 m c) e).symm

end Cert.Merge.Kernel

end
-- ==== Proof.MergeKernelC.lean ====
/-
  The gated merge's kernel: the gradients of the projection's two halves and of the norm's weight.
-/
module

public import proofs.«01_k».proof.Proof.MergeMix

@[expose] public section

set_option maxRecDepth 16384

noncomputable section

namespace Cert.Merge.Kernel

open Cert.Kernel5Ideal Cert.Kernel5Ideal.Gen Idealize.ShloMosaic Idealize.ShloMosaic.TcCoe Idealize.SL.Sem Cert.Lift
open Cert.Lift.AnyRow
open Cert.FfnUp (row)
open Idealize.ShloMosaic.Pipeline (Dat)

variable (m : (ℓ : Loc nD τ sig) → Buf (Elt Ideal) ℓ) (c : Dev nD)

/-- The tangents inside the two halves' activations. -/
theorem tanhU_at (t : Fin cfg0.N) (y e : Fin 512) :
    k0_pay36 (k0_pay35 (iblk m c 5 t)) (FloatOps.ofBits (F := Ideal) FTy.f32 1061962282#32) (ix2 y e) = gTanh (pu (X m c) (G m c) (W m c) (sq t y) (ps t y) e) := by
  open_payloads
  pointwise [a_at]
  rfl

theorem tanhV_at (t : Fin cfg0.N) (y e : Fin 512) :
    k0_pay38 (k0_pay34 (iblk m c 5 t)) (ix2 y e) = gTanh (pv (X m c) (G m c) (W m c) (sq t y) (ps t y) e) := by
  open_payloads
  pointwise [a_at]
  rfl

/-- The gradients of the projection's two halves, by the row of the result. -/
def spec13 (i : S4096x1024.Idx) : EReal :=
  if h : (i 1).val < 512 then
    du (X m c) (G m c) (W m c) (GS m c) (WS m c) (BS m c) (WA m c) (WO m c) (DX m c)
      ⟨(i 0).val / 2048, Nat.div_lt_of_lt_mul (show (i 0).val < 2048 * 2 from (i 0).isLt)⟩ ⟨(i 0).val % 2048, Nat.mod_lt _ (by decide)⟩ ⟨(i 1).val, h⟩
  else
    dv (X m c) (G m c) (W m c) (GS m c) (WS m c) (WA m c) (WO m c) (DX m c)
      ⟨(i 0).val / 2048, Nat.div_lt_of_lt_mul (show (i 0).val < 2048 * 2 from (i 0).isLt)⟩ ⟨(i 0).val % 2048, Nat.mod_lt _ (by decide)⟩
      ⟨(i 1).val - 512, Nat.sub_lt_left_of_lt_add (Nat.le_of_not_lt h) (show (i 1).val < 512 + 512 from (i 1).isLt)⟩

theorem spec13_left (t : Fin cfg0.N) (y e : Fin 512) :
    spec13 m c (ix2 (rowOf t y) ⟨e.val, by omega⟩) = du (X m c) (G m c) (W m c) (GS m c) (WS m c) (BS m c) (WA m c) (WO m c) (DX m c) (sq t y) (ps t y) e := by
  refine (dif_pos (show e.val < 512 from e.isLt)).trans ?_
  rfl

theorem spec13_right (t : Fin cfg0.N) (y e : Fin 512) :
    spec13 m c (ix2 (rowOf t y) ⟨512 + e.val, by omega⟩) = dv (X m c) (G m c) (W m c) (GS m c) (WS m c) (WA m c) (WO m c) (DX m c) (sq t y) (ps t y) e := by
  refine (dif_neg (show ¬512 + e.val < 512 by omega)).trans ?_
  exact congrArg (dv _ _ _ _ _ _ _ _ _ _) (Fin.ext (Nat.add_sub_cancel_left _ _))

set_option maxHeartbeats 16000000 in
theorem point13_A (t : Fin cfg0.N) (h0 : t.val % 8 = 0) (h1 : ¬t.val % 8 = 7) (y : S512x1024.Idx) :
    (outsAt0 m c t.val t.isLt).2.1 y = spec13 m c (ix2 (rowOf t (y 0)) (y 1)) := by
  idx_vars y
  rw [outsAt0_A m c t h0 h1]
  frame_out
  canon_tiles x e
  all_goals
    idx_vars x
    have hb := Nat.lt_of_le_of_lt (Nat.le_of_eq e1.symm) y1.isLt
    obtain rfl : y1 = ⟨_, hb⟩ := Fin.ext e1
    obtain rfl : y0 = x0 := Fin.ext e0
  · refine (pay172_at y0 x1 (pay169_at (dvn_cols m c t) (vv_at m c t) (fun y => rv_at m c t y 0) (gs_at m c t) y0 x1) (pv_at m c t y0 x1)
      (tanhV_at m c t y0 x1)).trans ?_
    exact (spec13_right m c t y0 x1).symm
  · refine (pay171_at y0 x1 (dym_at m c t y0 x1) (pu_at m c t y0 x1) (tanhU_at m c t y0 x1)).trans ?_
    exact (spec13_left m c t y0 x1).symm

set_option maxHeartbeats 16000000 in
theorem point13_B (t : Fin cfg0.N) (h0 : ¬t.val % 8 = 0) (h1 : ¬t.val % 8 = 7) (y : S512x1024.Idx) :
    (outsAt0 m c t.val t.isLt).2.1 y = spec13 m c (ix2 (rowOf t (y 0)) (y 1)) := by
  idx_vars y
  rw [outsAt0_B m c t h0 h1]
  frame_out
  canon_tiles x e
  all_goals
    idx_vars x
    have hb := Nat.lt_of_le_of_lt (Nat.le_of_eq e1.symm) y1.isLt
    obtain rfl : y1 = ⟨_, hb⟩ := Fin.ext e1
    obtain rfl : y0 = x0 := Fin.ext e0
  · refine (pay172_at y0 x1 (pay169_at (dvn_cols m c t) (vv_at m c t) (fun y => rv_at m c t y 0) (gs_at m c t) y0 x1) (pv_at m c t y0 x1)
      (tanhV_at m c t y0 x1)).trans ?_
    exact (spec13_right m c t y0 x1).symm
  · refine (pay171_at y0 x1 (dym_at m c t y0 x1) (pu_at m c t y0 x1) (tanhU_at m c t y0 x1)).trans ?_
    exact (spec13_left m c t y0 x1).symm

set_option maxHeartbeats 16000000 in
theorem point13_C (t : Fin cfg0.N) (h0 : ¬t.val % 8 = 0) (h1 : t.val % 8 = 7) (y : S512x1024.Idx) :
    (outsAt0 m c t.val t.isLt).2.1 y = spec13 m c (ix2 (rowOf t (y 0)) (y 1)) := by
  idx_vars y
  rw [outsAt0_C m c t h0 h1]
  frame_out
  canon_tiles x e
  all_goals
    idx_vars x
    have hb := Nat.lt_of_le_of_lt (Nat.le_of_eq e1.symm) y1.isLt
    obtain rfl : y1 = ⟨_, hb⟩ := Fin.ext e1
    obtain rfl : y0 = x0 := Fin.ext e0
  · refine (pay172_at y0 x1 (pay169_at (dvn_cols m c t) (vv_at m c t) (fun y => rv_at m c t y 0) (gs_at m c t) y0 x1) (pv_at m c t y0 x1)
      (tanhV_at m c t y0 x1)).trans ?_
    exact (spec13_right m c t y0 x1).symm
  · refine (pay171_at y0 x1 (dym_at m c t y0 x1) (pu_at m c t y0 x1) (tanhU_at m c t y0 x1)).trans ?_
    exact (spec13_left m c t y0 x1).symm

/-- What the body leaves in the block at a grid point. -/
theorem point13 (t : Fin cfg0.N) (y : S512x1024.Idx) : (outsAt0 m c t.val t.isLt).2.1 y = spec13 m c (ix2 (rowOf t (y 0)) (y 1)) := by
  by_cases h0 : t.val % 8 = 0 <;> by_cases h1 : t.val % 8 = 7
  · exfalso; omega
  · exact point13_A m c t h0 h1 y
  · exact point13_C m c t h0 h1 y
  · exact point13_B m c t h0 h1 y

theorem out13 : (dats m 0 c).arrAt 13 cfg0.N = spec13 m c := by
  refine Dat.arrAt_eq_of_covers (dats m 0 c) 13 _ (by decide +kernel) fun t hf y => ?_
  blk_simp
  rw [after0_13, point13]
  refine congrArg (spec13 m c) ?_
  blk_ext [idx t, rowOf]

/-- What a grid point adds to the gradient of the norm's weight. -/
def part20 (t : Fin cfg0.N) (j : S1x512.Idx) : EReal := ∑ y : Fin 512, gradGs (X m c) (G m c) (W m c) (WS m c) (WA m c) (WO m c) (DX m c) (sq t y) (ps t y) (j 1)

set_option maxHeartbeats 16000000 in
theorem point20_A (t : Fin cfg0.N) (h0 : t.val % 8 = 0) (h1 : ¬t.val % 8 = 7) (j : S1x512.Idx) :
    (outsAt0 m c t.val t.isLt).2.2.2.2.2.2.2.2.1 j = 0 + part20 m c t j := by
  rw [outsAt0_A m c t h0 h1]
  frame_out
  idx_vars j
  refine (pay168_at (dvn_cols m c t) (vv_at m c t) (fun y => rv_at m c t y 0) _ j0 j1).trans ?_
  unfold k0_pay11
  pointwise [ofBits_zero]
  rfl

set_option maxHeartbeats 16000000 in
theorem point20_B (t : Fin cfg0.N) (h0 : ¬t.val % 8 = 0) (h1 : ¬t.val % 8 = 7) (j : S1x512.Idx) :
    (outsAt0 m c t.val t.isLt).2.2.2.2.2.2.2.2.1 j = (outsAt0 m c (t.val - 1) (Nat.lt_of_le_of_lt (Nat.sub_le _ _) t.isLt)).2.2.2.2.2.2.2.2.1 j + part20 m c t j := by
  rw [outsAt0_B m c t h0 h1]
  frame_out
  idx_vars j
  refine (pay168_at (dvn_cols m c t) (vv_at m c t) (fun y => rv_at m c t y 0) _ j0 j1).trans ?_
  rfl

set_option maxHeartbeats 16000000 in
theorem point20_C (t : Fin cfg0.N) (h0 : ¬t.val % 8 = 0) (h1 : t.val % 8 = 7) (j : S1x512.Idx) :
    (outsAt0 m c t.val t.isLt).2.2.2.2.2.2.2.2.1 j = (outsAt0 m c (t.val - 1) (Nat.lt_of_le_of_lt (Nat.sub_le _ _) t.isLt)).2.2.2.2.2.2.2.2.1 j + part20 m c t j := by
  rw [outsAt0_C m c t h0 h1]
  frame_out
  idx_vars j
  refine (pay168_at (dvn_cols m c t) (vv_at m c t) (fun y => rv_at m c t y 0) _ j0 j1).trans ?_
  rfl

theorem step20 (t : Fin cfg0.N) (h0 : ¬t.val % 8 = 0) (j : S1x512.Idx) :
    (outsAt0 m c t.val t.isLt).2.2.2.2.2.2.2.2.1 j
      = (outsAt0 m c (t.val - 1) (Nat.lt_of_le_of_lt (Nat.sub_le _ _) t.isLt)).2.2.2.2.2.2.2.2.1 j + part20 m c t j := by
  by_cases h1 : t.val % 8 = 7
  · exact point20_C m c t h0 h1 j
  · exact point20_B m c t h0 h1 j

/-- At the last point: the sum over all rows. -/
theorem sum20 (t : Fin cfg0.N) (h : t.val % 8 = 7) (j : S1x512.Idx) :
    (outsAt0 m c t.val t.isLt).2.2.2.2.2.2.2.2.1 j = ∑ b : Fin 2, ∑ s : Fin 2048, gradGs (X m c) (G m c) (W m c) (WS m c) (WA m c) (WO m c) (DX m c) b s (j 1) := by
  rw [Pipeline.eq_sum_fin_of_reset_step_apply_of_flush (fun n h => (outsAt0 m c n h).2.2.2.2.2.2.2.2.1) 8 (fun _ => 0) (part20 m c)
    (fun t h0 => point20_A m c t h0 (by omega)) (step20 m c) t h j, zero_add]
  refine Eq.trans ?_ (sum_blocks (N := 8) (T := 512) (B := 2) (S := 2048) rfl (fun t y => by omega) (fun n => Nat.mod_lt n (by decide))
    (fun b s => gradGs (X m c) (G m c) (W m c) (WS m c) (WA m c) (WO m c) (DX m c) b s (j 1)))
  refine Finset.sum_congr rfl fun u _ => Finset.sum_congr rfl fun y _ => ?_
  have e0 := t.isLt
  have e0' := N_eq
  have e1 : 8 * (t.val / 8) + u.val = u.val := by omega
  simp only [sq, ps, e1]

/-- The gradient of the norm's weight, over all rows. -/
def spec20 (i : S1x512.Idx) : EReal := ∑ b : Fin 2, ∑ s : Fin 2048, gradGs (X m c) (G m c) (W m c) (WS m c) (WA m c) (WO m c) (DX m c) b s (i 1)

theorem out20 : (dats m 0 c).arrAt 20 cfg0.N = spec20 m c := by
  refine Dat.arrAt_eq_of_covers (dats m 0 c) 20 _ (by decide +kernel) fun t hf y => ?_
  blk_simp
  rw [after0_20, sum20 m c t ((flush0_20 t).mp hf)]
  have e : (win0_20.blk t).view.emb y = ix2 (y 0) (y 1) := by
    blk_ext [idx t]
  exact (congrArg (spec20 m c) e).symm

end Cert.Merge.Kernel

end
-- ==== Proof.MergeKernelD.lean ====
/-
  The gated merge's kernel: the gradients of the mixing weights and of the mixing bias.
-/
module

public import proofs.«01_k».proof.Proof.MergeMix
public import Idealize.ShloMosaic.Lib.Pipeline.ReadBack
public import proofs.«01_k».proof.Proof.FfnUpKernelW

@[expose] public section

set_option maxRecDepth 16384

noncomputable section

namespace Cert.Merge.Kernel

open Cert.Kernel5Ideal Cert.Kernel5Ideal.Gen Idealize.ShloMosaic Idealize.ShloMosaic.TcCoe Idealize.SL.Sem Cert.Lift
open Cert.Lift.AnyRow
open Cert.FfnUp (row)
open Idealize.ShloMosaic.Pipeline (Dat)

variable (m : (ℓ : Loc nD τ sig) → Buf (Elt Ideal) ℓ) (c : Dev nD)

/-- What a grid point adds to the gradients of the mixing weights and of the mixing bias. -/
def part18 (t : Fin cfg0.N) (j : S4x128x128.Idx) : EReal := gwG (DY m c t) (U m c t) (VN m c t) (j 0) (j 1) (j 2)
def part19 (t : Fin cfg0.N) (j : S128x4.Idx) : EReal := gbG (DY m c t) (U m c t) (j 1) (j 0)

/-- A chunk of a grid point's block, as a chunk of a sequence. -/
theorem chunk_pos (t : Fin cfg0.N) (q : Fin 4) (i : Fin 128) :
    sq t (col q i) = ⟨(t.val * 4 + q.val) / 16, by have := t.isLt; have := N_eq; omega⟩
    ∧ ps t (col q i) = pos ⟨(t.val * 4 + q.val) % 16, Nat.mod_lt _ (by decide)⟩ i := by
  refine ⟨Fin.ext ?_, Fin.ext ?_⟩
  · show (t.val * 512 + (q.val * 128 + i.val)) / 2048 = (t.val * 4 + q.val) / 16
    omega
  · show (t.val * 512 + (q.val * 128 + i.val)) % 2048 = (t.val * 4 + q.val) % 16 * 128 + i.val
    omega

set_option maxHeartbeats 16000000 in
theorem point18_A (t : Fin cfg0.N) (h0 : t.val % 8 = 0) (h1 : ¬t.val % 8 = 7) (j : S4x128x128.Idx) :
    (outsAt0 m c t.val t.isLt).2.2.2.2.2.2.1 j = 0 + part18 m c t j := by
  rw [outsAt0_A m c t h0 h1]
  idx_vars j
  frame_out
  obtain ⟨a1, a2, a3, a4, a5, a6, a7, a8, a9, a10, a11, a12, a13, a14⟩ := names m c t
  simp only [a1, a2]
  erw [a4]
  simp only [a5, a8]
  refine Eq.trans (Cert.FfnUp.Kernel.canon_front [_] [_, _, _, _] _ ?_) ?_
  · exact View.cover_of_tiled_head _ _ _ (by rfl) _
  canon_tiles x e
  all_goals
    idx_vars x
    obtain rfl : j1 = x1 := Fin.ext e1
    obtain rfl : j2 = x2 := Fin.ext e2
    have hb := Nat.lt_of_le_of_lt (Nat.le_of_eq e0.symm) j0.isLt
    obtain rfl : j0 = ⟨_, hb⟩ := Fin.ext e0
    obtain rfl : x0 = 0 := Subsingleton.elim _ _
  · refine (gw_at (dy_at m c t) (u_at m c t) (vn_at m c t) _ 0 j1 j2).2.2.2.trans ?_
    refine congrArg₂ (· + ·) ?_ rfl
    simp (disch := first | rfl | decide) only [↓View.readCov_skip, ↓View.readCov_fill]
    unfold k0_pay9
    pointwise [ofBits_zero]
  · refine (gw_at (dy_at m c t) (u_at m c t) (vn_at m c t) _ 0 j1 j2).2.2.1.trans ?_
    refine congrArg₂ (· + ·) ?_ rfl
    simp (disch := first | rfl | decide) only [↓View.readCov_skip, ↓View.readCov_fill]
    unfold k0_pay9
    pointwise [ofBits_zero]
  · refine (gw_at (dy_at m c t) (u_at m c t) (vn_at m c t) _ 0 j1 j2).2.1.trans ?_
    refine congrArg₂ (· + ·) ?_ rfl
    simp (disch := first | rfl | decide) only [↓View.readCov_skip, ↓View.readCov_fill]
    unfold k0_pay9
    pointwise [ofBits_zero]
  · refine (gw_at (dy_at m c t) (u_at m c t) (vn_at m c t) _ 0 j1 j2).1.trans ?_
    refine congrArg₂ (· + ·) ?_ rfl
    simp (disch := first | rfl | decide) only [↓View.readCov_skip, ↓View.readCov_fill]
    unfold k0_pay9
    pointwise [ofBits_zero]

set_option maxHeartbeats 16000000 in
theorem point18_B (t : Fin cfg0.N) (h0 : ¬t.val % 8 = 0) (h1 : ¬t.val % 8 = 7) (j : S4x128x128.Idx) :
    (outsAt0 m c t.val t.isLt).2.2.2.2.2.2.1 j = (outsAt0 m c (t.val - 1) (Nat.lt_of_le_of_lt (Nat.sub_le _ _) t.isLt)).2.2.2.2.2.2.1 j + part18 m c t j := by
  rw [outsAt0_B m c t h0 h1]
  idx_vars j
  frame_out
  canon_tiles x e
  all_goals
    idx_vars x
    obtain rfl : j1 = x1 := Fin.ext e1
    obtain rfl : j2 = x2 := Fin.ext e2
    have hb := Nat.lt_of_le_of_lt (Nat.le_of_eq e0.symm) j0.isLt
    obtain rfl : j0 = ⟨_, hb⟩ := Fin.ext e0
    obtain rfl : x0 = 0 := Subsingleton.elim _ _
  · refine (gw_at (dy_at m c t) (u_at m c t) (vn_at m c t) _ 0 j1 j2).2.2.2.trans ?_
    refine congrArg₂ (· + ·) ?_ rfl
    pointwise
  · refine (gw_at (dy_at m c t) (u_at m c t) (vn_at m c t) _ 0 j1 j2).2.2.1.trans ?_
    refine congrArg₂ (· + ·) ?_ rfl
    pointwise
  · refine (gw_at (dy_at m c t) (u_at m c t) (vn_at m c t) _ 0 j1 j2).2.1.trans ?_
    refine congrArg₂ (· + ·) ?_ rfl
    pointwise
  · refine (gw_at (dy_at m c t) (u_at m c t) (vn_at m c t) _ 0 j1 j2).1.trans ?_
    refine congrArg₂ (· + ·) ?_ rfl
    pointwise

set_option maxHeartbeats 16000000 in
theorem point18_C (t : Fin cfg0.N) (h0 : ¬t.val % 8 = 0) (h1 : t.val % 8 = 7) (j : S4x128x128.Idx) :
    (outsAt0 m c t.val t.isLt).2.2.2.2.2.2.1 j = (outsAt0 m c (t.val - 1) (Nat.lt_of_le_of_lt (Nat.sub_le _ _) t.isLt)).2.2.2.2.2.2.1 j + part18 m c t j := by
  rw [outsAt0_C m c t h0 h1]
  idx_vars j
  frame_out
  canon_tiles x e
  all_goals
    idx_vars x
    obtain rfl : j1 = x1 := Fin.ext e1
    obtain rfl : j2 = x2 := Fin.ext e2
    have hb := Nat.lt_of_le_of_lt (Nat.le_of_eq e0.symm) j0.isLt
    obtain rfl : j0 = ⟨_, hb⟩ := Fin.ext e0
    obtain rfl : x0 = 0 := Subsingleton.elim _ _
  · refine (gw_at (dy_at m c t) (u_at m c t) (vn_at m c t) _ 0 j1 j2).2.2.2.trans ?_
    refine congrArg₂ (· + ·) ?_ rfl
    pointwise
  · refine (gw_at (dy_at m c t) (u_at m c t) (vn_at m c t) _ 0 j1 j2).2.2.1.trans ?_
    refine congrArg₂ (· + ·) ?_ rfl
    pointwise
  · refine (gw_at (dy_at m c t) (u_at m c t) (vn_at m c t) _ 0 j1 j2).2.1.trans ?_
    refine congrArg₂ (· + ·) ?_ rfl
    pointwise
  · refine (gw_at (dy_at m c t) (u_at m c t) (vn_at m c t) _ 0 j1 j2).1.trans ?_
    refine congrArg₂ (· + ·) ?_ rfl
    pointwise

theorem step18 (t : Fin cfg0.N) (h0 : ¬t.val % 8 = 0) (j : S4x128x128.Idx) :
    (outsAt0 m c t.val t.isLt).2.2.2.2.2.2.1 j
      = (outsAt0 m c (t.val - 1) (Nat.lt_of_le_of_lt (Nat.sub_le _ _) t.isLt)).2.2.2.2.2.2.1 j + part18 m c t j := by
  by_cases h1 : t.val % 8 = 7
  · exact point18_C m c t h0 h1 j
  · exact point18_B m c t h0 h1 j

/-- At the last point: the sum over all chunks. -/
theorem sum18 (t : Fin cfg0.N) (h : t.val % 8 = 7) (j : S4x128x128.Idx) :
    (outsAt0 m c t.val t.isLt).2.2.2.2.2.2.1 j = if j 2 ≤ j 1 then ∑ b : Fin 2, ∑ n : Fin 16, gradWs (X m c) (G m c) (W m c) (GS m c) (WA m c) (WO m c) (DX m c) b n (j 0) (j 1) (j 2) else 0 := by
  rw [Pipeline.eq_sum_fin_of_reset_step_apply_of_flush (fun n h => (outsAt0 m c n h).2.2.2.2.2.2.1) 8 (fun _ => 0) (part18 m c)
    (fun t h0 => point18_A m c t h0 (by omega)) (step18 m c) t h j, zero_add]
  have e0 := t.isLt
  have e0' := N_eq
  unfold part18 gwG
  by_cases hj : j 2 ≤ j 1
  · refine (Finset.sum_congr rfl fun u _ => if_pos hj).trans ?_
    rw [if_pos hj]
    refine Eq.trans ?_ (sum_blocks (N := 8) (T := 4) (B := 2) (S := 16) rfl (fun t y => by omega) (fun n => Nat.mod_lt n (by decide))
      (fun b n => gradWs (X m c) (G m c) (W m c) (GS m c) (WA m c) (WO m c) (DX m c) b n (j 0) (j 1) (j 2)))
    refine Finset.sum_congr rfl fun u _ => Finset.sum_congr rfl fun q _ => Finset.sum_congr rfl fun d _ => ?_
    have e1 : 8 * (t.val / 8) + u.val = u.val := by omega
    have e2 := chunk_pos ⟨u.val, Nat.lt_of_lt_of_eq u.isLt N_eq.symm⟩ q (j 1)
    have e3 := chunk_pos ⟨u.val, Nat.lt_of_lt_of_eq u.isLt N_eq.symm⟩ q (j 2)
    simp only [DY, U, VN, ds, e1]
    rw [e2.1, e2.2, e3.1, e3.2]
  · rw [if_neg hj]
    exact (Finset.sum_congr rfl fun u _ => if_neg hj).trans Finset.sum_const_zero

/-- The gradient of the mixing weights, over all chunks. -/
def spec18 (i : S4x128x128.Idx) : EReal := if i 2 ≤ i 1 then ∑ b : Fin 2, ∑ n : Fin 16, gradWs (X m c) (G m c) (W m c) (GS m c) (WA m c) (WO m c) (DX m c) b n (i 0) (i 1) (i 2) else 0

theorem out18 : (dats m 0 c).arrAt 18 cfg0.N = spec18 m c := by
  refine Dat.arrAt_eq_of_covers (dats m 0 c) 18 _ (by decide +kernel) fun t hf y => ?_
  blk_simp
  rw [after0_18, sum18 m c t ((flush0_18 t).mp hf)]
  have e : (win0_18.blk t).view.emb y = ix3 (y 0) (y 1) (y 2) := by
    blk_ext [idx t]
  exact (congrArg (spec18 m c) e).symm

set_option maxHeartbeats 16000000 in
theorem point19_A (t : Fin cfg0.N) (h0 : t.val % 8 = 0) (h1 : ¬t.val % 8 = 7) (j : S128x4.Idx) :
    (outsAt0 m c t.val t.isLt).2.2.2.2.2.2.2.1 j = 0 + part19 m c t j := by
  rw [outsAt0_A m c t h0 h1]
  idx_vars j
  frame_out
  obtain ⟨a1, a2, a3, a4, a5, a6, a7, a8, a9, a10, a11, a12, a13, a14⟩ := names m c t
  simp only [a1, a2]
  erw [a4]
  simp only [a5]
  refine Eq.trans (Cert.FfnUp.Kernel.canon_front [_] [_, _, _, _] _ ?_) ?_
  · exact View.cover_of_tiled_head _ _ _ (by rfl) _
  canon_tiles x e
  all_goals
    idx_vars x
    obtain rfl : j0 = x0 := Fin.ext e0
    have hb := Nat.lt_of_le_of_lt (Nat.le_of_eq e1.symm) j1.isLt
    obtain rfl : j1 = ⟨_, hb⟩ := Fin.ext e1
    obtain rfl : x1 = 0 := Subsingleton.elim _ _
  · refine (gb_at (dy_at m c t) (u_at m c t) _ j0 0).2.2.2.trans ?_
    refine congrArg₂ (· + ·) ?_ rfl
    simp (disch := first | rfl | decide) only [↓View.readCov_skip, ↓View.readCov_fill]
    unfold k0_pay10
    pointwise [ofBits_zero]
  · refine (gb_at (dy_at m c t) (u_at m c t) _ j0 0).2.2.1.trans ?_
    refine congrArg₂ (· + ·) ?_ rfl
    simp (disch := first | rfl | decide) only [↓View.readCov_skip, ↓View.readCov_fill]
    unfold k0_pay10
    pointwise [ofBits_zero]
  · refine (gb_at (dy_at m c t) (u_at m c t) _ j0 0).2.1.trans ?_
    refine congrArg₂ (· + ·) ?_ rfl
    simp (disch := first | rfl | decide) only [↓View.readCov_skip, ↓View.readCov_fill]
    unfold k0_pay10
    pointwise [ofBits_zero]
  · refine (gb_at (dy_at m c t) (u_at m c t) _ j0 0).1.trans ?_
    refine congrArg₂ (· + ·) ?_ rfl
    simp (disch := first | rfl | decide) only [↓View.readCov_skip, ↓View.readCov_fill]
    unfold k0_pay10
    pointwise [ofBits_zero]

set_option maxHeartbeats 16000000 in
theorem point19_B (t : Fin cfg0.N) (h0 : ¬t.val % 8 = 0) (h1 : ¬t.val % 8 = 7) (j : S128x4.Idx) :
    (outsAt0 m c t.val t.isLt).2.2.2.2.2.2.2.1 j = (outsAt0 m c (t.val - 1) (Nat.lt_of_le_of_lt (Nat.sub_le _ _) t.isLt)).2.2.2.2.2.2.2.1 j + part19 m c t j := by
  rw [outsAt0_B m c t h0 h1]
  idx_vars j
  frame_out
  canon_tiles x e
  all_goals
    idx_vars x
    obtain rfl : j0 = x0 := Fin.ext e0
    have hb := Nat.lt_of_le_of_lt (Nat.le_of_eq e1.symm) j1.isLt
    obtain rfl : j1 = ⟨_, hb⟩ := Fin.ext e1
    obtain rfl : x1 = 0 := Subsingleton.elim _ _
  · refine (gb_at (dy_at m c t) (u_at m c t) _ j0 0).2.2.2.trans ?_
    refine congrArg₂ (· + ·) ?_ rfl
    pointwise
  · refine (gb_at (dy_at m c t) (u_at m c t) _ j0 0).2.2.1.trans ?_
    refine congrArg₂ (· + ·) ?_ rfl
    pointwise
  · refine (gb_at (dy_at m c t) (u_at m c t) _ j0 0).2.1.trans ?_
    refine congrArg₂ (· + ·) ?_ rfl
    pointwise
  · refine (gb_at (dy_at m c t) (u_at m c t) _ j0 0).1.trans ?_
    refine congrArg₂ (· + ·) ?_ rfl
    pointwise

set_option maxHeartbeats 16000000 in
theorem point19_C (t : Fin cfg0.N) (h0 : ¬t.val % 8 = 0) (h1 : t.val % 8 = 7) (j : S128x4.Idx) :
    (outsAt0 m c t.val t.isLt).2.2.2.2.2.2.2.1 j = (outsAt0 m c (t.val - 1) (Nat.lt_of_le_of_lt (Nat.sub_le _ _) t.isLt)).2.2.2.2.2.2.2.1 j + part19 m c t j := by
  rw [outsAt0_C m c t h0 h1]
  idx_vars j
  frame_out
  canon_tiles x e
  all_goals
    idx_vars x
    obtain rfl : j0 = x0 := Fin.ext e0
    have hb := Nat.lt_of_le_of_lt (Nat.le_of_eq e1.symm) j1.isLt
    obtain rfl : j1 = ⟨_, hb⟩ := Fin.ext e1
    obtain rfl : x1 = 0 := Subsingleton.elim _ _
  · refine (gb_at (dy_at m c t) (u_at m c t) _ j0 0).2.2.2.trans ?_
    refine congrArg₂ (· + ·) ?_ rfl
    pointwise
  · refine (gb_at (dy_at m c t) (u_at m c t) _ j0 0).2.2.1.trans ?_
    refine congrArg₂ (· + ·) ?_ rfl
    pointwise
  · refine (gb_at (dy_at m c t) (u_at m c t) _ j0 0).2.1.trans ?_
    refine congrArg₂ (· + ·) ?_ rfl
    pointwise
  · refine (gb_at (dy_at m c t) (u_at m c t) _ j0 0).1.trans ?_
    refine congrArg₂ (· + ·) ?_ rfl
    pointwise

theorem step19 (t : Fin cfg0.N) (h0 : ¬t.val % 8 = 0) (j : S128x4.Idx) :
    (outsAt0 m c t.val t.isLt).2.2.2.2.2.2.2.1 j
      = (outsAt0 m c (t.val - 1) (Nat.lt_of_le_of_lt (Nat.sub_le _ _) t.isLt)).2.2.2.2.2.2.2.1 j + part19 m c t j := by
  by_cases h1 : t.val % 8 = 7
  · exact point19_C m c t h0 h1 j
  · exact point19_B m c t h0 h1 j

/-- At the last point: the sum over all chunks. -/
theorem sum19 (t : Fin cfg0.N) (h : t.val % 8 = 7) (j : S128x4.Idx) :
    (outsAt0 m c t.val t.isLt).2.2.2.2.2.2.2.1 j = ∑ b : Fin 2, ∑ n : Fin 16, gradBs (X m c) (G m c) (W m c) (WA m c) (WO m c) (DX m c) b n (j 1) (j 0) := by
  rw [Pipeline.eq_sum_fin_of_reset_step_apply_of_flush (fun n h => (outsAt0 m c n h).2.2.2.2.2.2.2.1) 8 (fun _ => 0) (part19 m c)
    (fun t h0 => point19_A m c t h0 (by omega)) (step19 m c) t h j, zero_add]
  have e0 := t.isLt
  have e0' := N_eq
  unfold part19 gbG
  refine Eq.trans ?_ (sum_blocks (N := 8) (T := 4) (B := 2) (S := 16) rfl (fun t y => by omega) (fun n => Nat.mod_lt n (by decide))
    (fun b n => gradBs (X m c) (G m c) (W m c) (WA m c) (WO m c) (DX m c) b n (j 1) (j 0)))
  refine Finset.sum_congr rfl fun u _ => Finset.sum_congr rfl fun q _ => Finset.sum_congr rfl fun d _ => ?_
  have e1 : 8 * (t.val / 8) + u.val = u.val := by omega
  have e2 := chunk_pos ⟨u.val, Nat.lt_of_lt_of_eq u.isLt N_eq.symm⟩ q (j 0)
  simp only [DY, U, ds, e1]
  rw [e2.1, e2.2]

/-- The gradient of the mixing bias, over all chunks. -/
def spec19 (i : S128x4.Idx) : EReal := ∑ b : Fin 2, ∑ n : Fin 16, gradBs (X m c) (G m c) (W m c) (WA m c) (WO m c) (DX m c) b n (i 1) (i 0)

theorem out19 : (dats m 0 c).arrAt 19 cfg0.N = spec19 m c := by
  refine Dat.arrAt_eq_of_covers (dats m 0 c) 19 _ (by decide +kernel) fun t hf y => ?_
  blk_simp
  rw [after0_19, sum19 m c t ((flush0_19 t).mp hf)]
  have e : (win0_19.blk t).view.emb y = ix2 (y 0) (y 1) := by
    blk_ext [idx t]
  exact (congrArg (spec19 m c) e).symm

end Cert.Merge.Kernel

end
-- ==== Proof.MergeReference.lean ====
/-
  The gated merge's reference, row by row.
-/
module

public import proofs.«01_k».proof.Proof.Gen.Reference5Ideal.Run
public import proofs.«01_k».proof.Proof.Gen.Reference5Ideal.Read
public import proofs.«01_k».proof.Proof.MergeSpec

@[expose] public section

set_option maxRecDepth 16384

noncomputable section

namespace Cert.Merge.Reference

open Cert.Reference5Ideal Cert.Reference5Ideal.Gen Cert.Reference5Ideal.Value Cert.Reference5Ideal.Read Idealize.ShloMosaic Cert.Lift Cert.Lift.AnyRow
open Cert.FfnUp (row)
open Cert.FfnAct (mul_real)

variable (x : (⟨S2x2048x1024, .f32⟩ : BufTy).Contents (Elt Ideal)) (g : (⟨S1x1024, .f32⟩ : BufTy).Contents (Elt Ideal))
  (w : (⟨S1x1024x3840, .f32⟩ : BufTy).Contents (Elt Ideal)) (gs : (⟨S1x512, .f32⟩ : BufTy).Contents (Elt Ideal))
  (ws : (⟨S1x4x128x128, .f32⟩ : BufTy).Contents (Elt Ideal)) (bs : (⟨S1x4x128, .f32⟩ : BufTy).Contents (Elt Ideal))
  (yb : (⟨S2x2048x512, .f32⟩ : BufTy).Contents (Elt Ideal)) (wa wb : (⟨S1x512x1024, .f32⟩ : BufTy).Contents (Elt Ideal))
  (wo : (⟨S1x1024x1024, .f32⟩ : BufTy).Contents (Elt Ideal)) (dx : (⟨S2x2048x1024, .f32⟩ : BufTy).Contents (Elt Ideal))

theorem r_at (b : Fin 2) (s : Fin 2048) (z : Fin 1) : val_main_v8 (F := Ideal) x (ix3 b s z) = invRms (row x b s) := by
  pointwise [val_main_v8, val_main_v7, val_main_v5, val_main_v3, val_main_v2, val_main_v1, val_main_cst, val_main_v4, val_main_cst_0,
    val_main_v6, val_main_cst_1, ofBits_zero]
  rfl

theorem proj_at (b : Fin 2) (s : Fin 2048) (e : Fin 3840) : val_main_v15 (F := Ideal) x g w (ix3 b s e) = proj x g w b s e := by
  pointwise [val_main_v15, val_main_v13, val_main_v10, val_main_v9, val_main_v12, val_main_v11, val_main_v0, val_main_v14, r_at]
  rfl

theorem pu_at (b : Fin 2) (s : Fin 2048) (e : Fin 512) : val_main_v18 (F := Ideal) x g w (ix3 b s e) = pu x g w b s e := by
  pointwise [val_main_v18, val_main_v16, proj_at]
  rfl

theorem pv_at (b : Fin 2) (s : Fin 2048) (e : Fin 512) : val_main_v19 (F := Ideal) x g w (ix3 b s e) = pv x g w b s e := by
  pointwise [val_main_v19, val_main_v16, proj_at]
  rfl

theorem thU_at (b : Fin 2) (s : Fin 2048) (e : Fin 512) : val_main_v30 (F := Ideal) x g w (ix3 b s e) = gTanh (pu x g w b s e) := by
  pointwise [val_main_v30, val_main_v29, val_main_v28, val_main_cst_4, val_main_v27, val_main_v26, val_main_v25, val_main_cst_3,
    val_main_v21, val_main_v20, pu_at]
  rfl

theorem thV_at (b : Fin 2) (s : Fin 2048) (e : Fin 512) : val_main_v51 (F := Ideal) x g w (ix3 b s e) = gTanh (pv x g w b s e) := by
  pointwise [val_main_v51, val_main_v50, val_main_v49, val_main_cst_11, val_main_v48, val_main_v47, val_main_v46, val_main_cst_10,
    val_main_v42, val_main_v41, pv_at]
  rfl

theorem u_at (b : Fin 2) (s : Fin 2048) (e : Fin 512) : val_main_v40 (F := Ideal) x g w (ix3 b s e) = gelu (pu x g w b s e) := by
  pointwise [val_main_v40, val_main_v39, val_main_v38, val_main_cst_8, val_main_v37, val_main_v36, val_main_cst_7, pu_at, thU_at]
  exact gelu_eq _

theorem vv_at (b : Fin 2) (s : Fin 2048) (e : Fin 512) : val_main_v61 (F := Ideal) x g w (ix3 b s e) = vv x g w b s e := by
  pointwise [val_main_v61, val_main_v60, val_main_v59, val_main_cst_15, val_main_v58, val_main_v57, val_main_cst_14, pv_at, thV_at]
  exact gelu_eq _

theorem ms_at (b : Fin 2) (s : Fin 2048) (z : Fin 1) :
    val_main_v71 (F := Ideal) x g w (ix3 b s z)
      = meanSqOf (Ideal.ofBits .f32 0x44000000#32) (vv x g w b s) := by
  pointwise [val_main_v71, val_main_v69, val_main_v67, val_main_v66, val_main_v65, val_main_cst_16, val_main_v68, val_main_cst_17,
    val_main_v70, val_main_cst_18, vv_at, ofBits_zero]
  rfl

theorem rv_at (b : Fin 2) (s : Fin 2048) (z : Fin 1) : val_main_v72 (F := Ideal) x g w (ix3 b s z) = rv x g w b s := by
  pointwise [val_main_v72, ms_at]
  rfl

theorem vhat_at (b : Fin 2) (s : Fin 2048) (e : Fin 512) : val_main_v77 (F := Ideal) x g w (ix3 b s e) = vhat x g w b s e := by
  pointwise [val_main_v77, val_main_v76, vv_at, rv_at]
  rfl

theorem vn_at (b : Fin 2) (s : Fin 2048) (e : Fin 512) : val_main_v80 (F := Ideal) x g w gs (ix3 b s e) = vn x g w gs b s e := by
  pointwise [val_main_v80, val_main_v79, val_main_v78, val_main_v62, vhat_at]
  rfl

theorem mask_at (t j : Fin 128) : val_main_v83 (F := Ideal)  (ix2 t j) = if j ≤ t then 1 else 0 := by
  pointwise [val_main_v83, val_main_call0_v4, val_main_call0_v2, val_main_call0_v0, val_main_call0_v1, val_main_call0_c,
    val_main_call0_v3, val_main_v82, val_main_cst_20, val_main_call0_v5, val_main_call0_cst, ofBits_zero]
  rw [show IntOp.addi (BitVec.ofNat 32 t.val) 0#32 = BitVec.ofNat 32 t.val from BitVec.add_zero _]
  exact mask_select t j 1 0

theorem wm_at (h : Fin 4) (t j : Fin 128) : val_main_v86 (F := Ideal) ws (ix3 h t j) = wm ws h t j := by
  pointwise [val_main_v86, val_main_v63, val_main_v85, val_main_v84, mask_at]
  exact mask_mul _ _

theorem mix_at (b : Fin 2) (s : Fin 2048) (e : Fin 512) :
    val_main_v93 (F := Ideal) x g w gs ws bs (ix3 b s e)
      = mixAt x g w gs ws bs b s e := by
  pointwise [val_main_v93, val_main_v92, val_main_v88, val_main_v87, val_main_v81, val_main_v91, val_main_v90, val_main_v89, val_main_v64,
    vn_at, wm_at]
  exact congrArg (· + _) (Finset.sum_congr rfl fun j _ => (mul_comm _ _).trans
    (congrArg (fun e => wm ws _ _ j * vn x g w gs b _ e) (col_split e).symm))

theorem ya_at (b : Fin 2) (s : Fin 2048) (e : Fin 512) :
    val_main_v94 (F := Ideal) x g w gs ws bs (ix3 b s e)
      = ya x g w gs ws bs b s e := by
  pointwise [val_main_v94, u_at, mix_at]
  rfl

theorem gateA_at (b : Fin 2) (s : Fin 2048) (e : Fin 1024) : val_main_v102 (F := Ideal) x g w (ix3 b s e) = gateA x g w b s e := by
  pointwise [val_main_v102, val_main_v101, val_main_cst_22, val_main_v100, val_main_v99, val_main_cst_21, val_main_v98, val_main_v97,
    val_main_v95, val_main_v17, proj_at]
  rfl

theorem gateB_at (b : Fin 2) (s : Fin 2048) (e : Fin 1024) : val_main_v114 (F := Ideal) x g w (ix3 b s e) = gateB x g w b s e := by
  pointwise [val_main_v114, val_main_v113, val_main_cst_25, val_main_v112, val_main_v111, val_main_cst_24, val_main_v110, val_main_v109,
    val_main_v96, val_main_v17, proj_at]
  exact congrArg (fun n => Ideal.logistic (proj x g w b s n)) (Fin.ext (Nat.add_assoc 1792 1024 e.val).symm)

theorem pa_at (b : Fin 2) (s : Fin 2048) (e : Fin 1024) :
    val_main_v107 (F := Ideal) x g w gs ws bs wa (ix3 b s e)
      = pa x g w gs ws bs wa b s e := by
  pointwise [val_main_v107, val_main_v106, ya_at]
  rfl

theorem pb_at (b : Fin 2) (s : Fin 2048) (e : Fin 1024) : val_main_v119 (F := Ideal) yb wb (ix3 b s e) = pb yb wb b s e := by
  pointwise [val_main_v119, val_main_v118]
  rfl

theorem merged_at (b : Fin 2) (s : Fin 2048) (e : Fin 1024) :
    val_main_v121 (F := Ideal) x g w gs ws bs yb wa wb (ix3 b s e)
      = merged x g w gs ws bs yb wa wb b s e := by
  pointwise [val_main_v121, val_main_v108, val_main_v120, gateA_at, pa_at, gateB_at, pb_at]
  rfl

theorem dm_at (b : Fin 2) (s : Fin 2048) (e : Fin 1024) : val_main_v126 (F := Ideal) wo dx (ix3 b s e) = dm wo dx b s e := by
  pointwise [val_main_v126, val_main_v122]
  rfl

theorem dpa_at (b : Fin 2) (s : Fin 2048) (e : Fin 1024) : val_main_v135 (F := Ideal) x g w wo dx (ix3 b s e) = dpa x g w wo dx b s e := by
  pointwise [val_main_v135, gateA_at, dm_at]
  exact mul_comm _ _

theorem dpb_at (b : Fin 2) (s : Fin 2048) (e : Fin 1024) : val_main_v128 (F := Ideal) x g w wo dx (ix3 b s e) = dpb x g w wo dx b s e := by
  pointwise [val_main_v128, gateB_at, dm_at]
  exact mul_comm _ _

theorem dya_at (b : Fin 2) (s : Fin 2048) (e : Fin 512) :
    val_main_v139 (F := Ideal) x g w wa wo dx (ix3 b s e)
      = dya x g w wa wo dx b s e := by
  pointwise [val_main_v139, val_main_v106, dpa_at]
  rfl

theorem dyb_at (b : Fin 2) (s : Fin 2048) (e : Fin 512) :
    val_main_v132 (F := Ideal) x g w wb wo dx (ix3 b s e)
      = dyb x g w wb wo dx b s e := by
  pointwise [val_main_v132, val_main_v118, dpb_at]
  rfl

theorem dgA_at (b : Fin 2) (s : Fin 2048) (e : Fin 1024) :
    val_main_v141 (F := Ideal) x g w gs ws bs wa wo dx (ix3 b s e)
      = dgA x g w gs ws bs wa wo dx b s e := by
  pointwise [val_main_v141, val_main_v136, val_main_v105, val_main_v104, val_main_v103, val_main_cst_23, dm_at, pa_at, gateA_at]
  rfl

theorem dgB_at (b : Fin 2) (s : Fin 2048) (e : Fin 1024) :
    val_main_v134 (F := Ideal) x g w yb wb wo dx (ix3 b s e)
      = dgB x g w yb wb wo dx b s e := by
  pointwise [val_main_v134, val_main_v129, val_main_v117, val_main_v116, val_main_v115, val_main_cst_26, dm_at, pb_at, gateB_at]
  rfl

theorem ds_at (b : Fin 2) (s : Fin 2048) (e : Fin 512) :
    val_main_v143 (F := Ideal) x g w wa wo dx (ix3 b s e)
      = ds x g w wa wo dx b s e := by
  pointwise [val_main_v143, u_at, dya_at]
  exact mul_comm _ _

theorem dvnT_at (h : Fin 4) (b : Fin 2) (n : Fin 16) (d j : Fin 128) :
    val_main_v152 (F := Ideal) x g w ws wa wo dx (ix5 h b n d j)
      = dvn x g w ws wa wo dx b n j h d := by
  pointwise [val_main_v152, val_main_v150, val_main_v145, ds_at, wm_at]
  exact Finset.sum_congr rfl fun t _ => mul_comm _ _

theorem dvn_at (b : Fin 2) (s : Fin 2048) (e : Fin 512) :
    val_main_v156 (F := Ideal) x g w ws wa wo dx (ix3 b s e)
      = dvnAt x g w ws wa wo dx b s e := by
  pointwise [val_main_v156, val_main_v153, dvnT_at]
  rfl

/-- The contraction over sequences, chunks and columns. -/
abbrev mixDot := dot_S4x2x16x128x128_S2x16x128x4x128_S4x128x128_123_014_4_2_0_3

theorem mixDot_contr : mixDot.contr = ⟨3, ![2, 16, 128]⟩ := by
  refine congrArg (Shape.mk 3) (funext fun p => ?_)
  match p with
  | ⟨0, _⟩ => rfl
  | ⟨1, _⟩ => rfl
  | ⟨2, _⟩ => rfl

/-- The index of the contraction, from its three coordinates. -/
def mixIdx (b : Fin 2) (n : Fin 16) (d : Fin 128) : mixDot.contr.Idx := (Shape.idxEquiv mixDot_contr).symm (ix3 b n d)

theorem mixIdx_0 (b : Fin 2) (n : Fin 16) (d : Fin 128) (h : 0 < mixDot.contr.rank) : (mixIdx b n d ⟨0, h⟩).val = b.val :=
  Shape.idxEquiv_symm_apply_val mixDot_contr _ _
theorem mixIdx_1 (b : Fin 2) (n : Fin 16) (d : Fin 128) (h : 1 < mixDot.contr.rank) : (mixIdx b n d ⟨1, h⟩).val = n.val :=
  Shape.idxEquiv_symm_apply_val mixDot_contr _ _
theorem mixIdx_2 (b : Fin 2) (n : Fin 16) (d : Fin 128) (h : 2 < mixDot.contr.rank) : (mixIdx b n d ⟨2, h⟩).val = d.val :=
  Shape.idxEquiv_symm_apply_val mixDot_contr _ _

/-- The contraction, read at an index. -/
theorem mix_contr (L : S4x2x16x128x128.Idx → EReal) (R : S2x16x128x4x128.Idx → EReal) (h : Fin 4) (t j : Fin 128) :
    Ideal.matmul mixDot L R (fun _ => 0) (ix3 h t j) = ∑ b : Fin 2, ∑ n : Fin 16, ∑ d : Fin 128, L (ix5 h b n d t) * R (ix5 b n j h d) := by
  unfold Ideal.matmul
  rw [zero_add, ← Equiv.sum_comp (Shape.idxEquiv mixDot_contr).symm, sum_idx3]
  refine Finset.sum_congr rfl fun b _ => Finset.sum_congr rfl fun n _ => Finset.sum_congr rfl fun d _ => ?_
  refine congrArg₂ (· * ·) (congrArg L ?_) (congrArg R ?_)
  · funext a
    match a with
    | ⟨0, _⟩ => exact Fin.ext rfl
    | ⟨1, _⟩ => exact Fin.ext (mixIdx_0 b n d (by decide))
    | ⟨2, _⟩ => exact Fin.ext (mixIdx_1 b n d (by decide))
    | ⟨3, _⟩ => exact Fin.ext (mixIdx_2 b n d (by decide))
    | ⟨4, _⟩ => exact Fin.ext rfl
  · funext a
    match a with
    | ⟨0, _⟩ => exact Fin.ext (mixIdx_0 b n d (by decide))
    | ⟨1, _⟩ => exact Fin.ext (mixIdx_1 b n d (by decide))
    | ⟨2, _⟩ => exact Fin.ext rfl
    | ⟨3, _⟩ => exact Fin.ext rfl
    | ⟨4, _⟩ => exact Fin.ext (mixIdx_2 b n d (by decide))

theorem gwsFull_at (h : Fin 4) (t j : Fin 128) :
    val_main_v151 (F := Ideal) x g w gs wa wo dx (ix3 h t j)
      = ∑ b : Fin 2, ∑ n : Fin 16, gradWs x g w gs wa wo dx b n h t j := by
  pointwise [val_main_v151, val_main_v150, val_main_v145, val_main_v81, ds_at, vn_at, mix_contr]
  rfl

theorem gbs_at (h : Fin 4) (t : Fin 128) :
    val_main_v149 (F := Ideal) x g w wa wo dx (ix2 h t)
      = ∑ b : Fin 2, ∑ n : Fin 16, gradBs x g w wa wo dx b n h t := by
  pointwise [val_main_v149, val_main_v148, val_main_v147, val_main_v146, val_main_v145, val_main_cst_27, val_main_cst_28, ds_at,
    sum_drop_mix, ofBits_zero, Fin.sum_univ_one]
  rfl

theorem gg_at (e : Fin 512) :
    val_main_v162 (F := Ideal) x g w ws wa wo dx (ix1 e)
      = ∑ b : Fin 2, ∑ s : Fin 2048, gradGs x g w ws wa wo dx b s e := by
  pointwise [val_main_v162, val_main_v159, val_main_v158, val_main_v157, val_main_cst_29, val_main_cst_30, vhat_at, dvn_at, sum_drop_lead,
    ofBits_zero, Fin.sum_univ_one]
  exact Finset.sum_congr rfl fun b _ => Finset.sum_congr rfl fun s _ => mul_comm _ _

theorem dnv_at (b : Fin 2) (s : Fin 2048) (e : Fin 512) :
    val_main_v161 (F := Ideal) x g w gs ws wa wo dx (ix3 b s e)
      = dnv x g w gs ws wa wo dx b s e := by
  pointwise [val_main_v161, val_main_v160, val_main_v78, val_main_v62, dvn_at]
  rfl

theorem msg_at (b : Fin 2) (s : Fin 2048) (z : Fin 1) :
    val_main_v170 (F := Ideal) x g w gs ws wa wo dx (ix3 b s z)
      = meanSqGradOf (Ideal.ofBits .f32 0x44000000#32) (vv x g w b s) (dnv x g w gs ws wa wo dx b s) := by
  pointwise [val_main_v170, val_main_v168, val_main_v165, val_main_v164, val_main_v163, val_main_cst_31, val_main_v75, val_main_v74,
    val_main_cst_19, val_main_v73, val_main_v169, val_main_cst_32, vv_at, dnv_at, rv_at, ms_at, ofBits_zero]
  rfl

theorem dvv_at (hx : IsReal x) (hg : IsReal g) (hw : IsReal w) (hgs : IsReal gs) (hs : IsReal ws) (ha : IsReal wa) (ho : IsReal wo) (hd : IsReal dx) (b : Fin 2) (s : Fin 2048) (e : Fin 512) :
    val_main_v176 (F := Ideal) x g w gs ws wa wo dx (ix3 b s e)
      = normGradOf (Ideal.ofBits .f32 0x44000000#32) (vv x g w b s) (dnv x g w gs ws wa wo dx b s) e := by
  pointwise [val_main_v176, val_main_v174, val_main_v167, val_main_v166, val_main_v173, val_main_v172, val_main_v171, val_main_cst_33,
    val_main_v175, dnv_at, rv_at, vv_at, msg_at, ofBits_zero, Fin.sum_univ_one, zero_add]
  exact normGrad_sum x g w gs ws wa wo dx hx hg hw hgs hs ha ho hd b s e

theorem daV_at (hx : IsReal x) (hg : IsReal g) (hw : IsReal w) (hgs : IsReal gs) (hs : IsReal ws) (ha : IsReal wa) (ho : IsReal wo) (hd : IsReal dx) (b : Fin 2) (s : Fin 2048) (e : Fin 512) :
    val_main_v191 (F := Ideal) x g w gs ws wa wo dx (ix3 b s e)
      = dv x g w gs ws wa wo dx b s e := by
  pointwise [val_main_v191, val_main_v187, val_main_v181, val_main_v60, val_main_v59, val_main_cst_15, val_main_v58, val_main_v57,
    val_main_cst_14, val_main_v186, val_main_v185, val_main_cst_35, val_main_v184, val_main_v183, val_main_v182, val_main_cst_34,
    val_main_v180, val_main_v56, val_main_v53, val_main_v52, val_main_cst_12, val_main_v55, val_main_v54, val_main_cst_13, val_main_v190,
    val_main_v189, val_main_v188, val_main_cst_36, val_main_v45, val_main_v44, val_main_cst_9, val_main_v43,
    dvv_at x g w gs ws wa wo dx hx hg hw hgs hs ha ho hd, thV_at, pv_at]
  exact geluGrad_sum (normGrad_real x g w gs ws wa wo dx hx hg hw hgs hs ha ho hd b s e) (proj_real x g w hx hg hw b s _)

theorem daU_at (hx : IsReal x) (hg : IsReal g) (hw : IsReal w) (hgs : IsReal gs) (hs : IsReal ws) (hb : IsReal bs) (ha : IsReal wa) (ho : IsReal wo)
    (hd : IsReal dx) (b : Fin 2) (s : Fin 2048) (e : Fin 512) :
    val_main_v203 (F := Ideal) x g w gs ws bs wa wo dx (ix3 b s e)
      = du x g w gs ws bs wa wo dx b s e := by
  pointwise [val_main_v203, val_main_v199, val_main_v193, val_main_v144, val_main_v39, val_main_v38, val_main_cst_8, val_main_v37,
    val_main_v36, val_main_cst_7, val_main_v198, val_main_v197, val_main_cst_38, val_main_v196, val_main_v195, val_main_v194,
    val_main_cst_37, val_main_v192, val_main_v35, val_main_v32, val_main_v31, val_main_cst_5, val_main_v34, val_main_v33, val_main_cst_6,
    val_main_v202, val_main_v201, val_main_v200, val_main_cst_39, val_main_v24, val_main_v23, val_main_cst_2, val_main_v22, dya_at,
    mix_at, thU_at, pu_at]
  exact geluGrad_sum (mul_real (dya_real x g w wa wo dx hx hg hw ha ho hd b s e) (mixAt_real x g w gs ws bs hx hg hw hgs hs hb b s e))
      (proj_real x g w hx hg hw b s _)

theorem res_dgA (i : Fin 4096) (e : Fin 1024) :
    val_main_v206 (F := Ideal) x g w gs ws bs yb wa wb wo dx (ix2 i ⟨e.val, by omega⟩)
      = dgA x g w gs ws bs wa wo dx (⟨i.val / 2048, by omega⟩) (⟨i.val % 2048, by omega⟩) e := by
  pointwise [val_main_v206, val_main_v205, val_main_v142, dgA_at, dgB_at]

theorem res_dgB (i : Fin 4096) (e : Fin 1024) :
    val_main_v206 (F := Ideal) x g w gs ws bs yb wa wb wo dx (ix2 i ⟨1024 + e.val, by omega⟩)
      = dgB x g w yb wb wo dx (⟨i.val / 2048, by omega⟩) (⟨i.val % 2048, by omega⟩) e := by
  pointwise [val_main_v206, val_main_v205, val_main_v142, dgA_at, dgB_at]

theorem res_daU (hx : IsReal x) (hg : IsReal g) (hw : IsReal w) (hgs : IsReal gs) (hs : IsReal ws) (hb : IsReal bs) (ha : IsReal wa) (ho : IsReal wo)
    (hd : IsReal dx) (i : Fin 4096) (e : Fin 512) :
    val_main_v208 (F := Ideal) x g w gs ws bs wa wo dx (ix2 i ⟨e.val, by omega⟩)
      = du x g w gs ws bs wa wo dx (⟨i.val / 2048, by omega⟩) (⟨i.val % 2048, by omega⟩) e := by
  pointwise [val_main_v208, val_main_v207, val_main_v204, daU_at x g w gs ws bs wa wo dx hx hg hw hgs hs hb ha ho hd,
    daV_at x g w gs ws wa wo dx hx hg hw hgs hs ha ho hd]

theorem res_daV (hx : IsReal x) (hg : IsReal g) (hw : IsReal w) (hgs : IsReal gs) (hs : IsReal ws) (hb : IsReal bs) (ha : IsReal wa) (ho : IsReal wo)
    (hd : IsReal dx) (i : Fin 4096) (e : Fin 512) :
    val_main_v208 (F := Ideal) x g w gs ws bs wa wo dx (ix2 i ⟨512 + e.val, by omega⟩)
      = dv x g w gs ws wa wo dx (⟨i.val / 2048, by omega⟩) (⟨i.val % 2048, by omega⟩) e := by
  pointwise [val_main_v208, val_main_v207, val_main_v204, daU_at x g w gs ws bs wa wo dx hx hg hw hgs hs hb ha ho hd,
    daV_at x g w gs ws wa wo dx hx hg hw hgs hs ha ho hd]

theorem res_dyb (i : Fin 4096) (e : Fin 512) :
    val_main_v210 (F := Ideal) x g w wb wo dx (ix2 i e)
      = dyb x g w wb wo dx (⟨i.val / 2048, by omega⟩) (⟨i.val % 2048, by omega⟩) e := by
  pointwise [val_main_v210, val_main_v209, dyb_at]

theorem res_out (e j : Fin 1024) :
    val_main_v212 (F := Ideal) x g w gs ws bs yb wa wb dx (ix2 e j)
      = ∑ b : Fin 2, ∑ s : Fin 2048, gradOut x g w gs ws bs yb wa wb dx b s e j := by
  pointwise [val_main_v212, val_main_v211, val_main_v127, val_main_v125, val_main_v124, merged_at]
  exact Finset.sum_congr rfl fun b _ => Finset.sum_congr rfl fun s _ => mul_comm _ _

theorem res_wa (k : Fin 512) (e : Fin 1024) :
    val_main_v214 (F := Ideal) x g w gs ws bs wo dx (ix2 k e)
      = ∑ b : Fin 2, ∑ s : Fin 2048, gradA x g w gs ws bs wo dx b s k e := by
  pointwise [val_main_v214, val_main_v213, val_main_v140, val_main_v138, val_main_v137, dpa_at, ya_at]
  exact Finset.sum_congr rfl fun b _ => Finset.sum_congr rfl fun s _ => mul_comm _ _

theorem res_wb (k : Fin 512) (e : Fin 1024) :
    val_main_v216 (F := Ideal) x g w yb wo dx (ix2 k e)
      = ∑ b : Fin 2, ∑ s : Fin 2048, gradB x g w yb wo dx b s k e := by
  pointwise [val_main_v216, val_main_v215, val_main_v133, val_main_v131, val_main_v130, dpb_at]
  exact Finset.sum_congr rfl fun b _ => Finset.sum_congr rfl fun s _ => mul_comm _ _

theorem res_ws (h : Fin 4) (t j : Fin 128) :
    val_main_v217 (F := Ideal) x g w gs wa wo dx (ix3 h t j)
      = if j ≤ t then ∑ b : Fin 2, ∑ n : Fin 16, gradWs x g w gs wa wo dx b n h t j else 0 := by
  pointwise [val_main_v217, val_main_v178, val_main_v155, val_main_v154, val_main_v84, gwsFull_at, mask_at]
  exact mask_mul _ _

theorem res_bs (t : Fin 128) (h : Fin 4) :
    val_main_v219 (F := Ideal) x g w wa wo dx (ix2 t h)
      = ∑ b : Fin 2, ∑ n : Fin 16, gradBs x g w wa wo dx b n h t := by
  pointwise [val_main_v219, val_main_v218, val_main_v177, gbs_at]

theorem res_gs (z : Fin 1) (e : Fin 512) :
    val_main_v179 (F := Ideal) x g w ws wa wo dx (ix2 z e)
      = ∑ b : Fin 2, ∑ s : Fin 2048, gradGs x g w ws wa wo dx b s e := by
  pointwise [val_main_v179, gg_at]

end Cert.Merge.Reference

end
-- ==== Proof.MergeFrame.lean ====
/-
  The merge's reference runs to its end.
-/
module

public import proofs.«01_k».proof.Defs
public import Idealize.ShloMosaic.Lib.Quiescent
public import proofs.«01_k».proof.Proof.Gen.Reference5Ideal.Run

@[expose] public section

noncomputable section

namespace Cert.Merge

open Idealize.ShloMosaic Idealize.ShloMosaic.TcCoe Idealize.SL.Sem

/-- The reference runs, its arguments end unchanged and no semaphore counts. -/
theorem frame_reference : Cert.quiescent_Reference5Ideal (hReference5Ideal := Cert.Reference5Ideal.Gen.facts) := fun m ρ _ =>
  (θ_run _ _ _).mono (fun r h => ⟨fun c => (h c).2.2.2.2.2.2.2.2.2, sem_eq_zero_of_no_sems (by decide) r.2⟩)
    (Cert.Reference5Ideal.Value.run (F := Ideal) m ρ)

end Cert.Merge

end
-- ==== Proof.MergeClaim.lean ====
/-
  The merge of the two branches with the spatial gate: the kernel's gradients are the reference's.
-/
module

public import proofs.«01_k».proof.Defs
public import proofs.«01_k».proof.Proof.Gen.Pre_finite_args5
public import Idealize.ShloMosaic.Lib.Quiescent
public import proofs.«01_k».proof.Proof.MergeKernelA
public import proofs.«01_k».proof.Proof.MergeKernelB
public import proofs.«01_k».proof.Proof.MergeKernelC
public import proofs.«01_k».proof.Proof.MergeKernelD
public import proofs.«01_k».proof.Proof.MergeReference
public import proofs.«01_k».proof.Proof.MergeFrame

@[expose] public section

set_option maxRecDepth 16384

noncomputable section

namespace Cert.Merge

open Idealize.ShloMosaic Idealize.ShloMosaic.TcCoe Idealize.SL.Sem Cert.Lift Cert.Pre_finite_args5

/-- The precondition says that every argument but the other branch's output and its projection is real. -/
theorem isReal_args (x : S2x2048x1024.Idx → EReal) (g : S1x1024.Idx → EReal) (w : S1x1024x3840.Idx → EReal) (gs : S1x512.Idx → EReal)
    (ws : S1x4x128x128.Idx → EReal) (bs : S1x4x128.Idx → EReal) (yb : S2x2048x512.Idx → EReal) (wa wb : S1x512x1024.Idx → EReal)
    (wo : S1x1024x1024.Idx → EReal) (dx : S2x2048x1024.Idx → EReal)
    (h : letI := Cert.Pre_finite_args5.Gen.facts; fn (F := Ideal) x g w gs ws bs yb wa wb wo dx = fun _ => 1#1) :
    IsReal x ∧ IsReal g ∧ IsReal w ∧ IsReal gs ∧ IsReal ws ∧ IsReal bs ∧ IsReal wa ∧ IsReal wo ∧ IsReal dx := by
  have h := congrFun h ix0
  simp only [fn, fn_part1, fn_part2] at h
  obtain ⟨h, hd⟩ := IntOp.andi_eq_one.1 h
  obtain ⟨h, ho⟩ := IntOp.andi_eq_one.1 h
  obtain ⟨h, ha⟩ := IntOp.andi_eq_one.1 h
  obtain ⟨h, hb⟩ := IntOp.andi_eq_one.1 h
  obtain ⟨h, hs⟩ := IntOp.andi_eq_one.1 h
  obtain ⟨h, hgs⟩ := IntOp.andi_eq_one.1 h
  obtain ⟨h, hw⟩ := IntOp.andi_eq_one.1 h
  obtain ⟨hx, hg⟩ := IntOp.andi_eq_one.1 h
  exact ⟨isReal_of_all x _ (fun _ => ofBits_top) _ _ _ _ hx, isReal_of_all g _ (fun _ => ofBits_top) _ _ _ _ hg,
    isReal_of_all w _ (fun _ => ofBits_top) _ _ _ _ hw, isReal_of_all gs _ (fun _ => ofBits_top) _ _ _ _ hgs,
    isReal_of_all ws _ (fun _ => ofBits_top) _ _ _ _ hs, isReal_of_all bs _ (fun _ => ofBits_top) _ _ _ _ hb,
    isReal_of_all wa _ (fun _ => ofBits_top) _ _ _ _ ha, isReal_of_all wo _ (fun _ => ofBits_top) _ _ _ _ ho,
    isReal_of_all dx _ (fun _ => ofBits_top) _ _ _ _ hd⟩

open Cert.Kernel5Ideal Cert.Kernel5Ideal.Value Kernel

/-- The reference's gradient of the two gates' arguments is the kernel's. -/
theorem gates_eq (m : (ℓ : Loc nD τ sig) → Buf (Elt Ideal) ℓ) (c : Dev nD) (i0 : Fin 4096) (i1 : Fin 2048) :
    Cert.Reference5Ideal.Read.val_main_v206 (F := Ideal) (X m c) (G m c) (W m c) (GS m c) (WS m c) (BS m c) (YB m c) (WA m c) (WB m c) (WO m c)
      (DX m c) (ix2 i0 i1) = spec12 m c (ix2 i0 i1) := by
  by_cases h : i1.val < 1024
  · refine (Reference.res_dgA _ _ _ _ _ _ _ _ _ _ _ i0 ⟨i1.val, h⟩).trans (Eq.symm ?_)
    refine (dif_pos (show i1.val < 1024 from h)).trans ?_
    rfl
  · obtain ⟨k, hk, rfl⟩ : ∃ (k : Fin 1024) (hk : 1024 + k.val < 2048), i1 = ⟨1024 + k.val, hk⟩ :=
      ⟨⟨i1.val - 1024, by omega⟩, by show 1024 + (i1.val - 1024) < 2048; omega, Fin.ext (show i1.val = 1024 + (i1.val - 1024) by omega)⟩
    refine (Reference.res_dgB _ _ _ _ _ _ _ _ _ _ _ i0 k).trans (Eq.trans ?_ (dif_neg h).symm)
    exact congrArg (dgB _ _ _ _ _ _ _ _ _) (Fin.ext (Nat.add_sub_cancel_left _ _).symm)

/-- The reference's gradient of the spatial gate's arguments is the kernel's. -/
theorem gating_eq (m : (ℓ : Loc nD τ sig) → Buf (Elt Ideal) ℓ) (c : Dev nD) (hx : IsReal (X m c)) (hg : IsReal (G m c)) (hw : IsReal (W m c))
    (hgs : IsReal (GS m c)) (hs : IsReal (WS m c)) (hb : IsReal (BS m c)) (ha : IsReal (WA m c)) (ho : IsReal (WO m c)) (hd : IsReal (DX m c))
    (i0 : Fin 4096) (i1 : Fin 1024) :
    Cert.Reference5Ideal.Read.val_main_v208 (F := Ideal) (X m c) (G m c) (W m c) (GS m c) (WS m c) (BS m c) (WA m c) (WO m c) (DX m c)
      (ix2 i0 i1) = spec13 m c (ix2 i0 i1) := by
  by_cases h : i1.val < 512
  · refine (Reference.res_daU _ _ _ _ _ _ _ _ _ hx hg hw hgs hs hb ha ho hd i0 ⟨i1.val, h⟩).trans (Eq.symm ?_)
    refine (dif_pos (show i1.val < 512 from h)).trans ?_
    rfl
  · obtain ⟨k, hk, rfl⟩ : ∃ (k : Fin 512) (hk : 512 + k.val < 1024), i1 = ⟨512 + k.val, hk⟩ :=
      ⟨⟨i1.val - 512, by omega⟩, by show 512 + (i1.val - 512) < 1024; omega, Fin.ext (show i1.val = 512 + (i1.val - 512) by omega)⟩
    refine (Reference.res_daV _ _ _ _ _ _ _ _ _ hx hg hw hgs hs hb ha ho hd i0 k).trans (Eq.trans ?_ (dif_neg h).symm)
    exact congrArg (dv _ _ _ _ _ _ _ _ _ _) (Fin.ext (Nat.add_sub_cancel_left _ _).symm)

/-- On finite arguments the reference's results are the kernel's. -/
theorem algebraic : Cert.algebraic_Kernel5Ideal_Reference5Ideal_pre_finite_args5 (hKernel5Ideal := Cert.Kernel5Ideal.Gen.facts)
    (hReference5Ideal := Cert.Reference5Ideal.Gen.facts) (hPre_finite_args5 := Cert.Pre_finite_args5.Gen.facts) := by
  intro m g m' g' hpre hagree
  refine ⟨fun c => spec12 m c, fun c => spec13 m c, fun c => spec14 m c, fun c => spec15 m c, fun c => spec16 m c, fun c => spec17 m c,
    fun c => spec18 m c, fun c => spec19 m c, fun c => spec20 m c,
    (θ_run _ _ _).mono (fun r h c => ?_) (Cert.Kernel5Ideal.Value.run_blocks m g),
    (θ_run _ _ _).mono (fun r h c => ?_) (Cert.Reference5Ideal.Value.run m' g')⟩
  · obtain ⟨h12, h13, h14, h15, h16, h17, h18, h19, h20, hr⟩ := h c
    exact ⟨h12.trans (out12 m c), h13.trans (out13 m c), h14.trans (out14 m c), h15.trans (out15 m c), h16.trans (out16 m c),
      h17.trans (out17 m c), h18.trans (out18 m c), h19.trans (out19 m c), h20.trans (out20 m c), hr⟩
  obtain ⟨e0, e1, e2, e3, e4, e5, e6, e7, e8, e9, e10⟩ := hagree c
  obtain ⟨hx, hg, hw, hgs, hs, hb, ha, ho, hd⟩ := isReal_args _ _ _ _ _ _ _ _ _ _ _ (hpre c)
  obtain ⟨h12, h13, h14, h15, h16, h17, h18, h19, h20, hr⟩ := h c
  refine ⟨h12.trans ((Cert.Reference5Ideal.Read.val_main_v206_eq _).trans
      ((congr (congr (congr (congr (congr (congr (congr (congr (congr (congr (congrArg (Cert.Reference5Ideal.Read.val_main_v206 (F := Ideal)) e0) e1) e2) e3) e4) e5) e6) e7) e8) e9) e10).trans (funext fun i => ?_))),
    h13.trans ((Cert.Reference5Ideal.Read.val_main_v208_eq _).trans
      ((congr (congr (congr (congr (congr (congr (congr (congr (congrArg (Cert.Reference5Ideal.Read.val_main_v208 (F := Ideal)) e0) e1) e2) e3) e4) e5) e7) e9) e10).trans (funext fun i => ?_))),
    h14.trans ((Cert.Reference5Ideal.Read.val_main_v210_eq _).trans
      ((congr (congr (congr (congr (congr (congrArg (Cert.Reference5Ideal.Read.val_main_v210 (F := Ideal)) e0) e1) e2) e8) e9) e10).trans (funext fun i => ?_))),
    h15.trans ((Cert.Reference5Ideal.Read.val_main_v212_eq _).trans
      ((congr (congr (congr (congr (congr (congr (congr (congr (congr (congrArg (Cert.Reference5Ideal.Read.val_main_v212 (F := Ideal)) e0) e1) e2) e3) e4) e5) e6) e7) e8) e10).trans (funext fun i => ?_))),
    h16.trans ((Cert.Reference5Ideal.Read.val_main_v214_eq _).trans
      ((congr (congr (congr (congr (congr (congr (congr (congrArg (Cert.Reference5Ideal.Read.val_main_v214 (F := Ideal)) e0) e1) e2) e3) e4) e5) e9) e10).trans (funext fun i => ?_))),
    h17.trans ((Cert.Reference5Ideal.Read.val_main_v216_eq _).trans
      ((congr (congr (congr (congr (congr (congrArg (Cert.Reference5Ideal.Read.val_main_v216 (F := Ideal)) e0) e1) e2) e6) e9) e10).trans (funext fun i => ?_))),
    h18.trans ((Cert.Reference5Ideal.Read.val_main_v217_eq _).trans
      ((congr (congr (congr (congr (congr (congr (congrArg (Cert.Reference5Ideal.Read.val_main_v217 (F := Ideal)) e0) e1) e2) e3) e7) e9) e10).trans (funext fun i => ?_))),
    h19.trans ((Cert.Reference5Ideal.Read.val_main_v219_eq _).trans
      ((congr (congr (congr (congr (congr (congrArg (Cert.Reference5Ideal.Read.val_main_v219 (F := Ideal)) e0) e1) e2) e7) e9) e10).trans (funext fun i => ?_))),
    h20.trans ((Cert.Reference5Ideal.Read.val_main_v179_eq _).trans
      ((congr (congr (congr (congr (congr (congr (congrArg (Cert.Reference5Ideal.Read.val_main_v179 (F := Ideal)) e0) e1) e2) e4) e7) e9) e10).trans (funext fun i => ?_))),
    hr⟩
  all_goals
    idx_vars i
  · exact gates_eq m c i0 i1
  · exact gating_eq m c hx hg hw hgs hs hb ha ho hd i0 i1
  · exact Reference.res_dyb _ _ _ _ _ _ i0 i1
  · exact Reference.res_out _ _ _ _ _ _ _ _ _ _ i0 i1
  · exact Reference.res_wa _ _ _ _ _ _ _ _ i0 i1
  · exact Reference.res_wb _ _ _ _ _ _ i0 i1
  · exact Reference.res_ws _ _ _ _ _ _ _ i0 i1 i2
  · exact Reference.res_bs _ _ _ _ _ _ i0 i1
  · exact Reference.res_gs _ _ _ _ _ _ _ i0 i1

end Cert.Merge

end
-- ==== Proof.FwdGateReference.lean ====
/-
  The forward projection's reference, row by row.
-/
module

public import proofs.«01_k».proof.Proof.Gen.Reference7Ideal.Run
public import proofs.«01_k».proof.Proof.Gen.Reference7Ideal.Read
public import proofs.«01_k».proof.Proof.MergeSpec

@[expose] public section

set_option maxRecDepth 16384

noncomputable section

namespace Cert.FwdGate.Reference

open Cert.Reference7Ideal Cert.Reference7Ideal.Gen Cert.Reference7Ideal.Value Cert.Reference7Ideal.Read Idealize.ShloMosaic Cert.Lift Cert.Lift.AnyRow
open Cert.FfnUp (row)
open Cert.Merge

variable (x : (⟨S2x2048x1024, .f32⟩ : BufTy).Contents (Elt Ideal)) (g : (⟨S1x1024, .f32⟩ : BufTy).Contents (Elt Ideal))
  (w : (⟨S1x1024x3840, .f32⟩ : BufTy).Contents (Elt Ideal)) (gs : (⟨S1x512, .f32⟩ : BufTy).Contents (Elt Ideal))
  (ws : (⟨S1x4x128x128, .f32⟩ : BufTy).Contents (Elt Ideal)) (bs : (⟨S1x4x128, .f32⟩ : BufTy).Contents (Elt Ideal))

theorem norm_at (b : Fin 2) (s : Fin 2048) (e : Fin 1024) :
    val_main_v13 (F := Ideal) x g (ix3 b s e) = row x b s e * invRms (row x b s) * g (ix2 0 e) := by
  pointwise [val_main_v13, val_main_v10, val_main_v9, val_main_v12, val_main_v11, val_main_v0, val_main_v8, val_main_v7, val_main_v5,
    val_main_v3, val_main_v2, val_main_v1, val_main_cst, val_main_v4, val_main_cst_0, val_main_v6, val_main_cst_1, ofBits_zero]
  rfl

theorem saved_at (b : Fin 2) (s : Fin 2048) (e : Fin 1024) :
    val_main_v90 (F := Ideal) x g (ix3 b s e) = row x b s e * invRms (row x b s) * g (ix2 0 e) := by
  pointwise [val_main_v90, val_main_v87, val_main_v86, val_main_v89, val_main_v88, val_main_v77, val_main_v85, val_main_v84, val_main_v82,
    val_main_v80, val_main_v79, val_main_v78, val_main_cst_14, val_main_v81, val_main_cst_15, val_main_v83, val_main_cst_16, ofBits_zero]
  rfl

theorem proj_at (b : Fin 2) (s : Fin 2048) (e : Fin 3840) : val_main_v15 (F := Ideal) x g w (ix3 b s e) = proj x g w b s e := by
  pointwise [val_main_v15, val_main_v14, norm_at]
  rfl

theorem pu_at (b : Fin 2) (s : Fin 2048) (e : Fin 512) : val_main_v19 (F := Ideal) x g w (ix3 b s e) = pu x g w b s e := by
  pointwise [val_main_v19, val_main_v16, proj_at]
  rfl

theorem pv_at (b : Fin 2) (s : Fin 2048) (e : Fin 512) : val_main_v20 (F := Ideal) x g w (ix3 b s e) = pv x g w b s e := by
  pointwise [val_main_v20, val_main_v16, proj_at]
  rfl

theorem u_at (b : Fin 2) (s : Fin 2048) (e : Fin 512) : val_main_v33 (F := Ideal) x g w (ix3 b s e) = gelu (pu x g w b s e) := by
  pointwise [val_main_v33, val_main_v32, val_main_v31, val_main_cst_5, val_main_v30, val_main_v29, val_main_v28, val_main_cst_4,
    val_main_v27, val_main_v26, val_main_v25, val_main_cst_3, val_main_v24, val_main_v23, val_main_cst_2, val_main_v22, val_main_v21, pu_at]
  exact gelu_eq _

theorem vv_at (b : Fin 2) (s : Fin 2048) (e : Fin 512) : val_main_v46 (F := Ideal) x g w (ix3 b s e) = vv x g w b s e := by
  pointwise [val_main_v46, val_main_v45, val_main_v44, val_main_cst_9, val_main_v43, val_main_v42, val_main_v41, val_main_cst_8,
    val_main_v40, val_main_v39, val_main_v38, val_main_cst_7, val_main_v37, val_main_v36, val_main_cst_6, val_main_v35, val_main_v34, pv_at]
  exact gelu_eq _

theorem vn_at (b : Fin 2) (s : Fin 2048) (e : Fin 512) : val_main_v62 (F := Ideal) x g w gs (ix3 b s e) = vn x g w gs b s e := by
  pointwise [val_main_v62, val_main_v61, val_main_v60, val_main_v47, val_main_v59, val_main_v58, val_main_v57, val_main_v56, val_main_v54,
    val_main_v52, val_main_v51, val_main_v50, val_main_cst_10, val_main_v53, val_main_cst_11, val_main_v55, val_main_cst_12, vv_at,
    ofBits_zero]
  rfl

theorem mask_at (t j : Fin 128) : val_main_v65 (F := Ideal) (ix2 t j) = if j ≤ t then 1 else 0 := by
  pointwise [val_main_v65, val_main_call0_v4, val_main_call0_v2, val_main_call0_v0, val_main_call0_v1, val_main_call0_c,
    val_main_call0_v3, val_main_v64, val_main_cst_13, val_main_call0_v5, val_main_call0_cst, ofBits_zero]
  rw [show IntOp.addi (BitVec.ofNat 32 t.val) 0#32 = BitVec.ofNat 32 t.val from BitVec.add_zero _]
  exact mask_select t j 1 0

theorem wm_at (h : Fin 4) (t j : Fin 128) : val_main_v68 (F := Ideal) ws (ix3 h t j) = wm ws h t j := by
  pointwise [val_main_v68, val_main_v48, val_main_v67, val_main_v66, mask_at]
  exact mask_mul _ _

theorem ya_at (b : Fin 2) (s : Fin 2048) (e : Fin 512) :
    val_main_v76 (F := Ideal) x g w gs ws bs (ix3 b s e) = ya x g w gs ws bs b s e := by
  pointwise [val_main_v76, u_at, val_main_v75, val_main_v74, val_main_v70, val_main_v69, val_main_v63, val_main_v73, val_main_v72,
    val_main_v71, val_main_v49, vn_at, wm_at]
  exact congrArg (gelu _ * ·) (congrArg (· + _) (Finset.sum_congr rfl fun j _ => (mul_comm _ _).trans
    (congrArg (fun e => wm ws _ _ j * vn x g w gs b _ e) (col_split e).symm)))

/-! ### The results -/

theorem res6 (r : Fin 4096) (e : Fin 2048) :
    val_main_v92 (F := Ideal) x g w (ix2 r e) = proj x g w ⟨r.val / 2048, by omega⟩ ⟨r.val % 2048, by omega⟩ ⟨1792 + e.val, by omega⟩ := by
  pointwise [val_main_v92, val_main_v91, val_main_v18, proj_at]

theorem res7 (r : Fin 4096) (e : Fin 1024) :
    val_main_v94 (F := Ideal) x g w (ix2 r e) = proj x g w ⟨r.val / 2048, by omega⟩ ⟨r.val % 2048, by omega⟩ ⟨e.val, by omega⟩ := by
  pointwise [val_main_v94, val_main_v93, val_main_v16, proj_at]

theorem res8 (r : Fin 4096) (e : Fin 768) :
    val_main_v96 (F := Ideal) x g w (ix2 r e) = proj x g w ⟨r.val / 2048, by omega⟩ ⟨r.val % 2048, by omega⟩ ⟨1024 + e.val, by omega⟩ := by
  pointwise [val_main_v96, val_main_v95, val_main_v17, proj_at]

theorem res9 (r : Fin 4096) (e : Fin 1024) :
    val_main_v98 (F := Ideal) x g (ix2 r e) = row x ⟨r.val / 2048, by omega⟩ ⟨r.val % 2048, by omega⟩ e
      * invRms (row x ⟨r.val / 2048, by omega⟩ ⟨r.val % 2048, by omega⟩) * g (ix2 0 e) := by
  pointwise [val_main_v98, val_main_v97, saved_at]

theorem res10 (r : Fin 4096) (e : Fin 512) :
    val_main_v100 (F := Ideal) x g w gs ws bs (ix2 r e) = ya x g w gs ws bs ⟨r.val / 2048, by omega⟩ ⟨r.val % 2048, by omega⟩ e := by
  pointwise [val_main_v100, val_main_v99, ya_at]

end Cert.FwdGate.Reference

end
-- ==== Proof.FwdGateKernel.lean ====
/-
  The forward projection's kernel: the blocks that a grid point takes and the products that it leaves.
-/
module

public import proofs.«01_k».proof.Proof.Gen.Kernel7Ideal.Value
public import Idealize.ShloMosaic.Lib.StableHlo.RunRead
public import proofs.«01_k».proof.Proof.MergeSpec

@[expose] public section

set_option maxRecDepth 16384

noncomputable section

namespace Cert.FwdGate.Kernel

open Cert.Kernel7Ideal Cert.Kernel7Ideal.Gen Idealize.ShloMosaic Idealize.ShloMosaic.TcCoe Idealize.SL.Sem Cert.Lift
open Cert.Lift.AnyRow
open Cert.FfnUp (row)
open Cert.Merge
open Idealize.ShloMosaic.Pipeline (Dat)

variable (m : (ℓ : Loc nD τ sig) → Buf (Elt Ideal) ℓ) (c : Dev nD)

/-- The activations, the norm's weight, the projection's, the unit's norm's weight, its mixing weights and bias, as the program gets them. -/
abbrev X : S2x2048x1024.Idx → EReal := m ((c.tc : Thread nD τ).loc main_arg0)
abbrev G : S1x1024.Idx → EReal := m ((c.tc : Thread nD τ).loc main_arg1)
abbrev W : S1x1024x3840.Idx → EReal := m ((c.tc : Thread nD τ).loc main_arg2)
abbrev GS : S1x512.Idx → EReal := m ((c.tc : Thread nD τ).loc main_arg3)
abbrev WS : S1x4x128x128.Idx → EReal := m ((c.tc : Thread nD τ).loc main_arg4)
abbrev BS : S1x4x128.Idx → EReal := m ((c.tc : Thread nD τ).loc main_arg5)

/-- The block that each window takes at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem N_eq : cfg0.N = 8 := N_0

/-- The sequence and the position of row `y` of grid point `t`'s block, and the row of the result that it is. -/
def sq (t : Fin cfg0.N) (y : Fin 512) : Fin 2 := ⟨(t.val * 512 + y.val) / 2048, by have := t.isLt; have := N_eq; omega⟩
def ps (t : Fin cfg0.N) (y : Fin 512) : Fin 2048 := ⟨(t.val * 512 + y.val) % 2048, by omega⟩
def rowOf (t : Fin cfg0.N) (y : Fin 512) : Fin 4096 := ⟨t.val * 512 + y.val, by have := t.isLt; have := N_eq; omega⟩

theorem x_at (t : Fin cfg0.N) (y : Fin 512) (k : Fin 1024) : iblk m c 0 t (ix2 y k) = row (X m c) (sq t y) (ps t y) k := by
  refine (congrArg (V m c main_v0) (?_ : _ = ix2 (rowOf t y) k)).trans ?_
  · blk_ext [idx t, rowOf]
  unfold V
  after_reads_simp
  pointwise
  rfl

theorem g_at (t : Fin cfg0.N) (k : Fin 1024) : iblk m c 1 t (ix2 0 k) = G m c (ix2 0 k) := by
  refine (congrArg (V m c main_arg1) (?_ : _ = ix2 0 k)).trans ?_
  · blk_ext [idx t]
  unfold V
  after_reads_simp

theorem w_at (t : Fin cfg0.N) (e : Fin 3840) (k : Fin 1024) : iblk m c 2 t (ix2 e k) = W m c (ix3 0 k e) := by
  refine (congrArg (V m c main_v3) (?_ : _ = ix2 e k)).trans ?_
  · blk_ext [idx t]
  unfold V
  after_reads_simp
  pointwise

/-- The three parts of the projection's weight that the body loads. -/
theorem wA_at (t : Fin cfg0.N) (e k : Fin 1024) : View.ld (iblk m c 2 t) r0_2 (ix2 e k) = W m c (ix3 0 k ⟨e.val, by omega⟩) := by
  unfold r0_2
  pointwise
  exact w_at m c t _ k

theorem wB_at (t : Fin cfg0.N) (e : Fin 768) (k : Fin 1024) :
    View.ld (iblk m c 2 t) r0_3 (ix2 e k) = W m c (ix3 0 k ⟨1024 + e.val, by omega⟩) := by
  unfold r0_3
  pointwise
  exact w_at m c t _ k

theorem wG_at (t : Fin cfg0.N) (e : Fin 2048) (k : Fin 1024) :
    View.ld (iblk m c 2 t) r0_5 (ix2 e k) = W m c (ix3 0 k ⟨1792 + e.val, by omega⟩) := by
  unfold r0_5
  pointwise
  exact w_at m c t _ k

theorem gs_at (t : Fin cfg0.N) (k : Fin 512) : iblk m c 3 t (ix2 0 k) = GS m c (ix2 0 k) := by
  refine (congrArg (V m c main_arg3) (?_ : _ = ix2 0 k)).trans ?_
  · blk_ext [idx t]
  unfold V
  after_reads_simp

theorem ws_at (t : Fin cfg0.N) (h : Fin 4) (i j : Fin 128) : iblk m c 4 t (ix3 h i j) = WS m c (ix4 0 h i j) := by
  refine (congrArg (V m c main_v4) (?_ : _ = ix3 h i j)).trans ?_
  · blk_ext [idx t]
  unfold V
  after_reads_simp
  pointwise

theorem bs_at (t : Fin cfg0.N) (i : Fin 128) (h : Fin 4) : iblk m c 5 t (ix2 i h) = BS m c (ix3 0 h i) := by
  refine (congrArg (V m c main_v6) (?_ : _ = ix2 i h)).trans ?_
  · blk_ext [idx t]
  unfold V
  after_reads_simp
  pointwise

/-- The sequence and the position of a row of the result. -/
def sqR (r : Fin 4096) : Fin 2 := ⟨r.val / 2048, by omega⟩
def psR (r : Fin 4096) : Fin 2048 := ⟨r.val % 2048, by omega⟩

/-- The results, by row and column. -/
def spec6 (i : S4096x2048.Idx) : EReal := proj (X m c) (G m c) (W m c) (sqR (i 0)) (psR (i 0)) ⟨1792 + (i 1).val, Nat.add_lt_add_left (show (i 1).val < 2048 from (i 1).isLt) 1792⟩
def spec7 (i : S4096x1024.Idx) : EReal := proj (X m c) (G m c) (W m c) (sqR (i 0)) (psR (i 0)) ⟨(i 1).val, Nat.lt_trans (show (i 1).val < 1024 from (i 1).isLt) (by decide)⟩
def spec8 (i : S4096x768.Idx) : EReal := proj (X m c) (G m c) (W m c) (sqR (i 0)) (psR (i 0)) ⟨1024 + (i 1).val, Nat.lt_trans (Nat.add_lt_add_left (show (i 1).val < 768 from (i 1).isLt) 1024) (by decide)⟩
def spec9 (i : S4096x1024.Idx) : EReal := row (X m c) (sqR (i 0)) (psR (i 0)) (i 1) * invRms (row (X m c) (sqR (i 0)) (psR (i 0))) * G m c (ix2 0 (i 1))
def spec10 (i : S4096x512.Idx) : EReal := ya (X m c) (G m c) (W m c) (GS m c) (WS m c) (BS m c) (sqR (i 0)) (psR (i 0)) (i 1)

/-- The normalised rows, as the body has them. -/
theorem norm_at (t : Fin cfg0.N) (y : Fin 512) (k : Fin 1024) :
    k0_pay5 (F := Ideal) (iblk m c 0 t) (iblk m c 1 t) (ix2 y k)
      = row (X m c) (sq t y) (ps t y) k * invRms (row (X m c) (sq t y) (ps t y)) * G m c (ix2 0 k) := by
  open_payloads
  pointwise [x_at, g_at, ofBits_zero]
  rfl

theorem point9 (t : Fin cfg0.N) (y : S512x1024.Idx) :
    out0_9 (iblk m c 0 t) (iblk m c 1 t) (iblk m c 2 t) (iblk m c 3 t) (iblk m c 4 t) (iblk m c 5 t) y
      = spec9 m c (ix2 (rowOf t (y 0)) (y 1)) := by
  idx_vars y
  frame_out
  unfold k0_pay6
  pointwise
  exact norm_at m c t y0 y1

/-- The products with the three parts of the weight. -/
theorem pay7_at (t : Fin cfg0.N) {w : Vec Ideal S1024x1024 .bf16} {C : Fin 1024 → Fin 1024 → EReal} (hw : ∀ e k, w (ix2 e k) = C e k)
    (y : Fin 512) (e : Fin 1024) : k0_pay7 (F := Ideal) (iblk m c 0 t) (iblk m c 1 t) w (ix2 y e)
      = ∑ k, row (X m c) (sq t y) (ps t y) k * invRms (row (X m c) (sq t y) (ps t y)) * G m c (ix2 0 k) * C e k := by
  unfold k0_pay7
  pointwise [norm_at, hw, ofBits_zero]

theorem pay9_at (t : Fin cfg0.N) {w : Vec Ideal S768x1024 .bf16} {C : Fin 768 → Fin 1024 → EReal} (hw : ∀ e k, w (ix2 e k) = C e k)
    (y : Fin 512) (e : Fin 768) : k0_pay9 (F := Ideal) (iblk m c 0 t) (iblk m c 1 t) w (ix2 y e)
      = ∑ k, row (X m c) (sq t y) (ps t y) k * invRms (row (X m c) (sq t y) (ps t y)) * G m c (ix2 0 k) * C e k := by
  unfold k0_pay9
  pointwise [norm_at, hw, ofBits_zero]

theorem pay11_at (t : Fin cfg0.N) {w : Vec Ideal S2048x1024 .bf16} {C : Fin 2048 → Fin 1024 → EReal} (hw : ∀ e k, w (ix2 e k) = C e k)
    (y : Fin 512) (e : Fin 2048) : k0_pay11 (F := Ideal) (k0_pay5 (iblk m c 0 t) (iblk m c 1 t)) (k0_pay10 w) (ix2 y e)
      = ∑ k, row (X m c) (sq t y) (ps t y) k * invRms (row (X m c) (sq t y) (ps t y)) * G m c (ix2 0 k) * C e k := by
  unfold k0_pay11 k0_pay10
  pointwise [norm_at, hw, ofBits_zero]

theorem point7 (t : Fin cfg0.N) (y : S512x1024.Idx) :
    out0_7 (iblk m c 0 t) (iblk m c 1 t) (iblk m c 2 t) (iblk m c 3 t) (iblk m c 4 t) (iblk m c 5 t) y
      = spec7 m c (ix2 (rowOf t (y 0)) (y 1)) := by
  idx_vars y
  frame_out
  unfold k0_pay8
  refine (congrFun (shapeCast_self _ _) _).trans ?_
  exact pay7_at m c t (wA_at m c t) y0 y1

theorem point8 (t : Fin cfg0.N) (y : S512x768.Idx) :
    out0_8 (iblk m c 0 t) (iblk m c 1 t) (iblk m c 2 t) (iblk m c 3 t) (iblk m c 4 t) (iblk m c 5 t) y
      = spec8 m c (ix2 (rowOf t (y 0)) (y 1)) := by
  idx_vars y
  frame_out
  exact pay9_at m c t (wB_at m c t) y0 y1

theorem point6 (t : Fin cfg0.N) (y : S512x2048.Idx) :
    out0_6 (iblk m c 0 t) (iblk m c 1 t) (iblk m c 2 t) (iblk m c 3 t) (iblk m c 4 t) (iblk m c 5 t) y
      = spec6 m c (ix2 (rowOf t (y 0)) (y 1)) := by
  idx_vars y
  frame_out
  exact pay11_at m c t (wG_at m c t) y0 y1

theorem out6 : (dats m 0 c).arrAt 6 cfg0.N = spec6 m c := by
  refine Dat.arrAt_eq_of_covers (dats m 0 c) 6 _ (by decide +kernel) fun t hf y => ?_
  blk_simp
  rw [after0_6, point6]
  refine congrArg (spec6 m c) ?_
  blk_ext [idx t, rowOf]

theorem out7 : (dats m 0 c).arrAt 7 cfg0.N = spec7 m c := by
  refine Dat.arrAt_eq_of_covers (dats m 0 c) 7 _ (by decide +kernel) fun t hf y => ?_
  blk_simp
  rw [after0_7, point7]
  refine congrArg (spec7 m c) ?_
  blk_ext [idx t, rowOf]

theorem out8 : (dats m 0 c).arrAt 8 cfg0.N = spec8 m c := by
  refine Dat.arrAt_eq_of_covers (dats m 0 c) 8 _ (by decide +kernel) fun t hf y => ?_
  blk_simp
  rw [after0_8, point8]
  refine congrArg (spec8 m c) ?_
  blk_ext [idx t, rowOf]

theorem out9 : (dats m 0 c).arrAt 9 cfg0.N = spec9 m c := by
  refine Dat.arrAt_eq_of_covers (dats m 0 c) 9 _ (by decide +kernel) fun t hf y => ?_
  blk_simp
  rw [after0_9, point9]
  refine congrArg (spec9 m c) ?_
  blk_ext [idx t, rowOf]

end Cert.FwdGate.Kernel

end
-- ==== Proof.FwdGateMix.lean ====
/-
  The forward projection's kernel: the gating unit's result, tile by tile.
-/
module

public import proofs.«01_k».proof.Proof.FwdGateKernel
public import proofs.«01_k».proof.Proof.MergeTiles

@[expose] public section

set_option maxRecDepth 16384

noncomputable section

namespace Cert.FwdGate.Kernel

open Cert.Kernel7Ideal Cert.Kernel7Ideal.Gen Idealize.ShloMosaic Idealize.ShloMosaic.TcCoe Idealize.SL.Sem Cert.Lift
open Cert.Lift.AnyRow
open Cert.FfnUp (row)
open Cert.Merge
open Cert.Merge.Kernel (mixG mixG_of col_0 col_1 col_2 col_3)
open Idealize.ShloMosaic.Pipeline (Dat)

variable (m : (ℓ : Loc nD τ sig) → Buf (Elt Ideal) ℓ) (c : Dev nD)

section
variable {v : Vec Ideal S512x1024 .bf16} {P : Fin 512 → Fin 1024 → EReal} (hv : ∀ y e, v (ix2 y e) = P y e)
include hv

theorem pay14_at (y e : Fin 512) : k0_pay14 (F := Ideal) v (ix2 y e) = gelu (P y ⟨e.val, by omega⟩) := by
  unfold k0_pay14 k0_pay12
  pointwise [hv]
  rfl

theorem pay15_at (y e : Fin 512) : k0_pay15 (F := Ideal) v (ix2 y e) = gelu (P y ⟨512 + e.val, by omega⟩) := by
  unfold k0_pay15 k0_pay12
  pointwise [hv]
  rfl

theorem pay17_at {g : Vec Ideal S1x512 .f32} {H : Fin 512 → EReal} (hg : ∀ e, g (ix2 0 e) = H e) (y e : Fin 512) :
    k0_pay17 (F := Ideal) g (k0_pay15 v) (k0_pay16 v) (Scalar.ofBits .f32 0x358637BD#32) (ix2 y e)
      = gelu (P y ⟨512 + e.val, by omega⟩)
        * invRmsOf (Ideal.ofBits .f32 0x44000000#32) (fun e : Fin 512 => gelu (P y ⟨512 + e.val, by omega⟩)) * H e := by
  unfold k0_pay17 k0_pay16
  pointwise [pay15_at hv, hg, ofBits_zero]
  rfl

end

/-! ### The tiles -/

section
variable {gs : Vec Ideal S1x512 .f32} {r : Vec Ideal S512x1 .f32} {z : Ideal .f32} {u v : Vec Ideal S512x512 .f32}
  {n : Vec Ideal S512x512 .bf16} {w : Vec Ideal S1x128x128 .f32} {b : Vec Ideal S128x1 .f32}
  {U N : Fin 512 → Fin 512 → EReal} {C : Fin 128 → Fin 128 → EReal} {B : Fin 128 → EReal}
  (hu : ∀ y e, u (ix2 y e) = U y e) (hn : ∀ y e, n (ix2 y e) = N y e) (hw : ∀ i j, w (ix3 0 i j) = C i j) (hb : ∀ i, b (ix2 i 0) = B i)

/-- The unit's result at a row and a column, whose group has the weights `C` and the bias `B`. -/
def yaG (U N : Fin 512 → Fin 512 → EReal) (C : Fin 128 → Fin 128 → EReal) (B : Fin 128 → EReal) (y e : Fin 512) : EReal :=
  U y e * mixG N C B y e

theorem yaG_of {e : Fin 512} (q : Fin 4) (i : Fin 128) :
    U (col q i) e * ((∑ x : Fin 128, Scalar.select (IntOp.cmpi .sge (BitVec.ofNat 32 i.val) (BitVec.ofNat 32 x.val))
      (C i x * N (col q x) e) 0) + B i) = yaG U N C B (col q i) e :=
  congrArg (U (col q i) e * ·) (mixG_of q i (by show (q.val * 128 + i.val) / 128 = q.val; omega)
    (by show (q.val * 128 + i.val) % 128 = i.val; omega))

include hu hw hb in
/-- The first group's tiles. -/
theorem tiles_0 (hn : ∀ y e, k0_pay17 gs v r z (ix2 y e) = N y e) (i d : Fin 128) :
    k0_pay20 gs k0_pay13 u v r z w b (ix2 i d) = yaG U N C B (col 0 i) (col 0 d)
    ∧ k0_pay21 gs k0_pay13 u v r z w b (ix2 i d) = yaG U N C B (col 1 i) (col 0 d)
    ∧ k0_pay23 (k0_pay22 gs k0_pay13 u v r z w b) (ix2 i d) = yaG U N C B (col 2 i) (col 0 d)
    ∧ k0_pay24 u (k0_pay17 gs v r z) (k0_pay18 k0_pay13 w) (k0_pay19 b) (ix2 i d) = yaG U N C B (col 3 i) (col 0 d) := by
  refine ⟨?_, ?_, ?_, ?_⟩
  all_goals
    simp only [k0_pay20, k0_pay21, k0_pay22, k0_pay23, k0_pay24, k0_pay18, k0_pay19, k0_pay13]
    pointwise [hu, hn, hw, hb, ofBits_zero]
    simp only [zero_add, col_0, col_1, col_2, col_3]
    exact yaG_of _ i

include hu hn hw hb in
/-- The other groups' tiles. -/
theorem tiles (i d : Fin 128) :
    (k0_pay27 k0_pay13 u n w b (ix2 i d) = yaG U N C B (col 0 i) (col 1 d)
    ∧ k0_pay28 k0_pay13 u n w b (ix2 i d) = yaG U N C B (col 1 i) (col 1 d)
    ∧ k0_pay30 u (k0_pay25 k0_pay13 w) (k0_pay26 b) (k0_pay29 n) (constant S128x128 .f32 0x00000000#32) (ix2 i d)
      = yaG U N C B (col 2 i) (col 1 d)
    ∧ k0_pay31 u n (k0_pay25 k0_pay13 w) (k0_pay26 b) (ix2 i d) = yaG U N C B (col 3 i) (col 1 d))
    ∧ (k0_pay34 k0_pay13 u n w b (ix2 i d) = yaG U N C B (col 0 i) (col 2 d)
    ∧ k0_pay36 (k0_pay35 k0_pay13 u n w b) (ix2 i d) = yaG U N C B (col 1 i) (col 2 d)
    ∧ k0_pay37 u n (k0_pay32 k0_pay13 w) (k0_pay33 b) (ix2 i d) = yaG U N C B (col 2 i) (col 2 d)
    ∧ k0_pay38 u n (k0_pay32 k0_pay13 w) (k0_pay33 b) (ix2 i d) = yaG U N C B (col 3 i) (col 2 d))
    ∧ (k0_pay1 (k0_pay41 k0_pay13 u n w b) (ix2 i d) = yaG U N C B (col 0 i) (col 3 d)
    ∧ k0_pay2 u n (k0_pay39 k0_pay13 w) (k0_pay40 b) (ix2 i d) = yaG U N C B (col 1 i) (col 3 d)
    ∧ k0_pay3 u n (k0_pay39 k0_pay13 w) (k0_pay40 b) (ix2 i d) = yaG U N C B (col 2 i) (col 3 d)
    ∧ k0_pay4 u n (k0_pay39 k0_pay13 w) (k0_pay40 b) (ix2 i d) = yaG U N C B (col 3 i) (col 3 d)) := by
  refine ⟨⟨?_, ?_, ?_, ?_⟩, ⟨?_, ?_, ?_, ?_⟩, ?_, ?_, ?_, ?_⟩
  all_goals
    open_payloads
    pointwise [hu, hn, hw, hb, ofBits_zero]
    simp only [zero_add, col_0, col_1, col_2, col_3]
    exact yaG_of _ i

end

/-! ### At a grid point -/

/-- The groups' mixing weights and biases, as the body reads them. -/
theorem ws_ld (t : Fin cfg0.N) (i j : Fin 128) :
    View.ld (iblk m c 4 t) r0_8 (ix3 0 i j) = WS m c (ix4 0 0 i j) ∧ View.ld (iblk m c 4 t) r0_14 (ix3 0 i j) = WS m c (ix4 0 1 i j)
    ∧ View.ld (iblk m c 4 t) r0_20 (ix3 0 i j) = WS m c (ix4 0 2 i j) ∧ View.ld (iblk m c 4 t) r0_26 (ix3 0 i j) = WS m c (ix4 0 3 i j) := by
  unfold r0_8 r0_14 r0_20 r0_26
  refine ⟨?_, ?_, ?_, ?_⟩ <;> pointwise <;> exact ws_at m c t _ i j

theorem bs_ld (t : Fin cfg0.N) (i : Fin 128) :
    View.ld (iblk m c 5 t) r0_9 (ix2 i 0) = BS m c (ix3 0 0 i) ∧ View.ld (iblk m c 5 t) r0_15 (ix2 i 0) = BS m c (ix3 0 1 i)
    ∧ View.ld (iblk m c 5 t) r0_21 (ix2 i 0) = BS m c (ix3 0 2 i) ∧ View.ld (iblk m c 5 t) r0_27 (ix2 i 0) = BS m c (ix3 0 3 i) := by
  unfold r0_9 r0_15 r0_21 r0_27
  refine ⟨?_, ?_, ?_, ?_⟩ <;> pointwise <;> exact bs_at m c t i _

/-- The block of the unit's half of the projection, its scaling half and its mixed half. -/
theorem pa_at (t : Fin cfg0.N) (y : Fin 512) (e : Fin 1024) :
    k0_pay7 (F := Ideal) (iblk m c 0 t) (iblk m c 1 t) (View.ld (iblk m c 2 t) r0_2) (ix2 y e)
      = proj (X m c) (G m c) (W m c) (sq t y) (ps t y) ⟨e.val, by omega⟩ := pay7_at m c t (wA_at m c t) y e

theorem u_at (t : Fin cfg0.N) (y e : Fin 512) :
    k0_pay14 (F := Ideal) (k0_pay7 (iblk m c 0 t) (iblk m c 1 t) (View.ld (iblk m c 2 t) r0_2)) (ix2 y e)
      = gelu (pu (X m c) (G m c) (W m c) (sq t y) (ps t y) e) := pay14_at (pa_at m c t) y e

theorem vn_at (t : Fin cfg0.N) (y e : Fin 512) :
    k0_pay17 (F := Ideal) (iblk m c 3 t) (k0_pay15 (k0_pay7 (iblk m c 0 t) (iblk m c 1 t) (View.ld (iblk m c 2 t) r0_2)))
        (k0_pay16 (k0_pay7 (iblk m c 0 t) (iblk m c 1 t) (View.ld (iblk m c 2 t) r0_2))) (Scalar.ofBits .f32 0x358637BD#32) (ix2 y e)
      = vn (X m c) (G m c) (W m c) (GS m c) (sq t y) (ps t y) e := pay17_at (pa_at m c t) (gs_at m c t) y e

/-- A chunk of a grid point's block is a chunk of a sequence. -/
theorem chunk_row (t : Fin cfg0.N) (q : Fin 4) (i j : Fin 128) : sq t (col q j) = sq t (col q i)
    ∧ ps t (col q j) = pos (chunkOf (ps t (col q i))) j ∧ inChunk (ps t (col q i)) = i := by
  refine ⟨Fin.ext ?_, Fin.ext ?_, Fin.ext ?_⟩
  · show (t.val * 512 + (q.val * 128 + j.val)) / 2048 = (t.val * 512 + (q.val * 128 + i.val)) / 2048
    omega
  · show (t.val * 512 + (q.val * 128 + j.val)) % 2048 = (t.val * 512 + (q.val * 128 + i.val)) % 2048 / 128 * 128 + j.val
    omega
  · show (t.val * 512 + (q.val * 128 + i.val)) % 2048 % 128 = i.val
    omega

/-- A tile of the unit's result. -/
theorem yaG_eq (t : Fin cfg0.N) (q h : Fin 4) (i d : Fin 128) :
    yaG (fun y e => gelu (pu (X m c) (G m c) (W m c) (sq t y) (ps t y) e)) (fun y e => vn (X m c) (G m c) (W m c) (GS m c) (sq t y) (ps t y) e)
      (fun i j => WS m c (ix4 0 h i j)) (fun i => BS m c (ix3 0 h i)) (col q i) (col h d)
      = ya (X m c) (G m c) (W m c) (GS m c) (WS m c) (BS m c) (sq t (col q i)) (ps t (col q i)) (col h d) := by
  have eg : groupOf (col h d) = h := Fin.ext (by show (h.val * 128 + d.val) / 128 = h.val; omega)
  have ei : inGroup (col h d) = d := Fin.ext (by show (h.val * 128 + d.val) % 128 = d.val; omega)
  have fg : groupOf (col q i) = q := Fin.ext (by show (q.val * 128 + i.val) / 128 = q.val; omega)
  have fi : inGroup (col q i) = i := Fin.ext (by show (q.val * 128 + i.val) % 128 = i.val; omega)
  refine congrArg (gelu _ * ·) ?_
  simp only [mixG, mixAt, mix, eg, ei, fg, fi, (chunk_row t q i i).2.2]
  refine congrArg (· + _) (Finset.sum_congr rfl fun j _ => ?_)
  rw [(chunk_row t q i j).1, (chunk_row t q i j).2.1, wm]
  split_ifs
  · rfl
  · exact (zero_mul _).symm

end Cert.FwdGate.Kernel

end
-- ==== Proof.FwdGateTiled.lean ====
/-
  The forward projection's kernel: sixteen tiles that make a block.
-/
module

public import proofs.«01_k».proof.Proof.Gen.Kernel7Ideal.Value
public import proofs.«01_k».proof.Proof.MergeSpec
public import Idealize.ShloMosaic.Lib.StableHlo.RunRead

@[expose] public section

set_option maxRecDepth 16384

noncomputable section

namespace Cert.FwdGate.Kernel

open Cert.Kernel7Ideal Cert.Kernel7Ideal.Gen Idealize.ShloMosaic Idealize.ShloMosaic.TcCoe Idealize.SL.Sem Cert.Lift
open Cert.Lift.AnyRow
open Cert.Merge

set_option maxHeartbeats 16000000 in
/-- A block whose sixteen tiles hold a matrix holds the matrix. -/
theorem tiled {p33 p23 p13 p03 p32 p22 p12 p02 p31 p21 p11 p01 p30 p20 p10 p00 : Vec Ideal S128x128 .bf16} (F : Fin 512 → Fin 512 → EReal)
    (h : ∀ i d : Fin 128, p33 (ix2 i d) = F (col 3 i) (col 3 d) ∧ p23 (ix2 i d) = F (col 2 i) (col 3 d) ∧ p13 (ix2 i d) = F (col 1 i) (col 3 d) ∧ p03 (ix2 i d) = F (col 0 i) (col 3 d) ∧ p32 (ix2 i d) = F (col 3 i) (col 2 d) ∧ p22 (ix2 i d) = F (col 2 i) (col 2 d) ∧ p12 (ix2 i d) = F (col 1 i) (col 2 d) ∧ p02 (ix2 i d) = F (col 0 i) (col 2 d) ∧ p31 (ix2 i d) = F (col 3 i) (col 1 d) ∧ p21 (ix2 i d) = F (col 2 i) (col 1 d) ∧ p11 (ix2 i d) = F (col 1 i) (col 1 d) ∧ p01 (ix2 i d) = F (col 0 i) (col 1 d) ∧ p30 (ix2 i d) = F (col 3 i) (col 0 d) ∧ p20 (ix2 i d) = F (col 2 i) (col 0 d) ∧ p10 (ix2 i d) = F (col 1 i) (col 0 d) ∧ p00 (ix2 i d) = F (col 0 i) (col 0 d)) (y e : Fin 512) :
    View.canon (Val := Elt Ideal) (s := S512x512) (e := .bf16) [⟨r0_31, p33⟩, ⟨r0_30, p23⟩, ⟨r0_29, p13⟩, ⟨r0_28, p03⟩, ⟨r0_25, p32⟩, ⟨r0_24, p22⟩, ⟨r0_23, p12⟩, ⟨r0_22, p02⟩, ⟨r0_19, p31⟩, ⟨r0_18, p21⟩, ⟨r0_17, p11⟩, ⟨r0_16, p01⟩, ⟨r0_13, p30⟩, ⟨r0_12, p20⟩, ⟨r0_11, p10⟩, ⟨r0_10, p00⟩] (ix2 y e) = F y e := by
  rename' y => y0, e => y1
  canon_tiles x e
  all_goals
    idx_vars x
    have hb := Nat.lt_of_le_of_lt (Nat.le_of_eq e1.symm) y1.isLt
    have ha := Nat.lt_of_le_of_lt (Nat.le_of_eq e0.symm) y0.isLt
    obtain rfl : y1 = ⟨_, hb⟩ := Fin.ext e1
    obtain rfl : y0 = ⟨_, ha⟩ := Fin.ext e0
  · exact (h x0 x1).1.trans (congrArg₂ F (Fin.ext (by simp [col])) (Fin.ext (by simp [col])))
  · exact (h x0 x1).2.1.trans (congrArg₂ F (Fin.ext (by simp [col])) (Fin.ext (by simp [col])))
  · exact (h x0 x1).2.2.1.trans (congrArg₂ F (Fin.ext (by simp [col])) (Fin.ext (by simp [col])))
  · exact (h x0 x1).2.2.2.1.trans (congrArg₂ F (Fin.ext (by simp [col])) (Fin.ext (by simp [col])))
  · exact (h x0 x1).2.2.2.2.1.trans (congrArg₂ F (Fin.ext (by simp [col])) (Fin.ext (by simp [col])))
  · exact (h x0 x1).2.2.2.2.2.1.trans (congrArg₂ F (Fin.ext (by simp [col])) (Fin.ext (by simp [col])))
  · exact (h x0 x1).2.2.2.2.2.2.1.trans (congrArg₂ F (Fin.ext (by simp [col])) (Fin.ext (by simp [col])))
  · exact (h x0 x1).2.2.2.2.2.2.2.1.trans (congrArg₂ F (Fin.ext (by simp [col])) (Fin.ext (by simp [col])))
  · exact (h x0 x1).2.2.2.2.2.2.2.2.1.trans (congrArg₂ F (Fin.ext (by simp [col])) (Fin.ext (by simp [col])))
  · exact (h x0 x1).2.2.2.2.2.2.2.2.2.1.trans (congrArg₂ F (Fin.ext (by simp [col])) (Fin.ext (by simp [col])))
  · exact (h x0 x1).2.2.2.2.2.2.2.2.2.2.1.trans (congrArg₂ F (Fin.ext (by simp [col])) (Fin.ext (by simp [col])))
  · exact (h x0 x1).2.2.2.2.2.2.2.2.2.2.2.1.trans (congrArg₂ F (Fin.ext (by simp [col])) (Fin.ext (by simp [col])))
  · exact (h x0 x1).2.2.2.2.2.2.2.2.2.2.2.2.1.trans (congrArg₂ F (Fin.ext (by simp [col])) (Fin.ext (by simp [col])))
  · exact (h x0 x1).2.2.2.2.2.2.2.2.2.2.2.2.2.1.trans (congrArg₂ F (Fin.ext (by simp [col])) (Fin.ext (by simp [col])))
  · exact (h x0 x1).2.2.2.2.2.2.2.2.2.2.2.2.2.2.1.trans (congrArg₂ F (Fin.ext (by simp [col])) (Fin.ext (by simp [col])))
  · exact (h x0 x1).2.2.2.2.2.2.2.2.2.2.2.2.2.2.2.trans (congrArg₂ F (Fin.ext (by simp [col])) (Fin.ext (by simp [col])))

end Cert.FwdGate.Kernel

end
-- ==== Proof.FwdGateOut.lean ====
/-
  The forward projection's kernel: the gating unit's result.
-/
module

public import proofs.«01_k».proof.Proof.FwdGateMix
public import proofs.«01_k».proof.Proof.FwdGateTiled

@[expose] public section

set_option maxRecDepth 16384

noncomputable section

namespace Cert.FwdGate.Kernel

open Cert.Kernel7Ideal Cert.Kernel7Ideal.Gen Idealize.ShloMosaic Idealize.ShloMosaic.TcCoe Idealize.SL.Sem Cert.Lift
open Cert.Lift.AnyRow
open Cert.Merge
open Idealize.ShloMosaic.Pipeline (Dat)

variable (m : (ℓ : Loc nD τ sig) → Buf (Elt Ideal) ℓ) (c : Dev nD)

/-- A whole window's load is the window. -/
theorem pay42_eq (t : Fin cfg0.N) : k0_pay42 (iblk m c 0 t) (iblk m c 1 t) (iblk m c 2 t) (iblk m c 3 t) (iblk m c 4 t) (iblk m c 5 t) = k0_pay7 (F := Ideal) (iblk m c 0 t) (iblk m c 1 t) (View.ld (iblk m c 2 t) r0_2) :=
  congrArg₂ (fun x g => k0_pay7 (F := Ideal) x g (View.ld (iblk m c 2 t) r0_2)) (View.ld_unit_zero (funext fun a => by fin_cases a <;> rfl) _ _)
    (View.ld_unit_zero (funext fun a => by fin_cases a <;> rfl) _ _)

theorem pay44_at (t : Fin cfg0.N) (y e : Fin 512) :
    k0_pay44 (iblk m c 0 t) (iblk m c 1 t) (iblk m c 2 t) (iblk m c 3 t) (iblk m c 4 t) (iblk m c 5 t) (ix2 y e) = gelu (pu (X m c) (G m c) (W m c) (sq t y) (ps t y) e) := by
  unfold k0_pay44
  rw [pay42_eq]
  exact u_at m c t y e

theorem pay47_at (t : Fin cfg0.N) (y e : Fin 512) :
    k0_pay47 (iblk m c 0 t) (iblk m c 1 t) (iblk m c 2 t) (iblk m c 3 t) (iblk m c 4 t) (iblk m c 5 t) (ix2 y e) = vn (X m c) (G m c) (W m c) (GS m c) (sq t y) (ps t y) e := by
  unfold k0_pay47 k0_pay45 k0_pay46
  rw [pay42_eq, View.ld_unit_zero (funext fun a => by fin_cases a <;> rfl)]
  exact vn_at m c t y e

set_option maxHeartbeats 1000000 in
theorem point10 (t : Fin cfg0.N) (y : S512x512.Idx) :
    out0_10 (iblk m c 0 t) (iblk m c 1 t) (iblk m c 2 t) (iblk m c 3 t) (iblk m c 4 t) (iblk m c 5 t) y = spec10 m c (ix2 (rowOf t (y 0)) (y 1)) := by
  idx_vars y
  have h0 := tiles_0 (pay44_at m c t) (fun i j => (ws_ld m c t i j).1) (fun i => (bs_ld m c t i).1) (pay47_at m c t)
  have h1 := fun i d => (tiles (pay44_at m c t) (pay47_at m c t) (fun i j => (ws_ld m c t i j).2.1) (fun i => (bs_ld m c t i).2.1) i d).1
  have h2 := fun i d => (tiles (pay44_at m c t) (pay47_at m c t) (fun i j => (ws_ld m c t i j).2.2.1) (fun i => (bs_ld m c t i).2.2.1) i d).2.1
  have h3 := fun i d => (tiles (pay44_at m c t) (pay47_at m c t) (fun i j => (ws_ld m c t i j).2.2.2) (fun i => (bs_ld m c t i).2.2.2) i d).2.2
  unfold out0_10
  exact tiled (fun y e => ya (X m c) (G m c) (W m c) (GS m c) (WS m c) (BS m c) (sq t y) (ps t y) e) (fun i d =>
    ⟨(h3 i d).2.2.2.trans (yaG_eq m c t 3 3 i d),
      (h3 i d).2.2.1.trans (yaG_eq m c t 2 3 i d),
      (h3 i d).2.1.trans (yaG_eq m c t 1 3 i d),
      (h3 i d).1.trans (yaG_eq m c t 0 3 i d),
      (h2 i d).2.2.2.trans (yaG_eq m c t 3 2 i d),
      (h2 i d).2.2.1.trans (yaG_eq m c t 2 2 i d),
      (h2 i d).2.1.trans (yaG_eq m c t 1 2 i d),
      (h2 i d).1.trans (yaG_eq m c t 0 2 i d),
      (h1 i d).2.2.2.trans (yaG_eq m c t 3 1 i d),
      (h1 i d).2.2.1.trans (yaG_eq m c t 2 1 i d),
      (h1 i d).2.1.trans (yaG_eq m c t 1 1 i d),
      (h1 i d).1.trans (yaG_eq m c t 0 1 i d),
      (h0 i d).2.2.2.trans (yaG_eq m c t 3 0 i d),
      (h0 i d).2.2.1.trans (yaG_eq m c t 2 0 i d),
      (h0 i d).2.1.trans (yaG_eq m c t 1 0 i d),
      (h0 i d).1.trans (yaG_eq m c t 0 0 i d)⟩) y0 y1

theorem out10 : (dats m 0 c).arrAt 10 cfg0.N = spec10 m c := by
  refine Dat.arrAt_eq_of_covers (dats m 0 c) 10 _ (by decide +kernel) fun t hf y => ?_
  blk_simp
  rw [after0_10, point10]
  refine congrArg (spec10 m c) ?_
  blk_ext [idx t, rowOf]

end Cert.FwdGate.Kernel

end
-- ==== Proof.FwdGateClaim.lean ====
/-
  The forward projection: the claim.
-/
module

public import proofs.«01_k».proof.Defs
public import Idealize.ShloMosaic.Lib.Quiescent
public import proofs.«01_k».proof.Proof.FwdGateReference
public import proofs.«01_k».proof.Proof.FwdGateOut

@[expose] public section

set_option maxRecDepth 16384

noncomputable section

namespace Cert.FwdGate

open Cert.Kernel7Ideal Cert.Kernel7Ideal.Gen Idealize.ShloMosaic Idealize.ShloMosaic.TcCoe Idealize.SL.Sem Cert.Lift
open Cert.Lift.AnyRow
open Cert.FwdGate.Kernel
open Idealize.ShloMosaic.Pipeline (Dat)

/-- The reference touches no semaphore and leaves its arguments. -/
theorem frame_reference : Cert.quiescent_Reference7Ideal (hReference7Ideal := Cert.Reference7Ideal.Gen.facts) := fun m ρ _ =>
  (θ_run _ _ _).mono (fun r h => ⟨fun c => (h c).2.2.2.2.2, sem_eq_zero_of_no_sems (by decide) r.2⟩)
    (Cert.Reference7Ideal.Value.run (F := Ideal) m ρ)

/-- The reference's results are the kernel's. -/
theorem algebraic : Cert.algebraic_Kernel7Ideal_Reference7Ideal (hKernel7Ideal := Cert.Kernel7Ideal.Gen.facts)
    (hReference7Ideal := Cert.Reference7Ideal.Gen.facts) := by
  intro m g m' g' hpre hagree
  refine ⟨fun c => spec6 m c, fun c => spec7 m c, fun c => spec8 m c, fun c => spec9 m c, fun c => spec10 m c,
    (θ_run _ _ _).mono (fun r h c => ?_) (Cert.Kernel7Ideal.Value.run_blocks m g),
    (θ_run _ _ _).mono (fun r h c => ?_) (Cert.Reference7Ideal.Value.run m' g')⟩
  · obtain ⟨h6, h7, h8, h9, h10, hr⟩ := h c
    exact ⟨h6.trans (out6 m c), h7.trans (out7 m c), h8.trans (out8 m c), h9.trans (out9 m c), h10.trans (out10 m c), hr⟩
  obtain ⟨e0, e1, e2, e3, e4, e5⟩ := hagree c
  obtain ⟨h6, h7, h8, h9, h10, hr⟩ := h c
  refine ⟨h6.trans ((Cert.Reference7Ideal.Read.val_main_v92_eq _ _ _).trans
      ((congr (congr (congrArg (Cert.Reference7Ideal.Read.val_main_v92 (F := Ideal)) e0) e1) e2).trans (funext fun i => ?_))),
    h7.trans ((Cert.Reference7Ideal.Read.val_main_v94_eq _ _ _).trans
      ((congr (congr (congrArg (Cert.Reference7Ideal.Read.val_main_v94 (F := Ideal)) e0) e1) e2).trans (funext fun i => ?_))),
    h8.trans ((Cert.Reference7Ideal.Read.val_main_v96_eq _ _ _).trans
      ((congr (congr (congrArg (Cert.Reference7Ideal.Read.val_main_v96 (F := Ideal)) e0) e1) e2).trans (funext fun i => ?_))),
    h9.trans ((Cert.Reference7Ideal.Read.val_main_v98_eq _ _).trans
      ((congr (congrArg (Cert.Reference7Ideal.Read.val_main_v98 (F := Ideal)) e0) e1).trans (funext fun i => ?_))),
    h10.trans ((Cert.Reference7Ideal.Read.val_main_v100_eq _ _).trans
      ((congr (congr (congr (congr (congr (congrArg (Cert.Reference7Ideal.Read.val_main_v100 (F := Ideal)) e0) e1) e2) e3) e4) e5).trans
        (funext fun i => ?_))), hr⟩
  all_goals
    idx_vars i
  · exact Reference.res6 _ _ _ i0 i1
  · exact Reference.res7 _ _ _ i0 i1
  · exact Reference.res8 _ _ _ i0 i1
  · exact Reference.res9 _ _ i0 i1
  · exact Reference.res10 _ _ _ _ _ _ i0 i1

end Cert.FwdGate

end
-- ==== Proof.FwdMergeReference.lean ====
/-
  The forward merge of the two branches, and its reference, row by row.
-/
module

public import proofs.«01_k».proof.Proof.Gen.Reference8Ideal.Run
public import proofs.«01_k».proof.Proof.Gen.Reference8Ideal.Read
public import proofs.«01_k».proof.Proof.MergeSpec

@[expose] public section

set_option maxRecDepth 16384

noncomputable section

namespace Cert.FwdMerge

open Cert.Reference8Ideal Cert.Reference8Ideal.Gen Cert.Reference8Ideal.Value Cert.Reference8Ideal.Read Idealize.ShloMosaic Cert.Lift Cert.Lift.AnyRow

variable (x : (⟨3, ![2, 2048, 1024]⟩ : Shape).Idx → EReal) (ya yb : (⟨3, ![2, 2048, 512]⟩ : Shape).Idx → EReal)
  (p : (⟨3, ![2, 2048, 2048]⟩ : Shape).Idx → EReal) (wa wb : (⟨3, ![1, 512, 1024]⟩ : Shape).Idx → EReal)
  (wo : (⟨3, ![1, 1024, 1024]⟩ : Shape).Idx → EReal)

/-- The gated sum of the branches' projections. -/
def merged (b : Fin 2) (s : Fin 2048) (e : Fin 1024) : EReal :=
  Ideal.logistic (p (ix3 b s ⟨e.val, by omega⟩)) * ∑ k : Fin 512, ya (ix3 b s k) * wa (ix3 0 k e)
    + Ideal.logistic (p (ix3 b s ⟨1024 + e.val, by omega⟩)) * ∑ k : Fin 512, yb (ix3 b s k) * wb (ix3 0 k e)

/-- The layer's result. -/
def layer (b : Fin 2) (s : Fin 2048) (e : Fin 1024) : EReal :=
  x (ix3 b s e) + ∑ j : Fin 1024, merged ya yb p wa wb b s j * wo (ix3 0 j e)

/-- The sequence and the position of a row of a result. -/
def sqR (r : Fin 4096) : Fin 2 := ⟨r.val / 2048, by omega⟩
def psR (r : Fin 4096) : Fin 2048 := ⟨r.val % 2048, by omega⟩

theorem merged_at (b : Fin 2) (s : Fin 2048) (e : Fin 1024) :
    val_main_v20 (F := Ideal) ya yb p wa wb (ix3 b s e) = merged ya yb p wa wb b s e := by
  pointwise [val_main_v20, val_main_v10, val_main_v7, val_main_v6, val_main_cst_0, val_main_v5, val_main_v4, val_main_cst, val_main_v3,
    val_main_v2, val_main_v0, val_main_v9, val_main_v8, val_main_v19, val_main_v16, val_main_v15, val_main_cst_2, val_main_v14,
    val_main_v13, val_main_cst_1, val_main_v12, val_main_v11, val_main_v1, val_main_v18, val_main_v17]
  rfl

theorem res_layer (r : Fin 4096) (e : Fin 1024) :
    val_main_v24 (F := Ideal) x ya yb p wa wb wo (ix2 r e) = layer x ya yb p wa wb wo (sqR r) (psR r) e := by
  pointwise [val_main_v24, val_main_v23, val_main_v22, val_main_v21, merged_at]
  rfl

theorem res_merged (r : Fin 4096) (e : Fin 1024) :
    val_main_v26 (F := Ideal) ya yb p wa wb (ix2 r e) = merged ya yb p wa wb (sqR r) (psR r) e := by
  pointwise [val_main_v26, val_main_v25, merged_at]
  rfl

end Cert.FwdMerge

end
-- ==== Proof.FwdMergeKernel.lean ====
/-
  The forward merge's kernel: the blocks that a grid point takes and the sums that it leaves.
-/
module

public import proofs.«01_k».proof.Proof.Gen.Kernel8Ideal.Value
public import Idealize.ShloMosaic.Lib.StableHlo.RunRead
public import proofs.«01_k».proof.Proof.MergePoint
public import proofs.«01_k».proof.Proof.FwdMergeReference

@[expose] public section

set_option maxRecDepth 16384

noncomputable section

namespace Cert.FwdMerge.Kernel

open Cert.Kernel8Ideal Cert.Kernel8Ideal.Gen Idealize.ShloMosaic Idealize.ShloMosaic.TcCoe Idealize.SL.Sem Cert.Lift
open Cert.Lift.AnyRow
open Cert.Merge.Kernel (four)
open Idealize.ShloMosaic.Pipeline (Dat)

variable (m : (ℓ : Loc nD τ sig) → Buf (Elt Ideal) ℓ) (c : Dev nD)

/-- The activations, the branches' outputs, the gates' arguments, the branches' weights and the output's, as the program gets them. -/
abbrev X : S2x2048x1024.Idx → EReal := m ((c.tc : Thread nD τ).loc main_arg0)
abbrev YA : S2x2048x512.Idx → EReal := m ((c.tc : Thread nD τ).loc main_arg1)
abbrev YB : S2x2048x512.Idx → EReal := m ((c.tc : Thread nD τ).loc main_arg2)
abbrev P : S2x2048x2048.Idx → EReal := m ((c.tc : Thread nD τ).loc main_arg3)
abbrev WA : S1x512x1024.Idx → EReal := m ((c.tc : Thread nD τ).loc main_arg4)
abbrev WB : S1x512x1024.Idx → EReal := m ((c.tc : Thread nD τ).loc main_arg5)
abbrev WO : S1x1024x1024.Idx → EReal := m ((c.tc : Thread nD τ).loc main_arg6)

/-- The block that each window takes at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0] ∧ win0_6.index t = ![0, 0]
    ∧ win0_7.index t = ![t.val, 0] ∧ win0_8.index t = ![t.val, 0] :=
  (by decide +kernel : ∀ t : Fin grid0.N, _)

theorem N_eq : cfg0.N = 8 := N_0

/-- The row of the result that row `y` of grid point `t`'s block is. -/
def rowOf (t : Fin cfg0.N) (y : Fin 512) : Fin 4096 := ⟨t.val * 512 + y.val, by have := t.isLt; have := N_eq; omega⟩

theorem x_at (t : Fin cfg0.N) (y : Fin 512) (k : Fin 1024) : iblk m c 0 t (ix2 y k) = X m c (ix3 (sqR (rowOf t y)) (psR (rowOf t y)) k) := by
  refine (congrArg (V m c main_v0) (?_ : _ = ix2 (rowOf t y) k)).trans ?_
  · blk_ext [idx t, rowOf]
  unfold V
  after_reads_simp
  pointwise
  rfl

theorem ya_at (t : Fin cfg0.N) (y : Fin 512) (k : Fin 512) : iblk m c 1 t (ix2 y k) = YA m c (ix3 (sqR (rowOf t y)) (psR (rowOf t y)) k) := by
  refine (congrArg (V m c main_v2) (?_ : _ = ix2 (rowOf t y) k)).trans ?_
  · blk_ext [idx t, rowOf]
  unfold V
  after_reads_simp
  pointwise
  rfl

theorem yb_at (t : Fin cfg0.N) (y : Fin 512) (k : Fin 512) : iblk m c 2 t (ix2 y k) = YB m c (ix3 (sqR (rowOf t y)) (psR (rowOf t y)) k) := by
  refine (congrArg (V m c main_v4) (?_ : _ = ix2 (rowOf t y) k)).trans ?_
  · blk_ext [idx t, rowOf]
  unfold V
  after_reads_simp
  pointwise
  rfl

theorem p_at (t : Fin cfg0.N) (y : Fin 512) (k : Fin 2048) : iblk m c 3 t (ix2 y k) = P m c (ix3 (sqR (rowOf t y)) (psR (rowOf t y)) k) := by
  refine (congrArg (V m c main_v6) (?_ : _ = ix2 (rowOf t y) k)).trans ?_
  · blk_ext [idx t, rowOf]
  unfold V
  after_reads_simp
  pointwise
  rfl

theorem wo_at (t : Fin cfg0.N) (k e : Fin 1024) : iblk m c 6 t (ix2 k e) = WO m c (ix3 0 k e) := by
  refine (congrArg (V m c main_v42) (?_ : _ = ix2 k e)).trans ?_
  · blk_ext [idx t]
  unfold V
  after_reads_simp
  pointwise

/-- A branch's weight arrives in four blocks of 256 columns. -/
theorem wa_at (t : Fin cfg0.N) (k : Fin 512) (e : Fin 256) :
    iblk m c 4 t (ix3 0 k e) = WA m c (ix3 0 k ⟨e.val, by omega⟩)
    ∧ iblk m c 4 t (ix3 1 k e) = WA m c (ix3 0 k ⟨256 + e.val, by omega⟩)
    ∧ iblk m c 4 t (ix3 2 k e) = WA m c (ix3 0 k ⟨512 + e.val, by omega⟩)
    ∧ iblk m c 4 t (ix3 3 k e) = WA m c (ix3 0 k ⟨768 + e.val, by omega⟩) := by
  have h : ∀ q : Fin 4, iblk m c 4 t (ix3 q k e) = V m c main_v23 (ix3 q k e) := fun q => by
    refine congrArg (V m c main_v23) (?_ : _ = ix3 q k e)
    blk_ext [idx t]
  simp only [h]
  unfold V
  after_reads_simp
  refine ⟨?_, ?_, ?_, ?_⟩ <;> pointwise
  all_goals
    after_reads_simp
    pointwise

theorem wb_at (t : Fin cfg0.N) (k : Fin 512) (e : Fin 256) :
    iblk m c 5 t (ix3 0 k e) = WB m c (ix3 0 k ⟨e.val, by omega⟩)
    ∧ iblk m c 5 t (ix3 1 k e) = WB m c (ix3 0 k ⟨256 + e.val, by omega⟩)
    ∧ iblk m c 5 t (ix3 2 k e) = WB m c (ix3 0 k ⟨512 + e.val, by omega⟩)
    ∧ iblk m c 5 t (ix3 3 k e) = WB m c (ix3 0 k ⟨768 + e.val, by omega⟩) := by
  have h : ∀ q : Fin 4, iblk m c 5 t (ix3 q k e) = V m c main_v40 (ix3 q k e) := fun q => by
    refine congrArg (V m c main_v40) (?_ : _ = ix3 q k e)
    blk_ext [idx t]
  simp only [h]
  unfold V
  after_reads_simp
  refine ⟨?_, ?_, ?_, ?_⟩ <;> pointwise
  all_goals
    after_reads_simp
    pointwise

end Cert.FwdMerge.Kernel

end
-- ==== Proof.FwdMergeBody.lean ====
/-
  The forward merge's kernel: what its body computes of the blocks that it loads.
-/
module

public import proofs.«01_k».proof.Proof.FwdMergeKernel

@[expose] public section

set_option maxRecDepth 16384

noncomputable section

namespace Cert.FwdMerge.Kernel

open Cert.Kernel8Ideal Cert.Kernel8Ideal.Gen Idealize.ShloMosaic Idealize.ShloMosaic.TcCoe Idealize.SL.Sem Cert.Lift
open Cert.Lift.AnyRow
open Cert.Merge.Kernel (four)
open Idealize.ShloMosaic.Pipeline (Dat)

/-- The product by a weight that comes in four blocks of columns. -/
theorem pay2_at (v : Vec Ideal S512x512 .bf16) (w0 w1 w2 w3 : Vec Ideal S1x512x256 .bf16)
    (a : Fin 512 → Fin 512 → EReal) (W : Fin 512 → Fin 1024 → EReal) (hv : ∀ y k, v (ix2 y k) = a y k)
    (h0 : ∀ k (e : Fin 256), w0 (ix3 0 k e) = W k ⟨e.val, by omega⟩) (h1 : ∀ k (e : Fin 256), w1 (ix3 0 k e) = W k ⟨256 + e.val, by omega⟩)
    (h2 : ∀ k (e : Fin 256), w2 (ix3 0 k e) = W k ⟨512 + e.val, by omega⟩) (h3 : ∀ k (e : Fin 256), w3 (ix3 0 k e) = W k ⟨768 + e.val, by omega⟩)
    (y : Fin 512) (e : Fin 1024) : k0_pay2 v w0 w1 w2 w3 (ix2 y e) = ∑ k, a y k * W k e := by
  unfold k0_pay2
  pointwise [hv, h0, h1, h2, h3]
  exact four 256 1024 rfl (fun e => ∑ k, a y k * W k e) e

/-- The gated sum; of the second branch's product the first two blocks come computed. -/
theorem pay6_at (v2 : FVec Ideal S512x2048 .f32) (v17 : FVec Ideal S512x1024 .f32) (v19 : FVec Ideal S512x512 .bf16)
    (v22 v25 : FVec Ideal S512x256 .f32) (w2 w3 : Vec Ideal S1x512x256 .bf16)
    (p : Fin 512 → Fin 2048 → EReal) (pa : Fin 512 → Fin 1024 → EReal) (b : Fin 512 → Fin 512 → EReal) (W : Fin 512 → Fin 1024 → EReal)
    (hp : ∀ y k, v2 (ix2 y k) = p y k) (ha : ∀ y e, v17 (ix2 y e) = pa y e) (hb : ∀ y k, v19 (ix2 y k) = b y k)
    (h0 : ∀ y (e : Fin 256), v22 (ix2 y e) = ∑ k, b y k * W k ⟨e.val, by omega⟩)
    (h1 : ∀ y (e : Fin 256), v25 (ix2 y e) = ∑ k, b y k * W k ⟨256 + e.val, by omega⟩)
    (h2 : ∀ k (e : Fin 256), w2 (ix3 0 k e) = W k ⟨512 + e.val, by omega⟩) (h3 : ∀ k (e : Fin 256), w3 (ix3 0 k e) = W k ⟨768 + e.val, by omega⟩)
    (y : Fin 512) (e : Fin 1024) : k0_pay6 v2 v17 v19 v22 v25 w2 w3 (ix2 y e)
      = Ideal.logistic (p y ⟨e.val, by omega⟩) * pa y e + Ideal.logistic (p y ⟨1024 + e.val, by omega⟩) * ∑ k, b y k * W k e := by
  unfold k0_pay6
  pointwise [hp, ha, hb, h0, h1, h2, h3]
  simp only [zero_sub]
  exact congrArg (fun z => Ideal.logistic (p y ⟨e.val, by omega⟩) * pa y e + Ideal.logistic (p y ⟨1024 + e.val, by omega⟩) * z)
    (four 256 1024 rfl (fun e => ∑ k, b y k * W k e) e)

/-- A block of the second branch's product. -/
theorem pay4_at (v : Vec Ideal S512x512 .bf16) (w : Vec Ideal S1x512x256 .bf16) (y : Fin 512) (e : Fin 256) :
    k0_pay4 v w (ix2 y e) = ∑ k, v (ix2 y k) * w (ix3 0 k e) := by
  unfold k0_pay4 k0_pay3
  pointwise

theorem pay5_at (v : Vec Ideal S512x512 .bf16) (w : Vec Ideal S1x512x256 .bf16) (y : Fin 512) (e : Fin 256) :
    k0_pay5 v w (ix2 y e) = ∑ k, v (ix2 y k) * w (ix3 0 k e) := by
  unfold k0_pay5 k0_pay3
  pointwise

variable (m : (ℓ : Loc nD τ sig) → Buf (Elt Ideal) ℓ) (c : Dev nD)

/-- The parts of the weights that the body loads. -/
theorem wa_ld (t : Fin cfg0.N) :
    (∀ (k : Fin 512) (e : Fin 256), View.ld (iblk m c 4 t) r0_2 (ix3 0 k e) = WA m c (ix3 0 k ⟨e.val, by omega⟩))
    ∧ (∀ (k : Fin 512) (e : Fin 256), View.ld (iblk m c 4 t) r0_3 (ix3 0 k e) = WA m c (ix3 0 k ⟨256 + e.val, by omega⟩))
    ∧ (∀ (k : Fin 512) (e : Fin 256), View.ld (iblk m c 4 t) r0_4 (ix3 0 k e) = WA m c (ix3 0 k ⟨512 + e.val, by omega⟩))
    ∧ (∀ (k : Fin 512) (e : Fin 256), View.ld (iblk m c 4 t) r0_5 (ix3 0 k e) = WA m c (ix3 0 k ⟨768 + e.val, by omega⟩)) := by
  unfold r0_2 r0_3 r0_4 r0_5
  refine ⟨?_, ?_, ?_, ?_⟩ <;> intro k e <;> pointwise
  · exact (wa_at m c t k e).1
  · exact (wa_at m c t k e).2.1
  · exact (wa_at m c t k e).2.2.1
  · exact (wa_at m c t k e).2.2.2

theorem wb_ld (t : Fin cfg0.N) :
    (∀ (k : Fin 512) (e : Fin 256), View.ld (iblk m c 5 t) r0_2 (ix3 0 k e) = WB m c (ix3 0 k ⟨e.val, by omega⟩))
    ∧ (∀ (k : Fin 512) (e : Fin 256), View.ld (iblk m c 5 t) r0_3 (ix3 0 k e) = WB m c (ix3 0 k ⟨256 + e.val, by omega⟩))
    ∧ (∀ (k : Fin 512) (e : Fin 256), View.ld (iblk m c 5 t) r0_4 (ix3 0 k e) = WB m c (ix3 0 k ⟨512 + e.val, by omega⟩))
    ∧ (∀ (k : Fin 512) (e : Fin 256), View.ld (iblk m c 5 t) r0_5 (ix3 0 k e) = WB m c (ix3 0 k ⟨768 + e.val, by omega⟩)) := by
  unfold r0_2 r0_3 r0_4 r0_5
  refine ⟨?_, ?_, ?_, ?_⟩ <;> intro k e <;> pointwise
  · exact (wb_at m c t k e).1
  · exact (wb_at m c t k e).2.1
  · exact (wb_at m c t k e).2.2.1
  · exact (wb_at m c t k e).2.2.2

/-- The gated sum of a grid point's rows. -/
theorem sum_at (t : Fin cfg0.N) (y : Fin 512) (e : Fin 1024) :
    k0_pay6 (k0_pay1 (iblk m c 3 t))
        (k0_pay2 (iblk m c 1 t) (View.ld (iblk m c 4 t) r0_2) (View.ld (iblk m c 4 t) r0_3) (View.ld (iblk m c 4 t) r0_4) (View.ld (iblk m c 4 t) r0_5))
        (k0_pay3 (iblk m c 2 t)) (k0_pay4 (iblk m c 2 t) (View.ld (iblk m c 5 t) r0_2)) (k0_pay5 (iblk m c 2 t) (View.ld (iblk m c 5 t) r0_3))
        (View.ld (iblk m c 5 t) r0_4) (View.ld (iblk m c 5 t) r0_5) (ix2 y e)
      = merged (YA m c) (YB m c) (P m c) (WA m c) (WB m c) (sqR (rowOf t y)) (psR (rowOf t y)) e := by
  obtain ⟨a0, a1, a2, a3⟩ := wa_ld m c t
  obtain ⟨b0, b1, b2, b3⟩ := wb_ld m c t
  refine pay6_at _ _ _ _ _ _ _ (fun y k => P m c (ix3 (sqR (rowOf t y)) (psR (rowOf t y)) k)) _
    (fun y k => YB m c (ix3 (sqR (rowOf t y)) (psR (rowOf t y)) k)) (fun k e => WB m c (ix3 0 k e)) (fun y k => ?_)
    (pay2_at _ _ _ _ _ (fun y k => YA m c (ix3 (sqR (rowOf t y)) (psR (rowOf t y)) k)) (fun k e => WA m c (ix3 0 k e)) (ya_at m c t) a0 a1 a2 a3)
    (fun y k => ?_) (fun y e => ?_) (fun y e => ?_) b2 b3 y e
  · unfold k0_pay1
    pointwise
    exact p_at m c t y k
  · unfold k0_pay3
    pointwise
    exact yb_at m c t y k
  · exact (pay4_at _ _ y e).trans (Finset.sum_congr rfl fun k _ => congrArg₂ (· * ·) (yb_at m c t y k) (b0 k e))
  · exact (pay5_at _ _ y e).trans (Finset.sum_congr rfl fun k _ => congrArg₂ (· * ·) (yb_at m c t y k) (b1 k e))

/-- The results' rows. -/
def spec7 : S4096x1024.Idx → EReal := fun i => layer (X m c) (YA m c) (YB m c) (P m c) (WA m c) (WB m c) (WO m c) (sqR (i 0)) (psR (i 0)) (i 1)
def spec8 : S4096x1024.Idx → EReal := fun i => merged (YA m c) (YB m c) (P m c) (WA m c) (WB m c) (sqR (i 0)) (psR (i 0)) (i 1)

/-- A result's block is stored whole. -/
theorem whole {η : EltTy} (p : S512x1024.Idx → Elt Ideal η) (y : S512x1024.Idx) : View.canon [⟨r0_6, p⟩] y = p y := by
  idx_vars y
  canon_tiles x h
  exact congrArg p (funext fun a => by fin_cases a; exacts [Fin.ext h0.symm, Fin.ext h1.symm])

/-- A whole window's load is the window. -/
theorem ld_rows (x : Vec Ideal S512x1024 .f32) : View.ld x r0_6 = x := View.ld_unit_zero (funext fun a => by fin_cases a <;> rfl) _ _
theorem ld_out (x : Vec Ideal S1024x1024 .bf16) : View.ld x r0_7 = x := View.ld_unit_zero (funext fun a => by fin_cases a <;> rfl) _ _
theorem ld_gates (x : Vec Ideal S512x2048 .bf16) : View.ld x r0_0 = x := View.ld_unit_zero (funext fun a => by fin_cases a <;> rfl) _ _
theorem ld_branch (x : Vec Ideal S512x512 .bf16) : View.ld x r0_1 = x := View.ld_unit_zero (funext fun a => by fin_cases a <;> rfl) _ _

theorem loads (x0 : Vec Ideal S512x1024 .f32) (x1 x2 : Vec Ideal S512x512 .bf16) (x3 : Vec Ideal S512x2048 .bf16) (x4 x5 : Vec Ideal S4x512x256 .bf16)
    (x6 : Vec Ideal S1024x1024 .bf16) :
    k0_pay6 (k0_pay9 x0 x1 x2 x3 x4 x5 x6) (k0_pay10 x0 x1 x2 x3 x4 x5 x6) (k0_pay11 x0 x1 x2 x3 x4 x5 x6)
        (k0_pay12 x0 x1 x2 x3 x4 x5 x6) (k0_pay13 x0 x1 x2 x3 x4 x5 x6) (View.ld x5 r0_4) (View.ld x5 r0_5)
      = k0_pay6 (k0_pay1 x3) (k0_pay2 x1 (View.ld x4 r0_2) (View.ld x4 r0_3) (View.ld x4 r0_4) (View.ld x4 r0_5)) (k0_pay3 x2)
        (k0_pay4 x2 (View.ld x5 r0_2)) (k0_pay5 x2 (View.ld x5 r0_3)) (View.ld x5 r0_4) (View.ld x5 r0_5) := by
  unfold k0_pay9 k0_pay10 k0_pay11 k0_pay12 k0_pay13
  rw [ld_gates, ld_branch, ld_branch]

/-- The layer's result from the gated sum, over any operands of it. -/
theorem pay8_at (v2 : FVec Ideal S512x2048 .f32) (v17 : FVec Ideal S512x1024 .f32) (v19 : FVec Ideal S512x512 .bf16)
    (v22 v25 : FVec Ideal S512x256 .f32) (w2 w3 : Vec Ideal S1x512x256 .bf16) (x : Vec Ideal S512x1024 .f32) (wo : Vec Ideal S1024x1024 .bf16)
    (y : Fin 512) (e : Fin 1024) :
    k0_pay8 v2 v17 v19 v22 v25 w2 w3 x wo (ix2 y e) = x (ix2 y e) + ∑ k, k0_pay6 v2 v17 v19 v22 v25 w2 w3 (ix2 y k) * wo (ix2 k e) := by
  unfold k0_pay8
  pointwise

theorem pay7_at (v2 : FVec Ideal S512x2048 .f32) (v17 : FVec Ideal S512x1024 .f32) (v19 : FVec Ideal S512x512 .bf16)
    (v22 v25 : FVec Ideal S512x256 .f32) (w2 w3 : Vec Ideal S1x512x256 .bf16) (y : Fin 512) (e : Fin 1024) :
    k0_pay7 v2 v17 v19 v22 v25 w2 w3 (ix2 y e) = k0_pay6 v2 v17 v19 v22 v25 w2 w3 (ix2 y e) := by
  unfold k0_pay7
  pointwise

theorem point7 (t : Fin cfg0.N) (y : S512x1024.Idx) :
    out0_7 (iblk m c 0 t) (iblk m c 1 t) (iblk m c 2 t) (iblk m c 3 t) (iblk m c 4 t) (iblk m c 5 t) (iblk m c 6 t) y
      = spec7 m c (ix2 (rowOf t (y 0)) (y 1)) := by
  idx_vars y
  unfold out0_7
  refine (whole _ _).trans ((pay8_at _ _ _ _ _ _ _ _ _ y0 y1).trans ?_)
  exact congrArg₂ (· + ·) ((congrFun (ld_rows _) _).trans (x_at m c t y0 y1)) (Finset.sum_congr rfl fun k _ => congrArg₂ (· * ·)
    ((congrFun (loads _ _ _ _ _ _ _) _).trans (sum_at m c t y0 k)) ((congrFun (ld_out _) _).trans (wo_at m c t k y1)))

theorem point8 (t : Fin cfg0.N) (y : S512x1024.Idx) :
    out0_8 (iblk m c 0 t) (iblk m c 1 t) (iblk m c 2 t) (iblk m c 3 t) (iblk m c 4 t) (iblk m c 5 t) (iblk m c 6 t) y
      = spec8 m c (ix2 (rowOf t (y 0)) (y 1)) := by
  idx_vars y
  unfold out0_8
  exact (whole _ _).trans ((pay7_at _ _ _ _ _ _ _ y0 y1).trans ((congrFun (loads _ _ _ _ _ _ _) _).trans (sum_at m c t y0 y1)))

theorem out7 : (dats m 0 c).arrAt 7 cfg0.N = spec7 m c := by
  refine Dat.arrAt_eq_of_covers (dats m 0 c) 7 _ (by decide +kernel) fun t hf y => ?_
  blk_simp
  rw [after0_7, point7]
  refine congrArg (spec7 m c) ?_
  blk_ext [idx t, rowOf]

theorem out8 : (dats m 0 c).arrAt 8 cfg0.N = spec8 m c := by
  refine Dat.arrAt_eq_of_covers (dats m 0 c) 8 _ (by decide +kernel) fun t hf y => ?_
  blk_simp
  rw [after0_8, point8]
  refine congrArg (spec8 m c) ?_
  blk_ext [idx t, rowOf]

end Cert.FwdMerge.Kernel

end
-- ==== Proof.FwdMergeClaim.lean ====
/-
  The forward merge: the claim.
-/
module

public import proofs.«01_k».proof.Defs
public import Idealize.ShloMosaic.Lib.Quiescent
public import proofs.«01_k».proof.Proof.FwdMergeBody

@[expose] public section

set_option maxRecDepth 16384

noncomputable section

namespace Cert.FwdMerge

open Cert.Kernel8Ideal Cert.Kernel8Ideal.Gen Idealize.ShloMosaic Idealize.ShloMosaic.TcCoe Idealize.SL.Sem Cert.Lift
open Cert.Lift.AnyRow
open Cert.FwdMerge.Kernel
open Idealize.ShloMosaic.Pipeline (Dat)

/-- The reference touches no semaphore and leaves its arguments. -/
theorem frame_reference : Cert.quiescent_Reference8Ideal (hReference8Ideal := Cert.Reference8Ideal.Gen.facts) := fun m ρ _ =>
  (θ_run _ _ _).mono (fun r h => ⟨fun c => (h c).2.2, sem_eq_zero_of_no_sems (by decide) r.2⟩)
    (Cert.Reference8Ideal.Value.run (F := Ideal) m ρ)

/-- The reference's results are the kernel's. -/
theorem algebraic : Cert.algebraic_Kernel8Ideal_Reference8Ideal (hKernel8Ideal := Cert.Kernel8Ideal.Gen.facts)
    (hReference8Ideal := Cert.Reference8Ideal.Gen.facts) := by
  intro m g m' g' hpre hagree
  refine ⟨fun c => spec7 m c, fun c => spec8 m c, (θ_run _ _ _).mono (fun r h c => ?_) (Cert.Kernel8Ideal.Value.run_blocks m g),
    (θ_run _ _ _).mono (fun r h c => ?_) (Cert.Reference8Ideal.Value.run m' g')⟩
  · obtain ⟨h7, h8, hr⟩ := h c
    exact ⟨h7.trans (out7 m c), h8.trans (out8 m c), hr⟩
  obtain ⟨e0, e1, e2, e3, e4, e5, e6⟩ := hagree c
  obtain ⟨h7, h8, hr⟩ := h c
  refine ⟨h7.trans ((Cert.Reference8Ideal.Read.val_main_v24_eq _ _ _ _ _ _ _).trans
      ((congr (congr (congr (congr (congr (congr (congrArg (Cert.Reference8Ideal.Read.val_main_v24 (F := Ideal)) e0) e1) e2) e3) e4) e5) e6).trans
        (funext fun i => ?_))),
    h8.trans ((Cert.Reference8Ideal.Read.val_main_v26_eq _ _ _ _ _).trans
      ((congr (congr (congr (congr (congrArg (Cert.Reference8Ideal.Read.val_main_v26 (F := Ideal)) e1) e2) e3) e4) e5).trans
        (funext fun i => ?_))), hr⟩
  all_goals
    idx_vars i
  · exact res_layer _ _ _ _ _ _ _ i0 i1
  · exact res_merged _ _ _ _ _ i0 i1

end Cert.FwdMerge

end
-- ==== Proof.lean ====
/-
  Everything that is claimed of the training step's gradients.
-/
module

public import proofs.«01_k».proof.Defs
public import proofs.«01_k».proof.Proof.InprojClaim
public import proofs.«01_k».proof.Proof.Gen.Kernel.Frame
public import proofs.«01_k».proof.Proof.FfnGateClaim
public import proofs.«01_k».proof.Proof.Gen.Kernel2.Frame
public import proofs.«01_k».proof.Proof.FfnUpClaim
public import proofs.«01_k».proof.Proof.Gen.Kernel3.Frame
public import proofs.«01_k».proof.Proof.FfnLossClaim
public import proofs.«01_k».proof.Proof.Gen.Kernel4.Frame
public import proofs.«01_k».proof.Proof.MergeClaim
public import proofs.«01_k».proof.Proof.Gen.Kernel5.Frame
public import proofs.«01_k».proof.Proof.FwdGateClaim
public import proofs.«01_k».proof.Proof.Gen.Kernel7.Frame
public import proofs.«01_k».proof.Proof.FwdMergeClaim
public import proofs.«01_k».proof.Proof.Gen.Kernel8.Frame

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_args.Gen.facts, Cert.Pre_finite_args2.Gen.facts, Cert.Pre_finite_args3.Gen.facts, Cert.Pre_finite_args4.Gen.facts, Cert.Pre_finite_args5.Gen.facts,
  fun m ρ _ => Cert.Kernel.Gen.frame m ρ, fun m ρ _ => Cert.KernelIdeal.Gen.frame m ρ, fun m ρ _ => Cert.KernelIdeal.Gen.frame m ρ,
  Cert.Inproj.frame_reference, fun m ρ _ => Cert.Inproj.frame_reference m ρ trivial,
  fun m ρ _ => Cert.Kernel2.Gen.frame m ρ, fun m ρ _ => Cert.Kernel2Ideal.Gen.frame m ρ, fun m ρ _ => Cert.Kernel2Ideal.Gen.frame m ρ,
  Cert.FfnGate.frame_reference, fun m ρ _ => Cert.FfnGate.frame_reference m ρ trivial,
  fun m ρ _ => Cert.Kernel3.Gen.frame m ρ, fun m ρ _ => Cert.Kernel3Ideal.Gen.frame m ρ, fun m ρ _ => Cert.Kernel3Ideal.Gen.frame m ρ,
  Cert.FfnUp.frame_reference, fun m ρ _ => Cert.FfnUp.frame_reference m ρ trivial,
  fun m ρ _ => Cert.Kernel4.Gen.frame m ρ, fun m ρ _ => Cert.Kernel4Ideal.Gen.frame m ρ, fun m ρ _ => Cert.Kernel4Ideal.Gen.frame m ρ,
  Cert.FfnLoss.frame_reference, fun m ρ _ => Cert.FfnLoss.frame_reference m ρ trivial,
  fun m ρ _ => Cert.Kernel5.Gen.frame m ρ, fun m ρ _ => Cert.Kernel5Ideal.Gen.frame m ρ, fun m ρ _ => Cert.Kernel5Ideal.Gen.frame m ρ,
  Cert.Merge.frame_reference, fun m ρ _ => Cert.Merge.frame_reference m ρ trivial,
  fun m ρ _ => Cert.Kernel7.Gen.frame m ρ, fun m ρ _ => Cert.Kernel7Ideal.Gen.frame m ρ, Cert.FwdGate.frame_reference,
  fun m ρ _ => Cert.Kernel8.Gen.frame m ρ, fun m ρ _ => Cert.Kernel8Ideal.Gen.frame m ρ, Cert.FwdMerge.frame_reference,
  trivial, Cert.Inproj.algebraic, trivial, Cert.FfnGate.algebraic, trivial, Cert.FfnUp.algebraic, trivial, Cert.FfnLoss.algebraic, trivial, Cert.Merge.algebraic, trivial, Cert.FwdGate.algebraic, trivial, Cert.FwdMerge.algebraic⟩

end Cert.Proof

end
